-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S256x4096 : Shape := ⟨2, ![256, 4096]⟩
abbrev S8 : Shape := ⟨1, ![8]⟩
abbrev S8x2048x1792 : Shape := ⟨3, ![8, 2048, 1792]⟩
abbrev S8x32x1792 : Shape := ⟨3, ![8, 32, 1792]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S256x4096 .bf16) (main_arg1 : IVec S8 32) (main_arg2 : IVec S8x2048x1792 8) (main_arg3 : FVec F S8x32x1792 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 256#32
  let main_v3 : IVec S8 32 := broadcastInDim S8 ![] bcast_S_S8 main_c_1
  let main_v4 : IVec S8 1 := cmpi .sle main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S8_S_d0 h_S_) main_arg1 main_c_3
  let main_c_4 : IVec S_ 32 := constantI S_ 32 256#32
  let main_v8 : IVec S_ 1 := cmpi .eq main_v7 main_c_4
  let main_v9 : IVec S_ 1 := andi main_v6 main_v8
  main_v9
-- ==== Kernel.lean ====
abbrev S256x4096 : Shape := ⟨2, ![256, 4096]⟩
abbrev S8 : Shape := ⟨1, ![8]⟩
abbrev S8x2048x1792 : Shape := ⟨3, ![8, 2048, 1792]⟩
abbrev S8x32x1792 : Shape := ⟨3, ![8, 32, 1792]⟩
abbrev S256x1792 : Shape := ⟨2, ![256, 1792]⟩
abbrev S8x2048x256 : Shape := ⟨3, ![8, 2048, 256]⟩
abbrev S8x32x256 : Shape := ⟨3, ![8, 32, 256]⟩
abbrev S9 : Shape := ⟨1, ![9]⟩
abbrev S_ : Shape := ⟨0, ![]⟩
abbrev S1 : Shape := ⟨1, ![1]⟩
abbrev S1x2048x256 : Shape := ⟨3, ![1, 2048, 256]⟩
abbrev S2048x256 : Shape := ⟨2, ![2048, 256]⟩
abbrev S1x32x256 : Shape := ⟨3, ![1, 32, 256]⟩
abbrev S32x256 : Shape := ⟨2, ![32, 256]⟩
abbrev S64x128 : Shape := ⟨2, ![64, 128]⟩
abbrev S64x128x1 : Shape := ⟨3, ![64, 128, 1]⟩
abbrev S1x256x256 : Shape := ⟨3, ![1, 256, 256]⟩
abbrev S256x256 : Shape := ⟨2, ![256, 256]⟩
abbrev S64x256 : Shape := ⟨2, ![64, 256]⟩
abbrev S1x1x256 : Shape := ⟨3, ![1, 1, 256]⟩
abbrev S1x256 : Shape := ⟨2, ![1, 256]⟩
abbrev S128x256 : Shape := ⟨2, ![128, 256]⟩

abbrev nBuf : Space → Nat
  | .hbm => 5
  | .vmem => 4
  | .smem => 3
  | _ => 0

abbrev bufTy : (tb : Table) → Fin (tcTables nBuf tb) → BufTy
  | .hbm, ⟨0, _⟩ => ⟨S256x4096, .bf16⟩
  | .hbm, ⟨1, _⟩ => ⟨S8, .i32⟩
  | .hbm, ⟨2, _⟩ => ⟨S8x2048x1792, .i8⟩
  | .hbm, ⟨3, _⟩ => ⟨S8x32x1792, .f32⟩
  | .hbm, ⟨4, _⟩ => ⟨S256x1792, .bf16⟩
  | .local _ .vmem, ⟨0, _⟩ => ⟨S256x4096, .bf16⟩
  | .local _ .vmem, ⟨1, _⟩ => ⟨S8x2048x256, .i8⟩
  | .local _ .vmem, ⟨2, _⟩ => ⟨S8x32x256, .f32⟩
  | .local _ .vmem, ⟨3, _⟩ => ⟨S256x1792, .bf16⟩
  | .local _ .smem, ⟨0, _⟩ => ⟨S8, .i32⟩
  | .local _ .smem, ⟨1, _⟩ => ⟨S9, .i32⟩
  | .local _ .smem, ⟨2, _⟩ => ⟨S8, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_scratch4 : Ref sig .tc := ⟨.smem, 1, rfl⟩
abbrev cc0_scratch5 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

def k0_off1 (v2 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let v7 : Index := Scalar.indexCast v6
  ![v7.toNat]

def k0_chk1 (v2 : BitVec 32) : Prop :=
  (∀ a, (k0_off1 v2) a + S1.size a ≤ S9.size a)
theorem k0_off1_inb : ∀ (v2 : BitVec 32) (k0_hw1 : k0_chk1 v2), ∀ a, (k0_off1 v2) a + S1.size a ≤ S9.size a := fun v2 k0_hw1 => k0_hw1

def k0_off2 (v2 : BitVec 32) (v10 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let v15 : Index := Scalar.indexCast v14
  ![v15.toNat]

def k0_chk2 (v2 : BitVec 32) (v10 : BitVec 32) : Prop :=
  (∀ a, (k0_off2 v2 v10) a + S1.size a ≤ S9.size a)
theorem k0_off2_inb : ∀ (v2 : BitVec 32) (v10 : BitVec 32) (k0_hw2 : k0_chk2 v2 v10), ∀ a, (k0_off2 v2 v10) a + S1.size a ≤ S9.size a := fun v2 v10 k0_hw2 => k0_hw2

def k0_off3 (v2 : BitVec 32) (v10 : BitVec 32) (v18 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let v23 : Index := Scalar.indexCast v22
  ![v23.toNat]

def k0_chk3 (v2 : BitVec 32) (v10 : BitVec 32) (v18 : BitVec 32) : Prop :=
  (∀ a, (k0_off3 v2 v10 v18) a + S1.size a ≤ S9.size a)
theorem k0_off3_inb : ∀ (v2 : BitVec 32) (v10 : BitVec 32) (v18 : BitVec 32) (k0_hw3 : k0_chk3 v2 v10 v18), ∀ a, (k0_off3 v2 v10 v18) a + S1.size a ≤ S9.size a := fun v2 v10 v18 k0_hw3 => k0_hw3

def k0_off4 (v2 : BitVec 32) (v10 : BitVec 32) (v18 : BitVec 32) (v26 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let v31 : Index := Scalar.indexCast v30
  ![v31.toNat]

def k0_chk4 (v2 : BitVec 32) (v10 : BitVec 32) (v18 : BitVec 32) (v26 : BitVec 32) : Prop :=
  (∀ a, (k0_off4 v2 v10 v18 v26) a + S1.size a ≤ S9.size a)
theorem k0_off4_inb : ∀ (v2 : BitVec 32) (v10 : BitVec 32) (v18 : BitVec 32) (v26 : BitVec 32) (k0_hw4 : k0_chk4 v2 v10 v18 v26), ∀ a, (k0_off4 v2 v10 v18 v26) a + S1.size a ≤ S9.size a := fun v2 v10 v18 v26 k0_hw4 => k0_hw4

def k0_off5 (v2 : BitVec 32) (v10 : BitVec 32) (v18 : BitVec 32) (v26 : BitVec 32) (v34 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let v39 : Index := Scalar.indexCast v38
  ![v39.toNat]

def k0_chk5 (v2 : BitVec 32) (v10 : BitVec 32) (v18 : BitVec 32) (v26 : BitVec 32) (v34 : BitVec 32) : Prop :=
  (∀ a, (k0_off5 v2 v10 v18 v26 v34) a + S1.size a ≤ S9.size a)
theorem k0_off5_inb : ∀ (v2 : BitVec 32) (v10 : BitVec 32) (v18 : BitVec 32) (v26 : BitVec 32) (v34 : BitVec 32) (k0_hw5 : k0_chk5 v2 v10 v18 v26 v34), ∀ a, (k0_off5 v2 v10 v18 v26 v34) a + S1.size a ≤ S9.size a := fun v2 v10 v18 v26 v34 k0_hw5 => k0_hw5

def k0_off6 (v2 : BitVec 32) (v10 : BitVec 32) (v18 : BitVec 32) (v26 : BitVec 32) (v34 : BitVec 32) (v42 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let v47 : Index := Scalar.indexCast v46
  ![v47.toNat]

def k0_chk6 (v2 : BitVec 32) (v10 : BitVec 32) (v18 : BitVec 32) (v26 : BitVec 32) (v34 : BitVec 32) (v42 : BitVec 32) : Prop :=
  (∀ a, (k0_off6 v2 v10 v18 v26 v34 v42) a + S1.size a ≤ S9.size a)
theorem k0_off6_inb : ∀ (v2 : BitVec 32) (v10 : BitVec 32) (v18 : BitVec 32) (v26 : BitVec 32) (v34 : BitVec 32) (v42 : BitVec 32) (k0_hw6 : k0_chk6 v2 v10 v18 v26 v34 v42), ∀ a, (k0_off6 v2 v10 v18 v26 v34 v42) a + S1.size a ≤ S9.size a := fun v2 v10 v18 v26 v34 v42 k0_hw6 => k0_hw6

def k0_off7 (v2 : BitVec 32) (v10 : BitVec 32) (v18 : BitVec 32) (v26 : BitVec 32) (v34 : BitVec 32) (v42 : BitVec 32) (v50 : BitVec 32) : Fin 1 → Nat :=
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let v55 : Index := Scalar.indexCast v54
  ![v55.toNat]

def k0_chk7 (v2 : BitVec 32) (v10 : BitVec 32) (v18 : BitVec 32) (v26 : BitVec 32) (v34 : BitVec 32) (v42 : BitVec 32) (v50 : BitVec 32) : Prop :=
  (∀ a, (k0_off7 v2 v10 v18 v26 v34 v42 v50) a + S1.size a ≤ S9.size a)
theorem k0_off7_inb : ∀ (v2 : BitVec 32) (v10 : BitVec 32) (v18 : BitVec 32) (v26 : BitVec 32) (v34 : BitVec 32) (v42 : BitVec 32) (v50 : BitVec 32) (k0_hw7 : k0_chk7 v2 v10 v18 v26 v34 v42 v50), ∀ a, (k0_off7 v2 v10 v18 v26 v34 v42 v50) a + S1.size a ≤ S9.size a := fun v2 v10 v18 v26 v34 v42 v50 k0_hw7 => k0_hw7

@[reducible] def k0_t1_loop (v2 : BitVec 32) (v10 : BitVec 32) (v18 : BitVec 32) (v26 : BitVec 32) (v34 : BitVec 32) (v42 : BitVec 32) (v50 : BitVec 32) (v58 : BitVec 32) : Scf.Loop 32 :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_25 : BitVec 32 := 1#32
  ⟨c0_i32_23, v68, c1_i32_25⟩

def k0_off8 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : Fin 1 → Nat :=
  let c0_i32_23 : BitVec 32 := 0#32
  let c1_i32_25 : BitVec 32 := 1#32
  let arg15 : BitVec 32 := Scf.iv c0_i32_23 c1_i32_25 k0_t1
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let v77 : BitVec 32 := Scalar.muli v76 v61
  let v78 : BitVec 32 := Scalar.subi arg15 v77
  let v79 : Index := Scalar.indexCast v78
  ![v79.toNat]
def k0_mult1 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : BitVec 32 :=
  let c0_i32_23 : BitVec 32 := 0#32
  let c1_i32_25 : BitVec 32 := 1#32
  let arg15 : BitVec 32 := Scf.iv c0_i32_23 c1_i32_25 k0_t1
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32 : BitVec 32 := 256#32
  let v81 : BitVec 32 := Scalar.muli v76 c256_i32
  v81
def k0_off9 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : Fin 1 → Nat :=
  let c0_i32_23 : BitVec 32 := 0#32
  let c1_i32_25 : BitVec 32 := 1#32
  let arg15 : BitVec 32 := Scf.iv c0_i32_23 c1_i32_25 k0_t1
  let c8_i32 : BitVec 32 := 8#32
  let v75 : BitVec 32 := Scalar.remsi arg15 c8_i32
  ![v75.toNat]
def k0_off10 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : Fin 3 → Nat :=
  let c0_i32_23 : BitVec 32 := 0#32
  let c1_i32_25 : BitVec 32 := 1#32
  let arg15 : BitVec 32 := Scf.iv c0_i32_23 c1_i32_25 k0_t1
  let c8_i32 : BitVec 32 := 8#32
  let v75 : BitVec 32 := Scalar.remsi arg15 c8_i32
  let c0_i32_36 : BitVec 32 := 0#32
  let c0_i32_37 : BitVec 32 := 0#32
  ![v75.toNat, 0, 0]
def k0_off11 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) : Fin 3 → Nat :=
  let c0_i32_38 : BitVec 32 := 0#32
  let c0_i32_23 : BitVec 32 := 0#32
  let c1_i32_25 : BitVec 32 := 1#32
  let arg15 : BitVec 32 := Scf.iv c0_i32_23 c1_i32_25 k0_t1
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32 : BitVec 32 := 256#32
  let v81 : BitVec 32 := Scalar.muli v76 c256_i32
  let v82 : BitVec 32 := v81
  ![v80.toNat, 0, v82.toNat]

def k0_off12 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : Fin 1 → Nat :=
  let c0_i32_23 : BitVec 32 := 0#32
  let c1_i32_25 : BitVec 32 := 1#32
  let arg15 : BitVec 32 := Scf.iv c0_i32_23 c1_i32_25 k0_t1
  let c8_i32 : BitVec 32 := 8#32
  let v75 : BitVec 32 := Scalar.remsi arg15 c8_i32
  ![v75.toNat]
def k0_off13 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) : Fin 3 → Nat :=
  let c0_i32_23 : BitVec 32 := 0#32
  let c1_i32_25 : BitVec 32 := 1#32
  let arg15 : BitVec 32 := Scf.iv c0_i32_23 c1_i32_25 k0_t1
  let c8_i32 : BitVec 32 := 8#32
  let v75 : BitVec 32 := Scalar.remsi arg15 c8_i32
  let c0_i32_39 : BitVec 32 := 0#32
  let c0_i32_40 : BitVec 32 := 0#32
  ![v75.toNat, 0, 0]
def k0_off14 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) : Fin 3 → Nat :=
  let c0_i32_41 : BitVec 32 := 0#32
  let c0_i32_23 : BitVec 32 := 0#32
  let c1_i32_25 : BitVec 32 := 1#32
  let arg15 : BitVec 32 := Scf.iv c0_i32_23 c1_i32_25 k0_t1
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32 : BitVec 32 := 256#32
  let v81 : BitVec 32 := Scalar.muli v76 c256_i32
  let v82 : BitVec 32 := v81
  ![v80.toNat, 0, v82.toNat]

def k0_chk9 (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) : Prop :=
  (∀ a, (k0_off11 v2 v10 v18 v26 v34 v42 v50 v58 k0_t1 v80) a + S1x2048x256.size a ≤ S8x2048x1792.size a) ∧
  (∀ (hinb : ∀ a, (k0_off11 v2 v10 v18 v26 v34 v42 v50 v58 k0_t1 v80) a + S1x2048x256.size a ≤ S8x2048x1792.size a), (Rect.unit (s := S8x2048x1792) (k0_off11 v2 v10 v18 v26 v34 v42 v50 v58 k0_t1 v80) S1x2048x256.size hinb).WholeWords (EltTy.packing .i8)) ∧
  (∀ a, (k0_off14 v2 v10 v18 v26 v34 v42 v50 v58 k0_t1 v80) a + S1x32x256.size a ≤ S8x32x1792.size a)
theorem k0_off11_inb : ∀ (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) (k0_hw9 : k0_chk9 v2 v10 v18 v26 v34 v42 v50 v58 k0_t1 v80), ∀ a, (k0_off11 v2 v10 v18 v26 v34 v42 v50 v58 k0_t1 v80) a + S1x2048x256.size a ≤ S8x2048x1792.size a := fun v2 v10 v18 v26 v34 v42 v50 v58 k0_t1 v80 k0_hw9 => k0_hw9.1
theorem k0_off11_wordsi8 : ∀ (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) (k0_hw9 : k0_chk9 v2 v10 v18 v26 v34 v42 v50 v58 k0_t1 v80), (Rect.unit (s := S8x2048x1792) (k0_off11 v2 v10 v18 v26 v34 v42 v50 v58 k0_t1 v80) S1x2048x256.size (k0_off11_inb v2 v10 v18 v26 v34 v42 v50 v58 k0_t1 v80 k0_hw9)).WholeWords (EltTy.packing .i8) := fun v2 v10 v18 v26 v34 v42 v50 v58 k0_t1 v80 k0_hw9 => k0_hw9.2.1 (k0_off11_inb v2 v10 v18 v26 v34 v42 v50 v58 k0_t1 v80 k0_hw9)
theorem k0_off14_inb : ∀ (v2 : BitVec 32) (v10 : BitVec 32) (v18 : BitVec 32) (v26 : BitVec 32) (v34 : BitVec 32) (v42 : BitVec 32) (v50 : BitVec 32) (v58 : BitVec 32) (k0_t1 : Fin (k0_t1_loop v2 v10 v18 v26 v34 v42 v50 v58).trips) (v80 : BitVec 32) (k0_hw9 : k0_chk9 v2 v10 v18 v26 v34 v42 v50 v58 k0_t1 v80), ∀ a, (k0_off14 v2 v10 v18 v26 v34 v42 v50 v58 k0_t1 v80) a + S1x32x256.size a ≤ S8x32x1792.size a := fun v2 v10 v18 v26 v34 v42 v50 v58 k0_t1 v80 k0_hw9 => k0_hw9.2.2

@[reducible] def k0_t2_loop (v2 : BitVec 32) (v10 : BitVec 32) (v18 : BitVec 32) (v26 : BitVec 32) (v34 : BitVec 32) (v42 : BitVec 32) (v50 : BitVec 32) (v58 : BitVec 32) : Scf.Loop 32 :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let v65 : BitVec 32 := Scalar.addi c0_i32_23 v64
  let c1_i32_26 : BitVec 32 := 1#32
  ⟨v68, v65, c1_i32_26⟩
def k0_off15 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : Fin 1 → Nat :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let v76 : BitVec 32 := Scalar.divsi arg15 v61
  let v77 : BitVec 32 := Scalar.muli v76 v61
  let v78 : BitVec 32 := Scalar.subi arg15 v77
  let v79 : Index := Scalar.indexCast v78
  ![v79.toNat]
def k0_mult2 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : BitVec 32 :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let v76 : BitVec 32 := Scalar.divsi arg15 v61
  let c256_i32 : BitVec 32 := 256#32
  let v81 : BitVec 32 := Scalar.muli v76 c256_i32
  v81
def k0_off16 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : Fin 1 → Nat :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let c8_i32 : BitVec 32 := 8#32
  let v75 : BitVec 32 := Scalar.remsi arg15 c8_i32
  ![v75.toNat]
def k0_off17 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : Fin 3 → Nat :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let c8_i32 : BitVec 32 := 8#32
  let v75 : BitVec 32 := Scalar.remsi arg15 c8_i32
  let c0_i32_36 : BitVec 32 := 0#32
  let c0_i32_37 : BitVec 32 := 0#32
  ![v75.toNat, 0, 0]
def k0_off18 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) : Fin 3 → Nat :=
  let c0_i32_38 : BitVec 32 := 0#32
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let v76 : BitVec 32 := Scalar.divsi arg15 v61
  let c256_i32 : BitVec 32 := 256#32
  let v81 : BitVec 32 := Scalar.muli v76 c256_i32
  let v82 : BitVec 32 := v81
  ![v80.toNat, 0, v82.toNat]

def k0_off19 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : Fin 1 → Nat :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let c8_i32 : BitVec 32 := 8#32
  let v75 : BitVec 32 := Scalar.remsi arg15 c8_i32
  ![v75.toNat]
def k0_off20 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) : Fin 3 → Nat :=
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let c8_i32 : BitVec 32 := 8#32
  let v75 : BitVec 32 := Scalar.remsi arg15 c8_i32
  let c0_i32_39 : BitVec 32 := 0#32
  let c0_i32_40 : BitVec 32 := 0#32
  ![v75.toNat, 0, 0]
def k0_off21 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) : Fin 3 → Nat :=
  let c0_i32_41 : BitVec 32 := 0#32
  let c0_i32_23 : BitVec 32 := 0#32
  let c7_i32_21 : BitVec 32 := 7#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v63 : BitVec 32 := Scalar.minsi c7_i32_21 v62
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg15 : BitVec 32 := Scf.iv v68 c1_i32_26 k0_t2
  let v76 : BitVec 32 := Scalar.divsi arg15 v61
  let c256_i32 : BitVec 32 := 256#32
  let v81 : BitVec 32 := Scalar.muli v76 c256_i32
  let v82 : BitVec 32 := v81
  ![v80.toNat, 0, v82.toNat]

def k0_chk10 (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) : Prop :=
  (∀ a, (k0_off18 v2 v10 v18 v26 v34 v42 v50 v58 k0_t2 v80) a + S1x2048x256.size a ≤ S8x2048x1792.size a) ∧
  (∀ (hinb : ∀ a, (k0_off18 v2 v10 v18 v26 v34 v42 v50 v58 k0_t2 v80) a + S1x2048x256.size a ≤ S8x2048x1792.size a), (Rect.unit (s := S8x2048x1792) (k0_off18 v2 v10 v18 v26 v34 v42 v50 v58 k0_t2 v80) S1x2048x256.size hinb).WholeWords (EltTy.packing .i8)) ∧
  (∀ a, (k0_off21 v2 v10 v18 v26 v34 v42 v50 v58 k0_t2 v80) a + S1x32x256.size a ≤ S8x32x1792.size a)
theorem k0_off18_inb : ∀ (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) (k0_hw10 : k0_chk10 v2 v10 v18 v26 v34 v42 v50 v58 k0_t2 v80), ∀ a, (k0_off18 v2 v10 v18 v26 v34 v42 v50 v58 k0_t2 v80) a + S1x2048x256.size a ≤ S8x2048x1792.size a := fun v2 v10 v18 v26 v34 v42 v50 v58 k0_t2 v80 k0_hw10 => k0_hw10.1
theorem k0_off18_wordsi8 : ∀ (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) (k0_hw10 : k0_chk10 v2 v10 v18 v26 v34 v42 v50 v58 k0_t2 v80), (Rect.unit (s := S8x2048x1792) (k0_off18 v2 v10 v18 v26 v34 v42 v50 v58 k0_t2 v80) S1x2048x256.size (k0_off18_inb v2 v10 v18 v26 v34 v42 v50 v58 k0_t2 v80 k0_hw10)).WholeWords (EltTy.packing .i8) := fun v2 v10 v18 v26 v34 v42 v50 v58 k0_t2 v80 k0_hw10 => k0_hw10.2.1 (k0_off18_inb v2 v10 v18 v26 v34 v42 v50 v58 k0_t2 v80 k0_hw10)
theorem k0_off21_inb : ∀ (v2 : BitVec 32) (v10 : BitVec 32) (v18 : BitVec 32) (v26 : BitVec 32) (v34 : BitVec 32) (v42 : BitVec 32) (v50 : BitVec 32) (v58 : BitVec 32) (k0_t2 : Fin (k0_t2_loop v2 v10 v18 v26 v34 v42 v50 v58).trips) (v80 : BitVec 32) (k0_hw10 : k0_chk10 v2 v10 v18 v26 v34 v42 v50 v58 k0_t2 v80), ∀ a, (k0_off21 v2 v10 v18 v26 v34 v42 v50 v58 k0_t2 v80) a + S1x32x256.size a ≤ S8x32x1792.size a := fun v2 v10 v18 v26 v34 v42 v50 v58 k0_t2 v80 k0_hw10 => k0_hw10.2.2

@[reducible] def k0_t3_loop : Scf.Loop 32 :=
  let c0_i32_27 : BitVec 32 := 0#32
  let c4_i32_28 : BitVec 32 := 4#32
  let v69 : BitVec 32 := Scalar.addi c0_i32_27 c4_i32_28
  let c1_i32_29 : BitVec 32 := 1#32
  ⟨c0_i32_27, v69, c1_i32_29⟩
def k0_mult3 (k0_t3 : Fin k0_t3_loop.trips) : BitVec 32 :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  v75
def k0_off22 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v77 : Index := Scalar.indexCast v76
  let c0_36 : Index := 0#32
  ![v77.toNat, 0]
def k0_off23 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v178 : Index := Scalar.indexCast v76
  let c128 : Index := 128#32
  ![v178.toNat, 128]
def k0_off24 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v279 : Index := Scalar.indexCast v76
  let c256 : Index := 256#32
  ![v279.toNat, 256]
def k0_off25 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v380 : Index := Scalar.indexCast v76
  let c384 : Index := 384#32
  ![v380.toNat, 384]
def k0_off26 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v481 : Index := Scalar.indexCast v76
  let c512 : Index := 512#32
  ![v481.toNat, 512]
def k0_off27 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v582 : Index := Scalar.indexCast v76
  let c640 : Index := 640#32
  ![v582.toNat, 640]
def k0_off28 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v683 : Index := Scalar.indexCast v76
  let c768 : Index := 768#32
  ![v683.toNat, 768]
def k0_off29 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v784 : Index := Scalar.indexCast v76
  let c896 : Index := 896#32
  ![v784.toNat, 896]
def k0_off30 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v885 : Index := Scalar.indexCast v76
  let c1024 : Index := 1024#32
  ![v885.toNat, 1024]
def k0_off31 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v986 : Index := Scalar.indexCast v76
  let c1152 : Index := 1152#32
  ![v986.toNat, 1152]
def k0_off32 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1087 : Index := Scalar.indexCast v76
  let c1280 : Index := 1280#32
  ![v1087.toNat, 1280]
def k0_off33 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1188 : Index := Scalar.indexCast v76
  let c1408 : Index := 1408#32
  ![v1188.toNat, 1408]
def k0_off34 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1289 : Index := Scalar.indexCast v76
  let c1536 : Index := 1536#32
  ![v1289.toNat, 1536]
def k0_off35 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1390 : Index := Scalar.indexCast v76
  let c1664 : Index := 1664#32
  ![v1390.toNat, 1664]
def k0_off36 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1491 : Index := Scalar.indexCast v76
  let c1792 : Index := 1792#32
  ![v1491.toNat, 1792]
def k0_off37 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1592 : Index := Scalar.indexCast v76
  let c1920 : Index := 1920#32
  ![v1592.toNat, 1920]
def k0_off38 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1693 : Index := Scalar.indexCast v76
  let c2048 : Index := 2048#32
  ![v1693.toNat, 2048]
def k0_off39 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1794 : Index := Scalar.indexCast v76
  let c2176 : Index := 2176#32
  ![v1794.toNat, 2176]
def k0_off40 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1895 : Index := Scalar.indexCast v76
  let c2304 : Index := 2304#32
  ![v1895.toNat, 2304]
def k0_off41 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v1996 : Index := Scalar.indexCast v76
  let c2432 : Index := 2432#32
  ![v1996.toNat, 2432]
def k0_off42 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2097 : Index := Scalar.indexCast v76
  let c2560 : Index := 2560#32
  ![v2097.toNat, 2560]
def k0_off43 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2198 : Index := Scalar.indexCast v76
  let c2688 : Index := 2688#32
  ![v2198.toNat, 2688]
def k0_off44 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2299 : Index := Scalar.indexCast v76
  let c2816 : Index := 2816#32
  ![v2299.toNat, 2816]
def k0_off45 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2400 : Index := Scalar.indexCast v76
  let c2944 : Index := 2944#32
  ![v2400.toNat, 2944]
def k0_off46 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2501 : Index := Scalar.indexCast v76
  let c3072 : Index := 3072#32
  ![v2501.toNat, 3072]
def k0_off47 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2602 : Index := Scalar.indexCast v76
  let c3200 : Index := 3200#32
  ![v2602.toNat, 3200]
def k0_off48 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2703 : Index := Scalar.indexCast v76
  let c3328 : Index := 3328#32
  ![v2703.toNat, 3328]
def k0_off49 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2804 : Index := Scalar.indexCast v76
  let c3456 : Index := 3456#32
  ![v2804.toNat, 3456]
def k0_off50 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v2905 : Index := Scalar.indexCast v76
  let c3584 : Index := 3584#32
  ![v2905.toNat, 3584]
def k0_off51 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v3006 : Index := Scalar.indexCast v76
  let c3712 : Index := 3712#32
  ![v3006.toNat, 3712]
def k0_off52 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v3107 : Index := Scalar.indexCast v76
  let c3840 : Index := 3840#32
  ![v3107.toNat, 3840]
def k0_off53 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let c64_i32 : BitVec 32 := 64#32
  let v75 : BitVec 32 := Scalar.muli arg15 c64_i32
  let v76 : BitVec 32 := v75
  let v3208 : Index := Scalar.indexCast v76
  let c3968 : Index := 3968#32
  ![v3208.toNat, 3968]
@[reducible] def k0_t4_loop (v2 : BitVec 32) (v10 : BitVec 32) (v18 : BitVec 32) (v26 : BitVec 32) (v34 : BitVec 32) (v42 : BitVec 32) (v50 : BitVec 32) (v58 : BitVec 32) : Scf.Loop 32 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_34 : BitVec 32 := 1#32
  ⟨c0_i32_32, v74, c1_i32_34⟩
def k0_off54 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let v77 : BitVec 32 := Scalar.muli v76 v61
  let v78 : BitVec 32 := Scalar.subi arg15 v77
  let v79 : Index := Scalar.indexCast v78
  ![v79.toNat]
def k0_off55 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v125 : BitVec 32 := Scalar.divsi v82 v61
  let v126 : BitVec 32 := Scalar.muli v125 v61
  let v127 : BitVec 32 := Scalar.subi v82 v126
  let v128 : Index := Scalar.indexCast v127
  ![v128.toNat]
def k0_cond1 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : BitVec 1 :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v83 : BitVec 1 := Scalar.cmpi .slt v82 v62
  let v84 : BitVec 32 := Scalar.extui v83
  let c0_i32_38 : BitVec 32 := 0#32
  let v85 : BitVec 1 := Scalar.cmpi .ne v84 c0_i32_38
  v85

def k0_mult4 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : BitVec 32 :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v125 : BitVec 32 := Scalar.divsi v82 v61
  let c256_i32_56 : BitVec 32 := 256#32
  let v130 : BitVec 32 := Scalar.muli v125 c256_i32_56
  v130
def k0_off56 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  ![v124.toNat]
def k0_off57 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  let c0_i32_57 : BitVec 32 := 0#32
  let c0_i32_58 : BitVec 32 := 0#32
  ![v124.toNat, 0, 0]
def k0_off58 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) : Fin 3 → Nat :=
  let c0_i32_59 : BitVec 32 := 0#32
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v125 : BitVec 32 := Scalar.divsi v82 v61
  let c256_i32_56 : BitVec 32 := 256#32
  let v130 : BitVec 32 := Scalar.muli v125 c256_i32_56
  let v131 : BitVec 32 := v130
  ![v129.toNat, 0, v131.toNat]

def k0_off59 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  ![v124.toNat]
def k0_off60 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  let c0_i32_60 : BitVec 32 := 0#32
  let c0_i32_61 : BitVec 32 := 0#32
  ![v124.toNat, 0, 0]
def k0_off61 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) : Fin 3 → Nat :=
  let c0_i32_62 : BitVec 32 := 0#32
  let c0_i32_32 : BitVec 32 := 0#32
  let c1_i32_34 : BitVec 32 := 1#32
  let arg15 : BitVec 32 := Scf.iv c0_i32_32 c1_i32_34 k0_t4
  let c8_i32_36 : BitVec 32 := 8#32
  let v81 : BitVec 32 := Scalar.addi arg15 c8_i32_36
  let c1_i32_37 : BitVec 32 := 1#32
  let v82 : BitVec 32 := Scalar.subi v81 c1_i32_37
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v125 : BitVec 32 := Scalar.divsi v82 v61
  let c256_i32_56 : BitVec 32 := 256#32
  let v130 : BitVec 32 := Scalar.muli v125 c256_i32_56
  let v131 : BitVec 32 := v130
  ![v129.toNat, 0, v131.toNat]

def k0_chk11 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) : Prop :=
  (∀ (k0_h1 : k0_cond1 v2 v10 v18 v26 v34 v42 v50 v58 k0_t4 = 1#1), ∀ a, (k0_off58 v2 v10 v18 v26 v34 v42 v50 v58 k0_t4 v129) a + S1x2048x256.size a ≤ S8x2048x1792.size a) ∧
  (∀ (k0_h1 : k0_cond1 v2 v10 v18 v26 v34 v42 v50 v58 k0_t4 = 1#1), ∀ (hinb : ∀ a, (k0_off58 v2 v10 v18 v26 v34 v42 v50 v58 k0_t4 v129) a + S1x2048x256.size a ≤ S8x2048x1792.size a), (Rect.unit (s := S8x2048x1792) (k0_off58 v2 v10 v18 v26 v34 v42 v50 v58 k0_t4 v129) S1x2048x256.size hinb).WholeWords (EltTy.packing .i8)) ∧
  (∀ (k0_h1 : k0_cond1 v2 v10 v18 v26 v34 v42 v50 v58 k0_t4 = 1#1), ∀ a, (k0_off61 v2 v10 v18 v26 v34 v42 v50 v58 k0_t4 v129) a + S1x32x256.size a ≤ S8x32x1792.size a)
theorem k0_off58_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) (k0_hw11 : k0_chk11 v2 v10 v18 v26 v34 v42 v50 v58 k0_t4 v129), ∀ (k0_h1 : k0_cond1 v2 v10 v18 v26 v34 v42 v50 v58 k0_t4 = 1#1), ∀ a, (k0_off58 v2 v10 v18 v26 v34 v42 v50 v58 k0_t4 v129) a + S1x2048x256.size a ≤ S8x2048x1792.size a := fun v2 v10 v18 v26 v34 v42 v50 v58 k0_t4 v129 k0_hw11 k0_h1 => k0_hw11.1 k0_h1
theorem k0_off58_wordsi8 : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) (k0_hw11 : k0_chk11 v2 v10 v18 v26 v34 v42 v50 v58 k0_t4 v129), ∀ (k0_h1 : k0_cond1 v2 v10 v18 v26 v34 v42 v50 v58 k0_t4 = 1#1), (Rect.unit (s := S8x2048x1792) (k0_off58 v2 v10 v18 v26 v34 v42 v50 v58 k0_t4 v129) S1x2048x256.size (k0_off58_inb v2 v10 v18 v26 v34 v42 v50 v58 k0_t4 v129 k0_hw11 k0_h1)).WholeWords (EltTy.packing .i8) := fun v2 v10 v18 v26 v34 v42 v50 v58 k0_t4 v129 k0_hw11 k0_h1 => k0_hw11.2.1 k0_h1 (k0_off58_inb v2 v10 v18 v26 v34 v42 v50 v58 k0_t4 v129 k0_hw11 k0_h1)
theorem k0_off61_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v129 : BitVec 32) (k0_hw11 : k0_chk11 v2 v10 v18 v26 v34 v42 v50 v58 k0_t4 v129), ∀ (k0_h1 : k0_cond1 v2 v10 v18 v26 v34 v42 v50 v58 k0_t4 = 1#1), ∀ a, (k0_off61 v2 v10 v18 v26 v34 v42 v50 v58 k0_t4 v129) a + S1x32x256.size a ≤ S8x32x1792.size a := fun v2 v10 v18 v26 v34 v42 v50 v58 k0_t4 v129 k0_hw11 k0_h1 => k0_hw11.2.2 k0_h1

def k0_mult5 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : BitVec 32 :=
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v87 : BitVec 32 := Scalar.divsi arg15 v61
  let c256_i32 : BitVec 32 := 256#32
  let v92 : BitVec 32 := Scalar.muli v87 c256_i32
  v92
def k0_off62 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c8_i32_39 : BitVec 32 := 8#32
  let v86 : BitVec 32 := Scalar.remsi arg15 c8_i32_39
  ![v86.toNat]
def k0_off63 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32_39 : BitVec 32 := 8#32
  let v86 : BitVec 32 := Scalar.remsi arg15 c8_i32_39
  let c0_i32_40 : BitVec 32 := 0#32
  let c0_i32_41 : BitVec 32 := 0#32
  ![v86.toNat, 0, 0]
def k0_off64 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) : Fin 3 → Nat :=
  let c0_i32_42 : BitVec 32 := 0#32
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v87 : BitVec 32 := Scalar.divsi arg15 v61
  let c256_i32 : BitVec 32 := 256#32
  let v92 : BitVec 32 := Scalar.muli v87 c256_i32
  let v93 : BitVec 32 := v92
  ![v91.toNat, 0, v93.toNat]

def k0_off65 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 1 → Nat :=
  let c0_i32_32 : BitVec 32 := 0#32
  let c1_i32_34 : BitVec 32 := 1#32
  let arg15 : BitVec 32 := Scf.iv c0_i32_32 c1_i32_34 k0_t4
  let c8_i32_39 : BitVec 32 := 8#32
  let v86 : BitVec 32 := Scalar.remsi arg15 c8_i32_39
  ![v86.toNat]
def k0_off66 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32_39 : BitVec 32 := 8#32
  let v86 : BitVec 32 := Scalar.remsi arg15 c8_i32_39
  let c0_i32_43 : BitVec 32 := 0#32
  let c0_i32_44 : BitVec 32 := 0#32
  ![v86.toNat, 0, 0]
def k0_off67 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) : Fin 3 → Nat :=
  let c0_i32_45 : BitVec 32 := 0#32
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v87 : BitVec 32 := Scalar.divsi arg15 v61
  let c256_i32 : BitVec 32 := 256#32
  let v92 : BitVec 32 := Scalar.muli v87 c256_i32
  let v93 : BitVec 32 := v92
  ![v91.toNat, 0, v93.toNat]

def k0_chk12 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) : Prop :=
  (∀ a, (k0_off64 v2 v10 v18 v26 v34 v42 v50 v58 k0_t4 v91) a + S1x2048x256.size a ≤ S8x2048x1792.size a) ∧
  (∀ (hinb : ∀ a, (k0_off64 v2 v10 v18 v26 v34 v42 v50 v58 k0_t4 v91) a + S1x2048x256.size a ≤ S8x2048x1792.size a), (Rect.unit (s := S8x2048x1792) (k0_off64 v2 v10 v18 v26 v34 v42 v50 v58 k0_t4 v91) S1x2048x256.size hinb).WholeWords (EltTy.packing .i8)) ∧
  (∀ a, (k0_off67 v2 v10 v18 v26 v34 v42 v50 v58 k0_t4 v91) a + S1x32x256.size a ≤ S8x32x1792.size a)
theorem k0_off64_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) (k0_hw12 : k0_chk12 v2 v10 v18 v26 v34 v42 v50 v58 k0_t4 v91), ∀ a, (k0_off64 v2 v10 v18 v26 v34 v42 v50 v58 k0_t4 v91) a + S1x2048x256.size a ≤ S8x2048x1792.size a := fun v2 v10 v18 v26 v34 v42 v50 v58 k0_t4 v91 k0_hw12 => k0_hw12.1
theorem k0_off64_wordsi8 : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) (k0_hw12 : k0_chk12 v2 v10 v18 v26 v34 v42 v50 v58 k0_t4 v91), (Rect.unit (s := S8x2048x1792) (k0_off64 v2 v10 v18 v26 v34 v42 v50 v58 k0_t4 v91) S1x2048x256.size (k0_off64_inb v2 v10 v18 v26 v34 v42 v50 v58 k0_t4 v91 k0_hw12)).WholeWords (EltTy.packing .i8) := fun v2 v10 v18 v26 v34 v42 v50 v58 k0_t4 v91 k0_hw12 => k0_hw12.2.1 (k0_off64_inb v2 v10 v18 v26 v34 v42 v50 v58 k0_t4 v91 k0_hw12)
theorem k0_off67_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v91 : BitVec 32) (k0_hw12 : k0_chk12 v2 v10 v18 v26 v34 v42 v50 v58 k0_t4 v91), ∀ a, (k0_off67 v2 v10 v18 v26 v34 v42 v50 v58 k0_t4 v91) a + S1x32x256.size a ≤ S8x32x1792.size a := fun v2 v10 v18 v26 v34 v42 v50 v58 k0_t4 v91 k0_hw12 => k0_hw12.2.2

def k0_off68 (v80 : BitVec 32) : Fin 1 → Nat :=
  let v106 : Index := Scalar.indexCast v80
  ![v106.toNat]

def k0_chk13 (v80 : BitVec 32) : Prop :=
  (∀ a, (k0_off68 v80) a + S1.size a ≤ S8.size a)
theorem k0_off68_inb : ∀ (v80 : BitVec 32) (k0_hw13 : k0_chk13 v80), ∀ a, (k0_off68 v80) a + S1.size a ≤ S8.size a := fun v80 k0_hw13 => k0_hw13

def k0_mult6 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : BitVec 32 :=
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32_49 : BitVec 32 := 256#32
  let v117 : BitVec 32 := Scalar.muli v76 c256_i32_49
  v117
@[reducible] def k0_t5_loop (v107 : BitVec 32) (v109 : BitVec 32) : Scf.Loop 32 :=
  let c0_i32_51 : BitVec 32 := 0#32
  let v110 : BitVec 32 := Scalar.addi v107 v109
  let c16_i32 : BitVec 32 := 16#32
  let v111 : BitVec 32 := Scalar.divsi v107 c16_i32
  let c16_i32_46 : BitVec 32 := 16#32
  let v112 : BitVec 32 := Scalar.muli v111 c16_i32_46
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_53 : BitVec 32 := 1#32
  ⟨c0_i32_51, v123, c1_i32_53⟩

def k0_mult7 (v107 : BitVec 32) (v109 : BitVec 32) (k0_t5 : Fin (k0_t5_loop v107 v109).trips) : BitVec 32 :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  v126
def k0_off69 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v128 : Index := Scalar.indexCast v75
  let c0_57 : Index := 0#32
  let c0_58 : Index := 0#32
  ![v128.toNat, 0, 0]
def k0_off70 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v141 : Index := Scalar.indexCast v75
  let c0_61 : Index := 0#32
  let c0_62 : Index := 0#32
  ![v141.toNat, 0, 0]
def k0_off71 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v150 : Index := Scalar.indexCast v75
  let c1_63 : Index := 1#32
  let c0_64 : Index := 0#32
  ![v150.toNat, 1, 0]
def k0_off72 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v161 : Index := Scalar.indexCast v75
  let c16 : Index := 16#32
  let c0_66 : Index := 0#32
  ![v161.toNat, 16, 0]
def k0_off73 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v170 : Index := Scalar.indexCast v75
  let c17 : Index := 17#32
  let c0_68 : Index := 0#32
  ![v170.toNat, 17, 0]
def k0_off74 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v180 : Index := Scalar.indexCast v127
  let c0_70 : Index := 0#32
  ![v180.toNat, 0]
def k0_off75 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v182 : Index := Scalar.indexCast v127
  let c2048 : Index := 2048#32
  ![v182.toNat, 2048]
def k0_off76 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v186 : Index := Scalar.indexCast v75
  let c256 : Index := 256#32
  let c0_73 : Index := 0#32
  ![v186.toNat, 256, 0]
def k0_off77 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v199 : Index := Scalar.indexCast v75
  let c2_77 : Index := 2#32
  let c0_78 : Index := 0#32
  ![v199.toNat, 2, 0]
def k0_off78 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v208 : Index := Scalar.indexCast v75
  let c3_80 : Index := 3#32
  let c0_81 : Index := 0#32
  ![v208.toNat, 3, 0]
def k0_off79 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v219 : Index := Scalar.indexCast v75
  let c18 : Index := 18#32
  let c0_83 : Index := 0#32
  ![v219.toNat, 18, 0]
def k0_off80 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v228 : Index := Scalar.indexCast v75
  let c19 : Index := 19#32
  let c0_85 : Index := 0#32
  ![v228.toNat, 19, 0]
def k0_off81 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v238 : Index := Scalar.indexCast v127
  let c256_87 : Index := 256#32
  ![v238.toNat, 256]
def k0_off82 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v240 : Index := Scalar.indexCast v127
  let c2304 : Index := 2304#32
  ![v240.toNat, 2304]
def k0_off83 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v246 : Index := Scalar.indexCast v75
  let c512 : Index := 512#32
  let c0_90 : Index := 0#32
  ![v246.toNat, 512, 0]
def k0_off84 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v259 : Index := Scalar.indexCast v75
  let c4_94 : Index := 4#32
  let c0_95 : Index := 0#32
  ![v259.toNat, 4, 0]
def k0_off85 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v268 : Index := Scalar.indexCast v75
  let c5_97 : Index := 5#32
  let c0_98 : Index := 0#32
  ![v268.toNat, 5, 0]
def k0_off86 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v279 : Index := Scalar.indexCast v75
  let c20 : Index := 20#32
  let c0_100 : Index := 0#32
  ![v279.toNat, 20, 0]
def k0_off87 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v288 : Index := Scalar.indexCast v75
  let c21 : Index := 21#32
  let c0_102 : Index := 0#32
  ![v288.toNat, 21, 0]
def k0_off88 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v298 : Index := Scalar.indexCast v127
  let c512_104 : Index := 512#32
  ![v298.toNat, 512]
def k0_off89 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v300 : Index := Scalar.indexCast v127
  let c2560 : Index := 2560#32
  ![v300.toNat, 2560]
def k0_off90 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v306 : Index := Scalar.indexCast v75
  let c768 : Index := 768#32
  let c0_107 : Index := 0#32
  ![v306.toNat, 768, 0]
def k0_off91 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v319 : Index := Scalar.indexCast v75
  let c6_111 : Index := 6#32
  let c0_112 : Index := 0#32
  ![v319.toNat, 6, 0]
def k0_off92 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v328 : Index := Scalar.indexCast v75
  let c7_114 : Index := 7#32
  let c0_115 : Index := 0#32
  ![v328.toNat, 7, 0]
def k0_off93 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v339 : Index := Scalar.indexCast v75
  let c22 : Index := 22#32
  let c0_117 : Index := 0#32
  ![v339.toNat, 22, 0]
def k0_off94 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v348 : Index := Scalar.indexCast v75
  let c23 : Index := 23#32
  let c0_119 : Index := 0#32
  ![v348.toNat, 23, 0]
def k0_off95 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v358 : Index := Scalar.indexCast v127
  let c768_121 : Index := 768#32
  ![v358.toNat, 768]
def k0_off96 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v360 : Index := Scalar.indexCast v127
  let c2816 : Index := 2816#32
  ![v360.toNat, 2816]
def k0_off97 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v366 : Index := Scalar.indexCast v75
  let c1024 : Index := 1024#32
  let c0_124 : Index := 0#32
  ![v366.toNat, 1024, 0]
def k0_off98 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v379 : Index := Scalar.indexCast v75
  let c8 : Index := 8#32
  let c0_128 : Index := 0#32
  ![v379.toNat, 8, 0]
def k0_off99 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v388 : Index := Scalar.indexCast v75
  let c9 : Index := 9#32
  let c0_130 : Index := 0#32
  ![v388.toNat, 9, 0]
def k0_off100 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v399 : Index := Scalar.indexCast v75
  let c24 : Index := 24#32
  let c0_132 : Index := 0#32
  ![v399.toNat, 24, 0]
def k0_off101 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v408 : Index := Scalar.indexCast v75
  let c25 : Index := 25#32
  let c0_134 : Index := 0#32
  ![v408.toNat, 25, 0]
def k0_off102 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v418 : Index := Scalar.indexCast v127
  let c1024_136 : Index := 1024#32
  ![v418.toNat, 1024]
def k0_off103 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v420 : Index := Scalar.indexCast v127
  let c3072 : Index := 3072#32
  ![v420.toNat, 3072]
def k0_off104 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v426 : Index := Scalar.indexCast v75
  let c1280 : Index := 1280#32
  let c0_139 : Index := 0#32
  ![v426.toNat, 1280, 0]
def k0_off105 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v439 : Index := Scalar.indexCast v75
  let c10 : Index := 10#32
  let c0_143 : Index := 0#32
  ![v439.toNat, 10, 0]
def k0_off106 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v448 : Index := Scalar.indexCast v75
  let c11 : Index := 11#32
  let c0_145 : Index := 0#32
  ![v448.toNat, 11, 0]
def k0_off107 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v459 : Index := Scalar.indexCast v75
  let c26 : Index := 26#32
  let c0_147 : Index := 0#32
  ![v459.toNat, 26, 0]
def k0_off108 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v468 : Index := Scalar.indexCast v75
  let c27 : Index := 27#32
  let c0_149 : Index := 0#32
  ![v468.toNat, 27, 0]
def k0_off109 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v478 : Index := Scalar.indexCast v127
  let c1280_151 : Index := 1280#32
  ![v478.toNat, 1280]
def k0_off110 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v480 : Index := Scalar.indexCast v127
  let c3328 : Index := 3328#32
  ![v480.toNat, 3328]
def k0_off111 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v486 : Index := Scalar.indexCast v75
  let c1536 : Index := 1536#32
  let c0_154 : Index := 0#32
  ![v486.toNat, 1536, 0]
def k0_off112 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v499 : Index := Scalar.indexCast v75
  let c12 : Index := 12#32
  let c0_158 : Index := 0#32
  ![v499.toNat, 12, 0]
def k0_off113 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v508 : Index := Scalar.indexCast v75
  let c13 : Index := 13#32
  let c0_160 : Index := 0#32
  ![v508.toNat, 13, 0]
def k0_off114 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v519 : Index := Scalar.indexCast v75
  let c28 : Index := 28#32
  let c0_162 : Index := 0#32
  ![v519.toNat, 28, 0]
def k0_off115 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v528 : Index := Scalar.indexCast v75
  let c29 : Index := 29#32
  let c0_164 : Index := 0#32
  ![v528.toNat, 29, 0]
def k0_off116 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v538 : Index := Scalar.indexCast v127
  let c1536_166 : Index := 1536#32
  ![v538.toNat, 1536]
def k0_off117 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v540 : Index := Scalar.indexCast v127
  let c3584 : Index := 3584#32
  ![v540.toNat, 3584]
def k0_off118 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v546 : Index := Scalar.indexCast v75
  let c1792 : Index := 1792#32
  let c0_169 : Index := 0#32
  ![v546.toNat, 1792, 0]
def k0_off119 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v559 : Index := Scalar.indexCast v75
  let c14 : Index := 14#32
  let c0_173 : Index := 0#32
  ![v559.toNat, 14, 0]
def k0_off120 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v568 : Index := Scalar.indexCast v75
  let c15 : Index := 15#32
  let c0_175 : Index := 0#32
  ![v568.toNat, 15, 0]
def k0_off121 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v579 : Index := Scalar.indexCast v75
  let c30 : Index := 30#32
  let c0_177 : Index := 0#32
  ![v579.toNat, 30, 0]
def k0_off122 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v588 : Index := Scalar.indexCast v75
  let c31 : Index := 31#32
  let c0_179 : Index := 0#32
  ![v588.toNat, 31, 0]
def k0_off123 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v598 : Index := Scalar.indexCast v127
  let c1792_181 : Index := 1792#32
  ![v598.toNat, 1792]
def k0_off124 (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v600 : Index := Scalar.indexCast v127
  let c3840 : Index := 3840#32
  ![v600.toNat, 3840]
def k0_off125 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_t5 : Fin (k0_t5_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t5
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v615 : Index := Scalar.indexCast v127
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32_49 : BitVec 32 := 256#32
  let v117 : BitVec 32 := Scalar.muli v76 c256_i32_49
  let v118 : BitVec 32 := v117
  let v616 : Index := Scalar.indexCast v118
  ![v615.toNat, v616.toNat]
@[reducible] def k0_t6_loop (v107 : BitVec 32) (v109 : BitVec 32) : Scf.Loop 32 :=
  let c0_i32_51 : BitVec 32 := 0#32
  let v110 : BitVec 32 := Scalar.addi v107 v109
  let c16_i32 : BitVec 32 := 16#32
  let v111 : BitVec 32 := Scalar.divsi v107 c16_i32
  let c16_i32_46 : BitVec 32 := 16#32
  let v112 : BitVec 32 := Scalar.muli v111 c16_i32_46
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let v120 : BitVec 32 := Scalar.addi c0_i32_51 v119
  let c1_i32_54 : BitVec 32 := 1#32
  ⟨v123, v120, c1_i32_54⟩
def k0_mult8 (v107 : BitVec 32) (v109 : BitVec 32) (k0_t6 : Fin (k0_t6_loop v107 v109).trips) : BitVec 32 :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  v126
def k0_off126 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v128 : Index := Scalar.indexCast v75
  let c0_57 : Index := 0#32
  let c0_58 : Index := 0#32
  ![v128.toNat, 0, 0]
def k0_off127 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v141 : Index := Scalar.indexCast v75
  let c0_61 : Index := 0#32
  let c0_62 : Index := 0#32
  ![v141.toNat, 0, 0]
def k0_off128 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v150 : Index := Scalar.indexCast v75
  let c1_63 : Index := 1#32
  let c0_64 : Index := 0#32
  ![v150.toNat, 1, 0]
def k0_off129 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v161 : Index := Scalar.indexCast v75
  let c16 : Index := 16#32
  let c0_66 : Index := 0#32
  ![v161.toNat, 16, 0]
def k0_off130 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v170 : Index := Scalar.indexCast v75
  let c17 : Index := 17#32
  let c0_68 : Index := 0#32
  ![v170.toNat, 17, 0]
def k0_off131 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v180 : Index := Scalar.indexCast v127
  let c0_70 : Index := 0#32
  ![v180.toNat, 0]
def k0_off132 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v182 : Index := Scalar.indexCast v127
  let c2048 : Index := 2048#32
  ![v182.toNat, 2048]
def k0_off133 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v186 : Index := Scalar.indexCast v75
  let c256 : Index := 256#32
  let c0_73 : Index := 0#32
  ![v186.toNat, 256, 0]
def k0_off134 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v199 : Index := Scalar.indexCast v75
  let c2_77 : Index := 2#32
  let c0_78 : Index := 0#32
  ![v199.toNat, 2, 0]
def k0_off135 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v208 : Index := Scalar.indexCast v75
  let c3_80 : Index := 3#32
  let c0_81 : Index := 0#32
  ![v208.toNat, 3, 0]
def k0_off136 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v219 : Index := Scalar.indexCast v75
  let c18 : Index := 18#32
  let c0_83 : Index := 0#32
  ![v219.toNat, 18, 0]
def k0_off137 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v228 : Index := Scalar.indexCast v75
  let c19 : Index := 19#32
  let c0_85 : Index := 0#32
  ![v228.toNat, 19, 0]
def k0_off138 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v238 : Index := Scalar.indexCast v127
  let c256_87 : Index := 256#32
  ![v238.toNat, 256]
def k0_off139 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v240 : Index := Scalar.indexCast v127
  let c2304 : Index := 2304#32
  ![v240.toNat, 2304]
def k0_off140 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v246 : Index := Scalar.indexCast v75
  let c512 : Index := 512#32
  let c0_90 : Index := 0#32
  ![v246.toNat, 512, 0]
def k0_off141 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v259 : Index := Scalar.indexCast v75
  let c4_94 : Index := 4#32
  let c0_95 : Index := 0#32
  ![v259.toNat, 4, 0]
def k0_off142 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v268 : Index := Scalar.indexCast v75
  let c5_97 : Index := 5#32
  let c0_98 : Index := 0#32
  ![v268.toNat, 5, 0]
def k0_off143 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v279 : Index := Scalar.indexCast v75
  let c20 : Index := 20#32
  let c0_100 : Index := 0#32
  ![v279.toNat, 20, 0]
def k0_off144 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v288 : Index := Scalar.indexCast v75
  let c21 : Index := 21#32
  let c0_102 : Index := 0#32
  ![v288.toNat, 21, 0]
def k0_off145 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v298 : Index := Scalar.indexCast v127
  let c512_104 : Index := 512#32
  ![v298.toNat, 512]
def k0_off146 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v300 : Index := Scalar.indexCast v127
  let c2560 : Index := 2560#32
  ![v300.toNat, 2560]
def k0_off147 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v306 : Index := Scalar.indexCast v75
  let c768 : Index := 768#32
  let c0_107 : Index := 0#32
  ![v306.toNat, 768, 0]
def k0_off148 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v319 : Index := Scalar.indexCast v75
  let c6_111 : Index := 6#32
  let c0_112 : Index := 0#32
  ![v319.toNat, 6, 0]
def k0_off149 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v328 : Index := Scalar.indexCast v75
  let c7_114 : Index := 7#32
  let c0_115 : Index := 0#32
  ![v328.toNat, 7, 0]
def k0_off150 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v339 : Index := Scalar.indexCast v75
  let c22 : Index := 22#32
  let c0_117 : Index := 0#32
  ![v339.toNat, 22, 0]
def k0_off151 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v348 : Index := Scalar.indexCast v75
  let c23 : Index := 23#32
  let c0_119 : Index := 0#32
  ![v348.toNat, 23, 0]
def k0_off152 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v358 : Index := Scalar.indexCast v127
  let c768_121 : Index := 768#32
  ![v358.toNat, 768]
def k0_off153 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v360 : Index := Scalar.indexCast v127
  let c2816 : Index := 2816#32
  ![v360.toNat, 2816]
def k0_off154 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v366 : Index := Scalar.indexCast v75
  let c1024 : Index := 1024#32
  let c0_124 : Index := 0#32
  ![v366.toNat, 1024, 0]
def k0_off155 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v379 : Index := Scalar.indexCast v75
  let c8 : Index := 8#32
  let c0_128 : Index := 0#32
  ![v379.toNat, 8, 0]
def k0_off156 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v388 : Index := Scalar.indexCast v75
  let c9 : Index := 9#32
  let c0_130 : Index := 0#32
  ![v388.toNat, 9, 0]
def k0_off157 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v399 : Index := Scalar.indexCast v75
  let c24 : Index := 24#32
  let c0_132 : Index := 0#32
  ![v399.toNat, 24, 0]
def k0_off158 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v408 : Index := Scalar.indexCast v75
  let c25 : Index := 25#32
  let c0_134 : Index := 0#32
  ![v408.toNat, 25, 0]
def k0_off159 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v418 : Index := Scalar.indexCast v127
  let c1024_136 : Index := 1024#32
  ![v418.toNat, 1024]
def k0_off160 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v420 : Index := Scalar.indexCast v127
  let c3072 : Index := 3072#32
  ![v420.toNat, 3072]
def k0_off161 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v426 : Index := Scalar.indexCast v75
  let c1280 : Index := 1280#32
  let c0_139 : Index := 0#32
  ![v426.toNat, 1280, 0]
def k0_off162 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v439 : Index := Scalar.indexCast v75
  let c10 : Index := 10#32
  let c0_143 : Index := 0#32
  ![v439.toNat, 10, 0]
def k0_off163 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v448 : Index := Scalar.indexCast v75
  let c11 : Index := 11#32
  let c0_145 : Index := 0#32
  ![v448.toNat, 11, 0]
def k0_off164 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v459 : Index := Scalar.indexCast v75
  let c26 : Index := 26#32
  let c0_147 : Index := 0#32
  ![v459.toNat, 26, 0]
def k0_off165 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v468 : Index := Scalar.indexCast v75
  let c27 : Index := 27#32
  let c0_149 : Index := 0#32
  ![v468.toNat, 27, 0]
def k0_off166 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v478 : Index := Scalar.indexCast v127
  let c1280_151 : Index := 1280#32
  ![v478.toNat, 1280]
def k0_off167 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v480 : Index := Scalar.indexCast v127
  let c3328 : Index := 3328#32
  ![v480.toNat, 3328]
def k0_off168 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v486 : Index := Scalar.indexCast v75
  let c1536 : Index := 1536#32
  let c0_154 : Index := 0#32
  ![v486.toNat, 1536, 0]
def k0_off169 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v499 : Index := Scalar.indexCast v75
  let c12 : Index := 12#32
  let c0_158 : Index := 0#32
  ![v499.toNat, 12, 0]
def k0_off170 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v508 : Index := Scalar.indexCast v75
  let c13 : Index := 13#32
  let c0_160 : Index := 0#32
  ![v508.toNat, 13, 0]
def k0_off171 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v519 : Index := Scalar.indexCast v75
  let c28 : Index := 28#32
  let c0_162 : Index := 0#32
  ![v519.toNat, 28, 0]
def k0_off172 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v528 : Index := Scalar.indexCast v75
  let c29 : Index := 29#32
  let c0_164 : Index := 0#32
  ![v528.toNat, 29, 0]
def k0_off173 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v538 : Index := Scalar.indexCast v127
  let c1536_166 : Index := 1536#32
  ![v538.toNat, 1536]
def k0_off174 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v540 : Index := Scalar.indexCast v127
  let c3584 : Index := 3584#32
  ![v540.toNat, 3584]
def k0_off175 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v546 : Index := Scalar.indexCast v75
  let c1792 : Index := 1792#32
  let c0_169 : Index := 0#32
  ![v546.toNat, 1792, 0]
def k0_off176 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v559 : Index := Scalar.indexCast v75
  let c14 : Index := 14#32
  let c0_173 : Index := 0#32
  ![v559.toNat, 14, 0]
def k0_off177 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v568 : Index := Scalar.indexCast v75
  let c15 : Index := 15#32
  let c0_175 : Index := 0#32
  ![v568.toNat, 15, 0]
def k0_off178 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v579 : Index := Scalar.indexCast v75
  let c30 : Index := 30#32
  let c0_177 : Index := 0#32
  ![v579.toNat, 30, 0]
def k0_off179 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) : Fin 3 → Nat :=
  let c0_i32_32 : BitVec 32 := 0#32
  let c1_i32_34 : BitVec 32 := 1#32
  let arg15 : BitVec 32 := Scf.iv c0_i32_32 c1_i32_34 k0_t4
  let c8_i32 : BitVec 32 := 8#32
  let v75 : BitVec 32 := Scalar.remsi arg15 c8_i32
  let v588 : Index := Scalar.indexCast v75
  let c31 : Index := 31#32
  let c0_179 : Index := 0#32
  ![v588.toNat, 31, 0]
def k0_off180 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v598 : Index := Scalar.indexCast v127
  let c1792_181 : Index := 1792#32
  ![v598.toNat, 1792]
def k0_off181 (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v600 : Index := Scalar.indexCast v127
  let c3840 : Index := 3840#32
  ![v600.toNat, 3840]
def k0_off182 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_t6 : Fin (k0_t6_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t6
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v615 : Index := Scalar.indexCast v127
  let c0_i32_32 : BitVec 32 := 0#32
  let c1_i32_34 : BitVec 32 := 1#32
  let arg15 : BitVec 32 := Scf.iv c0_i32_32 c1_i32_34 k0_t4
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let v76 : BitVec 32 := Scalar.divsi arg15 v61
  let c256_i32_49 : BitVec 32 := 256#32
  let v117 : BitVec 32 := Scalar.muli v76 c256_i32_49
  let v118 : BitVec 32 := v117
  let v616 : Index := Scalar.indexCast v118
  ![v615.toNat, v616.toNat]

def k0_chk14_0 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) : Prop :=
  ((k0_t5_loop v107 v109).OK) ∧
  (∀ k0_t5 : Fin (k0_t5_loop v107 v109).trips, 16 ∣ (k0_mult7 v107 v109 k0_t5).toNat) ∧
  (∀ k0_t5 : Fin (k0_t5_loop v107 v109).trips, ∀ a, (k0_off69 v2 v10 v18 v26 v34 v42 v50 v58 k0_t4) a + S1x256x256.size a ≤ S8x2048x256.size a) ∧
  (∀ k0_t5 : Fin (k0_t5_loop v107 v109).trips, ∀ a, (k0_off70 v2 v10 v18 v26 v34 v42 v50 v58 k0_t4) a + S1x1x256.size a ≤ S8x32x256.size a) ∧
  (∀ k0_t5 : Fin (k0_t5_loop v107 v109).trips, ∀ a, (k0_off71 v2 v10 v18 v26 v34 v42 v50 v58 k0_t4) a + S1x1x256.size a ≤ S8x32x256.size a) ∧
  (∀ k0_t5 : Fin (k0_t5_loop v107 v109).trips, ∀ a, (k0_off72 v2 v10 v18 v26 v34 v42 v50 v58 k0_t4) a + S1x1x256.size a ≤ S8x32x256.size a) ∧
  (∀ k0_t5 : Fin (k0_t5_loop v107 v109).trips, ∀ a, (k0_off73 v2 v10 v18 v26 v34 v42 v50 v58 k0_t4) a + S1x1x256.size a ≤ S8x32x256.size a) ∧
  (∀ k0_t5 : Fin (k0_t5_loop v107 v109).trips, ∀ a, (k0_off74 v107 v109 k0_t5) a + S128x256.size a ≤ S256x4096.size a) ∧
  (∀ k0_t5 : Fin (k0_t5_loop v107 v109).trips, ∀ a, (k0_off75 v107 v109 k0_t5) a + S128x256.size a ≤ S256x4096.size a) ∧
  (∀ k0_t5 : Fin (k0_t5_loop v107 v109).trips, ∀ a, (k0_off76 v2 v10 v18 v26 v34 v42 v50 v58 k0_t4) a + S1x256x256.size a ≤ S8x2048x256.size a) ∧
  (∀ k0_t5 : Fin (k0_t5_loop v107 v109).trips, ∀ a, (k0_off77 v2 v10 v18 v26 v34 v42 v50 v58 k0_t4) a + S1x1x256.size a ≤ S8x32x256.size a) ∧
  (∀ k0_t5 : Fin (k0_t5_loop v107 v109).trips, ∀ a, (k0_off78 v2 v10 v18 v26 v34 v42 v50 v58 k0_t4) a + S1x1x256.size a ≤ S8x32x256.size a) ∧
  (∀ k0_t5 : Fin (k0_t5_loop v107 v109).trips, ∀ a, (k0_off79 v2 v10 v18 v26 v34 v42 v50 v58 k0_t4) a + S1x1x256.size a ≤ S8x32x256.size a) ∧
  (∀ k0_t5 : Fin (k0_t5_loop v107 v109).trips, ∀ a, (k0_off80 v2 v10 v18 v26 v34 v42 v50 v58 k0_t4) a + S1x1x256.size a ≤ S8x32x256.size a) ∧
  (∀ k0_t5 : Fin (k0_t5_loop v107 v109).trips, ∀ a, (k0_off81 v107 v109 k0_t5) a + S128x256.size a ≤ S256x4096.size a) ∧
  (∀ k0_t5 : Fin (k0_t5_loop v107 v109).trips, ∀ a, (k0_off82 v107 v109 k0_t5) a + S128x256.size a ≤ S256x4096.size a) ∧
  (∀ k0_t5 : Fin (k0_t5_loop v107 v109).trips, ∀ a, (k0_off83 v2 v10 v18 v26 v34 v42 v50 v58 k0_t4) a + S1x256x256.size a ≤ S8x2048x256.size a) ∧
  (∀ k0_t5 : Fin (k0_t5_loop v107 v109).trips, ∀ a, (k0_off84 v2 v10 v18 v26 v34 v42 v50 v58 k0_t4) a + S1x1x256.size a ≤ S8x32x256.size a) ∧
  (∀ k0_t5 : Fin (k0_t5_loop v107 v109).trips, ∀ a, (k0_off85 v2 v10 v18 v26 v34 v42 v50 v58 k0_t4) a + S1x1x256.size a ≤ S8x32x256.size a) ∧
  (∀ k0_t5 : Fin (k0_t5_loop v107 v109).trips, ∀ a, (k0_off86 v2 v10 v18 v26 v34 v42 v50 v58 k0_t4) a + S1x1x256.size a ≤ S8x32x256.size a) ∧
  (∀ k0_t5 : Fin (k0_t5_loop v107 v109).trips, ∀ a, (k0_off87 v2 v10 v18 v26 v34 v42 v50 v58 k0_t4) a + S1x1x256.size a ≤ S8x32x256.size a) ∧
  (∀ k0_t5 : Fin (k0_t5_loop v107 v109).trips, ∀ a, (k0_off88 v107 v109 k0_t5) a + S128x256.size a ≤ S256x4096.size a) ∧
  (∀ k0_t5 : Fin (k0_t5_loop v107 v109).trips, ∀ a, (k0_off89 v107 v109 k0_t5) a + S128x256.size a ≤ S256x4096.size a) ∧
  (∀ k0_t5 : Fin (k0_t5_loop v107 v109).trips, ∀ a, (k0_off90 v2 v10 v18 v26 v34 v42 v50 v58 k0_t4) a + S1x256x256.size a ≤ S8x2048x256.size a) ∧
  (∀ k0_t5 : Fin (k0_t5_loop v107 v109).trips, ∀ a, (k0_off91 v2 v10 v18 v26 v34 v42 v50 v58 k0_t4) a + S1x1x256.size a ≤ S8x32x256.size a) ∧
  (∀ k0_t5 : Fin (k0_t5_loop v107 v109).trips, ∀ a, (k0_off92 v2 v10 v18 v26 v34 v42 v50 v58 k0_t4) a + S1x1x256.size a ≤ S8x32x256.size a) ∧
  (∀ k0_t5 : Fin (k0_t5_loop v107 v109).trips, ∀ a, (k0_off93 v2 v10 v18 v26 v34 v42 v50 v58 k0_t4) a + S1x1x256.size a ≤ S8x32x256.size a) ∧
  (∀ k0_t5 : Fin (k0_t5_loop v107 v109).trips, ∀ a, (k0_off94 v2 v10 v18 v26 v34 v42 v50 v58 k0_t4) a + S1x1x256.size a ≤ S8x32x256.size a) ∧
  (∀ k0_t5 : Fin (k0_t5_loop v107 v109).trips, ∀ a, (k0_off95 v107 v109 k0_t5) a + S128x256.size a ≤ S256x4096.size a) ∧
  (∀ k0_t5 : Fin (k0_t5_loop v107 v109).trips, ∀ a, (k0_off96 v107 v109 k0_t5) a + S128x256.size a ≤ S256x4096.size a) ∧
  (∀ k0_t5 : Fin (k0_t5_loop v107 v109).trips, ∀ a, (k0_off97 v2 v10 v18 v26 v34 v42 v50 v58 k0_t4) a + S1x256x256.size a ≤ S8x2048x256.size a) ∧
  (∀ k0_t5 : Fin (k0_t5_loop v107 v109).trips, ∀ a, (k0_off98 v2 v10 v18 v26 v34 v42 v50 v58 k0_t4) a + S1x1x256.size a ≤ S8x32x256.size a)
def k0_chk14_1 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) : Prop :=
  (∀ k0_t5 : Fin (k0_t5_loop v107 v109).trips, ∀ a, (k0_off99 v2 v10 v18 v26 v34 v42 v50 v58 k0_t4) a + S1x1x256.size a ≤ S8x32x256.size a) ∧
  (∀ k0_t5 : Fin (k0_t5_loop v107 v109).trips, ∀ a, (k0_off100 v2 v10 v18 v26 v34 v42 v50 v58 k0_t4) a + S1x1x256.size a ≤ S8x32x256.size a) ∧
  (∀ k0_t5 : Fin (k0_t5_loop v107 v109).trips, ∀ a, (k0_off101 v2 v10 v18 v26 v34 v42 v50 v58 k0_t4) a + S1x1x256.size a ≤ S8x32x256.size a) ∧
  (∀ k0_t5 : Fin (k0_t5_loop v107 v109).trips, ∀ a, (k0_off102 v107 v109 k0_t5) a + S128x256.size a ≤ S256x4096.size a) ∧
  (∀ k0_t5 : Fin (k0_t5_loop v107 v109).trips, ∀ a, (k0_off103 v107 v109 k0_t5) a + S128x256.size a ≤ S256x4096.size a) ∧
  (∀ k0_t5 : Fin (k0_t5_loop v107 v109).trips, ∀ a, (k0_off104 v2 v10 v18 v26 v34 v42 v50 v58 k0_t4) a + S1x256x256.size a ≤ S8x2048x256.size a) ∧
  (∀ k0_t5 : Fin (k0_t5_loop v107 v109).trips, ∀ a, (k0_off105 v2 v10 v18 v26 v34 v42 v50 v58 k0_t4) a + S1x1x256.size a ≤ S8x32x256.size a) ∧
  (∀ k0_t5 : Fin (k0_t5_loop v107 v109).trips, ∀ a, (k0_off106 v2 v10 v18 v26 v34 v42 v50 v58 k0_t4) a + S1x1x256.size a ≤ S8x32x256.size a) ∧
  (∀ k0_t5 : Fin (k0_t5_loop v107 v109).trips, ∀ a, (k0_off107 v2 v10 v18 v26 v34 v42 v50 v58 k0_t4) a + S1x1x256.size a ≤ S8x32x256.size a) ∧
  (∀ k0_t5 : Fin (k0_t5_loop v107 v109).trips, ∀ a, (k0_off108 v2 v10 v18 v26 v34 v42 v50 v58 k0_t4) a + S1x1x256.size a ≤ S8x32x256.size a) ∧
  (∀ k0_t5 : Fin (k0_t5_loop v107 v109).trips, ∀ a, (k0_off109 v107 v109 k0_t5) a + S128x256.size a ≤ S256x4096.size a) ∧
  (∀ k0_t5 : Fin (k0_t5_loop v107 v109).trips, ∀ a, (k0_off110 v107 v109 k0_t5) a + S128x256.size a ≤ S256x4096.size a) ∧
  (∀ k0_t5 : Fin (k0_t5_loop v107 v109).trips, ∀ a, (k0_off111 v2 v10 v18 v26 v34 v42 v50 v58 k0_t4) a + S1x256x256.size a ≤ S8x2048x256.size a) ∧
  (∀ k0_t5 : Fin (k0_t5_loop v107 v109).trips, ∀ a, (k0_off112 v2 v10 v18 v26 v34 v42 v50 v58 k0_t4) a + S1x1x256.size a ≤ S8x32x256.size a) ∧
  (∀ k0_t5 : Fin (k0_t5_loop v107 v109).trips, ∀ a, (k0_off113 v2 v10 v18 v26 v34 v42 v50 v58 k0_t4) a + S1x1x256.size a ≤ S8x32x256.size a) ∧
  (∀ k0_t5 : Fin (k0_t5_loop v107 v109).trips, ∀ a, (k0_off114 v2 v10 v18 v26 v34 v42 v50 v58 k0_t4) a + S1x1x256.size a ≤ S8x32x256.size a) ∧
  (∀ k0_t5 : Fin (k0_t5_loop v107 v109).trips, ∀ a, (k0_off115 v2 v10 v18 v26 v34 v42 v50 v58 k0_t4) a + S1x1x256.size a ≤ S8x32x256.size a) ∧
  (∀ k0_t5 : Fin (k0_t5_loop v107 v109).trips, ∀ a, (k0_off116 v107 v109 k0_t5) a + S128x256.size a ≤ S256x4096.size a) ∧
  (∀ k0_t5 : Fin (k0_t5_loop v107 v109).trips, ∀ a, (k0_off117 v107 v109 k0_t5) a + S128x256.size a ≤ S256x4096.size a) ∧
  (∀ k0_t5 : Fin (k0_t5_loop v107 v109).trips, ∀ a, (k0_off118 v2 v10 v18 v26 v34 v42 v50 v58 k0_t4) a + S1x256x256.size a ≤ S8x2048x256.size a) ∧
  (∀ k0_t5 : Fin (k0_t5_loop v107 v109).trips, ∀ a, (k0_off119 v2 v10 v18 v26 v34 v42 v50 v58 k0_t4) a + S1x1x256.size a ≤ S8x32x256.size a) ∧
  (∀ k0_t5 : Fin (k0_t5_loop v107 v109).trips, ∀ a, (k0_off120 v2 v10 v18 v26 v34 v42 v50 v58 k0_t4) a + S1x1x256.size a ≤ S8x32x256.size a) ∧
  (∀ k0_t5 : Fin (k0_t5_loop v107 v109).trips, ∀ a, (k0_off121 v2 v10 v18 v26 v34 v42 v50 v58 k0_t4) a + S1x1x256.size a ≤ S8x32x256.size a) ∧
  (∀ k0_t5 : Fin (k0_t5_loop v107 v109).trips, ∀ a, (k0_off122 v2 v10 v18 v26 v34 v42 v50 v58 k0_t4) a + S1x1x256.size a ≤ S8x32x256.size a) ∧
  (∀ k0_t5 : Fin (k0_t5_loop v107 v109).trips, ∀ a, (k0_off123 v107 v109 k0_t5) a + S128x256.size a ≤ S256x4096.size a) ∧
  (∀ k0_t5 : Fin (k0_t5_loop v107 v109).trips, ∀ a, (k0_off124 v107 v109 k0_t5) a + S128x256.size a ≤ S256x4096.size a) ∧
  (∀ k0_t5 : Fin (k0_t5_loop v107 v109).trips, ∀ a, (k0_off125 v2 v10 v18 v26 v34 v42 v50 v58 k0_t4 v107 v109 k0_t5) a + S128x256.size a ≤ S256x1792.size a) ∧
  (∀ k0_t5 : Fin (k0_t5_loop v107 v109).trips, ∀ (hinb : ∀ a, (k0_off125 v2 v10 v18 v26 v34 v42 v50 v58 k0_t4 v107 v109 k0_t5) a + S128x256.size a ≤ S256x1792.size a), (Rect.unit (s := S256x1792) (k0_off125 v2 v10 v18 v26 v34 v42 v50 v58 k0_t4 v107 v109 k0_t5) S128x256.size hinb).PackedRows (EltTy.packing .bf16)) ∧
  ((k0_t6_loop v107 v109).OK) ∧
  (∀ k0_t6 : Fin (k0_t6_loop v107 v109).trips, 16 ∣ (k0_mult8 v107 v109 k0_t6).toNat) ∧
  (∀ k0_t6 : Fin (k0_t6_loop v107 v109).trips, ∀ a, (k0_off126 v2 v10 v18 v26 v34 v42 v50 v58 k0_t4) a + S1x256x256.size a ≤ S8x2048x256.size a) ∧
  (∀ k0_t6 : Fin (k0_t6_loop v107 v109).trips, ∀ a, (k0_off127 v2 v10 v18 v26 v34 v42 v50 v58 k0_t4) a + S1x1x256.size a ≤ S8x32x256.size a)
def k0_chk14_2 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) : Prop :=
  (∀ k0_t6 : Fin (k0_t6_loop v107 v109).trips, ∀ a, (k0_off128 v2 v10 v18 v26 v34 v42 v50 v58 k0_t4) a + S1x1x256.size a ≤ S8x32x256.size a) ∧
  (∀ k0_t6 : Fin (k0_t6_loop v107 v109).trips, ∀ a, (k0_off129 v2 v10 v18 v26 v34 v42 v50 v58 k0_t4) a + S1x1x256.size a ≤ S8x32x256.size a) ∧
  (∀ k0_t6 : Fin (k0_t6_loop v107 v109).trips, ∀ a, (k0_off130 v2 v10 v18 v26 v34 v42 v50 v58 k0_t4) a + S1x1x256.size a ≤ S8x32x256.size a) ∧
  (∀ k0_t6 : Fin (k0_t6_loop v107 v109).trips, ∀ a, (k0_off131 v107 v109 k0_t6) a + S128x256.size a ≤ S256x4096.size a) ∧
  (∀ k0_t6 : Fin (k0_t6_loop v107 v109).trips, ∀ a, (k0_off132 v107 v109 k0_t6) a + S128x256.size a ≤ S256x4096.size a) ∧
  (∀ k0_t6 : Fin (k0_t6_loop v107 v109).trips, ∀ a, (k0_off133 v2 v10 v18 v26 v34 v42 v50 v58 k0_t4) a + S1x256x256.size a ≤ S8x2048x256.size a) ∧
  (∀ k0_t6 : Fin (k0_t6_loop v107 v109).trips, ∀ a, (k0_off134 v2 v10 v18 v26 v34 v42 v50 v58 k0_t4) a + S1x1x256.size a ≤ S8x32x256.size a) ∧
  (∀ k0_t6 : Fin (k0_t6_loop v107 v109).trips, ∀ a, (k0_off135 v2 v10 v18 v26 v34 v42 v50 v58 k0_t4) a + S1x1x256.size a ≤ S8x32x256.size a) ∧
  (∀ k0_t6 : Fin (k0_t6_loop v107 v109).trips, ∀ a, (k0_off136 v2 v10 v18 v26 v34 v42 v50 v58 k0_t4) a + S1x1x256.size a ≤ S8x32x256.size a) ∧
  (∀ k0_t6 : Fin (k0_t6_loop v107 v109).trips, ∀ a, (k0_off137 v2 v10 v18 v26 v34 v42 v50 v58 k0_t4) a + S1x1x256.size a ≤ S8x32x256.size a) ∧
  (∀ k0_t6 : Fin (k0_t6_loop v107 v109).trips, ∀ a, (k0_off138 v107 v109 k0_t6) a + S128x256.size a ≤ S256x4096.size a) ∧
  (∀ k0_t6 : Fin (k0_t6_loop v107 v109).trips, ∀ a, (k0_off139 v107 v109 k0_t6) a + S128x256.size a ≤ S256x4096.size a) ∧
  (∀ k0_t6 : Fin (k0_t6_loop v107 v109).trips, ∀ a, (k0_off140 v2 v10 v18 v26 v34 v42 v50 v58 k0_t4) a + S1x256x256.size a ≤ S8x2048x256.size a) ∧
  (∀ k0_t6 : Fin (k0_t6_loop v107 v109).trips, ∀ a, (k0_off141 v2 v10 v18 v26 v34 v42 v50 v58 k0_t4) a + S1x1x256.size a ≤ S8x32x256.size a) ∧
  (∀ k0_t6 : Fin (k0_t6_loop v107 v109).trips, ∀ a, (k0_off142 v2 v10 v18 v26 v34 v42 v50 v58 k0_t4) a + S1x1x256.size a ≤ S8x32x256.size a) ∧
  (∀ k0_t6 : Fin (k0_t6_loop v107 v109).trips, ∀ a, (k0_off143 v2 v10 v18 v26 v34 v42 v50 v58 k0_t4) a + S1x1x256.size a ≤ S8x32x256.size a) ∧
  (∀ k0_t6 : Fin (k0_t6_loop v107 v109).trips, ∀ a, (k0_off144 v2 v10 v18 v26 v34 v42 v50 v58 k0_t4) a + S1x1x256.size a ≤ S8x32x256.size a) ∧
  (∀ k0_t6 : Fin (k0_t6_loop v107 v109).trips, ∀ a, (k0_off145 v107 v109 k0_t6) a + S128x256.size a ≤ S256x4096.size a) ∧
  (∀ k0_t6 : Fin (k0_t6_loop v107 v109).trips, ∀ a, (k0_off146 v107 v109 k0_t6) a + S128x256.size a ≤ S256x4096.size a) ∧
  (∀ k0_t6 : Fin (k0_t6_loop v107 v109).trips, ∀ a, (k0_off147 v2 v10 v18 v26 v34 v42 v50 v58 k0_t4) a + S1x256x256.size a ≤ S8x2048x256.size a) ∧
  (∀ k0_t6 : Fin (k0_t6_loop v107 v109).trips, ∀ a, (k0_off148 v2 v10 v18 v26 v34 v42 v50 v58 k0_t4) a + S1x1x256.size a ≤ S8x32x256.size a) ∧
  (∀ k0_t6 : Fin (k0_t6_loop v107 v109).trips, ∀ a, (k0_off149 v2 v10 v18 v26 v34 v42 v50 v58 k0_t4) a + S1x1x256.size a ≤ S8x32x256.size a) ∧
  (∀ k0_t6 : Fin (k0_t6_loop v107 v109).trips, ∀ a, (k0_off150 v2 v10 v18 v26 v34 v42 v50 v58 k0_t4) a + S1x1x256.size a ≤ S8x32x256.size a) ∧
  (∀ k0_t6 : Fin (k0_t6_loop v107 v109).trips, ∀ a, (k0_off151 v2 v10 v18 v26 v34 v42 v50 v58 k0_t4) a + S1x1x256.size a ≤ S8x32x256.size a) ∧
  (∀ k0_t6 : Fin (k0_t6_loop v107 v109).trips, ∀ a, (k0_off152 v107 v109 k0_t6) a + S128x256.size a ≤ S256x4096.size a) ∧
  (∀ k0_t6 : Fin (k0_t6_loop v107 v109).trips, ∀ a, (k0_off153 v107 v109 k0_t6) a + S128x256.size a ≤ S256x4096.size a) ∧
  (∀ k0_t6 : Fin (k0_t6_loop v107 v109).trips, ∀ a, (k0_off154 v2 v10 v18 v26 v34 v42 v50 v58 k0_t4) a + S1x256x256.size a ≤ S8x2048x256.size a) ∧
  (∀ k0_t6 : Fin (k0_t6_loop v107 v109).trips, ∀ a, (k0_off155 v2 v10 v18 v26 v34 v42 v50 v58 k0_t4) a + S1x1x256.size a ≤ S8x32x256.size a) ∧
  (∀ k0_t6 : Fin (k0_t6_loop v107 v109).trips, ∀ a, (k0_off156 v2 v10 v18 v26 v34 v42 v50 v58 k0_t4) a + S1x1x256.size a ≤ S8x32x256.size a) ∧
  (∀ k0_t6 : Fin (k0_t6_loop v107 v109).trips, ∀ a, (k0_off157 v2 v10 v18 v26 v34 v42 v50 v58 k0_t4) a + S1x1x256.size a ≤ S8x32x256.size a) ∧
  (∀ k0_t6 : Fin (k0_t6_loop v107 v109).trips, ∀ a, (k0_off158 v2 v10 v18 v26 v34 v42 v50 v58 k0_t4) a + S1x1x256.size a ≤ S8x32x256.size a) ∧
  (∀ k0_t6 : Fin (k0_t6_loop v107 v109).trips, ∀ a, (k0_off159 v107 v109 k0_t6) a + S128x256.size a ≤ S256x4096.size a)
def k0_chk14_3 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) : Prop :=
  (∀ k0_t6 : Fin (k0_t6_loop v107 v109).trips, ∀ a, (k0_off160 v107 v109 k0_t6) a + S128x256.size a ≤ S256x4096.size a) ∧
  (∀ k0_t6 : Fin (k0_t6_loop v107 v109).trips, ∀ a, (k0_off161 v2 v10 v18 v26 v34 v42 v50 v58 k0_t4) a + S1x256x256.size a ≤ S8x2048x256.size a) ∧
  (∀ k0_t6 : Fin (k0_t6_loop v107 v109).trips, ∀ a, (k0_off162 v2 v10 v18 v26 v34 v42 v50 v58 k0_t4) a + S1x1x256.size a ≤ S8x32x256.size a) ∧
  (∀ k0_t6 : Fin (k0_t6_loop v107 v109).trips, ∀ a, (k0_off163 v2 v10 v18 v26 v34 v42 v50 v58 k0_t4) a + S1x1x256.size a ≤ S8x32x256.size a) ∧
  (∀ k0_t6 : Fin (k0_t6_loop v107 v109).trips, ∀ a, (k0_off164 v2 v10 v18 v26 v34 v42 v50 v58 k0_t4) a + S1x1x256.size a ≤ S8x32x256.size a) ∧
  (∀ k0_t6 : Fin (k0_t6_loop v107 v109).trips, ∀ a, (k0_off165 v2 v10 v18 v26 v34 v42 v50 v58 k0_t4) a + S1x1x256.size a ≤ S8x32x256.size a) ∧
  (∀ k0_t6 : Fin (k0_t6_loop v107 v109).trips, ∀ a, (k0_off166 v107 v109 k0_t6) a + S128x256.size a ≤ S256x4096.size a) ∧
  (∀ k0_t6 : Fin (k0_t6_loop v107 v109).trips, ∀ a, (k0_off167 v107 v109 k0_t6) a + S128x256.size a ≤ S256x4096.size a) ∧
  (∀ k0_t6 : Fin (k0_t6_loop v107 v109).trips, ∀ a, (k0_off168 v2 v10 v18 v26 v34 v42 v50 v58 k0_t4) a + S1x256x256.size a ≤ S8x2048x256.size a) ∧
  (∀ k0_t6 : Fin (k0_t6_loop v107 v109).trips, ∀ a, (k0_off169 v2 v10 v18 v26 v34 v42 v50 v58 k0_t4) a + S1x1x256.size a ≤ S8x32x256.size a) ∧
  (∀ k0_t6 : Fin (k0_t6_loop v107 v109).trips, ∀ a, (k0_off170 v2 v10 v18 v26 v34 v42 v50 v58 k0_t4) a + S1x1x256.size a ≤ S8x32x256.size a) ∧
  (∀ k0_t6 : Fin (k0_t6_loop v107 v109).trips, ∀ a, (k0_off171 v2 v10 v18 v26 v34 v42 v50 v58 k0_t4) a + S1x1x256.size a ≤ S8x32x256.size a) ∧
  (∀ k0_t6 : Fin (k0_t6_loop v107 v109).trips, ∀ a, (k0_off172 v2 v10 v18 v26 v34 v42 v50 v58 k0_t4) a + S1x1x256.size a ≤ S8x32x256.size a) ∧
  (∀ k0_t6 : Fin (k0_t6_loop v107 v109).trips, ∀ a, (k0_off173 v107 v109 k0_t6) a + S128x256.size a ≤ S256x4096.size a) ∧
  (∀ k0_t6 : Fin (k0_t6_loop v107 v109).trips, ∀ a, (k0_off174 v107 v109 k0_t6) a + S128x256.size a ≤ S256x4096.size a) ∧
  (∀ k0_t6 : Fin (k0_t6_loop v107 v109).trips, ∀ a, (k0_off175 v2 v10 v18 v26 v34 v42 v50 v58 k0_t4) a + S1x256x256.size a ≤ S8x2048x256.size a) ∧
  (∀ k0_t6 : Fin (k0_t6_loop v107 v109).trips, ∀ a, (k0_off176 v2 v10 v18 v26 v34 v42 v50 v58 k0_t4) a + S1x1x256.size a ≤ S8x32x256.size a) ∧
  (∀ k0_t6 : Fin (k0_t6_loop v107 v109).trips, ∀ a, (k0_off177 v2 v10 v18 v26 v34 v42 v50 v58 k0_t4) a + S1x1x256.size a ≤ S8x32x256.size a) ∧
  (∀ k0_t6 : Fin (k0_t6_loop v107 v109).trips, ∀ a, (k0_off178 v2 v10 v18 v26 v34 v42 v50 v58 k0_t4) a + S1x1x256.size a ≤ S8x32x256.size a) ∧
  (∀ k0_t6 : Fin (k0_t6_loop v107 v109).trips, ∀ a, (k0_off179 v2 v10 v18 v26 v34 v42 v50 v58 k0_t4) a + S1x1x256.size a ≤ S8x32x256.size a) ∧
  (∀ k0_t6 : Fin (k0_t6_loop v107 v109).trips, ∀ a, (k0_off180 v107 v109 k0_t6) a + S128x256.size a ≤ S256x4096.size a) ∧
  (∀ k0_t6 : Fin (k0_t6_loop v107 v109).trips, ∀ a, (k0_off181 v107 v109 k0_t6) a + S128x256.size a ≤ S256x4096.size a) ∧
  (∀ k0_t6 : Fin (k0_t6_loop v107 v109).trips, ∀ a, (k0_off182 v2 v10 v18 v26 v34 v42 v50 v58 k0_t4 v107 v109 k0_t6) a + S128x256.size a ≤ S256x1792.size a) ∧
  (∀ k0_t6 : Fin (k0_t6_loop v107 v109).trips, ∀ (hinb : ∀ a, (k0_off182 v2 v10 v18 v26 v34 v42 v50 v58 k0_t4 v107 v109 k0_t6) a + S128x256.size a ≤ S256x1792.size a), (Rect.unit (s := S256x1792) (k0_off182 v2 v10 v18 v26 v34 v42 v50 v58 k0_t4 v107 v109 k0_t6) S128x256.size hinb).PackedRows (EltTy.packing .bf16))
def k0_chk14 (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) : Prop :=
  k0_chk14_0 v2 v10 v18 v26 v34 v42 v50 v58 k0_t4 v107 v109 ∧
  k0_chk14_1 v2 v10 v18 v26 v34 v42 v50 v58 k0_t4 v107 v109 ∧
  k0_chk14_2 v2 v10 v18 v26 v34 v42 v50 v58 k0_t4 v107 v109 ∧
  k0_chk14_3 v2 v10 v18 v26 v34 v42 v50 v58 k0_t4 v107 v109
theorem k0_t5_ok : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109), (k0_t5_loop v107 v109).OK := fun v2 v10 v18 v26 v34 v42 v50 v58 k0_t4 v107 v109 k0_hw14 => k0_hw14.1.1
theorem k0_mult7_dvd : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), 16 ∣ (k0_mult7 v107 v109 k0_t5).toNat := fun v2 v10 v18 v26 v34 v42 v50 v58 k0_t4 v107 v109 k0_hw14 k0_t5 => k0_hw14.1.2.1 k0_t5
theorem k0_off69_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off69 v2 v10 v18 v26 v34 v42 v50 v58 k0_t4) a + S1x256x256.size a ≤ S8x2048x256.size a := fun v2 v10 v18 v26 v34 v42 v50 v58 k0_t4 v107 v109 k0_hw14 k0_t5 => k0_hw14.1.2.2.1 k0_t5
theorem k0_off70_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off70 v2 v10 v18 v26 v34 v42 v50 v58 k0_t4) a + S1x1x256.size a ≤ S8x32x256.size a := fun v2 v10 v18 v26 v34 v42 v50 v58 k0_t4 v107 v109 k0_hw14 k0_t5 => k0_hw14.1.2.2.2.1 k0_t5
theorem k0_off71_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off71 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.1 k0_t5
theorem k0_off72_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off72 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.1 k0_t5
theorem k0_off73_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off73 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.1 k0_t5
theorem k0_off74_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off74 v107 v109 k0_t5) a + S128x256.size a ≤ S256x4096.size a := fun v2 v10 v18 v26 v34 v42 v50 v58 k0_t4 v107 v109 k0_hw14 k0_t5 => k0_hw14.1.2.2.2.2.2.2.2.1 k0_t5
theorem k0_off75_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off75 v107 v109 k0_t5) a + S128x256.size a ≤ S256x4096.size a := fun v2 v10 v18 v26 v34 v42 v50 v58 k0_t4 v107 v109 k0_hw14 k0_t5 => k0_hw14.1.2.2.2.2.2.2.2.2.1 k0_t5
theorem k0_off76_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off76 v2 v10 v18 v26 v34 v42 v50 v58 k0_t4) a + S1x256x256.size a ≤ S8x2048x256.size a := fun v2 v10 v18 v26 v34 v42 v50 v58 k0_t4 v107 v109 k0_hw14 k0_t5 => k0_hw14.1.2.2.2.2.2.2.2.2.2.1 k0_t5
theorem k0_off77_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off77 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.1 k0_t5
theorem k0_off78_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off78 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.1 k0_t5
theorem k0_off79_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off79 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.1 k0_t5
theorem k0_off80_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off80 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.1 k0_t5
theorem k0_off81_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off81 v107 v109 k0_t5) a + S128x256.size a ≤ S256x4096.size a := fun v2 v10 v18 v26 v34 v42 v50 v58 k0_t4 v107 v109 k0_hw14 k0_t5 => k0_hw14.1.2.2.2.2.2.2.2.2.2.2.2.2.2.2.1 k0_t5
theorem k0_off82_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off82 v107 v109 k0_t5) a + S128x256.size a ≤ S256x4096.size a := fun v2 v10 v18 v26 v34 v42 v50 v58 k0_t4 v107 v109 k0_hw14 k0_t5 => k0_hw14.1.2.2.2.2.2.2.2.2.2.2.2.2.2.2.2.1 k0_t5
theorem k0_off83_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off83 v2 v10 v18 v26 v34 v42 v50 v58 k0_t4) a + S1x256x256.size a ≤ S8x2048x256.size a := fun v2 v10 v18 v26 v34 v42 v50 v58 k0_t4 v107 v109 k0_hw14 k0_t5 => k0_hw14.1.2.2.2.2.2.2.2.2.2.2.2.2.2.2.2.2.1 k0_t5
theorem k0_off84_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off84 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.1 k0_t5
theorem k0_off85_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off85 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.1 k0_t5
theorem k0_off86_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off86 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.1 k0_t5
theorem k0_off87_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off87 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.1 k0_t5
theorem k0_off88_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off88 v107 v109 k0_t5) a + S128x256.size a ≤ S256x4096.size a := fun v2 v10 v18 v26 v34 v42 v50 v58 k0_t4 v107 v109 k0_hw14 k0_t5 => k0_hw14.1.2.2.2.2.2.2.2.2.2.2.2.2.2.2.2.2.2.2.2.2.2.1 k0_t5
theorem k0_off89_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off89 v107 v109 k0_t5) a + S128x256.size a ≤ S256x4096.size a := fun v2 v10 v18 v26 v34 v42 v50 v58 k0_t4 v107 v109 k0_hw14 k0_t5 => k0_hw14.1.2.2.2.2.2.2.2.2.2.2.2.2.2.2.2.2.2.2.2.2.2.2.1 k0_t5
theorem k0_off90_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off90 v2 v10 v18 v26 v34 v42 v50 v58 k0_t4) a + S1x256x256.size a ≤ S8x2048x256.size a := fun v2 v10 v18 v26 v34 v42 v50 v58 k0_t4 v107 v109 k0_hw14 k0_t5 => k0_hw14.1.2.2.2.2.2.2.2.2.2.2.2.2.2.2.2.2.2.2.2.2.2.2.2.1 k0_t5
theorem k0_off91_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off91 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.2.2.2.2.1 k0_t5
theorem k0_off92_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off92 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.2.2.2.2.2.1 k0_t5
theorem k0_off93_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off93 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.2.2.2.2.2.2.1 k0_t5
theorem k0_off94_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off94 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.2.2.2.2.2.2.2.1 k0_t5
theorem k0_off95_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off95 v107 v109 k0_t5) a + S128x256.size a ≤ S256x4096.size a := fun v2 v10 v18 v26 v34 v42 v50 v58 k0_t4 v107 v109 k0_hw14 k0_t5 => k0_hw14.1.2.2.2.2.2.2.2.2.2.2.2.2.2.2.2.2.2.2.2.2.2.2.2.2.2.2.2.2.1 k0_t5
theorem k0_off96_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off96 v107 v109 k0_t5) a + S128x256.size a ≤ S256x4096.size a := fun v2 v10 v18 v26 v34 v42 v50 v58 k0_t4 v107 v109 k0_hw14 k0_t5 => k0_hw14.1.2.2.2.2.2.2.2.2.2.2.2.2.2.2.2.2.2.2.2.2.2.2.2.2.2.2.2.2.2.1 k0_t5
theorem k0_off97_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off97 v2 v10 v18 v26 v34 v42 v50 v58 k0_t4) a + S1x256x256.size a ≤ S8x2048x256.size a := fun v2 v10 v18 v26 v34 v42 v50 v58 k0_t4 v107 v109 k0_hw14 k0_t5 => k0_hw14.1.2.2.2.2.2.2.2.2.2.2.2.2.2.2.2.2.2.2.2.2.2.2.2.2.2.2.2.2.2.2.1 k0_t5
theorem k0_off98_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off98 v2 v10 v18 v26 v34 v42 v50 v58 k0_t4) a + S1x1x256.size a ≤ S8x32x256.size a := fun v2 v10 v18 v26 v34 v42 v50 v58 k0_t4 v107 v109 k0_hw14 k0_t5 => k0_hw14.1.2.2.2.2.2.2.2.2.2.2.2.2.2.2.2.2.2.2.2.2.2.2.2.2.2.2.2.2.2.2.2 k0_t5
theorem k0_off99_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off99 v2 v10 v18 v26 v34 v42 v50 v58 k0_t4) a + S1x1x256.size a ≤ S8x32x256.size a := fun v2 v10 v18 v26 v34 v42 v50 v58 k0_t4 v107 v109 k0_hw14 k0_t5 => k0_hw14.2.1.1 k0_t5
theorem k0_off100_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off100 v2 v10 v18 v26 v34 v42 v50 v58 k0_t4) a + S1x1x256.size a ≤ S8x32x256.size a := fun v2 v10 v18 v26 v34 v42 v50 v58 k0_t4 v107 v109 k0_hw14 k0_t5 => k0_hw14.2.1.2.1 k0_t5
theorem k0_off101_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off101 v2 v10 v18 v26 v34 v42 v50 v58 k0_t4) a + S1x1x256.size a ≤ S8x32x256.size a := fun v2 v10 v18 v26 v34 v42 v50 v58 k0_t4 v107 v109 k0_hw14 k0_t5 => k0_hw14.2.1.2.2.1 k0_t5
theorem k0_off102_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off102 v107 v109 k0_t5) a + S128x256.size a ≤ S256x4096.size a := fun v2 v10 v18 v26 v34 v42 v50 v58 k0_t4 v107 v109 k0_hw14 k0_t5 => k0_hw14.2.1.2.2.2.1 k0_t5
theorem k0_off103_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off103 v107 v109 k0_t5) a + S128x256.size a ≤ S256x4096.size a := fun v2 v10 v18 v26 v34 v42 v50 v58 k0_t4 v107 v109 k0_hw14 k0_t5 => k0_hw14.2.1.2.2.2.2.1 k0_t5
theorem k0_off104_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off104 v2 v10 v18 v26 v34 v42 v50 v58 k0_t4) a + S1x256x256.size a ≤ S8x2048x256.size a := fun v2 v10 v18 v26 v34 v42 v50 v58 k0_t4 v107 v109 k0_hw14 k0_t5 => k0_hw14.2.1.2.2.2.2.2.1 k0_t5
theorem k0_off105_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off105 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.1 k0_t5
theorem k0_off106_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off106 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.1 k0_t5
theorem k0_off107_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off107 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.1 k0_t5
theorem k0_off108_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off108 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.1 k0_t5
theorem k0_off109_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off109 v107 v109 k0_t5) a + S128x256.size a ≤ S256x4096.size a := fun v2 v10 v18 v26 v34 v42 v50 v58 k0_t4 v107 v109 k0_hw14 k0_t5 => k0_hw14.2.1.2.2.2.2.2.2.2.2.2.2.1 k0_t5
theorem k0_off110_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off110 v107 v109 k0_t5) a + S128x256.size a ≤ S256x4096.size a := fun v2 v10 v18 v26 v34 v42 v50 v58 k0_t4 v107 v109 k0_hw14 k0_t5 => k0_hw14.2.1.2.2.2.2.2.2.2.2.2.2.2.1 k0_t5
theorem k0_off111_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off111 v2 v10 v18 v26 v34 v42 v50 v58 k0_t4) a + S1x256x256.size a ≤ S8x2048x256.size a := fun v2 v10 v18 v26 v34 v42 v50 v58 k0_t4 v107 v109 k0_hw14 k0_t5 => k0_hw14.2.1.2.2.2.2.2.2.2.2.2.2.2.2.1 k0_t5
theorem k0_off112_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off112 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.1 k0_t5
theorem k0_off113_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off113 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.1 k0_t5
theorem k0_off114_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off114 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.1 k0_t5
theorem k0_off115_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off115 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.2.1 k0_t5
theorem k0_off116_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off116 v107 v109 k0_t5) a + S128x256.size a ≤ S256x4096.size a := fun v2 v10 v18 v26 v34 v42 v50 v58 k0_t4 v107 v109 k0_hw14 k0_t5 => k0_hw14.2.1.2.2.2.2.2.2.2.2.2.2.2.2.2.2.2.2.2.1 k0_t5
theorem k0_off117_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off117 v107 v109 k0_t5) a + S128x256.size a ≤ S256x4096.size a := fun v2 v10 v18 v26 v34 v42 v50 v58 k0_t4 v107 v109 k0_hw14 k0_t5 => k0_hw14.2.1.2.2.2.2.2.2.2.2.2.2.2.2.2.2.2.2.2.2.1 k0_t5
theorem k0_off118_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off118 v2 v10 v18 v26 v34 v42 v50 v58 k0_t4) a + S1x256x256.size a ≤ S8x2048x256.size a := fun v2 v10 v18 v26 v34 v42 v50 v58 k0_t4 v107 v109 k0_hw14 k0_t5 => k0_hw14.2.1.2.2.2.2.2.2.2.2.2.2.2.2.2.2.2.2.2.2.2.1 k0_t5
theorem k0_off119_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off119 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.2.2.2.2.2.1 k0_t5
theorem k0_off120_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off120 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.2.2.2.2.2.2.1 k0_t5
theorem k0_off121_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off121 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.2.2.2.2.2.2.2.1 k0_t5
theorem k0_off122_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off122 v2 v10 v18 v26 v34 v42 v50 v58 k0_t4) a + S1x1x256.size a ≤ S8x32x256.size a := fun v2 v10 v18 v26 v34 v42 v50 v58 k0_t4 v107 v109 k0_hw14 k0_t5 => k0_hw14.2.1.2.2.2.2.2.2.2.2.2.2.2.2.2.2.2.2.2.2.2.2.2.2.2.1 k0_t5
theorem k0_off123_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off123 v107 v109 k0_t5) a + S128x256.size a ≤ S256x4096.size a := fun v2 v10 v18 v26 v34 v42 v50 v58 k0_t4 v107 v109 k0_hw14 k0_t5 => k0_hw14.2.1.2.2.2.2.2.2.2.2.2.2.2.2.2.2.2.2.2.2.2.2.2.2.2.2.1 k0_t5
theorem k0_off124_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off124 v107 v109 k0_t5) a + S128x256.size a ≤ S256x4096.size a := fun v2 v10 v18 v26 v34 v42 v50 v58 k0_t4 v107 v109 k0_hw14 k0_t5 => k0_hw14.2.1.2.2.2.2.2.2.2.2.2.2.2.2.2.2.2.2.2.2.2.2.2.2.2.2.2.1 k0_t5
theorem k0_off125_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), ∀ a, (k0_off125 v2 v10 v18 v26 v34 v42 v50 v58 k0_t4 v107 v109 k0_t5) a + S128x256.size a ≤ S256x1792.size a := fun v2 v10 v18 v26 v34 v42 v50 v58 k0_t4 v107 v109 k0_hw14 k0_t5 => k0_hw14.2.1.2.2.2.2.2.2.2.2.2.2.2.2.2.2.2.2.2.2.2.2.2.2.2.2.2.2.1 k0_t5
theorem k0_off125_packedbf16 : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t5 : Fin (k0_t5_loop v107 v109).trips), (Rect.unit (s := S256x1792) (k0_off125 v2 v10 v18 v26 v34 v42 v50 v58 k0_t4 v107 v109 k0_t5) S128x256.size (k0_off125_inb v2 v10 v18 v26 v34 v42 v50 v58 k0_t4 v107 v109 k0_hw14 k0_t5)).PackedRows (EltTy.packing .bf16) := fun v2 v10 v18 v26 v34 v42 v50 v58 k0_t4 v107 v109 k0_hw14 k0_t5 => k0_hw14.2.1.2.2.2.2.2.2.2.2.2.2.2.2.2.2.2.2.2.2.2.2.2.2.2.2.2.2.2.1 k0_t5 (k0_off125_inb v2 v10 v18 v26 v34 v42 v50 v58 k0_t4 v107 v109 k0_hw14 k0_t5)
theorem k0_t6_ok : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109), (k0_t6_loop v107 v109).OK := fun v2 v10 v18 v26 v34 v42 v50 v58 k0_t4 v107 v109 k0_hw14 => k0_hw14.2.1.2.2.2.2.2.2.2.2.2.2.2.2.2.2.2.2.2.2.2.2.2.2.2.2.2.2.2.2.1
theorem k0_mult8_dvd : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), 16 ∣ (k0_mult8 v107 v109 k0_t6).toNat := fun v2 v10 v18 v26 v34 v42 v50 v58 k0_t4 v107 v109 k0_hw14 k0_t6 => k0_hw14.2.1.2.2.2.2.2.2.2.2.2.2.2.2.2.2.2.2.2.2.2.2.2.2.2.2.2.2.2.2.2.1 k0_t6
theorem k0_off126_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off126 v2 v10 v18 v26 v34 v42 v50 v58 k0_t4) a + S1x256x256.size a ≤ S8x2048x256.size a := fun v2 v10 v18 v26 v34 v42 v50 v58 k0_t4 v107 v109 k0_hw14 k0_t6 => k0_hw14.2.1.2.2.2.2.2.2.2.2.2.2.2.2.2.2.2.2.2.2.2.2.2.2.2.2.2.2.2.2.2.2.1 k0_t6
theorem k0_off127_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off127 v2 v10 v18 v26 v34 v42 v50 v58 k0_t4) a + S1x1x256.size a ≤ S8x32x256.size a := fun v2 v10 v18 v26 v34 v42 v50 v58 k0_t4 v107 v109 k0_hw14 k0_t6 => k0_hw14.2.1.2.2.2.2.2.2.2.2.2.2.2.2.2.2.2.2.2.2.2.2.2.2.2.2.2.2.2.2.2.2.2 k0_t6
theorem k0_off128_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off128 v2 v10 v18 v26 v34 v42 v50 v58 k0_t4) a + S1x1x256.size a ≤ S8x32x256.size a := fun v2 v10 v18 v26 v34 v42 v50 v58 k0_t4 v107 v109 k0_hw14 k0_t6 => k0_hw14.2.2.1.1 k0_t6
theorem k0_off129_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off129 v2 v10 v18 v26 v34 v42 v50 v58 k0_t4) a + S1x1x256.size a ≤ S8x32x256.size a := fun v2 v10 v18 v26 v34 v42 v50 v58 k0_t4 v107 v109 k0_hw14 k0_t6 => k0_hw14.2.2.1.2.1 k0_t6
theorem k0_off130_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off130 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.1 k0_t6
theorem k0_off131_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off131 v107 v109 k0_t6) a + S128x256.size a ≤ S256x4096.size a := fun v2 v10 v18 v26 v34 v42 v50 v58 k0_t4 v107 v109 k0_hw14 k0_t6 => k0_hw14.2.2.1.2.2.2.1 k0_t6
theorem k0_off132_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off132 v107 v109 k0_t6) a + S128x256.size a ≤ S256x4096.size a := fun v2 v10 v18 v26 v34 v42 v50 v58 k0_t4 v107 v109 k0_hw14 k0_t6 => k0_hw14.2.2.1.2.2.2.2.1 k0_t6
theorem k0_off133_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off133 v2 v10 v18 v26 v34 v42 v50 v58 k0_t4) a + S1x256x256.size a ≤ S8x2048x256.size a := fun v2 v10 v18 v26 v34 v42 v50 v58 k0_t4 v107 v109 k0_hw14 k0_t6 => k0_hw14.2.2.1.2.2.2.2.2.1 k0_t6
theorem k0_off134_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off134 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.1 k0_t6
theorem k0_off135_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off135 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.1 k0_t6
theorem k0_off136_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off136 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.1 k0_t6
theorem k0_off137_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off137 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.1 k0_t6
theorem k0_off138_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off138 v107 v109 k0_t6) a + S128x256.size a ≤ S256x4096.size a := fun v2 v10 v18 v26 v34 v42 v50 v58 k0_t4 v107 v109 k0_hw14 k0_t6 => k0_hw14.2.2.1.2.2.2.2.2.2.2.2.2.2.1 k0_t6
theorem k0_off139_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off139 v107 v109 k0_t6) a + S128x256.size a ≤ S256x4096.size a := fun v2 v10 v18 v26 v34 v42 v50 v58 k0_t4 v107 v109 k0_hw14 k0_t6 => k0_hw14.2.2.1.2.2.2.2.2.2.2.2.2.2.2.1 k0_t6
theorem k0_off140_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off140 v2 v10 v18 v26 v34 v42 v50 v58 k0_t4) a + S1x256x256.size a ≤ S8x2048x256.size a := fun v2 v10 v18 v26 v34 v42 v50 v58 k0_t4 v107 v109 k0_hw14 k0_t6 => k0_hw14.2.2.1.2.2.2.2.2.2.2.2.2.2.2.2.1 k0_t6
theorem k0_off141_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off141 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.1 k0_t6
theorem k0_off142_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off142 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.1 k0_t6
theorem k0_off143_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off143 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.1 k0_t6
theorem k0_off144_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off144 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.1 k0_t6
theorem k0_off145_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off145 v107 v109 k0_t6) a + S128x256.size a ≤ S256x4096.size a := fun v2 v10 v18 v26 v34 v42 v50 v58 k0_t4 v107 v109 k0_hw14 k0_t6 => k0_hw14.2.2.1.2.2.2.2.2.2.2.2.2.2.2.2.2.2.2.2.2.1 k0_t6
theorem k0_off146_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off146 v107 v109 k0_t6) a + S128x256.size a ≤ S256x4096.size a := fun v2 v10 v18 v26 v34 v42 v50 v58 k0_t4 v107 v109 k0_hw14 k0_t6 => k0_hw14.2.2.1.2.2.2.2.2.2.2.2.2.2.2.2.2.2.2.2.2.2.1 k0_t6
theorem k0_off147_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off147 v2 v10 v18 v26 v34 v42 v50 v58 k0_t4) a + S1x256x256.size a ≤ S8x2048x256.size a := fun v2 v10 v18 v26 v34 v42 v50 v58 k0_t4 v107 v109 k0_hw14 k0_t6 => k0_hw14.2.2.1.2.2.2.2.2.2.2.2.2.2.2.2.2.2.2.2.2.2.2.1 k0_t6
theorem k0_off148_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off148 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.1 k0_t6
theorem k0_off149_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off149 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.1 k0_t6
theorem k0_off150_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off150 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.1 k0_t6
theorem k0_off151_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off151 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.2.1 k0_t6
theorem k0_off152_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off152 v107 v109 k0_t6) a + S128x256.size a ≤ S256x4096.size a := fun v2 v10 v18 v26 v34 v42 v50 v58 k0_t4 v107 v109 k0_hw14 k0_t6 => k0_hw14.2.2.1.2.2.2.2.2.2.2.2.2.2.2.2.2.2.2.2.2.2.2.2.2.2.2.2.1 k0_t6
theorem k0_off153_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off153 v107 v109 k0_t6) a + S128x256.size a ≤ S256x4096.size a := fun v2 v10 v18 v26 v34 v42 v50 v58 k0_t4 v107 v109 k0_hw14 k0_t6 => k0_hw14.2.2.1.2.2.2.2.2.2.2.2.2.2.2.2.2.2.2.2.2.2.2.2.2.2.2.2.2.1 k0_t6
theorem k0_off154_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off154 v2 v10 v18 v26 v34 v42 v50 v58 k0_t4) a + S1x256x256.size a ≤ S8x2048x256.size a := fun v2 v10 v18 v26 v34 v42 v50 v58 k0_t4 v107 v109 k0_hw14 k0_t6 => k0_hw14.2.2.1.2.2.2.2.2.2.2.2.2.2.2.2.2.2.2.2.2.2.2.2.2.2.2.2.2.2.1 k0_t6
theorem k0_off155_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off155 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.2.2.2.2.2.1 k0_t6
theorem k0_off156_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off156 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.2.2.2.2.2.2.1 k0_t6
theorem k0_off157_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off157 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.2.2.2.2.2.2.2.1 k0_t6
theorem k0_off158_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off158 v2 v10 v18 v26 v34 v42 v50 v58 k0_t4) a + S1x1x256.size a ≤ S8x32x256.size a := fun v2 v10 v18 v26 v34 v42 v50 v58 k0_t4 v107 v109 k0_hw14 k0_t6 => k0_hw14.2.2.1.2.2.2.2.2.2.2.2.2.2.2.2.2.2.2.2.2.2.2.2.2.2.2.2.2.2.2.2.2.2.1 k0_t6
theorem k0_off159_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off159 v107 v109 k0_t6) a + S128x256.size a ≤ S256x4096.size a := fun v2 v10 v18 v26 v34 v42 v50 v58 k0_t4 v107 v109 k0_hw14 k0_t6 => k0_hw14.2.2.1.2.2.2.2.2.2.2.2.2.2.2.2.2.2.2.2.2.2.2.2.2.2.2.2.2.2.2.2.2.2.2 k0_t6
theorem k0_off160_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off160 v107 v109 k0_t6) a + S128x256.size a ≤ S256x4096.size a := fun v2 v10 v18 v26 v34 v42 v50 v58 k0_t4 v107 v109 k0_hw14 k0_t6 => k0_hw14.2.2.2.1 k0_t6
theorem k0_off161_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off161 v2 v10 v18 v26 v34 v42 v50 v58 k0_t4) a + S1x256x256.size a ≤ S8x2048x256.size a := fun v2 v10 v18 v26 v34 v42 v50 v58 k0_t4 v107 v109 k0_hw14 k0_t6 => k0_hw14.2.2.2.2.1 k0_t6
theorem k0_off162_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off162 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.1 k0_t6
theorem k0_off163_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off163 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.1 k0_t6
theorem k0_off164_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off164 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.1 k0_t6
theorem k0_off165_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off165 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.1 k0_t6
theorem k0_off166_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off166 v107 v109 k0_t6) a + S128x256.size a ≤ S256x4096.size a := fun v2 v10 v18 v26 v34 v42 v50 v58 k0_t4 v107 v109 k0_hw14 k0_t6 => k0_hw14.2.2.2.2.2.2.2.2.2.1 k0_t6
theorem k0_off167_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off167 v107 v109 k0_t6) a + S128x256.size a ≤ S256x4096.size a := fun v2 v10 v18 v26 v34 v42 v50 v58 k0_t4 v107 v109 k0_hw14 k0_t6 => k0_hw14.2.2.2.2.2.2.2.2.2.2.1 k0_t6
theorem k0_off168_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off168 v2 v10 v18 v26 v34 v42 v50 v58 k0_t4) a + S1x256x256.size a ≤ S8x2048x256.size a := fun v2 v10 v18 v26 v34 v42 v50 v58 k0_t4 v107 v109 k0_hw14 k0_t6 => k0_hw14.2.2.2.2.2.2.2.2.2.2.2.1 k0_t6
theorem k0_off169_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off169 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.1 k0_t6
theorem k0_off170_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off170 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.1 k0_t6
theorem k0_off171_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off171 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.1 k0_t6
theorem k0_off172_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off172 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.2.1 k0_t6
theorem k0_off173_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off173 v107 v109 k0_t6) a + S128x256.size a ≤ S256x4096.size a := fun v2 v10 v18 v26 v34 v42 v50 v58 k0_t4 v107 v109 k0_hw14 k0_t6 => k0_hw14.2.2.2.2.2.2.2.2.2.2.2.2.2.2.2.2.1 k0_t6
theorem k0_off174_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off174 v107 v109 k0_t6) a + S128x256.size a ≤ S256x4096.size a := fun v2 v10 v18 v26 v34 v42 v50 v58 k0_t4 v107 v109 k0_hw14 k0_t6 => k0_hw14.2.2.2.2.2.2.2.2.2.2.2.2.2.2.2.2.2.1 k0_t6
theorem k0_off175_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off175 v2 v10 v18 v26 v34 v42 v50 v58 k0_t4) a + S1x256x256.size a ≤ S8x2048x256.size a := fun v2 v10 v18 v26 v34 v42 v50 v58 k0_t4 v107 v109 k0_hw14 k0_t6 => k0_hw14.2.2.2.2.2.2.2.2.2.2.2.2.2.2.2.2.2.2.1 k0_t6
theorem k0_off176_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off176 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.2.2.2.2.2.1 k0_t6
theorem k0_off177_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off177 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.2.2.2.2.2.2.1 k0_t6
theorem k0_off178_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off178 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.2.2.2.2.2.2.2.1 k0_t6
theorem k0_off179_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off179 v2 v10 v18 v26 v34 v42 v50 v58 k0_t4) a + S1x1x256.size a ≤ S8x32x256.size a := fun v2 v10 v18 v26 v34 v42 v50 v58 k0_t4 v107 v109 k0_hw14 k0_t6 => k0_hw14.2.2.2.2.2.2.2.2.2.2.2.2.2.2.2.2.2.2.2.2.2.2.1 k0_t6
theorem k0_off180_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off180 v107 v109 k0_t6) a + S128x256.size a ≤ S256x4096.size a := fun v2 v10 v18 v26 v34 v42 v50 v58 k0_t4 v107 v109 k0_hw14 k0_t6 => k0_hw14.2.2.2.2.2.2.2.2.2.2.2.2.2.2.2.2.2.2.2.2.2.2.2.1 k0_t6
theorem k0_off181_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off181 v107 v109 k0_t6) a + S128x256.size a ≤ S256x4096.size a := fun v2 v10 v18 v26 v34 v42 v50 v58 k0_t4 v107 v109 k0_hw14 k0_t6 => k0_hw14.2.2.2.2.2.2.2.2.2.2.2.2.2.2.2.2.2.2.2.2.2.2.2.2.1 k0_t6
theorem k0_off182_inb : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), ∀ a, (k0_off182 v2 v10 v18 v26 v34 v42 v50 v58 k0_t4 v107 v109 k0_t6) a + S128x256.size a ≤ S256x1792.size a := fun v2 v10 v18 v26 v34 v42 v50 v58 k0_t4 v107 v109 k0_hw14 k0_t6 => k0_hw14.2.2.2.2.2.2.2.2.2.2.2.2.2.2.2.2.2.2.2.2.2.2.2.2.2.1 k0_t6
theorem k0_off182_packedbf16 : ∀ (v2 : BitVec 32) (v10 : BitVec 32) (v18 : BitVec 32) (v26 : BitVec 32) (v34 : BitVec 32) (v42 : BitVec 32) (v50 : BitVec 32) (v58 : BitVec 32) (k0_t4 : Fin (k0_t4_loop v2 v10 v18 v26 v34 v42 v50 v58).trips) (v107 : BitVec 32) (v109 : BitVec 32) (k0_hw14 : k0_chk14 v2 v10 v18 v26 v34 v42 v50 v58 k0_t4 v107 v109) (k0_t6 : Fin (k0_t6_loop v107 v109).trips), (Rect.unit (s := S256x1792) (k0_off182 v2 v10 v18 v26 v34 v42 v50 v58 k0_t4 v107 v109 k0_t6) S128x256.size (k0_off182_inb v2 v10 v18 v26 v34 v42 v50 v58 k0_t4 v107 v109 k0_hw14 k0_t6)).PackedRows (EltTy.packing .bf16) := fun v2 v10 v18 v26 v34 v42 v50 v58 k0_t4 v107 v109 k0_hw14 k0_t6 => k0_hw14.2.2.2.2.2.2.2.2.2.2.2.2.2.2.2.2.2.2.2.2.2.2.2.2.2.2 k0_t6 (k0_off182_inb v2 v10 v18 v26 v34 v42 v50 v58 k0_t4 v107 v109 k0_hw14 k0_t6)

@[reducible] def k0_t7_loop (v2 : BitVec 32) (v10 : BitVec 32) (v18 : BitVec 32) (v26 : BitVec 32) (v34 : BitVec 32) (v42 : BitVec 32) (v50 : BitVec 32) (v58 : BitVec 32) : Scf.Loop 32 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let v71 : BitVec 32 := Scalar.addi c0_i32_32 v70
  let c1_i32_35 : BitVec 32 := 1#32
  ⟨v74, v71, c1_i32_35⟩
def k0_off183 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v76 : BitVec 32 := Scalar.divsi arg15 v61
  let v77 : BitVec 32 := Scalar.muli v76 v61
  let v78 : BitVec 32 := Scalar.subi arg15 v77
  let v79 : Index := Scalar.indexCast v78
  ![v79.toNat]
def k0_off184 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let v125 : BitVec 32 := Scalar.divsi v82 v61
  let v126 : BitVec 32 := Scalar.muli v125 v61
  let v127 : BitVec 32 := Scalar.subi v82 v126
  let v128 : Index := Scalar.indexCast v127
  ![v128.toNat]
def k0_cond2 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : BitVec 1 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let v83 : BitVec 1 := Scalar.cmpi .slt v82 v62
  let v84 : BitVec 32 := Scalar.extui v83
  let c0_i32_38 : BitVec 32 := 0#32
  let v85 : BitVec 1 := Scalar.cmpi .ne v84 c0_i32_38
  v85

def k0_mult9 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : BitVec 32 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let v125 : BitVec 32 := Scalar.divsi v82 v61
  let c256_i32_56 : BitVec 32 := 256#32
  let v130 : BitVec 32 := Scalar.muli v125 c256_i32_56
  v130
def k0_off185 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  ![v124.toNat]
def k0_off186 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  let c0_i32_57 : BitVec 32 := 0#32
  let c0_i32_58 : BitVec 32 := 0#32
  ![v124.toNat, 0, 0]
def k0_off187 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) : Fin 3 → Nat :=
  let c0_i32_59 : BitVec 32 := 0#32
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let v125 : BitVec 32 := Scalar.divsi v82 v61
  let c256_i32_56 : BitVec 32 := 256#32
  let v130 : BitVec 32 := Scalar.muli v125 c256_i32_56
  let v131 : BitVec 32 := v130
  ![v129.toNat, 0, v131.toNat]

def k0_off188 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  ![v124.toNat]
def k0_off189 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let c8_i32_55 : BitVec 32 := 8#32
  let v124 : BitVec 32 := Scalar.remsi v82 c8_i32_55
  let c0_i32_60 : BitVec 32 := 0#32
  let c0_i32_61 : BitVec 32 := 0#32
  ![v124.toNat, 0, 0]
def k0_off190 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) : Fin 3 → Nat :=
  let c0_i32_62 : BitVec 32 := 0#32
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_36 : BitVec 32 := 8#32
  let v81 : BitVec 32 := Scalar.addi arg15 c8_i32_36
  let c1_i32_37 : BitVec 32 := 1#32
  let v82 : BitVec 32 := Scalar.subi v81 c1_i32_37
  let v125 : BitVec 32 := Scalar.divsi v82 v61
  let c256_i32_56 : BitVec 32 := 256#32
  let v130 : BitVec 32 := Scalar.muli v125 c256_i32_56
  let v131 : BitVec 32 := v130
  ![v129.toNat, 0, v131.toNat]

def k0_chk15 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) : Prop :=
  (∀ (k0_h2 : k0_cond2 v2 v10 v18 v26 v34 v42 v50 v58 k0_t7 = 1#1), ∀ a, (k0_off187 v2 v10 v18 v26 v34 v42 v50 v58 k0_t7 v129) a + S1x2048x256.size a ≤ S8x2048x1792.size a) ∧
  (∀ (k0_h2 : k0_cond2 v2 v10 v18 v26 v34 v42 v50 v58 k0_t7 = 1#1), ∀ (hinb : ∀ a, (k0_off187 v2 v10 v18 v26 v34 v42 v50 v58 k0_t7 v129) a + S1x2048x256.size a ≤ S8x2048x1792.size a), (Rect.unit (s := S8x2048x1792) (k0_off187 v2 v10 v18 v26 v34 v42 v50 v58 k0_t7 v129) S1x2048x256.size hinb).WholeWords (EltTy.packing .i8)) ∧
  (∀ (k0_h2 : k0_cond2 v2 v10 v18 v26 v34 v42 v50 v58 k0_t7 = 1#1), ∀ a, (k0_off190 v2 v10 v18 v26 v34 v42 v50 v58 k0_t7 v129) a + S1x32x256.size a ≤ S8x32x1792.size a)
theorem k0_off187_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) (k0_hw15 : k0_chk15 v2 v10 v18 v26 v34 v42 v50 v58 k0_t7 v129), ∀ (k0_h2 : k0_cond2 v2 v10 v18 v26 v34 v42 v50 v58 k0_t7 = 1#1), ∀ a, (k0_off187 v2 v10 v18 v26 v34 v42 v50 v58 k0_t7 v129) a + S1x2048x256.size a ≤ S8x2048x1792.size a := fun v2 v10 v18 v26 v34 v42 v50 v58 k0_t7 v129 k0_hw15 k0_h2 => k0_hw15.1 k0_h2
theorem k0_off187_wordsi8 : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) (k0_hw15 : k0_chk15 v2 v10 v18 v26 v34 v42 v50 v58 k0_t7 v129), ∀ (k0_h2 : k0_cond2 v2 v10 v18 v26 v34 v42 v50 v58 k0_t7 = 1#1), (Rect.unit (s := S8x2048x1792) (k0_off187 v2 v10 v18 v26 v34 v42 v50 v58 k0_t7 v129) S1x2048x256.size (k0_off187_inb v2 v10 v18 v26 v34 v42 v50 v58 k0_t7 v129 k0_hw15 k0_h2)).WholeWords (EltTy.packing .i8) := fun v2 v10 v18 v26 v34 v42 v50 v58 k0_t7 v129 k0_hw15 k0_h2 => k0_hw15.2.1 k0_h2 (k0_off187_inb v2 v10 v18 v26 v34 v42 v50 v58 k0_t7 v129 k0_hw15 k0_h2)
theorem k0_off190_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v129 : BitVec 32) (k0_hw15 : k0_chk15 v2 v10 v18 v26 v34 v42 v50 v58 k0_t7 v129), ∀ (k0_h2 : k0_cond2 v2 v10 v18 v26 v34 v42 v50 v58 k0_t7 = 1#1), ∀ a, (k0_off190 v2 v10 v18 v26 v34 v42 v50 v58 k0_t7 v129) a + S1x32x256.size a ≤ S8x32x1792.size a := fun v2 v10 v18 v26 v34 v42 v50 v58 k0_t7 v129 k0_hw15 k0_h2 => k0_hw15.2.2 k0_h2

def k0_mult10 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : BitVec 32 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v87 : BitVec 32 := Scalar.divsi arg15 v61
  let c256_i32 : BitVec 32 := 256#32
  let v92 : BitVec 32 := Scalar.muli v87 c256_i32
  v92
def k0_off191 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_39 : BitVec 32 := 8#32
  let v86 : BitVec 32 := Scalar.remsi arg15 c8_i32_39
  ![v86.toNat]
def k0_off192 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_39 : BitVec 32 := 8#32
  let v86 : BitVec 32 := Scalar.remsi arg15 c8_i32_39
  let c0_i32_40 : BitVec 32 := 0#32
  let c0_i32_41 : BitVec 32 := 0#32
  ![v86.toNat, 0, 0]
def k0_off193 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) : Fin 3 → Nat :=
  let c0_i32_42 : BitVec 32 := 0#32
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v87 : BitVec 32 := Scalar.divsi arg15 v61
  let c256_i32 : BitVec 32 := 256#32
  let v92 : BitVec 32 := Scalar.muli v87 c256_i32
  let v93 : BitVec 32 := v92
  ![v91.toNat, 0, v93.toNat]

def k0_off194 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 1 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_39 : BitVec 32 := 8#32
  let v86 : BitVec 32 := Scalar.remsi arg15 c8_i32_39
  ![v86.toNat]
def k0_off195 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32_39 : BitVec 32 := 8#32
  let v86 : BitVec 32 := Scalar.remsi arg15 c8_i32_39
  let c0_i32_43 : BitVec 32 := 0#32
  let c0_i32_44 : BitVec 32 := 0#32
  ![v86.toNat, 0, 0]
def k0_off196 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) : Fin 3 → Nat :=
  let c0_i32_45 : BitVec 32 := 0#32
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v87 : BitVec 32 := Scalar.divsi arg15 v61
  let c256_i32 : BitVec 32 := 256#32
  let v92 : BitVec 32 := Scalar.muli v87 c256_i32
  let v93 : BitVec 32 := v92
  ![v91.toNat, 0, v93.toNat]

def k0_chk16 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) : Prop :=
  (∀ a, (k0_off193 v2 v10 v18 v26 v34 v42 v50 v58 k0_t7 v91) a + S1x2048x256.size a ≤ S8x2048x1792.size a) ∧
  (∀ (hinb : ∀ a, (k0_off193 v2 v10 v18 v26 v34 v42 v50 v58 k0_t7 v91) a + S1x2048x256.size a ≤ S8x2048x1792.size a), (Rect.unit (s := S8x2048x1792) (k0_off193 v2 v10 v18 v26 v34 v42 v50 v58 k0_t7 v91) S1x2048x256.size hinb).WholeWords (EltTy.packing .i8)) ∧
  (∀ a, (k0_off196 v2 v10 v18 v26 v34 v42 v50 v58 k0_t7 v91) a + S1x32x256.size a ≤ S8x32x1792.size a)
theorem k0_off193_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) (k0_hw16 : k0_chk16 v2 v10 v18 v26 v34 v42 v50 v58 k0_t7 v91), ∀ a, (k0_off193 v2 v10 v18 v26 v34 v42 v50 v58 k0_t7 v91) a + S1x2048x256.size a ≤ S8x2048x1792.size a := fun v2 v10 v18 v26 v34 v42 v50 v58 k0_t7 v91 k0_hw16 => k0_hw16.1
theorem k0_off193_wordsi8 : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) (k0_hw16 : k0_chk16 v2 v10 v18 v26 v34 v42 v50 v58 k0_t7 v91), (Rect.unit (s := S8x2048x1792) (k0_off193 v2 v10 v18 v26 v34 v42 v50 v58 k0_t7 v91) S1x2048x256.size (k0_off193_inb v2 v10 v18 v26 v34 v42 v50 v58 k0_t7 v91 k0_hw16)).WholeWords (EltTy.packing .i8) := fun v2 v10 v18 v26 v34 v42 v50 v58 k0_t7 v91 k0_hw16 => k0_hw16.2.1 (k0_off193_inb v2 v10 v18 v26 v34 v42 v50 v58 k0_t7 v91 k0_hw16)
theorem k0_off196_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v91 : BitVec 32) (k0_hw16 : k0_chk16 v2 v10 v18 v26 v34 v42 v50 v58 k0_t7 v91), ∀ a, (k0_off196 v2 v10 v18 v26 v34 v42 v50 v58 k0_t7 v91) a + S1x32x256.size a ≤ S8x32x1792.size a := fun v2 v10 v18 v26 v34 v42 v50 v58 k0_t7 v91 k0_hw16 => k0_hw16.2.2

def k0_off197 (v80 : BitVec 32) : Fin 1 → Nat :=
  let v106 : Index := Scalar.indexCast v80
  ![v106.toNat]

def k0_chk17 (v80 : BitVec 32) : Prop :=
  (∀ a, (k0_off197 v80) a + S1.size a ≤ S8.size a)
theorem k0_off197_inb : ∀ (v80 : BitVec 32) (k0_hw17 : k0_chk17 v80), ∀ a, (k0_off197 v80) a + S1.size a ≤ S8.size a := fun v80 k0_hw17 => k0_hw17

def k0_mult11 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : BitVec 32 :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v76 : BitVec 32 := Scalar.divsi arg15 v61
  let c256_i32_49 : BitVec 32 := 256#32
  let v117 : BitVec 32 := Scalar.muli v76 c256_i32_49
  v117

def k0_chk8_0 (v2 : BitVec 32) (v10 : BitVec 32) (v18 : BitVec 32) (v26 : BitVec 32) (v34 : BitVec 32) (v42 : BitVec 32) (v50 : BitVec 32) (v58 : BitVec 32) : Prop :=
  ((k0_t1_loop v2 v10 v18 v26 v34 v42 v50 v58).OK) ∧
  (∀ k0_t1 : Fin (k0_t1_loop v2 v10 v18 v26 v34 v42 v50 v58).trips, ∀ a, (k0_off8 v2 v10 v18 v26 v34 v42 v50 v58 k0_t1) a + S1.size a ≤ S9.size a) ∧
  (∀ k0_t1 : Fin (k0_t1_loop v2 v10 v18 v26 v34 v42 v50 v58).trips, 256 ∣ (k0_mult1 v2 v10 v18 v26 v34 v42 v50 v58 k0_t1).toNat) ∧
  (∀ k0_t1 : Fin (k0_t1_loop v2 v10 v18 v26 v34 v42 v50 v58).trips, ∀ a, (k0_off9 v2 v10 v18 v26 v34 v42 v50 v58 k0_t1) a + S1.size a ≤ S8.size a) ∧
  (∀ k0_t1 : Fin (k0_t1_loop v2 v10 v18 v26 v34 v42 v50 v58).trips, ∀ a, (k0_off10 v2 v10 v18 v26 v34 v42 v50 v58 k0_t1) a + S1x2048x256.size a ≤ S8x2048x256.size a) ∧
  (∀ k0_t1 : Fin (k0_t1_loop v2 v10 v18 v26 v34 v42 v50 v58).trips, ∀ (hinb : ∀ a, (k0_off10 v2 v10 v18 v26 v34 v42 v50 v58 k0_t1) a + S1x2048x256.size a ≤ S8x2048x256.size a), (Rect.unit (s := S8x2048x256) (k0_off10 v2 v10 v18 v26 v34 v42 v50 v58 k0_t1) S1x2048x256.size hinb).WholeWords (EltTy.packing .i8)) ∧
  (∀ k0_t1 : Fin (k0_t1_loop v2 v10 v18 v26 v34 v42 v50 v58).trips, ∀ a, (k0_off12 v2 v10 v18 v26 v34 v42 v50 v58 k0_t1) a + S1.size a ≤ S8.size a) ∧
  (∀ k0_t1 : Fin (k0_t1_loop v2 v10 v18 v26 v34 v42 v50 v58).trips, ∀ a, (k0_off13 v2 v10 v18 v26 v34 v42 v50 v58 k0_t1) a + S1x32x256.size a ≤ S8x32x256.size a) ∧
  ((k0_t2_loop v2 v10 v18 v26 v34 v42 v50 v58).OK) ∧
  (∀ k0_t2 : Fin (k0_t2_loop v2 v10 v18 v26 v34 v42 v50 v58).trips, ∀ a, (k0_off15 v2 v10 v18 v26 v34 v42 v50 v58 k0_t2) a + S1.size a ≤ S9.size a) ∧
  (∀ k0_t2 : Fin (k0_t2_loop v2 v10 v18 v26 v34 v42 v50 v58).trips, 256 ∣ (k0_mult2 v2 v10 v18 v26 v34 v42 v50 v58 k0_t2).toNat) ∧
  (∀ k0_t2 : Fin (k0_t2_loop v2 v10 v18 v26 v34 v42 v50 v58).trips, ∀ a, (k0_off16 v2 v10 v18 v26 v34 v42 v50 v58 k0_t2) a + S1.size a ≤ S8.size a) ∧
  (∀ k0_t2 : Fin (k0_t2_loop v2 v10 v18 v26 v34 v42 v50 v58).trips, ∀ a, (k0_off17 v2 v10 v18 v26 v34 v42 v50 v58 k0_t2) a + S1x2048x256.size a ≤ S8x2048x256.size a) ∧
  (∀ k0_t2 : Fin (k0_t2_loop v2 v10 v18 v26 v34 v42 v50 v58).trips, ∀ (hinb : ∀ a, (k0_off17 v2 v10 v18 v26 v34 v42 v50 v58 k0_t2) a + S1x2048x256.size a ≤ S8x2048x256.size a), (Rect.unit (s := S8x2048x256) (k0_off17 v2 v10 v18 v26 v34 v42 v50 v58 k0_t2) S1x2048x256.size hinb).WholeWords (EltTy.packing .i8)) ∧
  (∀ k0_t2 : Fin (k0_t2_loop v2 v10 v18 v26 v34 v42 v50 v58).trips, ∀ a, (k0_off19 v2 v10 v18 v26 v34 v42 v50 v58 k0_t2) a + S1.size a ≤ S8.size a) ∧
  (∀ k0_t2 : Fin (k0_t2_loop v2 v10 v18 v26 v34 v42 v50 v58).trips, ∀ a, (k0_off20 v2 v10 v18 v26 v34 v42 v50 v58 k0_t2) a + S1x32x256.size a ≤ S8x32x256.size a) ∧
  ((k0_t4_loop v2 v10 v18 v26 v34 v42 v50 v58).OK) ∧
  (∀ k0_t4 : Fin (k0_t4_loop v2 v10 v18 v26 v34 v42 v50 v58).trips, ∀ a, (k0_off54 v2 v10 v18 v26 v34 v42 v50 v58 k0_t4) a + S1.size a ≤ S9.size a) ∧
  (∀ k0_t4 : Fin (k0_t4_loop v2 v10 v18 v26 v34 v42 v50 v58).trips, ∀ (k0_h1 : k0_cond1 v2 v10 v18 v26 v34 v42 v50 v58 k0_t4 = 1#1), ∀ a, (k0_off55 v2 v10 v18 v26 v34 v42 v50 v58 k0_t4) a + S1.size a ≤ S9.size a) ∧
  (∀ k0_t4 : Fin (k0_t4_loop v2 v10 v18 v26 v34 v42 v50 v58).trips, ∀ (k0_h1 : k0_cond1 v2 v10 v18 v26 v34 v42 v50 v58 k0_t4 = 1#1), 256 ∣ (k0_mult4 v2 v10 v18 v26 v34 v42 v50 v58 k0_t4).toNat) ∧
  (∀ k0_t4 : Fin (k0_t4_loop v2 v10 v18 v26 v34 v42 v50 v58).trips, ∀ (k0_h1 : k0_cond1 v2 v10 v18 v26 v34 v42 v50 v58 k0_t4 = 1#1), ∀ a, (k0_off56 v2 v10 v18 v26 v34 v42 v50 v58 k0_t4) a + S1.size a ≤ S8.size a) ∧
  (∀ k0_t4 : Fin (k0_t4_loop v2 v10 v18 v26 v34 v42 v50 v58).trips, ∀ (k0_h1 : k0_cond1 v2 v10 v18 v26 v34 v42 v50 v58 k0_t4 = 1#1), ∀ a, (k0_off57 v2 v10 v18 v26 v34 v42 v50 v58 k0_t4) a + S1x2048x256.size a ≤ S8x2048x256.size a) ∧
  (∀ k0_t4 : Fin (k0_t4_loop v2 v10 v18 v26 v34 v42 v50 v58).trips, ∀ (k0_h1 : k0_cond1 v2 v10 v18 v26 v34 v42 v50 v58 k0_t4 = 1#1), ∀ (hinb : ∀ a, (k0_off57 v2 v10 v18 v26 v34 v42 v50 v58 k0_t4) a + S1x2048x256.size a ≤ S8x2048x256.size a), (Rect.unit (s := S8x2048x256) (k0_off57 v2 v10 v18 v26 v34 v42 v50 v58 k0_t4) S1x2048x256.size hinb).WholeWords (EltTy.packing .i8)) ∧
  (∀ k0_t4 : Fin (k0_t4_loop v2 v10 v18 v26 v34 v42 v50 v58).trips, ∀ (k0_h1 : k0_cond1 v2 v10 v18 v26 v34 v42 v50 v58 k0_t4 = 1#1), ∀ a, (k0_off59 v2 v10 v18 v26 v34 v42 v50 v58 k0_t4) a + S1.size a ≤ S8.size a) ∧
  (∀ k0_t4 : Fin (k0_t4_loop v2 v10 v18 v26 v34 v42 v50 v58).trips, ∀ (k0_h1 : k0_cond1 v2 v10 v18 v26 v34 v42 v50 v58 k0_t4 = 1#1), ∀ a, (k0_off60 v2 v10 v18 v26 v34 v42 v50 v58 k0_t4) a + S1x32x256.size a ≤ S8x32x256.size a) ∧
  (∀ k0_t4 : Fin (k0_t4_loop v2 v10 v18 v26 v34 v42 v50 v58).trips, 256 ∣ (k0_mult5 v2 v10 v18 v26 v34 v42 v50 v58 k0_t4).toNat) ∧
  (∀ k0_t4 : Fin (k0_t4_loop v2 v10 v18 v26 v34 v42 v50 v58).trips, ∀ a, (k0_off62 v2 v10 v18 v26 v34 v42 v50 v58 k0_t4) a + S1.size a ≤ S8.size a) ∧
  (∀ k0_t4 : Fin (k0_t4_loop v2 v10 v18 v26 v34 v42 v50 v58).trips, ∀ a, (k0_off63 v2 v10 v18 v26 v34 v42 v50 v58 k0_t4) a + S1x2048x256.size a ≤ S8x2048x256.size a) ∧
  (∀ k0_t4 : Fin (k0_t4_loop v2 v10 v18 v26 v34 v42 v50 v58).trips, ∀ (hinb : ∀ a, (k0_off63 v2 v10 v18 v26 v34 v42 v50 v58 k0_t4) a + S1x2048x256.size a ≤ S8x2048x256.size a), (Rect.unit (s := S8x2048x256) (k0_off63 v2 v10 v18 v26 v34 v42 v50 v58 k0_t4) S1x2048x256.size hinb).WholeWords (EltTy.packing .i8)) ∧
  (∀ k0_t4 : Fin (k0_t4_loop v2 v10 v18 v26 v34 v42 v50 v58).trips, ∀ a, (k0_off65 v2 v10 v18 v26 v34 v42 v50 v58 k0_t4) a + S1.size a ≤ S8.size a) ∧
  (∀ k0_t4 : Fin (k0_t4_loop v2 v10 v18 v26 v34 v42 v50 v58).trips, ∀ a, (k0_off66 v2 v10 v18 v26 v34 v42 v50 v58 k0_t4) a + S1x32x256.size a ≤ S8x32x256.size a) ∧
  (∀ k0_t4 : Fin (k0_t4_loop v2 v10 v18 v26 v34 v42 v50 v58).trips, 256 ∣ (k0_mult6 v2 v10 v18 v26 v34 v42 v50 v58 k0_t4).toNat)
def k0_chk8_1 (v2 : BitVec 32) (v10 : BitVec 32) (v18 : BitVec 32) (v26 : BitVec 32) (v34 : BitVec 32) (v42 : BitVec 32) (v50 : BitVec 32) (v58 : BitVec 32) : Prop :=
  ((k0_t7_loop v2 v10 v18 v26 v34 v42 v50 v58).OK) ∧
  (∀ k0_t7 : Fin (k0_t7_loop v2 v10 v18 v26 v34 v42 v50 v58).trips, ∀ a, (k0_off183 v2 v10 v18 v26 v34 v42 v50 v58 k0_t7) a + S1.size a ≤ S9.size a) ∧
  (∀ k0_t7 : Fin (k0_t7_loop v2 v10 v18 v26 v34 v42 v50 v58).trips, ∀ (k0_h2 : k0_cond2 v2 v10 v18 v26 v34 v42 v50 v58 k0_t7 = 1#1), ∀ a, (k0_off184 v2 v10 v18 v26 v34 v42 v50 v58 k0_t7) a + S1.size a ≤ S9.size a) ∧
  (∀ k0_t7 : Fin (k0_t7_loop v2 v10 v18 v26 v34 v42 v50 v58).trips, ∀ (k0_h2 : k0_cond2 v2 v10 v18 v26 v34 v42 v50 v58 k0_t7 = 1#1), 256 ∣ (k0_mult9 v2 v10 v18 v26 v34 v42 v50 v58 k0_t7).toNat) ∧
  (∀ k0_t7 : Fin (k0_t7_loop v2 v10 v18 v26 v34 v42 v50 v58).trips, ∀ (k0_h2 : k0_cond2 v2 v10 v18 v26 v34 v42 v50 v58 k0_t7 = 1#1), ∀ a, (k0_off185 v2 v10 v18 v26 v34 v42 v50 v58 k0_t7) a + S1.size a ≤ S8.size a) ∧
  (∀ k0_t7 : Fin (k0_t7_loop v2 v10 v18 v26 v34 v42 v50 v58).trips, ∀ (k0_h2 : k0_cond2 v2 v10 v18 v26 v34 v42 v50 v58 k0_t7 = 1#1), ∀ a, (k0_off186 v2 v10 v18 v26 v34 v42 v50 v58 k0_t7) a + S1x2048x256.size a ≤ S8x2048x256.size a) ∧
  (∀ k0_t7 : Fin (k0_t7_loop v2 v10 v18 v26 v34 v42 v50 v58).trips, ∀ (k0_h2 : k0_cond2 v2 v10 v18 v26 v34 v42 v50 v58 k0_t7 = 1#1), ∀ (hinb : ∀ a, (k0_off186 v2 v10 v18 v26 v34 v42 v50 v58 k0_t7) a + S1x2048x256.size a ≤ S8x2048x256.size a), (Rect.unit (s := S8x2048x256) (k0_off186 v2 v10 v18 v26 v34 v42 v50 v58 k0_t7) S1x2048x256.size hinb).WholeWords (EltTy.packing .i8)) ∧
  (∀ k0_t7 : Fin (k0_t7_loop v2 v10 v18 v26 v34 v42 v50 v58).trips, ∀ (k0_h2 : k0_cond2 v2 v10 v18 v26 v34 v42 v50 v58 k0_t7 = 1#1), ∀ a, (k0_off188 v2 v10 v18 v26 v34 v42 v50 v58 k0_t7) a + S1.size a ≤ S8.size a) ∧
  (∀ k0_t7 : Fin (k0_t7_loop v2 v10 v18 v26 v34 v42 v50 v58).trips, ∀ (k0_h2 : k0_cond2 v2 v10 v18 v26 v34 v42 v50 v58 k0_t7 = 1#1), ∀ a, (k0_off189 v2 v10 v18 v26 v34 v42 v50 v58 k0_t7) a + S1x32x256.size a ≤ S8x32x256.size a) ∧
  (∀ k0_t7 : Fin (k0_t7_loop v2 v10 v18 v26 v34 v42 v50 v58).trips, 256 ∣ (k0_mult10 v2 v10 v18 v26 v34 v42 v50 v58 k0_t7).toNat) ∧
  (∀ k0_t7 : Fin (k0_t7_loop v2 v10 v18 v26 v34 v42 v50 v58).trips, ∀ a, (k0_off191 v2 v10 v18 v26 v34 v42 v50 v58 k0_t7) a + S1.size a ≤ S8.size a) ∧
  (∀ k0_t7 : Fin (k0_t7_loop v2 v10 v18 v26 v34 v42 v50 v58).trips, ∀ a, (k0_off192 v2 v10 v18 v26 v34 v42 v50 v58 k0_t7) a + S1x2048x256.size a ≤ S8x2048x256.size a) ∧
  (∀ k0_t7 : Fin (k0_t7_loop v2 v10 v18 v26 v34 v42 v50 v58).trips, ∀ (hinb : ∀ a, (k0_off192 v2 v10 v18 v26 v34 v42 v50 v58 k0_t7) a + S1x2048x256.size a ≤ S8x2048x256.size a), (Rect.unit (s := S8x2048x256) (k0_off192 v2 v10 v18 v26 v34 v42 v50 v58 k0_t7) S1x2048x256.size hinb).WholeWords (EltTy.packing .i8)) ∧
  (∀ k0_t7 : Fin (k0_t7_loop v2 v10 v18 v26 v34 v42 v50 v58).trips, ∀ a, (k0_off194 v2 v10 v18 v26 v34 v42 v50 v58 k0_t7) a + S1.size a ≤ S8.size a) ∧
  (∀ k0_t7 : Fin (k0_t7_loop v2 v10 v18 v26 v34 v42 v50 v58).trips, ∀ a, (k0_off195 v2 v10 v18 v26 v34 v42 v50 v58 k0_t7) a + S1x32x256.size a ≤ S8x32x256.size a) ∧
  (∀ k0_t7 : Fin (k0_t7_loop v2 v10 v18 v26 v34 v42 v50 v58).trips, 256 ∣ (k0_mult11 v2 v10 v18 v26 v34 v42 v50 v58 k0_t7).toNat)
def k0_chk8 (v2 : BitVec 32) (v10 : BitVec 32) (v18 : BitVec 32) (v26 : BitVec 32) (v34 : BitVec 32) (v42 : BitVec 32) (v50 : BitVec 32) (v58 : BitVec 32) : Prop :=
  k0_chk8_0 v2 v10 v18 v26 v34 v42 v50 v58 ∧
  k0_chk8_1 v2 v10 v18 v26 v34 v42 v50 v58
theorem k0_t1_ok : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58), (k0_t1_loop v2 v10 v18 v26 v34 v42 v50 v58).OK := fun v2 v10 v18 v26 v34 v42 v50 v58 k0_hw8 => k0_hw8.1.1
theorem k0_off8_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), ∀ a, (k0_off8 v2 v10 v18 v26 v34 v42 v50 v58 k0_t1) a + S1.size a ≤ S9.size a := fun v2 v10 v18 v26 v34 v42 v50 v58 k0_hw8 k0_t1 => k0_hw8.1.2.1 k0_t1
theorem k0_mult1_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), 256 ∣ (k0_mult1 v2 v10 v18 v26 v34 v42 v50 v58 k0_t1).toNat := fun v2 v10 v18 v26 v34 v42 v50 v58 k0_hw8 k0_t1 => k0_hw8.1.2.2.1 k0_t1
theorem k0_off9_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), ∀ a, (k0_off9 v2 v10 v18 v26 v34 v42 v50 v58 k0_t1) a + S1.size a ≤ S8.size a := fun v2 v10 v18 v26 v34 v42 v50 v58 k0_hw8 k0_t1 => k0_hw8.1.2.2.2.1 k0_t1
theorem k0_off10_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), ∀ a, (k0_off10 v2 v10 v18 v26 v34 v42 v50 v58 k0_t1) a + S1x2048x256.size a ≤ S8x2048x256.size a := fun v2 v10 v18 v26 v34 v42 v50 v58 k0_hw8 k0_t1 => k0_hw8.1.2.2.2.2.1 k0_t1
theorem k0_off10_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), (Rect.unit (s := S8x2048x256) (k0_off10 v2 v10 v18 v26 v34 v42 v50 v58 k0_t1) S1x2048x256.size (k0_off10_inb v2 v10 v18 v26 v34 v42 v50 v58 k0_hw8 k0_t1)).WholeWords (EltTy.packing .i8) := fun v2 v10 v18 v26 v34 v42 v50 v58 k0_hw8 k0_t1 => k0_hw8.1.2.2.2.2.2.1 k0_t1 (k0_off10_inb v2 v10 v18 v26 v34 v42 v50 v58 k0_hw8 k0_t1)
theorem k0_off12_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), ∀ a, (k0_off12 v2 v10 v18 v26 v34 v42 v50 v58 k0_t1) a + S1.size a ≤ S8.size a := fun v2 v10 v18 v26 v34 v42 v50 v58 k0_hw8 k0_t1 => k0_hw8.1.2.2.2.2.2.2.1 k0_t1
theorem k0_off13_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t1 : Fin (k0_t1_loop v2 v10 v18 v26 v34 v42 v50 v58).trips), ∀ a, (k0_off13 v2 v10 v18 v26 v34 v42 v50 v58 k0_t1) a + S1x32x256.size a ≤ S8x32x256.size a := fun v2 v10 v18 v26 v34 v42 v50 v58 k0_hw8 k0_t1 => k0_hw8.1.2.2.2.2.2.2.2.1 k0_t1
theorem k0_t2_ok : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58), (k0_t2_loop v2 v10 v18 v26 v34 v42 v50 v58).OK := fun v2 v10 v18 v26 v34 v42 v50 v58 k0_hw8 => k0_hw8.1.2.2.2.2.2.2.2.2.1
theorem k0_off15_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), ∀ a, (k0_off15 v2 v10 v18 v26 v34 v42 v50 v58 k0_t2) a + S1.size a ≤ S9.size a := fun v2 v10 v18 v26 v34 v42 v50 v58 k0_hw8 k0_t2 => k0_hw8.1.2.2.2.2.2.2.2.2.2.1 k0_t2
theorem k0_mult2_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), 256 ∣ (k0_mult2 v2 v10 v18 v26 v34 v42 v50 v58 k0_t2).toNat := fun v2 v10 v18 v26 v34 v42 v50 v58 k0_hw8 k0_t2 => k0_hw8.1.2.2.2.2.2.2.2.2.2.2.1 k0_t2
theorem k0_off16_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), ∀ a, (k0_off16 v2 v10 v18 v26 v34 v42 v50 v58 k0_t2) a + S1.size a ≤ S8.size a := fun v2 v10 v18 v26 v34 v42 v50 v58 k0_hw8 k0_t2 => k0_hw8.1.2.2.2.2.2.2.2.2.2.2.2.1 k0_t2
theorem k0_off17_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), ∀ a, (k0_off17 v2 v10 v18 v26 v34 v42 v50 v58 k0_t2) a + S1x2048x256.size a ≤ S8x2048x256.size a := fun v2 v10 v18 v26 v34 v42 v50 v58 k0_hw8 k0_t2 => k0_hw8.1.2.2.2.2.2.2.2.2.2.2.2.2.1 k0_t2
theorem k0_off17_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), (Rect.unit (s := S8x2048x256) (k0_off17 v2 v10 v18 v26 v34 v42 v50 v58 k0_t2) S1x2048x256.size (k0_off17_inb v2 v10 v18 v26 v34 v42 v50 v58 k0_hw8 k0_t2)).WholeWords (EltTy.packing .i8) := fun v2 v10 v18 v26 v34 v42 v50 v58 k0_hw8 k0_t2 => k0_hw8.1.2.2.2.2.2.2.2.2.2.2.2.2.2.1 k0_t2 (k0_off17_inb v2 v10 v18 v26 v34 v42 v50 v58 k0_hw8 k0_t2)
theorem k0_off19_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), ∀ a, (k0_off19 v2 v10 v18 v26 v34 v42 v50 v58 k0_t2) a + S1.size a ≤ S8.size a := fun v2 v10 v18 v26 v34 v42 v50 v58 k0_hw8 k0_t2 => k0_hw8.1.2.2.2.2.2.2.2.2.2.2.2.2.2.2.1 k0_t2
theorem k0_off20_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t2 : Fin (k0_t2_loop v2 v10 v18 v26 v34 v42 v50 v58).trips), ∀ a, (k0_off20 v2 v10 v18 v26 v34 v42 v50 v58 k0_t2) a + S1x32x256.size a ≤ S8x32x256.size a := fun v2 v10 v18 v26 v34 v42 v50 v58 k0_hw8 k0_t2 => k0_hw8.1.2.2.2.2.2.2.2.2.2.2.2.2.2.2.2.1 k0_t2
theorem k0_t4_ok : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58), (k0_t4_loop v2 v10 v18 v26 v34 v42 v50 v58).OK := fun v2 v10 v18 v26 v34 v42 v50 v58 k0_hw8 => k0_hw8.1.2.2.2.2.2.2.2.2.2.2.2.2.2.2.2.2.1
theorem k0_off54_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ a, (k0_off54 v2 v10 v18 v26 v34 v42 v50 v58 k0_t4) a + S1.size a ≤ S9.size a := fun v2 v10 v18 v26 v34 v42 v50 v58 k0_hw8 k0_t4 => k0_hw8.1.2.2.2.2.2.2.2.2.2.2.2.2.2.2.2.2.2.1 k0_t4
theorem k0_off55_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), ∀ a, (k0_off55 v2 v10 v18 v26 v34 v42 v50 v58 k0_t4) a + S1.size a ≤ S9.size a := fun v2 v10 v18 v26 v34 v42 v50 v58 k0_hw8 k0_t4 k0_h1 => k0_hw8.1.2.2.2.2.2.2.2.2.2.2.2.2.2.2.2.2.2.2.1 k0_t4 k0_h1
theorem k0_mult4_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), 256 ∣ (k0_mult4 v2 v10 v18 v26 v34 v42 v50 v58 k0_t4).toNat := fun v2 v10 v18 v26 v34 v42 v50 v58 k0_hw8 k0_t4 k0_h1 => k0_hw8.1.2.2.2.2.2.2.2.2.2.2.2.2.2.2.2.2.2.2.2.1 k0_t4 k0_h1
theorem k0_off56_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), ∀ a, (k0_off56 v2 v10 v18 v26 v34 v42 v50 v58 k0_t4) a + S1.size a ≤ S8.size a := fun v2 v10 v18 v26 v34 v42 v50 v58 k0_hw8 k0_t4 k0_h1 => k0_hw8.1.2.2.2.2.2.2.2.2.2.2.2.2.2.2.2.2.2.2.2.2.1 k0_t4 k0_h1
theorem k0_off57_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), ∀ a, (k0_off57 v2 v10 v18 v26 v34 v42 v50 v58 k0_t4) a + S1x2048x256.size a ≤ S8x2048x256.size a := fun v2 v10 v18 v26 v34 v42 v50 v58 k0_hw8 k0_t4 k0_h1 => k0_hw8.1.2.2.2.2.2.2.2.2.2.2.2.2.2.2.2.2.2.2.2.2.2.1 k0_t4 k0_h1
theorem k0_off57_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), (Rect.unit (s := S8x2048x256) (k0_off57 v2 v10 v18 v26 v34 v42 v50 v58 k0_t4) S1x2048x256.size (k0_off57_inb v2 v10 v18 v26 v34 v42 v50 v58 k0_hw8 k0_t4 k0_h1)).WholeWords (EltTy.packing .i8) := fun v2 v10 v18 v26 v34 v42 v50 v58 k0_hw8 k0_t4 k0_h1 => k0_hw8.1.2.2.2.2.2.2.2.2.2.2.2.2.2.2.2.2.2.2.2.2.2.2.1 k0_t4 k0_h1 (k0_off57_inb v2 v10 v18 v26 v34 v42 v50 v58 k0_hw8 k0_t4 k0_h1)
theorem k0_off59_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), ∀ a, (k0_off59 v2 v10 v18 v26 v34 v42 v50 v58 k0_t4) a + S1.size a ≤ S8.size a := fun v2 v10 v18 v26 v34 v42 v50 v58 k0_hw8 k0_t4 k0_h1 => k0_hw8.1.2.2.2.2.2.2.2.2.2.2.2.2.2.2.2.2.2.2.2.2.2.2.2.1 k0_t4 k0_h1
theorem k0_off60_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ (k0_h1 : k0_cond1 v2 v10 v18 v26 v34 v42 v50 v58 k0_t4 = 1#1), ∀ a, (k0_off60 v2 v10 v18 v26 v34 v42 v50 v58 k0_t4) a + S1x32x256.size a ≤ S8x32x256.size a := fun v2 v10 v18 v26 v34 v42 v50 v58 k0_hw8 k0_t4 k0_h1 => k0_hw8.1.2.2.2.2.2.2.2.2.2.2.2.2.2.2.2.2.2.2.2.2.2.2.2.2.1 k0_t4 k0_h1
theorem k0_mult5_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), 256 ∣ (k0_mult5 v2 v10 v18 v26 v34 v42 v50 v58 k0_t4).toNat := fun v2 v10 v18 v26 v34 v42 v50 v58 k0_hw8 k0_t4 => k0_hw8.1.2.2.2.2.2.2.2.2.2.2.2.2.2.2.2.2.2.2.2.2.2.2.2.2.2.1 k0_t4
theorem k0_off62_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ a, (k0_off62 v2 v10 v18 v26 v34 v42 v50 v58 k0_t4) a + S1.size a ≤ S8.size a := fun v2 v10 v18 v26 v34 v42 v50 v58 k0_hw8 k0_t4 => k0_hw8.1.2.2.2.2.2.2.2.2.2.2.2.2.2.2.2.2.2.2.2.2.2.2.2.2.2.2.1 k0_t4
theorem k0_off63_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ a, (k0_off63 v2 v10 v18 v26 v34 v42 v50 v58 k0_t4) a + S1x2048x256.size a ≤ S8x2048x256.size a := fun v2 v10 v18 v26 v34 v42 v50 v58 k0_hw8 k0_t4 => k0_hw8.1.2.2.2.2.2.2.2.2.2.2.2.2.2.2.2.2.2.2.2.2.2.2.2.2.2.2.2.1 k0_t4
theorem k0_off63_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), (Rect.unit (s := S8x2048x256) (k0_off63 v2 v10 v18 v26 v34 v42 v50 v58 k0_t4) S1x2048x256.size (k0_off63_inb v2 v10 v18 v26 v34 v42 v50 v58 k0_hw8 k0_t4)).WholeWords (EltTy.packing .i8) := fun v2 v10 v18 v26 v34 v42 v50 v58 k0_hw8 k0_t4 => k0_hw8.1.2.2.2.2.2.2.2.2.2.2.2.2.2.2.2.2.2.2.2.2.2.2.2.2.2.2.2.2.1 k0_t4 (k0_off63_inb v2 v10 v18 v26 v34 v42 v50 v58 k0_hw8 k0_t4)
theorem k0_off65_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ a, (k0_off65 v2 v10 v18 v26 v34 v42 v50 v58 k0_t4) a + S1.size a ≤ S8.size a := fun v2 v10 v18 v26 v34 v42 v50 v58 k0_hw8 k0_t4 => k0_hw8.1.2.2.2.2.2.2.2.2.2.2.2.2.2.2.2.2.2.2.2.2.2.2.2.2.2.2.2.2.2.1 k0_t4
theorem k0_off66_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), ∀ a, (k0_off66 v2 v10 v18 v26 v34 v42 v50 v58 k0_t4) a + S1x32x256.size a ≤ S8x32x256.size a := fun v2 v10 v18 v26 v34 v42 v50 v58 k0_hw8 k0_t4 => k0_hw8.1.2.2.2.2.2.2.2.2.2.2.2.2.2.2.2.2.2.2.2.2.2.2.2.2.2.2.2.2.2.2.1 k0_t4
theorem k0_mult6_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t4 : Fin (k0_t4_loop v2 v10 v18 v26 v34 v42 v50 v58).trips), 256 ∣ (k0_mult6 v2 v10 v18 v26 v34 v42 v50 v58 k0_t4).toNat := fun v2 v10 v18 v26 v34 v42 v50 v58 k0_hw8 k0_t4 => k0_hw8.1.2.2.2.2.2.2.2.2.2.2.2.2.2.2.2.2.2.2.2.2.2.2.2.2.2.2.2.2.2.2.2 k0_t4
theorem k0_t7_ok : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58), (k0_t7_loop v2 v10 v18 v26 v34 v42 v50 v58).OK := fun v2 v10 v18 v26 v34 v42 v50 v58 k0_hw8 => k0_hw8.2.1
theorem k0_off183_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ a, (k0_off183 v2 v10 v18 v26 v34 v42 v50 v58 k0_t7) a + S1.size a ≤ S9.size a := fun v2 v10 v18 v26 v34 v42 v50 v58 k0_hw8 k0_t7 => k0_hw8.2.2.1 k0_t7
theorem k0_off184_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), ∀ a, (k0_off184 v2 v10 v18 v26 v34 v42 v50 v58 k0_t7) a + S1.size a ≤ S9.size a := fun v2 v10 v18 v26 v34 v42 v50 v58 k0_hw8 k0_t7 k0_h2 => k0_hw8.2.2.2.1 k0_t7 k0_h2
theorem k0_mult9_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), 256 ∣ (k0_mult9 v2 v10 v18 v26 v34 v42 v50 v58 k0_t7).toNat := fun v2 v10 v18 v26 v34 v42 v50 v58 k0_hw8 k0_t7 k0_h2 => k0_hw8.2.2.2.2.1 k0_t7 k0_h2
theorem k0_off185_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), ∀ a, (k0_off185 v2 v10 v18 v26 v34 v42 v50 v58 k0_t7) a + S1.size a ≤ S8.size a := fun v2 v10 v18 v26 v34 v42 v50 v58 k0_hw8 k0_t7 k0_h2 => k0_hw8.2.2.2.2.2.1 k0_t7 k0_h2
theorem k0_off186_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), ∀ a, (k0_off186 v2 v10 v18 v26 v34 v42 v50 v58 k0_t7) a + S1x2048x256.size a ≤ S8x2048x256.size a := fun v2 v10 v18 v26 v34 v42 v50 v58 k0_hw8 k0_t7 k0_h2 => k0_hw8.2.2.2.2.2.2.1 k0_t7 k0_h2
theorem k0_off186_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), (Rect.unit (s := S8x2048x256) (k0_off186 v2 v10 v18 v26 v34 v42 v50 v58 k0_t7) S1x2048x256.size (k0_off186_inb v2 v10 v18 v26 v34 v42 v50 v58 k0_hw8 k0_t7 k0_h2)).WholeWords (EltTy.packing .i8) := fun v2 v10 v18 v26 v34 v42 v50 v58 k0_hw8 k0_t7 k0_h2 => k0_hw8.2.2.2.2.2.2.2.1 k0_t7 k0_h2 (k0_off186_inb v2 v10 v18 v26 v34 v42 v50 v58 k0_hw8 k0_t7 k0_h2)
theorem k0_off188_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), ∀ a, (k0_off188 v2 v10 v18 v26 v34 v42 v50 v58 k0_t7) a + S1.size a ≤ S8.size a := fun v2 v10 v18 v26 v34 v42 v50 v58 k0_hw8 k0_t7 k0_h2 => k0_hw8.2.2.2.2.2.2.2.2.1 k0_t7 k0_h2
theorem k0_off189_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ (k0_h2 : k0_cond2 v2 v10 v18 v26 v34 v42 v50 v58 k0_t7 = 1#1), ∀ a, (k0_off189 v2 v10 v18 v26 v34 v42 v50 v58 k0_t7) a + S1x32x256.size a ≤ S8x32x256.size a := fun v2 v10 v18 v26 v34 v42 v50 v58 k0_hw8 k0_t7 k0_h2 => k0_hw8.2.2.2.2.2.2.2.2.2.1 k0_t7 k0_h2
theorem k0_mult10_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), 256 ∣ (k0_mult10 v2 v10 v18 v26 v34 v42 v50 v58 k0_t7).toNat := fun v2 v10 v18 v26 v34 v42 v50 v58 k0_hw8 k0_t7 => k0_hw8.2.2.2.2.2.2.2.2.2.2.1 k0_t7
theorem k0_off191_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ a, (k0_off191 v2 v10 v18 v26 v34 v42 v50 v58 k0_t7) a + S1.size a ≤ S8.size a := fun v2 v10 v18 v26 v34 v42 v50 v58 k0_hw8 k0_t7 => k0_hw8.2.2.2.2.2.2.2.2.2.2.2.1 k0_t7
theorem k0_off192_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ a, (k0_off192 v2 v10 v18 v26 v34 v42 v50 v58 k0_t7) a + S1x2048x256.size a ≤ S8x2048x256.size a := fun v2 v10 v18 v26 v34 v42 v50 v58 k0_hw8 k0_t7 => k0_hw8.2.2.2.2.2.2.2.2.2.2.2.2.1 k0_t7
theorem k0_off192_wordsi8 : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), (Rect.unit (s := S8x2048x256) (k0_off192 v2 v10 v18 v26 v34 v42 v50 v58 k0_t7) S1x2048x256.size (k0_off192_inb v2 v10 v18 v26 v34 v42 v50 v58 k0_hw8 k0_t7)).WholeWords (EltTy.packing .i8) := fun v2 v10 v18 v26 v34 v42 v50 v58 k0_hw8 k0_t7 => k0_hw8.2.2.2.2.2.2.2.2.2.2.2.2.2.1 k0_t7 (k0_off192_inb v2 v10 v18 v26 v34 v42 v50 v58 k0_hw8 k0_t7)
theorem k0_off194_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ a, (k0_off194 v2 v10 v18 v26 v34 v42 v50 v58 k0_t7) a + S1.size a ≤ S8.size a := fun v2 v10 v18 v26 v34 v42 v50 v58 k0_hw8 k0_t7 => k0_hw8.2.2.2.2.2.2.2.2.2.2.2.2.2.2.1 k0_t7
theorem k0_off195_inb : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), ∀ a, (k0_off195 v2 v10 v18 v26 v34 v42 v50 v58 k0_t7) a + S1x32x256.size a ≤ S8x32x256.size a := fun v2 v10 v18 v26 v34 v42 v50 v58 k0_hw8 k0_t7 => k0_hw8.2.2.2.2.2.2.2.2.2.2.2.2.2.2.2.1 k0_t7
theorem k0_mult11_dvd : ∀ (v2 : BitVec 32) (v10 : BitVec 32) (v18 : BitVec 32) (v26 : BitVec 32) (v34 : BitVec 32) (v42 : BitVec 32) (v50 : BitVec 32) (v58 : BitVec 32) (k0_hw8 : k0_chk8 v2 v10 v18 v26 v34 v42 v50 v58) (k0_t7 : Fin (k0_t7_loop v2 v10 v18 v26 v34 v42 v50 v58).trips), 256 ∣ (k0_mult11 v2 v10 v18 v26 v34 v42 v50 v58 k0_t7).toNat := fun v2 v10 v18 v26 v34 v42 v50 v58 k0_hw8 k0_t7 => k0_hw8.2.2.2.2.2.2.2.2.2.2.2.2.2.2.2.2 k0_t7

@[reducible] def k0_t8_loop (v107 : BitVec 32) (v109 : BitVec 32) : Scf.Loop 32 :=
  let c0_i32_51 : BitVec 32 := 0#32
  let v110 : BitVec 32 := Scalar.addi v107 v109
  let c16_i32 : BitVec 32 := 16#32
  let v111 : BitVec 32 := Scalar.divsi v107 c16_i32
  let c16_i32_46 : BitVec 32 := 16#32
  let v112 : BitVec 32 := Scalar.muli v111 c16_i32_46
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_53 : BitVec 32 := 1#32
  ⟨c0_i32_51, v123, c1_i32_53⟩

def k0_mult12 (v107 : BitVec 32) (v109 : BitVec 32) (k0_t8 : Fin (k0_t8_loop v107 v109).trips) : BitVec 32 :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  v126
def k0_off198 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v128 : Index := Scalar.indexCast v75
  let c0_57 : Index := 0#32
  let c0_58 : Index := 0#32
  ![v128.toNat, 0, 0]
def k0_off199 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v141 : Index := Scalar.indexCast v75
  let c0_61 : Index := 0#32
  let c0_62 : Index := 0#32
  ![v141.toNat, 0, 0]
def k0_off200 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v150 : Index := Scalar.indexCast v75
  let c1_63 : Index := 1#32
  let c0_64 : Index := 0#32
  ![v150.toNat, 1, 0]
def k0_off201 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v161 : Index := Scalar.indexCast v75
  let c16 : Index := 16#32
  let c0_66 : Index := 0#32
  ![v161.toNat, 16, 0]
def k0_off202 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v170 : Index := Scalar.indexCast v75
  let c17 : Index := 17#32
  let c0_68 : Index := 0#32
  ![v170.toNat, 17, 0]
def k0_off203 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v180 : Index := Scalar.indexCast v127
  let c0_70 : Index := 0#32
  ![v180.toNat, 0]
def k0_off204 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v182 : Index := Scalar.indexCast v127
  let c2048 : Index := 2048#32
  ![v182.toNat, 2048]
def k0_off205 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v186 : Index := Scalar.indexCast v75
  let c256 : Index := 256#32
  let c0_73 : Index := 0#32
  ![v186.toNat, 256, 0]
def k0_off206 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v199 : Index := Scalar.indexCast v75
  let c2_77 : Index := 2#32
  let c0_78 : Index := 0#32
  ![v199.toNat, 2, 0]
def k0_off207 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v208 : Index := Scalar.indexCast v75
  let c3_80 : Index := 3#32
  let c0_81 : Index := 0#32
  ![v208.toNat, 3, 0]
def k0_off208 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v219 : Index := Scalar.indexCast v75
  let c18 : Index := 18#32
  let c0_83 : Index := 0#32
  ![v219.toNat, 18, 0]
def k0_off209 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v228 : Index := Scalar.indexCast v75
  let c19 : Index := 19#32
  let c0_85 : Index := 0#32
  ![v228.toNat, 19, 0]
def k0_off210 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v238 : Index := Scalar.indexCast v127
  let c256_87 : Index := 256#32
  ![v238.toNat, 256]
def k0_off211 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v240 : Index := Scalar.indexCast v127
  let c2304 : Index := 2304#32
  ![v240.toNat, 2304]
def k0_off212 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v246 : Index := Scalar.indexCast v75
  let c512 : Index := 512#32
  let c0_90 : Index := 0#32
  ![v246.toNat, 512, 0]
def k0_off213 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v259 : Index := Scalar.indexCast v75
  let c4_94 : Index := 4#32
  let c0_95 : Index := 0#32
  ![v259.toNat, 4, 0]
def k0_off214 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v268 : Index := Scalar.indexCast v75
  let c5_97 : Index := 5#32
  let c0_98 : Index := 0#32
  ![v268.toNat, 5, 0]
def k0_off215 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v279 : Index := Scalar.indexCast v75
  let c20 : Index := 20#32
  let c0_100 : Index := 0#32
  ![v279.toNat, 20, 0]
def k0_off216 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v288 : Index := Scalar.indexCast v75
  let c21 : Index := 21#32
  let c0_102 : Index := 0#32
  ![v288.toNat, 21, 0]
def k0_off217 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v298 : Index := Scalar.indexCast v127
  let c512_104 : Index := 512#32
  ![v298.toNat, 512]
def k0_off218 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v300 : Index := Scalar.indexCast v127
  let c2560 : Index := 2560#32
  ![v300.toNat, 2560]
def k0_off219 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v306 : Index := Scalar.indexCast v75
  let c768 : Index := 768#32
  let c0_107 : Index := 0#32
  ![v306.toNat, 768, 0]
def k0_off220 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v319 : Index := Scalar.indexCast v75
  let c6_111 : Index := 6#32
  let c0_112 : Index := 0#32
  ![v319.toNat, 6, 0]
def k0_off221 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v328 : Index := Scalar.indexCast v75
  let c7_114 : Index := 7#32
  let c0_115 : Index := 0#32
  ![v328.toNat, 7, 0]
def k0_off222 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v339 : Index := Scalar.indexCast v75
  let c22 : Index := 22#32
  let c0_117 : Index := 0#32
  ![v339.toNat, 22, 0]
def k0_off223 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v348 : Index := Scalar.indexCast v75
  let c23 : Index := 23#32
  let c0_119 : Index := 0#32
  ![v348.toNat, 23, 0]
def k0_off224 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v358 : Index := Scalar.indexCast v127
  let c768_121 : Index := 768#32
  ![v358.toNat, 768]
def k0_off225 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v360 : Index := Scalar.indexCast v127
  let c2816 : Index := 2816#32
  ![v360.toNat, 2816]
def k0_off226 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v366 : Index := Scalar.indexCast v75
  let c1024 : Index := 1024#32
  let c0_124 : Index := 0#32
  ![v366.toNat, 1024, 0]
def k0_off227 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v379 : Index := Scalar.indexCast v75
  let c8 : Index := 8#32
  let c0_128 : Index := 0#32
  ![v379.toNat, 8, 0]
def k0_off228 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v388 : Index := Scalar.indexCast v75
  let c9 : Index := 9#32
  let c0_130 : Index := 0#32
  ![v388.toNat, 9, 0]
def k0_off229 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v399 : Index := Scalar.indexCast v75
  let c24 : Index := 24#32
  let c0_132 : Index := 0#32
  ![v399.toNat, 24, 0]
def k0_off230 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v408 : Index := Scalar.indexCast v75
  let c25 : Index := 25#32
  let c0_134 : Index := 0#32
  ![v408.toNat, 25, 0]
def k0_off231 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v418 : Index := Scalar.indexCast v127
  let c1024_136 : Index := 1024#32
  ![v418.toNat, 1024]
def k0_off232 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v420 : Index := Scalar.indexCast v127
  let c3072 : Index := 3072#32
  ![v420.toNat, 3072]
def k0_off233 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v426 : Index := Scalar.indexCast v75
  let c1280 : Index := 1280#32
  let c0_139 : Index := 0#32
  ![v426.toNat, 1280, 0]
def k0_off234 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v439 : Index := Scalar.indexCast v75
  let c10 : Index := 10#32
  let c0_143 : Index := 0#32
  ![v439.toNat, 10, 0]
def k0_off235 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v448 : Index := Scalar.indexCast v75
  let c11 : Index := 11#32
  let c0_145 : Index := 0#32
  ![v448.toNat, 11, 0]
def k0_off236 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v459 : Index := Scalar.indexCast v75
  let c26 : Index := 26#32
  let c0_147 : Index := 0#32
  ![v459.toNat, 26, 0]
def k0_off237 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v468 : Index := Scalar.indexCast v75
  let c27 : Index := 27#32
  let c0_149 : Index := 0#32
  ![v468.toNat, 27, 0]
def k0_off238 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v478 : Index := Scalar.indexCast v127
  let c1280_151 : Index := 1280#32
  ![v478.toNat, 1280]
def k0_off239 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v480 : Index := Scalar.indexCast v127
  let c3328 : Index := 3328#32
  ![v480.toNat, 3328]
def k0_off240 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v486 : Index := Scalar.indexCast v75
  let c1536 : Index := 1536#32
  let c0_154 : Index := 0#32
  ![v486.toNat, 1536, 0]
def k0_off241 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v499 : Index := Scalar.indexCast v75
  let c12 : Index := 12#32
  let c0_158 : Index := 0#32
  ![v499.toNat, 12, 0]
def k0_off242 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v508 : Index := Scalar.indexCast v75
  let c13 : Index := 13#32
  let c0_160 : Index := 0#32
  ![v508.toNat, 13, 0]
def k0_off243 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v519 : Index := Scalar.indexCast v75
  let c28 : Index := 28#32
  let c0_162 : Index := 0#32
  ![v519.toNat, 28, 0]
def k0_off244 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v528 : Index := Scalar.indexCast v75
  let c29 : Index := 29#32
  let c0_164 : Index := 0#32
  ![v528.toNat, 29, 0]
def k0_off245 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v538 : Index := Scalar.indexCast v127
  let c1536_166 : Index := 1536#32
  ![v538.toNat, 1536]
def k0_off246 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v540 : Index := Scalar.indexCast v127
  let c3584 : Index := 3584#32
  ![v540.toNat, 3584]
def k0_off247 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v546 : Index := Scalar.indexCast v75
  let c1792 : Index := 1792#32
  let c0_169 : Index := 0#32
  ![v546.toNat, 1792, 0]
def k0_off248 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v559 : Index := Scalar.indexCast v75
  let c14 : Index := 14#32
  let c0_173 : Index := 0#32
  ![v559.toNat, 14, 0]
def k0_off249 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v568 : Index := Scalar.indexCast v75
  let c15 : Index := 15#32
  let c0_175 : Index := 0#32
  ![v568.toNat, 15, 0]
def k0_off250 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v579 : Index := Scalar.indexCast v75
  let c30 : Index := 30#32
  let c0_177 : Index := 0#32
  ![v579.toNat, 30, 0]
def k0_off251 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v588 : Index := Scalar.indexCast v75
  let c31 : Index := 31#32
  let c0_179 : Index := 0#32
  ![v588.toNat, 31, 0]
def k0_off252 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v598 : Index := Scalar.indexCast v127
  let c1792_181 : Index := 1792#32
  ![v598.toNat, 1792]
def k0_off253 (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v600 : Index := Scalar.indexCast v127
  let c3840 : Index := 3840#32
  ![v600.toNat, 3840]
def k0_off254 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_t8 : Fin (k0_t8_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let c1_i32_53 : BitVec 32 := 1#32
  let arg16 : BitVec 32 := Scf.iv c0_i32_51 c1_i32_53 k0_t8
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v615 : Index := Scalar.indexCast v127
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v76 : BitVec 32 := Scalar.divsi arg15 v61
  let c256_i32_49 : BitVec 32 := 256#32
  let v117 : BitVec 32 := Scalar.muli v76 c256_i32_49
  let v118 : BitVec 32 := v117
  let v616 : Index := Scalar.indexCast v118
  ![v615.toNat, v616.toNat]
@[reducible] def k0_t9_loop (v107 : BitVec 32) (v109 : BitVec 32) : Scf.Loop 32 :=
  let c0_i32_51 : BitVec 32 := 0#32
  let v110 : BitVec 32 := Scalar.addi v107 v109
  let c16_i32 : BitVec 32 := 16#32
  let v111 : BitVec 32 := Scalar.divsi v107 c16_i32
  let c16_i32_46 : BitVec 32 := 16#32
  let v112 : BitVec 32 := Scalar.muli v111 c16_i32_46
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let v120 : BitVec 32 := Scalar.addi c0_i32_51 v119
  let c1_i32_54 : BitVec 32 := 1#32
  ⟨v123, v120, c1_i32_54⟩
def k0_mult13 (v107 : BitVec 32) (v109 : BitVec 32) (k0_t9 : Fin (k0_t9_loop v107 v109).trips) : BitVec 32 :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  v126
def k0_off255 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v128 : Index := Scalar.indexCast v75
  let c0_57 : Index := 0#32
  let c0_58 : Index := 0#32
  ![v128.toNat, 0, 0]
def k0_off256 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v141 : Index := Scalar.indexCast v75
  let c0_61 : Index := 0#32
  let c0_62 : Index := 0#32
  ![v141.toNat, 0, 0]
def k0_off257 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v150 : Index := Scalar.indexCast v75
  let c1_63 : Index := 1#32
  let c0_64 : Index := 0#32
  ![v150.toNat, 1, 0]
def k0_off258 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v161 : Index := Scalar.indexCast v75
  let c16 : Index := 16#32
  let c0_66 : Index := 0#32
  ![v161.toNat, 16, 0]
def k0_off259 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v170 : Index := Scalar.indexCast v75
  let c17 : Index := 17#32
  let c0_68 : Index := 0#32
  ![v170.toNat, 17, 0]
def k0_off260 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v180 : Index := Scalar.indexCast v127
  let c0_70 : Index := 0#32
  ![v180.toNat, 0]
def k0_off261 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v182 : Index := Scalar.indexCast v127
  let c2048 : Index := 2048#32
  ![v182.toNat, 2048]
def k0_off262 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v186 : Index := Scalar.indexCast v75
  let c256 : Index := 256#32
  let c0_73 : Index := 0#32
  ![v186.toNat, 256, 0]
def k0_off263 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v199 : Index := Scalar.indexCast v75
  let c2_77 : Index := 2#32
  let c0_78 : Index := 0#32
  ![v199.toNat, 2, 0]
def k0_off264 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v208 : Index := Scalar.indexCast v75
  let c3_80 : Index := 3#32
  let c0_81 : Index := 0#32
  ![v208.toNat, 3, 0]
def k0_off265 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v219 : Index := Scalar.indexCast v75
  let c18 : Index := 18#32
  let c0_83 : Index := 0#32
  ![v219.toNat, 18, 0]
def k0_off266 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v228 : Index := Scalar.indexCast v75
  let c19 : Index := 19#32
  let c0_85 : Index := 0#32
  ![v228.toNat, 19, 0]
def k0_off267 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v238 : Index := Scalar.indexCast v127
  let c256_87 : Index := 256#32
  ![v238.toNat, 256]
def k0_off268 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v240 : Index := Scalar.indexCast v127
  let c2304 : Index := 2304#32
  ![v240.toNat, 2304]
def k0_off269 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v246 : Index := Scalar.indexCast v75
  let c512 : Index := 512#32
  let c0_90 : Index := 0#32
  ![v246.toNat, 512, 0]
def k0_off270 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v259 : Index := Scalar.indexCast v75
  let c4_94 : Index := 4#32
  let c0_95 : Index := 0#32
  ![v259.toNat, 4, 0]
def k0_off271 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v268 : Index := Scalar.indexCast v75
  let c5_97 : Index := 5#32
  let c0_98 : Index := 0#32
  ![v268.toNat, 5, 0]
def k0_off272 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v279 : Index := Scalar.indexCast v75
  let c20 : Index := 20#32
  let c0_100 : Index := 0#32
  ![v279.toNat, 20, 0]
def k0_off273 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v288 : Index := Scalar.indexCast v75
  let c21 : Index := 21#32
  let c0_102 : Index := 0#32
  ![v288.toNat, 21, 0]
def k0_off274 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v298 : Index := Scalar.indexCast v127
  let c512_104 : Index := 512#32
  ![v298.toNat, 512]
def k0_off275 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v300 : Index := Scalar.indexCast v127
  let c2560 : Index := 2560#32
  ![v300.toNat, 2560]
def k0_off276 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v306 : Index := Scalar.indexCast v75
  let c768 : Index := 768#32
  let c0_107 : Index := 0#32
  ![v306.toNat, 768, 0]
def k0_off277 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v319 : Index := Scalar.indexCast v75
  let c6_111 : Index := 6#32
  let c0_112 : Index := 0#32
  ![v319.toNat, 6, 0]
def k0_off278 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v328 : Index := Scalar.indexCast v75
  let c7_114 : Index := 7#32
  let c0_115 : Index := 0#32
  ![v328.toNat, 7, 0]
def k0_off279 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v339 : Index := Scalar.indexCast v75
  let c22 : Index := 22#32
  let c0_117 : Index := 0#32
  ![v339.toNat, 22, 0]
def k0_off280 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v348 : Index := Scalar.indexCast v75
  let c23 : Index := 23#32
  let c0_119 : Index := 0#32
  ![v348.toNat, 23, 0]
def k0_off281 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v358 : Index := Scalar.indexCast v127
  let c768_121 : Index := 768#32
  ![v358.toNat, 768]
def k0_off282 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v360 : Index := Scalar.indexCast v127
  let c2816 : Index := 2816#32
  ![v360.toNat, 2816]
def k0_off283 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v366 : Index := Scalar.indexCast v75
  let c1024 : Index := 1024#32
  let c0_124 : Index := 0#32
  ![v366.toNat, 1024, 0]
def k0_off284 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v379 : Index := Scalar.indexCast v75
  let c8 : Index := 8#32
  let c0_128 : Index := 0#32
  ![v379.toNat, 8, 0]
def k0_off285 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v388 : Index := Scalar.indexCast v75
  let c9 : Index := 9#32
  let c0_130 : Index := 0#32
  ![v388.toNat, 9, 0]
def k0_off286 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v399 : Index := Scalar.indexCast v75
  let c24 : Index := 24#32
  let c0_132 : Index := 0#32
  ![v399.toNat, 24, 0]
def k0_off287 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v408 : Index := Scalar.indexCast v75
  let c25 : Index := 25#32
  let c0_134 : Index := 0#32
  ![v408.toNat, 25, 0]
def k0_off288 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v418 : Index := Scalar.indexCast v127
  let c1024_136 : Index := 1024#32
  ![v418.toNat, 1024]
def k0_off289 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v420 : Index := Scalar.indexCast v127
  let c3072 : Index := 3072#32
  ![v420.toNat, 3072]
def k0_off290 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v426 : Index := Scalar.indexCast v75
  let c1280 : Index := 1280#32
  let c0_139 : Index := 0#32
  ![v426.toNat, 1280, 0]
def k0_off291 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v439 : Index := Scalar.indexCast v75
  let c10 : Index := 10#32
  let c0_143 : Index := 0#32
  ![v439.toNat, 10, 0]
def k0_off292 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v448 : Index := Scalar.indexCast v75
  let c11 : Index := 11#32
  let c0_145 : Index := 0#32
  ![v448.toNat, 11, 0]
def k0_off293 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v459 : Index := Scalar.indexCast v75
  let c26 : Index := 26#32
  let c0_147 : Index := 0#32
  ![v459.toNat, 26, 0]
def k0_off294 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v468 : Index := Scalar.indexCast v75
  let c27 : Index := 27#32
  let c0_149 : Index := 0#32
  ![v468.toNat, 27, 0]
def k0_off295 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v478 : Index := Scalar.indexCast v127
  let c1280_151 : Index := 1280#32
  ![v478.toNat, 1280]
def k0_off296 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v480 : Index := Scalar.indexCast v127
  let c3328 : Index := 3328#32
  ![v480.toNat, 3328]
def k0_off297 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v486 : Index := Scalar.indexCast v75
  let c1536 : Index := 1536#32
  let c0_154 : Index := 0#32
  ![v486.toNat, 1536, 0]
def k0_off298 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v499 : Index := Scalar.indexCast v75
  let c12 : Index := 12#32
  let c0_158 : Index := 0#32
  ![v499.toNat, 12, 0]
def k0_off299 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v508 : Index := Scalar.indexCast v75
  let c13 : Index := 13#32
  let c0_160 : Index := 0#32
  ![v508.toNat, 13, 0]
def k0_off300 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v519 : Index := Scalar.indexCast v75
  let c28 : Index := 28#32
  let c0_162 : Index := 0#32
  ![v519.toNat, 28, 0]
def k0_off301 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v528 : Index := Scalar.indexCast v75
  let c29 : Index := 29#32
  let c0_164 : Index := 0#32
  ![v528.toNat, 29, 0]
def k0_off302 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v538 : Index := Scalar.indexCast v127
  let c1536_166 : Index := 1536#32
  ![v538.toNat, 1536]
def k0_off303 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v540 : Index := Scalar.indexCast v127
  let c3584 : Index := 3584#32
  ![v540.toNat, 3584]
def k0_off304 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v546 : Index := Scalar.indexCast v75
  let c1792 : Index := 1792#32
  let c0_169 : Index := 0#32
  ![v546.toNat, 1792, 0]
def k0_off305 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v559 : Index := Scalar.indexCast v75
  let c14 : Index := 14#32
  let c0_173 : Index := 0#32
  ![v559.toNat, 14, 0]
def k0_off306 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v568 : Index := Scalar.indexCast v75
  let c15 : Index := 15#32
  let c0_175 : Index := 0#32
  ![v568.toNat, 15, 0]
def k0_off307 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v579 : Index := Scalar.indexCast v75
  let c30 : Index := 30#32
  let c0_177 : Index := 0#32
  ![v579.toNat, 30, 0]
def k0_off308 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) : Fin 3 → Nat :=
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let c8_i32 : BitVec 32 := 8#32
  let v75 : BitVec 32 := Scalar.remsi arg15 c8_i32
  let v588 : Index := Scalar.indexCast v75
  let c31 : Index := 31#32
  let c0_179 : Index := 0#32
  ![v588.toNat, 31, 0]
def k0_off309 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v598 : Index := Scalar.indexCast v127
  let c1792_181 : Index := 1792#32
  ![v598.toNat, 1792]
def k0_off310 (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v600 : Index := Scalar.indexCast v127
  let c3840 : Index := 3840#32
  ![v600.toNat, 3840]
def k0_off311 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_t9 : Fin (k0_t9_loop v107 v109).trips) : Fin 2 → Nat :=
  let c16_i32 : BitVec 32 := 16#32
  let v111 : BitVec 32 := Scalar.divsi v107 c16_i32
  let c16_i32_46 : BitVec 32 := 16#32
  let v112 : BitVec 32 := Scalar.muli v111 c16_i32_46
  let c0_i32_51 : BitVec 32 := 0#32
  let v110 : BitVec 32 := Scalar.addi v107 v109
  let v113 : BitVec 32 := Scalar.subi v110 v112
  let c128_i32 : BitVec 32 := 128#32
  let v114 : BitVec 32 := Scalar.addi v113 c128_i32
  let c1_i32_47 : BitVec 32 := 1#32
  let v115 : BitVec 32 := Scalar.subi v114 c1_i32_47
  let c128_i32_48 : BitVec 32 := 128#32
  let v116 : BitVec 32 := Scalar.divsi v115 c128_i32_48
  let v119 : BitVec 32 := Scalar.subi v116 c0_i32_51
  let c1_i32_52 : BitVec 32 := 1#32
  let v121 : BitVec 32 := Scalar.divsi v119 c1_i32_52
  let v122 : BitVec 32 := Scalar.muli v121 c1_i32_52
  let v123 : BitVec 32 := Scalar.addi c0_i32_51 v122
  let c1_i32_54 : BitVec 32 := 1#32
  let arg16 : BitVec 32 := Scf.iv v123 c1_i32_54 k0_t9
  let c128_i32_55 : BitVec 32 := 128#32
  let v124 : BitVec 32 := Scalar.muli arg16 c128_i32_55
  let v125 : BitVec 32 := Scalar.addi v112 v124
  let c128_i32_56 : BitVec 32 := 128#32
  let v126 : BitVec 32 := Scalar.minsi v125 c128_i32_56
  let v127 : BitVec 32 := v126
  let v615 : Index := Scalar.indexCast v127
  let c0_i32_32 : BitVec 32 := 0#32
  let c0_i32_5 : BitVec 32 := 0#32
  let c0_i32_4 : BitVec 32 := 0#32
  let v4 : BitVec 1 := Scalar.cmpi .sgt v2 c0_i32_4
  let v5 : BitVec 32 := Scalar.extui v4
  let v6 : BitVec 32 := Scalar.addi c0_i32_5 v5
  let c0_i32_7 : BitVec 32 := 0#32
  let v12 : BitVec 1 := Scalar.cmpi .sgt v10 c0_i32_7
  let v13 : BitVec 32 := Scalar.extui v12
  let v14 : BitVec 32 := Scalar.addi v6 v13
  let c0_i32_9 : BitVec 32 := 0#32
  let v20 : BitVec 1 := Scalar.cmpi .sgt v18 c0_i32_9
  let v21 : BitVec 32 := Scalar.extui v20
  let v22 : BitVec 32 := Scalar.addi v14 v21
  let c0_i32_11 : BitVec 32 := 0#32
  let v28 : BitVec 1 := Scalar.cmpi .sgt v26 c0_i32_11
  let v29 : BitVec 32 := Scalar.extui v28
  let v30 : BitVec 32 := Scalar.addi v22 v29
  let c0_i32_13 : BitVec 32 := 0#32
  let v36 : BitVec 1 := Scalar.cmpi .sgt v34 c0_i32_13
  let v37 : BitVec 32 := Scalar.extui v36
  let v38 : BitVec 32 := Scalar.addi v30 v37
  let c0_i32_15 : BitVec 32 := 0#32
  let v44 : BitVec 1 := Scalar.cmpi .sgt v42 c0_i32_15
  let v45 : BitVec 32 := Scalar.extui v44
  let v46 : BitVec 32 := Scalar.addi v38 v45
  let c0_i32_17 : BitVec 32 := 0#32
  let v52 : BitVec 1 := Scalar.cmpi .sgt v50 c0_i32_17
  let v53 : BitVec 32 := Scalar.extui v52
  let v54 : BitVec 32 := Scalar.addi v46 v53
  let c0_i32_19 : BitVec 32 := 0#32
  let v59 : BitVec 1 := Scalar.cmpi .sgt v58 c0_i32_19
  let v60 : BitVec 32 := Scalar.extui v59
  let v61 : BitVec 32 := Scalar.addi v54 v60
  let c7_i32_20 : BitVec 32 := 7#32
  let v62 : BitVec 32 := Scalar.muli v61 c7_i32_20
  let v70 : BitVec 32 := Scalar.subi v62 c0_i32_32
  let c1_i32_33 : BitVec 32 := 1#32
  let v72 : BitVec 32 := Scalar.divsi v70 c1_i32_33
  let v73 : BitVec 32 := Scalar.muli v72 c1_i32_33
  let v74 : BitVec 32 := Scalar.addi c0_i32_32 v73
  let c1_i32_35 : BitVec 32 := 1#32
  let arg15 : BitVec 32 := Scf.iv v74 c1_i32_35 k0_t7
  let v76 : BitVec 32 := Scalar.divsi arg15 v61
  let c256_i32_49 : BitVec 32 := 256#32
  let v117 : BitVec 32 := Scalar.muli v76 c256_i32_49
  let v118 : BitVec 32 := v117
  let v616 : Index := Scalar.indexCast v118
  ![v615.toNat, v616.toNat]

def k0_chk18_0 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) : Prop :=
  ((k0_t8_loop v107 v109).OK) ∧
  (∀ k0_t8 : Fin (k0_t8_loop v107 v109).trips, 16 ∣ (k0_mult12 v107 v109 k0_t8).toNat) ∧
  (∀ k0_t8 : Fin (k0_t8_loop v107 v109).trips, ∀ a, (k0_off198 v2 v10 v18 v26 v34 v42 v50 v58 k0_t7) a + S1x256x256.size a ≤ S8x2048x256.size a) ∧
  (∀ k0_t8 : Fin (k0_t8_loop v107 v109).trips, ∀ a, (k0_off199 v2 v10 v18 v26 v34 v42 v50 v58 k0_t7) a + S1x1x256.size a ≤ S8x32x256.size a) ∧
  (∀ k0_t8 : Fin (k0_t8_loop v107 v109).trips, ∀ a, (k0_off200 v2 v10 v18 v26 v34 v42 v50 v58 k0_t7) a + S1x1x256.size a ≤ S8x32x256.size a) ∧
  (∀ k0_t8 : Fin (k0_t8_loop v107 v109).trips, ∀ a, (k0_off201 v2 v10 v18 v26 v34 v42 v50 v58 k0_t7) a + S1x1x256.size a ≤ S8x32x256.size a) ∧
  (∀ k0_t8 : Fin (k0_t8_loop v107 v109).trips, ∀ a, (k0_off202 v2 v10 v18 v26 v34 v42 v50 v58 k0_t7) a + S1x1x256.size a ≤ S8x32x256.size a) ∧
  (∀ k0_t8 : Fin (k0_t8_loop v107 v109).trips, ∀ a, (k0_off203 v107 v109 k0_t8) a + S128x256.size a ≤ S256x4096.size a) ∧
  (∀ k0_t8 : Fin (k0_t8_loop v107 v109).trips, ∀ a, (k0_off204 v107 v109 k0_t8) a + S128x256.size a ≤ S256x4096.size a) ∧
  (∀ k0_t8 : Fin (k0_t8_loop v107 v109).trips, ∀ a, (k0_off205 v2 v10 v18 v26 v34 v42 v50 v58 k0_t7) a + S1x256x256.size a ≤ S8x2048x256.size a) ∧
  (∀ k0_t8 : Fin (k0_t8_loop v107 v109).trips, ∀ a, (k0_off206 v2 v10 v18 v26 v34 v42 v50 v58 k0_t7) a + S1x1x256.size a ≤ S8x32x256.size a) ∧
  (∀ k0_t8 : Fin (k0_t8_loop v107 v109).trips, ∀ a, (k0_off207 v2 v10 v18 v26 v34 v42 v50 v58 k0_t7) a + S1x1x256.size a ≤ S8x32x256.size a) ∧
  (∀ k0_t8 : Fin (k0_t8_loop v107 v109).trips, ∀ a, (k0_off208 v2 v10 v18 v26 v34 v42 v50 v58 k0_t7) a + S1x1x256.size a ≤ S8x32x256.size a) ∧
  (∀ k0_t8 : Fin (k0_t8_loop v107 v109).trips, ∀ a, (k0_off209 v2 v10 v18 v26 v34 v42 v50 v58 k0_t7) a + S1x1x256.size a ≤ S8x32x256.size a) ∧
  (∀ k0_t8 : Fin (k0_t8_loop v107 v109).trips, ∀ a, (k0_off210 v107 v109 k0_t8) a + S128x256.size a ≤ S256x4096.size a) ∧
  (∀ k0_t8 : Fin (k0_t8_loop v107 v109).trips, ∀ a, (k0_off211 v107 v109 k0_t8) a + S128x256.size a ≤ S256x4096.size a) ∧
  (∀ k0_t8 : Fin (k0_t8_loop v107 v109).trips, ∀ a, (k0_off212 v2 v10 v18 v26 v34 v42 v50 v58 k0_t7) a + S1x256x256.size a ≤ S8x2048x256.size a) ∧
  (∀ k0_t8 : Fin (k0_t8_loop v107 v109).trips, ∀ a, (k0_off213 v2 v10 v18 v26 v34 v42 v50 v58 k0_t7) a + S1x1x256.size a ≤ S8x32x256.size a) ∧
  (∀ k0_t8 : Fin (k0_t8_loop v107 v109).trips, ∀ a, (k0_off214 v2 v10 v18 v26 v34 v42 v50 v58 k0_t7) a + S1x1x256.size a ≤ S8x32x256.size a) ∧
  (∀ k0_t8 : Fin (k0_t8_loop v107 v109).trips, ∀ a, (k0_off215 v2 v10 v18 v26 v34 v42 v50 v58 k0_t7) a + S1x1x256.size a ≤ S8x32x256.size a) ∧
  (∀ k0_t8 : Fin (k0_t8_loop v107 v109).trips, ∀ a, (k0_off216 v2 v10 v18 v26 v34 v42 v50 v58 k0_t7) a + S1x1x256.size a ≤ S8x32x256.size a) ∧
  (∀ k0_t8 : Fin (k0_t8_loop v107 v109).trips, ∀ a, (k0_off217 v107 v109 k0_t8) a + S128x256.size a ≤ S256x4096.size a) ∧
  (∀ k0_t8 : Fin (k0_t8_loop v107 v109).trips, ∀ a, (k0_off218 v107 v109 k0_t8) a + S128x256.size a ≤ S256x4096.size a) ∧
  (∀ k0_t8 : Fin (k0_t8_loop v107 v109).trips, ∀ a, (k0_off219 v2 v10 v18 v26 v34 v42 v50 v58 k0_t7) a + S1x256x256.size a ≤ S8x2048x256.size a) ∧
  (∀ k0_t8 : Fin (k0_t8_loop v107 v109).trips, ∀ a, (k0_off220 v2 v10 v18 v26 v34 v42 v50 v58 k0_t7) a + S1x1x256.size a ≤ S8x32x256.size a) ∧
  (∀ k0_t8 : Fin (k0_t8_loop v107 v109).trips, ∀ a, (k0_off221 v2 v10 v18 v26 v34 v42 v50 v58 k0_t7) a + S1x1x256.size a ≤ S8x32x256.size a) ∧
  (∀ k0_t8 : Fin (k0_t8_loop v107 v109).trips, ∀ a, (k0_off222 v2 v10 v18 v26 v34 v42 v50 v58 k0_t7) a + S1x1x256.size a ≤ S8x32x256.size a) ∧
  (∀ k0_t8 : Fin (k0_t8_loop v107 v109).trips, ∀ a, (k0_off223 v2 v10 v18 v26 v34 v42 v50 v58 k0_t7) a + S1x1x256.size a ≤ S8x32x256.size a) ∧
  (∀ k0_t8 : Fin (k0_t8_loop v107 v109).trips, ∀ a, (k0_off224 v107 v109 k0_t8) a + S128x256.size a ≤ S256x4096.size a) ∧
  (∀ k0_t8 : Fin (k0_t8_loop v107 v109).trips, ∀ a, (k0_off225 v107 v109 k0_t8) a + S128x256.size a ≤ S256x4096.size a) ∧
  (∀ k0_t8 : Fin (k0_t8_loop v107 v109).trips, ∀ a, (k0_off226 v2 v10 v18 v26 v34 v42 v50 v58 k0_t7) a + S1x256x256.size a ≤ S8x2048x256.size a) ∧
  (∀ k0_t8 : Fin (k0_t8_loop v107 v109).trips, ∀ a, (k0_off227 v2 v10 v18 v26 v34 v42 v50 v58 k0_t7) a + S1x1x256.size a ≤ S8x32x256.size a)
def k0_chk18_1 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) : Prop :=
  (∀ k0_t8 : Fin (k0_t8_loop v107 v109).trips, ∀ a, (k0_off228 v2 v10 v18 v26 v34 v42 v50 v58 k0_t7) a + S1x1x256.size a ≤ S8x32x256.size a) ∧
  (∀ k0_t8 : Fin (k0_t8_loop v107 v109).trips, ∀ a, (k0_off229 v2 v10 v18 v26 v34 v42 v50 v58 k0_t7) a + S1x1x256.size a ≤ S8x32x256.size a) ∧
  (∀ k0_t8 : Fin (k0_t8_loop v107 v109).trips, ∀ a, (k0_off230 v2 v10 v18 v26 v34 v42 v50 v58 k0_t7) a + S1x1x256.size a ≤ S8x32x256.size a) ∧
  (∀ k0_t8 : Fin (k0_t8_loop v107 v109).trips, ∀ a, (k0_off231 v107 v109 k0_t8) a + S128x256.size a ≤ S256x4096.size a) ∧
  (∀ k0_t8 : Fin (k0_t8_loop v107 v109).trips, ∀ a, (k0_off232 v107 v109 k0_t8) a + S128x256.size a ≤ S256x4096.size a) ∧
  (∀ k0_t8 : Fin (k0_t8_loop v107 v109).trips, ∀ a, (k0_off233 v2 v10 v18 v26 v34 v42 v50 v58 k0_t7) a + S1x256x256.size a ≤ S8x2048x256.size a) ∧
  (∀ k0_t8 : Fin (k0_t8_loop v107 v109).trips, ∀ a, (k0_off234 v2 v10 v18 v26 v34 v42 v50 v58 k0_t7) a + S1x1x256.size a ≤ S8x32x256.size a) ∧
  (∀ k0_t8 : Fin (k0_t8_loop v107 v109).trips, ∀ a, (k0_off235 v2 v10 v18 v26 v34 v42 v50 v58 k0_t7) a + S1x1x256.size a ≤ S8x32x256.size a) ∧
  (∀ k0_t8 : Fin (k0_t8_loop v107 v109).trips, ∀ a, (k0_off236 v2 v10 v18 v26 v34 v42 v50 v58 k0_t7) a + S1x1x256.size a ≤ S8x32x256.size a) ∧
  (∀ k0_t8 : Fin (k0_t8_loop v107 v109).trips, ∀ a, (k0_off237 v2 v10 v18 v26 v34 v42 v50 v58 k0_t7) a + S1x1x256.size a ≤ S8x32x256.size a) ∧
  (∀ k0_t8 : Fin (k0_t8_loop v107 v109).trips, ∀ a, (k0_off238 v107 v109 k0_t8) a + S128x256.size a ≤ S256x4096.size a) ∧
  (∀ k0_t8 : Fin (k0_t8_loop v107 v109).trips, ∀ a, (k0_off239 v107 v109 k0_t8) a + S128x256.size a ≤ S256x4096.size a) ∧
  (∀ k0_t8 : Fin (k0_t8_loop v107 v109).trips, ∀ a, (k0_off240 v2 v10 v18 v26 v34 v42 v50 v58 k0_t7) a + S1x256x256.size a ≤ S8x2048x256.size a) ∧
  (∀ k0_t8 : Fin (k0_t8_loop v107 v109).trips, ∀ a, (k0_off241 v2 v10 v18 v26 v34 v42 v50 v58 k0_t7) a + S1x1x256.size a ≤ S8x32x256.size a) ∧
  (∀ k0_t8 : Fin (k0_t8_loop v107 v109).trips, ∀ a, (k0_off242 v2 v10 v18 v26 v34 v42 v50 v58 k0_t7) a + S1x1x256.size a ≤ S8x32x256.size a) ∧
  (∀ k0_t8 : Fin (k0_t8_loop v107 v109).trips, ∀ a, (k0_off243 v2 v10 v18 v26 v34 v42 v50 v58 k0_t7) a + S1x1x256.size a ≤ S8x32x256.size a) ∧
  (∀ k0_t8 : Fin (k0_t8_loop v107 v109).trips, ∀ a, (k0_off244 v2 v10 v18 v26 v34 v42 v50 v58 k0_t7) a + S1x1x256.size a ≤ S8x32x256.size a) ∧
  (∀ k0_t8 : Fin (k0_t8_loop v107 v109).trips, ∀ a, (k0_off245 v107 v109 k0_t8) a + S128x256.size a ≤ S256x4096.size a) ∧
  (∀ k0_t8 : Fin (k0_t8_loop v107 v109).trips, ∀ a, (k0_off246 v107 v109 k0_t8) a + S128x256.size a ≤ S256x4096.size a) ∧
  (∀ k0_t8 : Fin (k0_t8_loop v107 v109).trips, ∀ a, (k0_off247 v2 v10 v18 v26 v34 v42 v50 v58 k0_t7) a + S1x256x256.size a ≤ S8x2048x256.size a) ∧
  (∀ k0_t8 : Fin (k0_t8_loop v107 v109).trips, ∀ a, (k0_off248 v2 v10 v18 v26 v34 v42 v50 v58 k0_t7) a + S1x1x256.size a ≤ S8x32x256.size a) ∧
  (∀ k0_t8 : Fin (k0_t8_loop v107 v109).trips, ∀ a, (k0_off249 v2 v10 v18 v26 v34 v42 v50 v58 k0_t7) a + S1x1x256.size a ≤ S8x32x256.size a) ∧
  (∀ k0_t8 : Fin (k0_t8_loop v107 v109).trips, ∀ a, (k0_off250 v2 v10 v18 v26 v34 v42 v50 v58 k0_t7) a + S1x1x256.size a ≤ S8x32x256.size a) ∧
  (∀ k0_t8 : Fin (k0_t8_loop v107 v109).trips, ∀ a, (k0_off251 v2 v10 v18 v26 v34 v42 v50 v58 k0_t7) a + S1x1x256.size a ≤ S8x32x256.size a) ∧
  (∀ k0_t8 : Fin (k0_t8_loop v107 v109).trips, ∀ a, (k0_off252 v107 v109 k0_t8) a + S128x256.size a ≤ S256x4096.size a) ∧
  (∀ k0_t8 : Fin (k0_t8_loop v107 v109).trips, ∀ a, (k0_off253 v107 v109 k0_t8) a + S128x256.size a ≤ S256x4096.size a) ∧
  (∀ k0_t8 : Fin (k0_t8_loop v107 v109).trips, ∀ a, (k0_off254 v2 v10 v18 v26 v34 v42 v50 v58 k0_t7 v107 v109 k0_t8) a + S128x256.size a ≤ S256x1792.size a) ∧
  (∀ k0_t8 : Fin (k0_t8_loop v107 v109).trips, ∀ (hinb : ∀ a, (k0_off254 v2 v10 v18 v26 v34 v42 v50 v58 k0_t7 v107 v109 k0_t8) a + S128x256.size a ≤ S256x1792.size a), (Rect.unit (s := S256x1792) (k0_off254 v2 v10 v18 v26 v34 v42 v50 v58 k0_t7 v107 v109 k0_t8) S128x256.size hinb).PackedRows (EltTy.packing .bf16)) ∧
  ((k0_t9_loop v107 v109).OK) ∧
  (∀ k0_t9 : Fin (k0_t9_loop v107 v109).trips, 16 ∣ (k0_mult13 v107 v109 k0_t9).toNat) ∧
  (∀ k0_t9 : Fin (k0_t9_loop v107 v109).trips, ∀ a, (k0_off255 v2 v10 v18 v26 v34 v42 v50 v58 k0_t7) a + S1x256x256.size a ≤ S8x2048x256.size a) ∧
  (∀ k0_t9 : Fin (k0_t9_loop v107 v109).trips, ∀ a, (k0_off256 v2 v10 v18 v26 v34 v42 v50 v58 k0_t7) a + S1x1x256.size a ≤ S8x32x256.size a)
def k0_chk18_2 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) : Prop :=
  (∀ k0_t9 : Fin (k0_t9_loop v107 v109).trips, ∀ a, (k0_off257 v2 v10 v18 v26 v34 v42 v50 v58 k0_t7) a + S1x1x256.size a ≤ S8x32x256.size a) ∧
  (∀ k0_t9 : Fin (k0_t9_loop v107 v109).trips, ∀ a, (k0_off258 v2 v10 v18 v26 v34 v42 v50 v58 k0_t7) a + S1x1x256.size a ≤ S8x32x256.size a) ∧
  (∀ k0_t9 : Fin (k0_t9_loop v107 v109).trips, ∀ a, (k0_off259 v2 v10 v18 v26 v34 v42 v50 v58 k0_t7) a + S1x1x256.size a ≤ S8x32x256.size a) ∧
  (∀ k0_t9 : Fin (k0_t9_loop v107 v109).trips, ∀ a, (k0_off260 v107 v109 k0_t9) a + S128x256.size a ≤ S256x4096.size a) ∧
  (∀ k0_t9 : Fin (k0_t9_loop v107 v109).trips, ∀ a, (k0_off261 v107 v109 k0_t9) a + S128x256.size a ≤ S256x4096.size a) ∧
  (∀ k0_t9 : Fin (k0_t9_loop v107 v109).trips, ∀ a, (k0_off262 v2 v10 v18 v26 v34 v42 v50 v58 k0_t7) a + S1x256x256.size a ≤ S8x2048x256.size a) ∧
  (∀ k0_t9 : Fin (k0_t9_loop v107 v109).trips, ∀ a, (k0_off263 v2 v10 v18 v26 v34 v42 v50 v58 k0_t7) a + S1x1x256.size a ≤ S8x32x256.size a) ∧
  (∀ k0_t9 : Fin (k0_t9_loop v107 v109).trips, ∀ a, (k0_off264 v2 v10 v18 v26 v34 v42 v50 v58 k0_t7) a + S1x1x256.size a ≤ S8x32x256.size a) ∧
  (∀ k0_t9 : Fin (k0_t9_loop v107 v109).trips, ∀ a, (k0_off265 v2 v10 v18 v26 v34 v42 v50 v58 k0_t7) a + S1x1x256.size a ≤ S8x32x256.size a) ∧
  (∀ k0_t9 : Fin (k0_t9_loop v107 v109).trips, ∀ a, (k0_off266 v2 v10 v18 v26 v34 v42 v50 v58 k0_t7) a + S1x1x256.size a ≤ S8x32x256.size a) ∧
  (∀ k0_t9 : Fin (k0_t9_loop v107 v109).trips, ∀ a, (k0_off267 v107 v109 k0_t9) a + S128x256.size a ≤ S256x4096.size a) ∧
  (∀ k0_t9 : Fin (k0_t9_loop v107 v109).trips, ∀ a, (k0_off268 v107 v109 k0_t9) a + S128x256.size a ≤ S256x4096.size a) ∧
  (∀ k0_t9 : Fin (k0_t9_loop v107 v109).trips, ∀ a, (k0_off269 v2 v10 v18 v26 v34 v42 v50 v58 k0_t7) a + S1x256x256.size a ≤ S8x2048x256.size a) ∧
  (∀ k0_t9 : Fin (k0_t9_loop v107 v109).trips, ∀ a, (k0_off270 v2 v10 v18 v26 v34 v42 v50 v58 k0_t7) a + S1x1x256.size a ≤ S8x32x256.size a) ∧
  (∀ k0_t9 : Fin (k0_t9_loop v107 v109).trips, ∀ a, (k0_off271 v2 v10 v18 v26 v34 v42 v50 v58 k0_t7) a + S1x1x256.size a ≤ S8x32x256.size a) ∧
  (∀ k0_t9 : Fin (k0_t9_loop v107 v109).trips, ∀ a, (k0_off272 v2 v10 v18 v26 v34 v42 v50 v58 k0_t7) a + S1x1x256.size a ≤ S8x32x256.size a) ∧
  (∀ k0_t9 : Fin (k0_t9_loop v107 v109).trips, ∀ a, (k0_off273 v2 v10 v18 v26 v34 v42 v50 v58 k0_t7) a + S1x1x256.size a ≤ S8x32x256.size a) ∧
  (∀ k0_t9 : Fin (k0_t9_loop v107 v109).trips, ∀ a, (k0_off274 v107 v109 k0_t9) a + S128x256.size a ≤ S256x4096.size a) ∧
  (∀ k0_t9 : Fin (k0_t9_loop v107 v109).trips, ∀ a, (k0_off275 v107 v109 k0_t9) a + S128x256.size a ≤ S256x4096.size a) ∧
  (∀ k0_t9 : Fin (k0_t9_loop v107 v109).trips, ∀ a, (k0_off276 v2 v10 v18 v26 v34 v42 v50 v58 k0_t7) a + S1x256x256.size a ≤ S8x2048x256.size a) ∧
  (∀ k0_t9 : Fin (k0_t9_loop v107 v109).trips, ∀ a, (k0_off277 v2 v10 v18 v26 v34 v42 v50 v58 k0_t7) a + S1x1x256.size a ≤ S8x32x256.size a) ∧
  (∀ k0_t9 : Fin (k0_t9_loop v107 v109).trips, ∀ a, (k0_off278 v2 v10 v18 v26 v34 v42 v50 v58 k0_t7) a + S1x1x256.size a ≤ S8x32x256.size a) ∧
  (∀ k0_t9 : Fin (k0_t9_loop v107 v109).trips, ∀ a, (k0_off279 v2 v10 v18 v26 v34 v42 v50 v58 k0_t7) a + S1x1x256.size a ≤ S8x32x256.size a) ∧
  (∀ k0_t9 : Fin (k0_t9_loop v107 v109).trips, ∀ a, (k0_off280 v2 v10 v18 v26 v34 v42 v50 v58 k0_t7) a + S1x1x256.size a ≤ S8x32x256.size a) ∧
  (∀ k0_t9 : Fin (k0_t9_loop v107 v109).trips, ∀ a, (k0_off281 v107 v109 k0_t9) a + S128x256.size a ≤ S256x4096.size a) ∧
  (∀ k0_t9 : Fin (k0_t9_loop v107 v109).trips, ∀ a, (k0_off282 v107 v109 k0_t9) a + S128x256.size a ≤ S256x4096.size a) ∧
  (∀ k0_t9 : Fin (k0_t9_loop v107 v109).trips, ∀ a, (k0_off283 v2 v10 v18 v26 v34 v42 v50 v58 k0_t7) a + S1x256x256.size a ≤ S8x2048x256.size a) ∧
  (∀ k0_t9 : Fin (k0_t9_loop v107 v109).trips, ∀ a, (k0_off284 v2 v10 v18 v26 v34 v42 v50 v58 k0_t7) a + S1x1x256.size a ≤ S8x32x256.size a) ∧
  (∀ k0_t9 : Fin (k0_t9_loop v107 v109).trips, ∀ a, (k0_off285 v2 v10 v18 v26 v34 v42 v50 v58 k0_t7) a + S1x1x256.size a ≤ S8x32x256.size a) ∧
  (∀ k0_t9 : Fin (k0_t9_loop v107 v109).trips, ∀ a, (k0_off286 v2 v10 v18 v26 v34 v42 v50 v58 k0_t7) a + S1x1x256.size a ≤ S8x32x256.size a) ∧
  (∀ k0_t9 : Fin (k0_t9_loop v107 v109).trips, ∀ a, (k0_off287 v2 v10 v18 v26 v34 v42 v50 v58 k0_t7) a + S1x1x256.size a ≤ S8x32x256.size a) ∧
  (∀ k0_t9 : Fin (k0_t9_loop v107 v109).trips, ∀ a, (k0_off288 v107 v109 k0_t9) a + S128x256.size a ≤ S256x4096.size a)
def k0_chk18_3 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) : Prop :=
  (∀ k0_t9 : Fin (k0_t9_loop v107 v109).trips, ∀ a, (k0_off289 v107 v109 k0_t9) a + S128x256.size a ≤ S256x4096.size a) ∧
  (∀ k0_t9 : Fin (k0_t9_loop v107 v109).trips, ∀ a, (k0_off290 v2 v10 v18 v26 v34 v42 v50 v58 k0_t7) a + S1x256x256.size a ≤ S8x2048x256.size a) ∧
  (∀ k0_t9 : Fin (k0_t9_loop v107 v109).trips, ∀ a, (k0_off291 v2 v10 v18 v26 v34 v42 v50 v58 k0_t7) a + S1x1x256.size a ≤ S8x32x256.size a) ∧
  (∀ k0_t9 : Fin (k0_t9_loop v107 v109).trips, ∀ a, (k0_off292 v2 v10 v18 v26 v34 v42 v50 v58 k0_t7) a + S1x1x256.size a ≤ S8x32x256.size a) ∧
  (∀ k0_t9 : Fin (k0_t9_loop v107 v109).trips, ∀ a, (k0_off293 v2 v10 v18 v26 v34 v42 v50 v58 k0_t7) a + S1x1x256.size a ≤ S8x32x256.size a) ∧
  (∀ k0_t9 : Fin (k0_t9_loop v107 v109).trips, ∀ a, (k0_off294 v2 v10 v18 v26 v34 v42 v50 v58 k0_t7) a + S1x1x256.size a ≤ S8x32x256.size a) ∧
  (∀ k0_t9 : Fin (k0_t9_loop v107 v109).trips, ∀ a, (k0_off295 v107 v109 k0_t9) a + S128x256.size a ≤ S256x4096.size a) ∧
  (∀ k0_t9 : Fin (k0_t9_loop v107 v109).trips, ∀ a, (k0_off296 v107 v109 k0_t9) a + S128x256.size a ≤ S256x4096.size a) ∧
  (∀ k0_t9 : Fin (k0_t9_loop v107 v109).trips, ∀ a, (k0_off297 v2 v10 v18 v26 v34 v42 v50 v58 k0_t7) a + S1x256x256.size a ≤ S8x2048x256.size a) ∧
  (∀ k0_t9 : Fin (k0_t9_loop v107 v109).trips, ∀ a, (k0_off298 v2 v10 v18 v26 v34 v42 v50 v58 k0_t7) a + S1x1x256.size a ≤ S8x32x256.size a) ∧
  (∀ k0_t9 : Fin (k0_t9_loop v107 v109).trips, ∀ a, (k0_off299 v2 v10 v18 v26 v34 v42 v50 v58 k0_t7) a + S1x1x256.size a ≤ S8x32x256.size a) ∧
  (∀ k0_t9 : Fin (k0_t9_loop v107 v109).trips, ∀ a, (k0_off300 v2 v10 v18 v26 v34 v42 v50 v58 k0_t7) a + S1x1x256.size a ≤ S8x32x256.size a) ∧
  (∀ k0_t9 : Fin (k0_t9_loop v107 v109).trips, ∀ a, (k0_off301 v2 v10 v18 v26 v34 v42 v50 v58 k0_t7) a + S1x1x256.size a ≤ S8x32x256.size a) ∧
  (∀ k0_t9 : Fin (k0_t9_loop v107 v109).trips, ∀ a, (k0_off302 v107 v109 k0_t9) a + S128x256.size a ≤ S256x4096.size a) ∧
  (∀ k0_t9 : Fin (k0_t9_loop v107 v109).trips, ∀ a, (k0_off303 v107 v109 k0_t9) a + S128x256.size a ≤ S256x4096.size a) ∧
  (∀ k0_t9 : Fin (k0_t9_loop v107 v109).trips, ∀ a, (k0_off304 v2 v10 v18 v26 v34 v42 v50 v58 k0_t7) a + S1x256x256.size a ≤ S8x2048x256.size a) ∧
  (∀ k0_t9 : Fin (k0_t9_loop v107 v109).trips, ∀ a, (k0_off305 v2 v10 v18 v26 v34 v42 v50 v58 k0_t7) a + S1x1x256.size a ≤ S8x32x256.size a) ∧
  (∀ k0_t9 : Fin (k0_t9_loop v107 v109).trips, ∀ a, (k0_off306 v2 v10 v18 v26 v34 v42 v50 v58 k0_t7) a + S1x1x256.size a ≤ S8x32x256.size a) ∧
  (∀ k0_t9 : Fin (k0_t9_loop v107 v109).trips, ∀ a, (k0_off307 v2 v10 v18 v26 v34 v42 v50 v58 k0_t7) a + S1x1x256.size a ≤ S8x32x256.size a) ∧
  (∀ k0_t9 : Fin (k0_t9_loop v107 v109).trips, ∀ a, (k0_off308 v2 v10 v18 v26 v34 v42 v50 v58 k0_t7) a + S1x1x256.size a ≤ S8x32x256.size a) ∧
  (∀ k0_t9 : Fin (k0_t9_loop v107 v109).trips, ∀ a, (k0_off309 v107 v109 k0_t9) a + S128x256.size a ≤ S256x4096.size a) ∧
  (∀ k0_t9 : Fin (k0_t9_loop v107 v109).trips, ∀ a, (k0_off310 v107 v109 k0_t9) a + S128x256.size a ≤ S256x4096.size a) ∧
  (∀ k0_t9 : Fin (k0_t9_loop v107 v109).trips, ∀ a, (k0_off311 v2 v10 v18 v26 v34 v42 v50 v58 k0_t7 v107 v109 k0_t9) a + S128x256.size a ≤ S256x1792.size a) ∧
  (∀ k0_t9 : Fin (k0_t9_loop v107 v109).trips, ∀ (hinb : ∀ a, (k0_off311 v2 v10 v18 v26 v34 v42 v50 v58 k0_t7 v107 v109 k0_t9) a + S128x256.size a ≤ S256x1792.size a), (Rect.unit (s := S256x1792) (k0_off311 v2 v10 v18 v26 v34 v42 v50 v58 k0_t7 v107 v109 k0_t9) S128x256.size hinb).PackedRows (EltTy.packing .bf16))
def k0_chk18 (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) : Prop :=
  k0_chk18_0 v2 v10 v18 v26 v34 v42 v50 v58 k0_t7 v107 v109 ∧
  k0_chk18_1 v2 v10 v18 v26 v34 v42 v50 v58 k0_t7 v107 v109 ∧
  k0_chk18_2 v2 v10 v18 v26 v34 v42 v50 v58 k0_t7 v107 v109 ∧
  k0_chk18_3 v2 v10 v18 v26 v34 v42 v50 v58 k0_t7 v107 v109
theorem k0_t8_ok : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109), (k0_t8_loop v107 v109).OK := fun v2 v10 v18 v26 v34 v42 v50 v58 k0_t7 v107 v109 k0_hw18 => k0_hw18.1.1
theorem k0_mult12_dvd : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), 16 ∣ (k0_mult12 v107 v109 k0_t8).toNat := fun v2 v10 v18 v26 v34 v42 v50 v58 k0_t7 v107 v109 k0_hw18 k0_t8 => k0_hw18.1.2.1 k0_t8
theorem k0_off198_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off198 v2 v10 v18 v26 v34 v42 v50 v58 k0_t7) a + S1x256x256.size a ≤ S8x2048x256.size a := fun v2 v10 v18 v26 v34 v42 v50 v58 k0_t7 v107 v109 k0_hw18 k0_t8 => k0_hw18.1.2.2.1 k0_t8
theorem k0_off199_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off199 v2 v10 v18 v26 v34 v42 v50 v58 k0_t7) a + S1x1x256.size a ≤ S8x32x256.size a := fun v2 v10 v18 v26 v34 v42 v50 v58 k0_t7 v107 v109 k0_hw18 k0_t8 => k0_hw18.1.2.2.2.1 k0_t8
theorem k0_off200_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off200 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.1 k0_t8
theorem k0_off201_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off201 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.1 k0_t8
theorem k0_off202_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off202 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.1 k0_t8
theorem k0_off203_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off203 v107 v109 k0_t8) a + S128x256.size a ≤ S256x4096.size a := fun v2 v10 v18 v26 v34 v42 v50 v58 k0_t7 v107 v109 k0_hw18 k0_t8 => k0_hw18.1.2.2.2.2.2.2.2.1 k0_t8
theorem k0_off204_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off204 v107 v109 k0_t8) a + S128x256.size a ≤ S256x4096.size a := fun v2 v10 v18 v26 v34 v42 v50 v58 k0_t7 v107 v109 k0_hw18 k0_t8 => k0_hw18.1.2.2.2.2.2.2.2.2.1 k0_t8
theorem k0_off205_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off205 v2 v10 v18 v26 v34 v42 v50 v58 k0_t7) a + S1x256x256.size a ≤ S8x2048x256.size a := fun v2 v10 v18 v26 v34 v42 v50 v58 k0_t7 v107 v109 k0_hw18 k0_t8 => k0_hw18.1.2.2.2.2.2.2.2.2.2.1 k0_t8
theorem k0_off206_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off206 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.1 k0_t8
theorem k0_off207_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off207 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.1 k0_t8
theorem k0_off208_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off208 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.1 k0_t8
theorem k0_off209_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off209 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.1 k0_t8
theorem k0_off210_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off210 v107 v109 k0_t8) a + S128x256.size a ≤ S256x4096.size a := fun v2 v10 v18 v26 v34 v42 v50 v58 k0_t7 v107 v109 k0_hw18 k0_t8 => k0_hw18.1.2.2.2.2.2.2.2.2.2.2.2.2.2.2.1 k0_t8
theorem k0_off211_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off211 v107 v109 k0_t8) a + S128x256.size a ≤ S256x4096.size a := fun v2 v10 v18 v26 v34 v42 v50 v58 k0_t7 v107 v109 k0_hw18 k0_t8 => k0_hw18.1.2.2.2.2.2.2.2.2.2.2.2.2.2.2.2.1 k0_t8
theorem k0_off212_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off212 v2 v10 v18 v26 v34 v42 v50 v58 k0_t7) a + S1x256x256.size a ≤ S8x2048x256.size a := fun v2 v10 v18 v26 v34 v42 v50 v58 k0_t7 v107 v109 k0_hw18 k0_t8 => k0_hw18.1.2.2.2.2.2.2.2.2.2.2.2.2.2.2.2.2.1 k0_t8
theorem k0_off213_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off213 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.1 k0_t8
theorem k0_off214_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off214 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.1 k0_t8
theorem k0_off215_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off215 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.1 k0_t8
theorem k0_off216_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off216 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.1 k0_t8
theorem k0_off217_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off217 v107 v109 k0_t8) a + S128x256.size a ≤ S256x4096.size a := fun v2 v10 v18 v26 v34 v42 v50 v58 k0_t7 v107 v109 k0_hw18 k0_t8 => k0_hw18.1.2.2.2.2.2.2.2.2.2.2.2.2.2.2.2.2.2.2.2.2.2.1 k0_t8
theorem k0_off218_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off218 v107 v109 k0_t8) a + S128x256.size a ≤ S256x4096.size a := fun v2 v10 v18 v26 v34 v42 v50 v58 k0_t7 v107 v109 k0_hw18 k0_t8 => k0_hw18.1.2.2.2.2.2.2.2.2.2.2.2.2.2.2.2.2.2.2.2.2.2.2.1 k0_t8
theorem k0_off219_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off219 v2 v10 v18 v26 v34 v42 v50 v58 k0_t7) a + S1x256x256.size a ≤ S8x2048x256.size a := fun v2 v10 v18 v26 v34 v42 v50 v58 k0_t7 v107 v109 k0_hw18 k0_t8 => k0_hw18.1.2.2.2.2.2.2.2.2.2.2.2.2.2.2.2.2.2.2.2.2.2.2.2.1 k0_t8
theorem k0_off220_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off220 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.2.2.2.2.1 k0_t8
theorem k0_off221_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off221 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.2.2.2.2.2.1 k0_t8
theorem k0_off222_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off222 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.2.2.2.2.2.2.1 k0_t8
theorem k0_off223_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off223 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.2.2.2.2.2.2.2.1 k0_t8
theorem k0_off224_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off224 v107 v109 k0_t8) a + S128x256.size a ≤ S256x4096.size a := fun v2 v10 v18 v26 v34 v42 v50 v58 k0_t7 v107 v109 k0_hw18 k0_t8 => k0_hw18.1.2.2.2.2.2.2.2.2.2.2.2.2.2.2.2.2.2.2.2.2.2.2.2.2.2.2.2.2.1 k0_t8
theorem k0_off225_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off225 v107 v109 k0_t8) a + S128x256.size a ≤ S256x4096.size a := fun v2 v10 v18 v26 v34 v42 v50 v58 k0_t7 v107 v109 k0_hw18 k0_t8 => k0_hw18.1.2.2.2.2.2.2.2.2.2.2.2.2.2.2.2.2.2.2.2.2.2.2.2.2.2.2.2.2.2.1 k0_t8
theorem k0_off226_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off226 v2 v10 v18 v26 v34 v42 v50 v58 k0_t7) a + S1x256x256.size a ≤ S8x2048x256.size a := fun v2 v10 v18 v26 v34 v42 v50 v58 k0_t7 v107 v109 k0_hw18 k0_t8 => k0_hw18.1.2.2.2.2.2.2.2.2.2.2.2.2.2.2.2.2.2.2.2.2.2.2.2.2.2.2.2.2.2.2.1 k0_t8
theorem k0_off227_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off227 v2 v10 v18 v26 v34 v42 v50 v58 k0_t7) a + S1x1x256.size a ≤ S8x32x256.size a := fun v2 v10 v18 v26 v34 v42 v50 v58 k0_t7 v107 v109 k0_hw18 k0_t8 => k0_hw18.1.2.2.2.2.2.2.2.2.2.2.2.2.2.2.2.2.2.2.2.2.2.2.2.2.2.2.2.2.2.2.2 k0_t8
theorem k0_off228_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off228 v2 v10 v18 v26 v34 v42 v50 v58 k0_t7) a + S1x1x256.size a ≤ S8x32x256.size a := fun v2 v10 v18 v26 v34 v42 v50 v58 k0_t7 v107 v109 k0_hw18 k0_t8 => k0_hw18.2.1.1 k0_t8
theorem k0_off229_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off229 v2 v10 v18 v26 v34 v42 v50 v58 k0_t7) a + S1x1x256.size a ≤ S8x32x256.size a := fun v2 v10 v18 v26 v34 v42 v50 v58 k0_t7 v107 v109 k0_hw18 k0_t8 => k0_hw18.2.1.2.1 k0_t8
theorem k0_off230_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off230 v2 v10 v18 v26 v34 v42 v50 v58 k0_t7) a + S1x1x256.size a ≤ S8x32x256.size a := fun v2 v10 v18 v26 v34 v42 v50 v58 k0_t7 v107 v109 k0_hw18 k0_t8 => k0_hw18.2.1.2.2.1 k0_t8
theorem k0_off231_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off231 v107 v109 k0_t8) a + S128x256.size a ≤ S256x4096.size a := fun v2 v10 v18 v26 v34 v42 v50 v58 k0_t7 v107 v109 k0_hw18 k0_t8 => k0_hw18.2.1.2.2.2.1 k0_t8
theorem k0_off232_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off232 v107 v109 k0_t8) a + S128x256.size a ≤ S256x4096.size a := fun v2 v10 v18 v26 v34 v42 v50 v58 k0_t7 v107 v109 k0_hw18 k0_t8 => k0_hw18.2.1.2.2.2.2.1 k0_t8
theorem k0_off233_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off233 v2 v10 v18 v26 v34 v42 v50 v58 k0_t7) a + S1x256x256.size a ≤ S8x2048x256.size a := fun v2 v10 v18 v26 v34 v42 v50 v58 k0_t7 v107 v109 k0_hw18 k0_t8 => k0_hw18.2.1.2.2.2.2.2.1 k0_t8
theorem k0_off234_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off234 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.1 k0_t8
theorem k0_off235_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off235 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.1 k0_t8
theorem k0_off236_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off236 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.1 k0_t8
theorem k0_off237_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off237 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.1 k0_t8
theorem k0_off238_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off238 v107 v109 k0_t8) a + S128x256.size a ≤ S256x4096.size a := fun v2 v10 v18 v26 v34 v42 v50 v58 k0_t7 v107 v109 k0_hw18 k0_t8 => k0_hw18.2.1.2.2.2.2.2.2.2.2.2.2.1 k0_t8
theorem k0_off239_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off239 v107 v109 k0_t8) a + S128x256.size a ≤ S256x4096.size a := fun v2 v10 v18 v26 v34 v42 v50 v58 k0_t7 v107 v109 k0_hw18 k0_t8 => k0_hw18.2.1.2.2.2.2.2.2.2.2.2.2.2.1 k0_t8
theorem k0_off240_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off240 v2 v10 v18 v26 v34 v42 v50 v58 k0_t7) a + S1x256x256.size a ≤ S8x2048x256.size a := fun v2 v10 v18 v26 v34 v42 v50 v58 k0_t7 v107 v109 k0_hw18 k0_t8 => k0_hw18.2.1.2.2.2.2.2.2.2.2.2.2.2.2.1 k0_t8
theorem k0_off241_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off241 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.1 k0_t8
theorem k0_off242_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off242 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.1 k0_t8
theorem k0_off243_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off243 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.1 k0_t8
theorem k0_off244_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off244 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.2.1 k0_t8
theorem k0_off245_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off245 v107 v109 k0_t8) a + S128x256.size a ≤ S256x4096.size a := fun v2 v10 v18 v26 v34 v42 v50 v58 k0_t7 v107 v109 k0_hw18 k0_t8 => k0_hw18.2.1.2.2.2.2.2.2.2.2.2.2.2.2.2.2.2.2.2.1 k0_t8
theorem k0_off246_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off246 v107 v109 k0_t8) a + S128x256.size a ≤ S256x4096.size a := fun v2 v10 v18 v26 v34 v42 v50 v58 k0_t7 v107 v109 k0_hw18 k0_t8 => k0_hw18.2.1.2.2.2.2.2.2.2.2.2.2.2.2.2.2.2.2.2.2.1 k0_t8
theorem k0_off247_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off247 v2 v10 v18 v26 v34 v42 v50 v58 k0_t7) a + S1x256x256.size a ≤ S8x2048x256.size a := fun v2 v10 v18 v26 v34 v42 v50 v58 k0_t7 v107 v109 k0_hw18 k0_t8 => k0_hw18.2.1.2.2.2.2.2.2.2.2.2.2.2.2.2.2.2.2.2.2.2.1 k0_t8
theorem k0_off248_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off248 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.2.2.2.2.2.1 k0_t8
theorem k0_off249_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off249 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.2.2.2.2.2.2.1 k0_t8
theorem k0_off250_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off250 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.2.2.2.2.2.2.2.1 k0_t8
theorem k0_off251_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off251 v2 v10 v18 v26 v34 v42 v50 v58 k0_t7) a + S1x1x256.size a ≤ S8x32x256.size a := fun v2 v10 v18 v26 v34 v42 v50 v58 k0_t7 v107 v109 k0_hw18 k0_t8 => k0_hw18.2.1.2.2.2.2.2.2.2.2.2.2.2.2.2.2.2.2.2.2.2.2.2.2.2.1 k0_t8
theorem k0_off252_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off252 v107 v109 k0_t8) a + S128x256.size a ≤ S256x4096.size a := fun v2 v10 v18 v26 v34 v42 v50 v58 k0_t7 v107 v109 k0_hw18 k0_t8 => k0_hw18.2.1.2.2.2.2.2.2.2.2.2.2.2.2.2.2.2.2.2.2.2.2.2.2.2.2.1 k0_t8
theorem k0_off253_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off253 v107 v109 k0_t8) a + S128x256.size a ≤ S256x4096.size a := fun v2 v10 v18 v26 v34 v42 v50 v58 k0_t7 v107 v109 k0_hw18 k0_t8 => k0_hw18.2.1.2.2.2.2.2.2.2.2.2.2.2.2.2.2.2.2.2.2.2.2.2.2.2.2.2.1 k0_t8
theorem k0_off254_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), ∀ a, (k0_off254 v2 v10 v18 v26 v34 v42 v50 v58 k0_t7 v107 v109 k0_t8) a + S128x256.size a ≤ S256x1792.size a := fun v2 v10 v18 v26 v34 v42 v50 v58 k0_t7 v107 v109 k0_hw18 k0_t8 => k0_hw18.2.1.2.2.2.2.2.2.2.2.2.2.2.2.2.2.2.2.2.2.2.2.2.2.2.2.2.2.1 k0_t8
theorem k0_off254_packedbf16 : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t8 : Fin (k0_t8_loop v107 v109).trips), (Rect.unit (s := S256x1792) (k0_off254 v2 v10 v18 v26 v34 v42 v50 v58 k0_t7 v107 v109 k0_t8) S128x256.size (k0_off254_inb v2 v10 v18 v26 v34 v42 v50 v58 k0_t7 v107 v109 k0_hw18 k0_t8)).PackedRows (EltTy.packing .bf16) := fun v2 v10 v18 v26 v34 v42 v50 v58 k0_t7 v107 v109 k0_hw18 k0_t8 => k0_hw18.2.1.2.2.2.2.2.2.2.2.2.2.2.2.2.2.2.2.2.2.2.2.2.2.2.2.2.2.2.1 k0_t8 (k0_off254_inb v2 v10 v18 v26 v34 v42 v50 v58 k0_t7 v107 v109 k0_hw18 k0_t8)
theorem k0_t9_ok : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109), (k0_t9_loop v107 v109).OK := fun v2 v10 v18 v26 v34 v42 v50 v58 k0_t7 v107 v109 k0_hw18 => k0_hw18.2.1.2.2.2.2.2.2.2.2.2.2.2.2.2.2.2.2.2.2.2.2.2.2.2.2.2.2.2.2.1
theorem k0_mult13_dvd : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), 16 ∣ (k0_mult13 v107 v109 k0_t9).toNat := fun v2 v10 v18 v26 v34 v42 v50 v58 k0_t7 v107 v109 k0_hw18 k0_t9 => k0_hw18.2.1.2.2.2.2.2.2.2.2.2.2.2.2.2.2.2.2.2.2.2.2.2.2.2.2.2.2.2.2.2.1 k0_t9
theorem k0_off255_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off255 v2 v10 v18 v26 v34 v42 v50 v58 k0_t7) a + S1x256x256.size a ≤ S8x2048x256.size a := fun v2 v10 v18 v26 v34 v42 v50 v58 k0_t7 v107 v109 k0_hw18 k0_t9 => k0_hw18.2.1.2.2.2.2.2.2.2.2.2.2.2.2.2.2.2.2.2.2.2.2.2.2.2.2.2.2.2.2.2.2.1 k0_t9
theorem k0_off256_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off256 v2 v10 v18 v26 v34 v42 v50 v58 k0_t7) a + S1x1x256.size a ≤ S8x32x256.size a := fun v2 v10 v18 v26 v34 v42 v50 v58 k0_t7 v107 v109 k0_hw18 k0_t9 => k0_hw18.2.1.2.2.2.2.2.2.2.2.2.2.2.2.2.2.2.2.2.2.2.2.2.2.2.2.2.2.2.2.2.2.2 k0_t9
theorem k0_off257_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off257 v2 v10 v18 v26 v34 v42 v50 v58 k0_t7) a + S1x1x256.size a ≤ S8x32x256.size a := fun v2 v10 v18 v26 v34 v42 v50 v58 k0_t7 v107 v109 k0_hw18 k0_t9 => k0_hw18.2.2.1.1 k0_t9
theorem k0_off258_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off258 v2 v10 v18 v26 v34 v42 v50 v58 k0_t7) a + S1x1x256.size a ≤ S8x32x256.size a := fun v2 v10 v18 v26 v34 v42 v50 v58 k0_t7 v107 v109 k0_hw18 k0_t9 => k0_hw18.2.2.1.2.1 k0_t9
theorem k0_off259_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off259 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.1 k0_t9
theorem k0_off260_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off260 v107 v109 k0_t9) a + S128x256.size a ≤ S256x4096.size a := fun v2 v10 v18 v26 v34 v42 v50 v58 k0_t7 v107 v109 k0_hw18 k0_t9 => k0_hw18.2.2.1.2.2.2.1 k0_t9
theorem k0_off261_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off261 v107 v109 k0_t9) a + S128x256.size a ≤ S256x4096.size a := fun v2 v10 v18 v26 v34 v42 v50 v58 k0_t7 v107 v109 k0_hw18 k0_t9 => k0_hw18.2.2.1.2.2.2.2.1 k0_t9
theorem k0_off262_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off262 v2 v10 v18 v26 v34 v42 v50 v58 k0_t7) a + S1x256x256.size a ≤ S8x2048x256.size a := fun v2 v10 v18 v26 v34 v42 v50 v58 k0_t7 v107 v109 k0_hw18 k0_t9 => k0_hw18.2.2.1.2.2.2.2.2.1 k0_t9
theorem k0_off263_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off263 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.1 k0_t9
theorem k0_off264_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off264 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.1 k0_t9
theorem k0_off265_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off265 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.1 k0_t9
theorem k0_off266_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off266 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.1 k0_t9
theorem k0_off267_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off267 v107 v109 k0_t9) a + S128x256.size a ≤ S256x4096.size a := fun v2 v10 v18 v26 v34 v42 v50 v58 k0_t7 v107 v109 k0_hw18 k0_t9 => k0_hw18.2.2.1.2.2.2.2.2.2.2.2.2.2.1 k0_t9
theorem k0_off268_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off268 v107 v109 k0_t9) a + S128x256.size a ≤ S256x4096.size a := fun v2 v10 v18 v26 v34 v42 v50 v58 k0_t7 v107 v109 k0_hw18 k0_t9 => k0_hw18.2.2.1.2.2.2.2.2.2.2.2.2.2.2.1 k0_t9
theorem k0_off269_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off269 v2 v10 v18 v26 v34 v42 v50 v58 k0_t7) a + S1x256x256.size a ≤ S8x2048x256.size a := fun v2 v10 v18 v26 v34 v42 v50 v58 k0_t7 v107 v109 k0_hw18 k0_t9 => k0_hw18.2.2.1.2.2.2.2.2.2.2.2.2.2.2.2.1 k0_t9
theorem k0_off270_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off270 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.1 k0_t9
theorem k0_off271_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off271 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.1 k0_t9
theorem k0_off272_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off272 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.1 k0_t9
theorem k0_off273_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off273 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.1 k0_t9
theorem k0_off274_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off274 v107 v109 k0_t9) a + S128x256.size a ≤ S256x4096.size a := fun v2 v10 v18 v26 v34 v42 v50 v58 k0_t7 v107 v109 k0_hw18 k0_t9 => k0_hw18.2.2.1.2.2.2.2.2.2.2.2.2.2.2.2.2.2.2.2.2.1 k0_t9
theorem k0_off275_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off275 v107 v109 k0_t9) a + S128x256.size a ≤ S256x4096.size a := fun v2 v10 v18 v26 v34 v42 v50 v58 k0_t7 v107 v109 k0_hw18 k0_t9 => k0_hw18.2.2.1.2.2.2.2.2.2.2.2.2.2.2.2.2.2.2.2.2.2.1 k0_t9
theorem k0_off276_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off276 v2 v10 v18 v26 v34 v42 v50 v58 k0_t7) a + S1x256x256.size a ≤ S8x2048x256.size a := fun v2 v10 v18 v26 v34 v42 v50 v58 k0_t7 v107 v109 k0_hw18 k0_t9 => k0_hw18.2.2.1.2.2.2.2.2.2.2.2.2.2.2.2.2.2.2.2.2.2.2.1 k0_t9
theorem k0_off277_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off277 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.1 k0_t9
theorem k0_off278_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off278 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.1 k0_t9
theorem k0_off279_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off279 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.1 k0_t9
theorem k0_off280_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off280 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.2.1 k0_t9
theorem k0_off281_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off281 v107 v109 k0_t9) a + S128x256.size a ≤ S256x4096.size a := fun v2 v10 v18 v26 v34 v42 v50 v58 k0_t7 v107 v109 k0_hw18 k0_t9 => k0_hw18.2.2.1.2.2.2.2.2.2.2.2.2.2.2.2.2.2.2.2.2.2.2.2.2.2.2.2.1 k0_t9
theorem k0_off282_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off282 v107 v109 k0_t9) a + S128x256.size a ≤ S256x4096.size a := fun v2 v10 v18 v26 v34 v42 v50 v58 k0_t7 v107 v109 k0_hw18 k0_t9 => k0_hw18.2.2.1.2.2.2.2.2.2.2.2.2.2.2.2.2.2.2.2.2.2.2.2.2.2.2.2.2.1 k0_t9
theorem k0_off283_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off283 v2 v10 v18 v26 v34 v42 v50 v58 k0_t7) a + S1x256x256.size a ≤ S8x2048x256.size a := fun v2 v10 v18 v26 v34 v42 v50 v58 k0_t7 v107 v109 k0_hw18 k0_t9 => k0_hw18.2.2.1.2.2.2.2.2.2.2.2.2.2.2.2.2.2.2.2.2.2.2.2.2.2.2.2.2.2.1 k0_t9
theorem k0_off284_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off284 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.2.2.2.2.2.1 k0_t9
theorem k0_off285_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off285 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.2.2.2.2.2.2.1 k0_t9
theorem k0_off286_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off286 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.2.2.2.2.2.2.2.1 k0_t9
theorem k0_off287_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off287 v2 v10 v18 v26 v34 v42 v50 v58 k0_t7) a + S1x1x256.size a ≤ S8x32x256.size a := fun v2 v10 v18 v26 v34 v42 v50 v58 k0_t7 v107 v109 k0_hw18 k0_t9 => k0_hw18.2.2.1.2.2.2.2.2.2.2.2.2.2.2.2.2.2.2.2.2.2.2.2.2.2.2.2.2.2.2.2.2.2.1 k0_t9
theorem k0_off288_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off288 v107 v109 k0_t9) a + S128x256.size a ≤ S256x4096.size a := fun v2 v10 v18 v26 v34 v42 v50 v58 k0_t7 v107 v109 k0_hw18 k0_t9 => k0_hw18.2.2.1.2.2.2.2.2.2.2.2.2.2.2.2.2.2.2.2.2.2.2.2.2.2.2.2.2.2.2.2.2.2.2 k0_t9
theorem k0_off289_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off289 v107 v109 k0_t9) a + S128x256.size a ≤ S256x4096.size a := fun v2 v10 v18 v26 v34 v42 v50 v58 k0_t7 v107 v109 k0_hw18 k0_t9 => k0_hw18.2.2.2.1 k0_t9
theorem k0_off290_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off290 v2 v10 v18 v26 v34 v42 v50 v58 k0_t7) a + S1x256x256.size a ≤ S8x2048x256.size a := fun v2 v10 v18 v26 v34 v42 v50 v58 k0_t7 v107 v109 k0_hw18 k0_t9 => k0_hw18.2.2.2.2.1 k0_t9
theorem k0_off291_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off291 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.1 k0_t9
theorem k0_off292_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off292 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.1 k0_t9
theorem k0_off293_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off293 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.1 k0_t9
theorem k0_off294_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off294 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.1 k0_t9
theorem k0_off295_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off295 v107 v109 k0_t9) a + S128x256.size a ≤ S256x4096.size a := fun v2 v10 v18 v26 v34 v42 v50 v58 k0_t7 v107 v109 k0_hw18 k0_t9 => k0_hw18.2.2.2.2.2.2.2.2.2.1 k0_t9
theorem k0_off296_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off296 v107 v109 k0_t9) a + S128x256.size a ≤ S256x4096.size a := fun v2 v10 v18 v26 v34 v42 v50 v58 k0_t7 v107 v109 k0_hw18 k0_t9 => k0_hw18.2.2.2.2.2.2.2.2.2.2.1 k0_t9
theorem k0_off297_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off297 v2 v10 v18 v26 v34 v42 v50 v58 k0_t7) a + S1x256x256.size a ≤ S8x2048x256.size a := fun v2 v10 v18 v26 v34 v42 v50 v58 k0_t7 v107 v109 k0_hw18 k0_t9 => k0_hw18.2.2.2.2.2.2.2.2.2.2.2.1 k0_t9
theorem k0_off298_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off298 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.1 k0_t9
theorem k0_off299_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off299 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.1 k0_t9
theorem k0_off300_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off300 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.1 k0_t9
theorem k0_off301_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off301 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.2.1 k0_t9
theorem k0_off302_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off302 v107 v109 k0_t9) a + S128x256.size a ≤ S256x4096.size a := fun v2 v10 v18 v26 v34 v42 v50 v58 k0_t7 v107 v109 k0_hw18 k0_t9 => k0_hw18.2.2.2.2.2.2.2.2.2.2.2.2.2.2.2.2.1 k0_t9
theorem k0_off303_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off303 v107 v109 k0_t9) a + S128x256.size a ≤ S256x4096.size a := fun v2 v10 v18 v26 v34 v42 v50 v58 k0_t7 v107 v109 k0_hw18 k0_t9 => k0_hw18.2.2.2.2.2.2.2.2.2.2.2.2.2.2.2.2.2.1 k0_t9
theorem k0_off304_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off304 v2 v10 v18 v26 v34 v42 v50 v58 k0_t7) a + S1x256x256.size a ≤ S8x2048x256.size a := fun v2 v10 v18 v26 v34 v42 v50 v58 k0_t7 v107 v109 k0_hw18 k0_t9 => k0_hw18.2.2.2.2.2.2.2.2.2.2.2.2.2.2.2.2.2.2.1 k0_t9
theorem k0_off305_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off305 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.2.2.2.2.2.1 k0_t9
theorem k0_off306_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off306 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.2.2.2.2.2.2.1 k0_t9
theorem k0_off307_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off307 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.2.2.2.2.2.2.2.1 k0_t9
theorem k0_off308_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off308 v2 v10 v18 v26 v34 v42 v50 v58 k0_t7) a + S1x1x256.size a ≤ S8x32x256.size a := fun v2 v10 v18 v26 v34 v42 v50 v58 k0_t7 v107 v109 k0_hw18 k0_t9 => k0_hw18.2.2.2.2.2.2.2.2.2.2.2.2.2.2.2.2.2.2.2.2.2.2.1 k0_t9
theorem k0_off309_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off309 v107 v109 k0_t9) a + S128x256.size a ≤ S256x4096.size a := fun v2 v10 v18 v26 v34 v42 v50 v58 k0_t7 v107 v109 k0_hw18 k0_t9 => k0_hw18.2.2.2.2.2.2.2.2.2.2.2.2.2.2.2.2.2.2.2.2.2.2.2.1 k0_t9
theorem k0_off310_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off310 v107 v109 k0_t9) a + S128x256.size a ≤ S256x4096.size a := fun v2 v10 v18 v26 v34 v42 v50 v58 k0_t7 v107 v109 k0_hw18 k0_t9 => k0_hw18.2.2.2.2.2.2.2.2.2.2.2.2.2.2.2.2.2.2.2.2.2.2.2.2.1 k0_t9
theorem k0_off311_inb : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), ∀ a, (k0_off311 v2 v10 v18 v26 v34 v42 v50 v58 k0_t7 v107 v109 k0_t9) a + S128x256.size a ≤ S256x1792.size a := fun v2 v10 v18 v26 v34 v42 v50 v58 k0_t7 v107 v109 k0_hw18 k0_t9 => k0_hw18.2.2.2.2.2.2.2.2.2.2.2.2.2.2.2.2.2.2.2.2.2.2.2.2.2.1 k0_t9
theorem k0_off311_packedbf16 : ∀ (v2 : BitVec 32) (v10 : BitVec 32) (v18 : BitVec 32) (v26 : BitVec 32) (v34 : BitVec 32) (v42 : BitVec 32) (v50 : BitVec 32) (v58 : BitVec 32) (k0_t7 : Fin (k0_t7_loop v2 v10 v18 v26 v34 v42 v50 v58).trips) (v107 : BitVec 32) (v109 : BitVec 32) (k0_hw18 : k0_chk18 v2 v10 v18 v26 v34 v42 v50 v58 k0_t7 v107 v109) (k0_t9 : Fin (k0_t9_loop v107 v109).trips), (Rect.unit (s := S256x1792) (k0_off311 v2 v10 v18 v26 v34 v42 v50 v58 k0_t7 v107 v109 k0_t9) S128x256.size (k0_off311_inb v2 v10 v18 v26 v34 v42 v50 v58 k0_t7 v107 v109 k0_hw18 k0_t9)).PackedRows (EltTy.packing .bf16) := fun v2 v10 v18 v26 v34 v42 v50 v58 k0_t7 v107 v109 k0_hw18 k0_t9 => k0_hw18.2.2.2.2.2.2.2.2.2.2.2.2.2.2.2.2.2.2.2.2.2.2.2.2.2.2 k0_t9 (k0_off311_inb v2 v10 v18 v26 v34 v42 v50 v58 k0_t7 v107 v109 k0_hw18 k0_t9)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x4096 : Shape := ⟨2, ![256, 4096]⟩
abbrev S8 : Shape := ⟨1, ![8]⟩
abbrev S8x2048x1792 : Shape := ⟨3, ![8, 2048, 1792]⟩
abbrev S8x32x1792 : Shape := ⟨3, ![8, 32, 1792]⟩
abbrev S256x1792 : Shape := ⟨2, ![256, 1792]⟩
abbrev S256x128x32 : Shape := ⟨3, ![256, 128, 32]⟩
abbrev S256x128 : Shape := ⟨2, ![256, 128]⟩
abbrev S256x128x1 : Shape := ⟨3, ![256, 128, 1]⟩
abbrev S1x2048x1792 : Shape := ⟨3, ![1, 2048, 1792]⟩
abbrev S2048x1792 : Shape := ⟨2, ![2048, 1792]⟩
abbrev S1x32x1792 : Shape := ⟨3, ![1, 32, 1792]⟩
abbrev S32x1792 : Shape := ⟨2, ![32, 1792]⟩
abbrev S16x1792 : Shape := ⟨2, ![16, 1792]⟩
abbrev S16x128x1792 : Shape := ⟨3, ![16, 128, 1792]⟩
abbrev S16x1x1792 : Shape := ⟨3, ![16, 1, 1792]⟩
abbrev S1 : Shape := ⟨1, ![1]⟩
abbrev S256x2048 : Shape := ⟨2, ![256, 2048]⟩

abbrev nBuf : Space → Nat
  | .hbm => 5
  | .vmem => 4
  | .smem => 1
  | _ => 0

abbrev bufTy : (tb : Table) → Fin (tcTables nBuf tb) → BufTy
  | .hbm, ⟨0, _⟩ => ⟨S256x4096, .bf16⟩
  | .hbm, ⟨1, _⟩ => ⟨S8, .i32⟩
  | .hbm, ⟨2, _⟩ => ⟨S8x2048x1792, .i8⟩
  | .hbm, ⟨3, _⟩ => ⟨S8x32x1792, .f32⟩
  | .hbm, ⟨4, _⟩ => ⟨S256x1792, .bf16⟩
  | .local _ .vmem, ⟨0, _⟩ => ⟨S256x4096, .bf16⟩
  | .local _ .vmem, ⟨1, _⟩ => ⟨S8x2048x1792, .i8⟩
  | .local _ .vmem, ⟨2, _⟩ => ⟨S8x32x1792, .f32⟩
  | .local _ .vmem, ⟨3, _⟩ => ⟨S256x1792, .bf16⟩
  | .local _ .smem, ⟨0, _⟩ => ⟨S8, .i32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1792 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.lean ====
/- The launch's operands by name, the ring slots, and the closed forms of the offsets one window reads at. -/
module

public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the launch's, with the counters a transfer in flight is held by. -/
local notation "𝕄" => MT nD τ sig Unit (Elt F) ℕ (Pipeline.UD sig nD τ) ℕ

/-- The tokens, the weights, the scales and the result in HBM. -/
abbrev mX : Memref sig .tc .hbm S256x4096 .bf16 := Memref.whole main_arg0
abbrev mW : Memref sig .tc .hbm S8x2048x1792 .i8 := Memref.whole main_arg2
abbrev mS : Memref sig .tc .hbm S8x32x1792 .f32 := Memref.whole main_arg3
abbrev mY : Memref sig .tc .hbm S256x1792 .bf16 := Memref.whole main_v0
/-- The scratch buffers: the quantised tokens, the two rings, the result, the two tables of words. -/
abbrev sXq : Memref sig .tc .vmem S256x4096 .bf16 := Memref.whole cc0_scratch0
abbrev sW : Memref sig .tc .vmem S8x2048x256 .i8 := Memref.whole cc0_scratch1
abbrev sS : Memref sig .tc .vmem S8x32x256 .f32 := Memref.whole cc0_scratch2
abbrev sY : Memref sig .tc .vmem S256x1792 .bf16 := Memref.whole cc0_scratch3
abbrev sAct : Memref sig .tc .smem S9 .i32 := Memref.whole cc0_scratch4
abbrev sOff : Memref sig .tc .smem S8 .i32 := Memref.whole cc0_scratch5

/-- What a memref's buffer holds. -/
abbrev Cont (c : Dev nD) {sp : Space} {S : Shape} {e : EltTy} (M : Memref sig .tc sp S e) : Type := Buf (Elt F) (M.view.loc (c : Thread nD τ))

theorem inbW (k : Fin 8) : ∀ a, (![k.val, 0, 0] : Fin 3 → Nat) a + S1x2048x256.size a ≤ S8x2048x256.size a := by
  intro a
  have hk := k.isLt
  fin_cases a
  · show k.val + 1 ≤ 8; omega
  · show 0 + 2048 ≤ 2048; omega
  · show 0 + 256 ≤ 256; omega
theorem inbS (k : Fin 8) : ∀ a, (![k.val, 0, 0] : Fin 3 → Nat) a + S1x32x256.size a ≤ S8x32x256.size a := by
  intro a
  have hk := k.isLt
  fin_cases a
  · show k.val + 1 ≤ 8; omega
  · show 0 + 32 ≤ 32; omega
  · show 0 + 256 ≤ 256; omega

/-- Slot `k` of the weights' ring, and of the scales' ring. -/
abbrev wslot (k : Fin 8) : Memref sig .tc .vmem S2048x256 .i8 :=
  (sW.slice (Rect.unit (s := S8x2048x256) ![k.val, 0, 0] S1x2048x256.size (inbW k)) (fun _ => rfl)).squeeze S2048x256 squeezes_S1x2048x256_S2048x256
abbrev sslot (k : Fin 8) : Memref sig .tc .vmem S32x256 .f32 :=
  (sS.slice (Rect.unit (s := S8x32x256) ![k.val, 0, 0] S1x32x256.size (inbS k)) (fun _ => rfl)).squeeze S32x256 squeezes_S1x32x256_S32x256

/-- The slot the main loop's trip `k` computes from. -/
abbrev slotW (k : ℕ) : BitVec 32 := Scalar.remsi (Scf.iv 0#32 1#32 k) 8#32

instance (v2 v10 v18 v26 v34 v42 v50 v58 : BitVec 32) (k : Fin (k0_t4_loop v2 v10 v18 v26 v34 v42 v50 v58).trips) : ClosedOff (k0_off69 v2 v10 v18 v26 v34 v42 v50 v58 k) := ⟨![(slotW k).toNat, 0, 0], rfl⟩
instance (v2 v10 v18 v26 v34 v42 v50 v58 : BitVec 32) (k : Fin (k0_t4_loop v2 v10 v18 v26 v34 v42 v50 v58).trips) : ClosedOff (k0_off76 v2 v10 v18 v26 v34 v42 v50 v58 k) := ⟨![(slotW k).toNat, 256, 0], rfl⟩
instance (v2 v10 v18 v26 v34 v42 v50 v58 : BitVec 32) (k : Fin (k0_t4_loop v2 v10 v18 v26 v34 v42 v50 v58).trips) : ClosedOff (k0_off83 v2 v10 v18 v26 v34 v42 v50 v58 k) := ⟨![(slotW k).toNat, 512, 0], rfl⟩
instance (v2 v10 v18 v26 v34 v42 v50 v58 : BitVec 32) (k : Fin (k0_t4_loop v2 v10 v18 v26 v34 v42 v50 v58).trips) : ClosedOff (k0_off90 v2 v10 v18 v26 v34 v42 v50 v58 k) := ⟨![(slotW k).toNat, 768, 0], rfl⟩
instance (v2 v10 v18 v26 v34 v42 v50 v58 : BitVec 32) (k : Fin (k0_t4_loop v2 v10 v18 v26 v34 v42 v50 v58).trips) : ClosedOff (k0_off97 v2 v10 v18 v26 v34 v42 v50 v58 k) := ⟨![(slotW k).toNat, 1024, 0], rfl⟩
instance (v2 v10 v18 v26 v34 v42 v50 v58 : BitVec 32) (k : Fin (k0_t4_loop v2 v10 v18 v26 v34 v42 v50 v58).trips) : ClosedOff (k0_off104 v2 v10 v18 v26 v34 v42 v50 v58 k) := ⟨![(slotW k).toNat, 1280, 0], rfl⟩
instance (v2 v10 v18 v26 v34 v42 v50 v58 : BitVec 32) (k : Fin (k0_t4_loop v2 v10 v18 v26 v34 v42 v50 v58).trips) : ClosedOff (k0_off111 v2 v10 v18 v26 v34 v42 v50 v58 k) := ⟨![(slotW k).toNat, 1536, 0], rfl⟩
instance (v2 v10 v18 v26 v34 v42 v50 v58 : BitVec 32) (k : Fin (k0_t4_loop v2 v10 v18 v26 v34 v42 v50 v58).trips) : ClosedOff (k0_off118 v2 v10 v18 v26 v34 v42 v50 v58 k) := ⟨![(slotW k).toNat, 1792, 0], rfl⟩
instance (v2 v10 v18 v26 v34 v42 v50 v58 : BitVec 32) (k : Fin (k0_t4_loop v2 v10 v18 v26 v34 v42 v50 v58).trips) : ClosedOff (k0_off70 v2 v10 v18 v26 v34 v42 v50 v58 k) := ⟨![(slotW k).toNat, 0, 0], rfl⟩
instance (v2 v10 v18 v26 v34 v42 v50 v58 : BitVec 32) (k : Fin (k0_t4_loop v2 v10 v18 v26 v34 v42 v50 v58).trips) : ClosedOff (k0_off71 v2 v10 v18 v26 v34 v42 v50 v58 k) := ⟨![(slotW k).toNat, 1, 0], rfl⟩
instance (v2 v10 v18 v26 v34 v42 v50 v58 : BitVec 32) (k : Fin (k0_t4_loop v2 v10 v18 v26 v34 v42 v50 v58).trips) : ClosedOff (k0_off72 v2 v10 v18 v26 v34 v42 v50 v58 k) := ⟨![(slotW k).toNat, 16, 0], rfl⟩
instance (v2 v10 v18 v26 v34 v42 v50 v58 : BitVec 32) (k : Fin (k0_t4_loop v2 v10 v18 v26 v34 v42 v50 v58).trips) : ClosedOff (k0_off73 v2 v10 v18 v26 v34 v42 v50 v58 k) := ⟨![(slotW k).toNat, 17, 0], rfl⟩
instance (v2 v10 v18 v26 v34 v42 v50 v58 : BitVec 32) (k : Fin (k0_t4_loop v2 v10 v18 v26 v34 v42 v50 v58).trips) : ClosedOff (k0_off77 v2 v10 v18 v26 v34 v42 v50 v58 k) := ⟨![(slotW k).toNat, 2, 0], rfl⟩
instance (v2 v10 v18 v26 v34 v42 v50 v58 : BitVec 32) (k : Fin (k0_t4_loop v2 v10 v18 v26 v34 v42 v50 v58).trips) : ClosedOff (k0_off78 v2 v10 v18 v26 v34 v42 v50 v58 k) := ⟨![(slotW k).toNat, 3, 0], rfl⟩
instance (v2 v10 v18 v26 v34 v42 v50 v58 : BitVec 32) (k : Fin (k0_t4_loop v2 v10 v18 v26 v34 v42 v50 v58).trips) : ClosedOff (k0_off79 v2 v10 v18 v26 v34 v42 v50 v58 k) := ⟨![(slotW k).toNat, 18, 0], rfl⟩
instance (v2 v10 v18 v26 v34 v42 v50 v58 : BitVec 32) (k : Fin (k0_t4_loop v2 v10 v18 v26 v34 v42 v50 v58).trips) : ClosedOff (k0_off80 v2 v10 v18 v26 v34 v42 v50 v58 k) := ⟨![(slotW k).toNat, 19, 0], rfl⟩
instance (v2 v10 v18 v26 v34 v42 v50 v58 : BitVec 32) (k : Fin (k0_t4_loop v2 v10 v18 v26 v34 v42 v50 v58).trips) : ClosedOff (k0_off84 v2 v10 v18 v26 v34 v42 v50 v58 k) := ⟨![(slotW k).toNat, 4, 0], rfl⟩
instance (v2 v10 v18 v26 v34 v42 v50 v58 : BitVec 32) (k : Fin (k0_t4_loop v2 v10 v18 v26 v34 v42 v50 v58).trips) : ClosedOff (k0_off85 v2 v10 v18 v26 v34 v42 v50 v58 k) := ⟨![(slotW k).toNat, 5, 0], rfl⟩
instance (v2 v10 v18 v26 v34 v42 v50 v58 : BitVec 32) (k : Fin (k0_t4_loop v2 v10 v18 v26 v34 v42 v50 v58).trips) : ClosedOff (k0_off86 v2 v10 v18 v26 v34 v42 v50 v58 k) := ⟨![(slotW k).toNat, 20, 0], rfl⟩
instance (v2 v10 v18 v26 v34 v42 v50 v58 : BitVec 32) (k : Fin (k0_t4_loop v2 v10 v18 v26 v34 v42 v50 v58).trips) : ClosedOff (k0_off87 v2 v10 v18 v26 v34 v42 v50 v58 k) := ⟨![(slotW k).toNat, 21, 0], rfl⟩
instance (v2 v10 v18 v26 v34 v42 v50 v58 : BitVec 32) (k : Fin (k0_t4_loop v2 v10 v18 v26 v34 v42 v50 v58).trips) : ClosedOff (k0_off91 v2 v10 v18 v26 v34 v42 v50 v58 k) := ⟨![(slotW k).toNat, 6, 0], rfl⟩
instance (v2 v10 v18 v26 v34 v42 v50 v58 : BitVec 32) (k : Fin (k0_t4_loop v2 v10 v18 v26 v34 v42 v50 v58).trips) : ClosedOff (k0_off92 v2 v10 v18 v26 v34 v42 v50 v58 k) := ⟨![(slotW k).toNat, 7, 0], rfl⟩
instance (v2 v10 v18 v26 v34 v42 v50 v58 : BitVec 32) (k : Fin (k0_t4_loop v2 v10 v18 v26 v34 v42 v50 v58).trips) : ClosedOff (k0_off93 v2 v10 v18 v26 v34 v42 v50 v58 k) := ⟨![(slotW k).toNat, 22, 0], rfl⟩
instance (v2 v10 v18 v26 v34 v42 v50 v58 : BitVec 32) (k : Fin (k0_t4_loop v2 v10 v18 v26 v34 v42 v50 v58).trips) : ClosedOff (k0_off94 v2 v10 v18 v26 v34 v42 v50 v58 k) := ⟨![(slotW k).toNat, 23, 0], rfl⟩
instance (v2 v10 v18 v26 v34 v42 v50 v58 : BitVec 32) (k : Fin (k0_t4_loop v2 v10 v18 v26 v34 v42 v50 v58).trips) : ClosedOff (k0_off98 v2 v10 v18 v26 v34 v42 v50 v58 k) := ⟨![(slotW k).toNat, 8, 0], rfl⟩
instance (v2 v10 v18 v26 v34 v42 v50 v58 : BitVec 32) (k : Fin (k0_t4_loop v2 v10 v18 v26 v34 v42 v50 v58).trips) : ClosedOff (k0_off99 v2 v10 v18 v26 v34 v42 v50 v58 k) := ⟨![(slotW k).toNat, 9, 0], rfl⟩
instance (v2 v10 v18 v26 v34 v42 v50 v58 : BitVec 32) (k : Fin (k0_t4_loop v2 v10 v18 v26 v34 v42 v50 v58).trips) : ClosedOff (k0_off100 v2 v10 v18 v26 v34 v42 v50 v58 k) := ⟨![(slotW k).toNat, 24, 0], rfl⟩
instance (v2 v10 v18 v26 v34 v42 v50 v58 : BitVec 32) (k : Fin (k0_t4_loop v2 v10 v18 v26 v34 v42 v50 v58).trips) : ClosedOff (k0_off101 v2 v10 v18 v26 v34 v42 v50 v58 k) := ⟨![(slotW k).toNat, 25, 0], rfl⟩
instance (v2 v10 v18 v26 v34 v42 v50 v58 : BitVec 32) (k : Fin (k0_t4_loop v2 v10 v18 v26 v34 v42 v50 v58).trips) : ClosedOff (k0_off105 v2 v10 v18 v26 v34 v42 v50 v58 k) := ⟨![(slotW k).toNat, 10, 0], rfl⟩
instance (v2 v10 v18 v26 v34 v42 v50 v58 : BitVec 32) (k : Fin (k0_t4_loop v2 v10 v18 v26 v34 v42 v50 v58).trips) : ClosedOff (k0_off106 v2 v10 v18 v26 v34 v42 v50 v58 k) := ⟨![(slotW k).toNat, 11, 0], rfl⟩
instance (v2 v10 v18 v26 v34 v42 v50 v58 : BitVec 32) (k : Fin (k0_t4_loop v2 v10 v18 v26 v34 v42 v50 v58).trips) : ClosedOff (k0_off107 v2 v10 v18 v26 v34 v42 v50 v58 k) := ⟨![(slotW k).toNat, 26, 0], rfl⟩
instance (v2 v10 v18 v26 v34 v42 v50 v58 : BitVec 32) (k : Fin (k0_t4_loop v2 v10 v18 v26 v34 v42 v50 v58).trips) : ClosedOff (k0_off108 v2 v10 v18 v26 v34 v42 v50 v58 k) := ⟨![(slotW k).toNat, 27, 0], rfl⟩
instance (v2 v10 v18 v26 v34 v42 v50 v58 : BitVec 32) (k : Fin (k0_t4_loop v2 v10 v18 v26 v34 v42 v50 v58).trips) : ClosedOff (k0_off112 v2 v10 v18 v26 v34 v42 v50 v58 k) := ⟨![(slotW k).toNat, 12, 0], rfl⟩
instance (v2 v10 v18 v26 v34 v42 v50 v58 : BitVec 32) (k : Fin (k0_t4_loop v2 v10 v18 v26 v34 v42 v50 v58).trips) : ClosedOff (k0_off113 v2 v10 v18 v26 v34 v42 v50 v58 k) := ⟨![(slotW k).toNat, 13, 0], rfl⟩
instance (v2 v10 v18 v26 v34 v42 v50 v58 : BitVec 32) (k : Fin (k0_t4_loop v2 v10 v18 v26 v34 v42 v50 v58).trips) : ClosedOff (k0_off114 v2 v10 v18 v26 v34 v42 v50 v58 k) := ⟨![(slotW k).toNat, 28, 0], rfl⟩
instance (v2 v10 v18 v26 v34 v42 v50 v58 : BitVec 32) (k : Fin (k0_t4_loop v2 v10 v18 v26 v34 v42 v50 v58).trips) : ClosedOff (k0_off115 v2 v10 v18 v26 v34 v42 v50 v58 k) := ⟨![(slotW k).toNat, 29, 0], rfl⟩
instance (v2 v10 v18 v26 v34 v42 v50 v58 : BitVec 32) (k : Fin (k0_t4_loop v2 v10 v18 v26 v34 v42 v50 v58).trips) : ClosedOff (k0_off119 v2 v10 v18 v26 v34 v42 v50 v58 k) := ⟨![(slotW k).toNat, 14, 0], rfl⟩
instance (v2 v10 v18 v26 v34 v42 v50 v58 : BitVec 32) (k : Fin (k0_t4_loop v2 v10 v18 v26 v34 v42 v50 v58).trips) : ClosedOff (k0_off120 v2 v10 v18 v26 v34 v42 v50 v58 k) := ⟨![(slotW k).toNat, 15, 0], rfl⟩
instance (v2 v10 v18 v26 v34 v42 v50 v58 : BitVec 32) (k : Fin (k0_t4_loop v2 v10 v18 v26 v34 v42 v50 v58).trips) : ClosedOff (k0_off121 v2 v10 v18 v26 v34 v42 v50 v58 k) := ⟨![(slotW k).toNat, 30, 0], rfl⟩
instance (v2 v10 v18 v26 v34 v42 v50 v58 : BitVec 32) (k : Fin (k0_t4_loop v2 v10 v18 v26 v34 v42 v50 v58).trips) : ClosedOff (k0_off122 v2 v10 v18 v26 v34 v42 v50 v58 k) := ⟨![(slotW k).toNat, 31, 0], rfl⟩

end Cert.KernelIdeal.Body

end
-- ==== Proof.Trip.lean ====
/- One window of the main loop: what it reads and the piece of the result it writes. -/
module

public import proofs.«01_k».proof.Proof.Ring

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What one window holds: the quantised tokens, the two ring slots of the trip, the result. -/
abbrev Win (c : Dev nD) (i : Fin 8) (X5 : Cont (F := F) c sXq) (X6 : Cont (F := F) c sW) (X7 : Cont (F := F) c sS)
    (f8 : Cont (F := F) c sY) : sProp 𝕄 :=
  iprop((sXq.view.loc (c : Thread nD τ) ↦{fullShare} X5)
    ∗ ((wslot i).view.loc (c : Thread nD τ) ↦[(wslot i).view.set]{fullShare} X6)
    ∗ ((sslot i).view.loc (c : Thread nD τ) ↦[(sslot i).view.set]{fullShare} X7)
    ∗ (sY.view.loc (c : Thread nD τ) ↦{fullShare} f8))

@[irreducible] def trip5 (c : Dev nD) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v75 v107 v109 : BitVec 32) (k0_hw14 : k0_chk14 v2 v10 v18 v26 v34 v42 v50 v58 k0_t4 v107 v109) (v110 v112 : BitVec 32)
    (hi : (slotW k0_t4).toNat < 8)
    (X5 : Cont (F := F) c sXq) (X6 : Cont (F := F) c sW) (X7 : Cont (F := F) c sS) (k : Fin (k0_t5_loop v107 v109).trips) :
    { L : (Cont (F := F) c sY → List (View.Piece (Elt F) S256x1792 .bf16)) // ∀ (E : Set ℕ) (f8 : Cont (F := F) c sY),
      Win (F := F) c ⟨(slotW k0_t4).toNat, hi⟩ X5 X6 X7 f8
      ⊢ wp frame (wpE (defs₀ (F := F)) Variants.none (c : Thread nD τ) none) E
          (k0_t5_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 k0_t4 v75 v107 v109 k0_hw14 v110 v112 k PUnit.unit)
          (fun _ => Win (F := F) c ⟨(slotW k0_t4).toNat, hi⟩ X5 X6 X7 (sY.view.writes (Elt F) f8 (L f8))) } := by
  refine ⟨?_, fun E f_arg8 => ?run⟩
  case run =>
    unfold k0_t5_body
    iintro ⟨HR5, HR6, HR7, HW8⟩
    unfold wslot sslot
    sl_exec
    sl_step
    sl_close

end Cert.KernelIdeal.Body

end
-- ==== Proof.Words.lean ====
/- The words the kernel computes its loops, slots and offsets from, in closed form. -/
module

public import proofs.«01_k».proof.Proof.Ring
public import Idealize.ShloMosaic.Lib.Affine

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Affine

/-- One when an expert has rows, as a word and as a number. -/
abbrev b1 (v : BitVec 32) : BitVec 32 := Scalar.extui (Scalar.cmpi .sgt v 0#32)
def act1 (v : BitVec 32) : ℕ := if 0 < v.toInt then 1 else 0

theorem b1_int (v : BitVec 32) : IsInt (b1 v) (act1 v) := by
  unfold act1
  have hz : IsInt 0#32 0 := Affine.ofNat 0 ⟨rfl, by omega⟩
  by_cases h : 0 < v.toInt
  · rw [if_pos h]; exact Affine.extui_holds (sgt_holds (Affine.word v) hz h) rfl
  · rw [if_neg h]; exact Affine.extui_fails (sgt_fails (Affine.word v) hz h) rfl
theorem act1_le (v : BitVec 32) : act1 v ≤ 1 := by unfold act1; split <;> omega

/-- The running counts of experts with rows. -/
abbrev c1 (v2 : BitVec 32) : BitVec 32 := Scalar.addi 0#32 (b1 v2)
abbrev c2 (v2 v10 : BitVec 32) : BitVec 32 := Scalar.addi (c1 v2) (b1 v10)
abbrev c3 (v2 v10 v18 : BitVec 32) : BitVec 32 := Scalar.addi (c2 v2 v10) (b1 v18)
abbrev c4 (v2 v10 v18 v26 : BitVec 32) : BitVec 32 := Scalar.addi (c3 v2 v10 v18) (b1 v26)
abbrev c5 (v2 v10 v18 v26 v34 : BitVec 32) : BitVec 32 := Scalar.addi (c4 v2 v10 v18 v26) (b1 v34)
abbrev c6 (v2 v10 v18 v26 v34 v42 : BitVec 32) : BitVec 32 := Scalar.addi (c5 v2 v10 v18 v26 v34) (b1 v42)
abbrev c7 (v2 v10 v18 v26 v34 v42 v50 : BitVec 32) : BitVec 32 := Scalar.addi (c6 v2 v10 v18 v26 v34 v42) (b1 v50)
abbrev nA (v2 v10 v18 v26 v34 v42 v50 v58 : BitVec 32) : BitVec 32 := Scalar.addi (c7 v2 v10 v18 v26 v34 v42 v50) (b1 v58)
/-- The number of experts with rows. -/
def nn (v2 v10 v18 v26 v34 v42 v50 v58 : BitVec 32) : ℕ := act1 v2 + act1 v10 + act1 v18 + act1 v26 + act1 v34 + act1 v42 + act1 v50 + act1 v58

theorem add_nat {a b : BitVec 32} {x y z : ℕ} (ha : IsInt a x) (hb : IsInt b y) (h : z = x + y ∧ z < 2 ^ 20) : IsInt (Scalar.addi a b) z :=
  Affine.addi ha hb (by omega)

theorem c1_int (v2 : BitVec 32) : IsInt (c1 v2) (act1 v2) :=
  add_nat (x := 0) (Affine.ofNat 0 ⟨rfl, by omega⟩) (b1_int v2) (by have := act1_le v2; omega)
theorem c2_int (v2 v10 : BitVec 32) : IsInt (c2 v2 v10) (act1 v2 + act1 v10 : ℕ) :=
  add_nat (c1_int v2) (b1_int v10) (by have := act1_le v2; have := act1_le v10; omega)
theorem c3_int (v2 v10 v18 : BitVec 32) : IsInt (c3 v2 v10 v18) (act1 v2 + act1 v10 + act1 v18 : ℕ) :=
  add_nat (c2_int v2 v10) (b1_int v18) (by have := act1_le v2; have := act1_le v10; have := act1_le v18; omega)
theorem c4_int (v2 v10 v18 v26 : BitVec 32) : IsInt (c4 v2 v10 v18 v26) (act1 v2 + act1 v10 + act1 v18 + act1 v26 : ℕ) :=
  add_nat (c3_int v2 v10 v18) (b1_int v26) (by have := act1_le v2; have := act1_le v10; have := act1_le v18; have := act1_le v26; omega)
theorem c5_int (v2 v10 v18 v26 v34 : BitVec 32) : IsInt (c5 v2 v10 v18 v26 v34) (act1 v2 + act1 v10 + act1 v18 + act1 v26 + act1 v34 : ℕ) :=
  add_nat (c4_int v2 v10 v18 v26) (b1_int v34) (by have := act1_le v2; have := act1_le v10; have := act1_le v18; have := act1_le v26; have := act1_le v34; omega)
theorem c6_int (v2 v10 v18 v26 v34 v42 : BitVec 32) :
    IsInt (c6 v2 v10 v18 v26 v34 v42) (act1 v2 + act1 v10 + act1 v18 + act1 v26 + act1 v34 + act1 v42 : ℕ) :=
  add_nat (c5_int v2 v10 v18 v26 v34) (b1_int v42) (by have := act1_le v2; have := act1_le v10; have := act1_le v18; have := act1_le v26; have := act1_le v34; have := act1_le v42; omega)
theorem c7_int (v2 v10 v18 v26 v34 v42 v50 : BitVec 32) :
    IsInt (c7 v2 v10 v18 v26 v34 v42 v50) (act1 v2 + act1 v10 + act1 v18 + act1 v26 + act1 v34 + act1 v42 + act1 v50 : ℕ) :=
  add_nat (c6_int v2 v10 v18 v26 v34 v42) (b1_int v50) (by have := act1_le v2; have := act1_le v10; have := act1_le v18; have := act1_le v26; have := act1_le v34; have := act1_le v42; have := act1_le v50; omega)
theorem nA_int (v2 v10 v18 v26 v34 v42 v50 v58 : BitVec 32) : IsInt (nA v2 v10 v18 v26 v34 v42 v50 v58) (nn v2 v10 v18 v26 v34 v42 v50 v58) :=
  add_nat (c7_int v2 v10 v18 v26 v34 v42 v50) (b1_int v58) (by
    unfold nn
    have := act1_le v2; have := act1_le v10; have := act1_le v18; have := act1_le v26; have := act1_le v34; have := act1_le v42; have := act1_le v50; have := act1_le v58; omega)
theorem nn_le (v2 v10 v18 v26 v34 v42 v50 v58 : BitVec 32) : nn v2 v10 v18 v26 v34 v42 v50 v58 ≤ 8 := by
  unfold nn
  have := act1_le v2; have := act1_le v10; have := act1_le v18; have := act1_le v26; have := act1_le v34; have := act1_le v42; have := act1_le v50; have := act1_le v58; omega

/-- What the claims assume of the group sizes: none negative, 256 rows in all. -/
structure Good (v2 v10 v18 v26 v34 v42 v50 v58 : BitVec 32) : Prop where
  h0 : 0 ≤ v2.toInt
  h1 : 0 ≤ v10.toInt
  h2 : 0 ≤ v18.toInt
  h3 : 0 ≤ v26.toInt
  h4 : 0 ≤ v34.toInt
  h5 : 0 ≤ v42.toInt
  h6 : 0 ≤ v50.toInt
  h7 : 0 ≤ v58.toInt
  sum : v2.toInt + v10.toInt + v18.toInt + v26.toInt + v34.toInt + v42.toInt + v50.toInt + v58.toInt = 256

theorem Good.nn_pos {v2 v10 v18 v26 v34 v42 v50 v58 : BitVec 32} (h : Good v2 v10 v18 v26 v34 v42 v50 v58) : 1 ≤ nn v2 v10 v18 v26 v34 v42 v50 v58 := by
  obtain ⟨h0, h1, h2, h3, h4, h5, h6, h7, hs⟩ := h
  unfold nn act1
  split <;> first | omega | skip
  split <;> first | omega | skip
  split <;> first | omega | skip
  split <;> first | omega | skip
  split <;> first | omega | skip
  split <;> first | omega | skip
  split <;> first | omega | skip
  split <;> omega

theorem toNat_nat {a : BitVec 32} {x : ℕ} (h : IsInt a x) : a.toNat = x := by
  have := toNat_of h (by omega); omega

theorem lt9 {a : BitVec 32} {x : ℕ} (h : IsInt a x) (hx : x ≤ 8) : ∀ a' : Fin 1, (![a.toNat] : Fin 1 → ℕ) a' + S1.size a' ≤ S9.size a' := by
  intro a'; fin_cases a'; have := toNat_nat h; show a.toNat + 1 ≤ 9; omega

theorem chk1 (v2 : BitVec 32) : k0_chk1 v2 := lt9 (c1_int v2) (by have := act1_le v2; omega)
theorem chk2 (v2 v10 : BitVec 32) : k0_chk2 v2 v10 := lt9 (c2_int v2 v10) (by have := act1_le v2; have := act1_le v10; omega)
theorem chk3 (v2 v10 v18 : BitVec 32) : k0_chk3 v2 v10 v18 := lt9 (c3_int v2 v10 v18) (by have := act1_le v2; have := act1_le v10; have := act1_le v18; omega)
theorem chk4 (v2 v10 v18 v26 : BitVec 32) : k0_chk4 v2 v10 v18 v26 := lt9 (c4_int v2 v10 v18 v26) (by have := act1_le v2; have := act1_le v10; have := act1_le v18; have := act1_le v26; omega)
theorem chk5 (v2 v10 v18 v26 v34 : BitVec 32) : k0_chk5 v2 v10 v18 v26 v34 := lt9 (c5_int v2 v10 v18 v26 v34) (by have := act1_le v2; have := act1_le v10; have := act1_le v18; have := act1_le v26; have := act1_le v34; omega)
theorem chk6 (v2 v10 v18 v26 v34 v42 : BitVec 32) : k0_chk6 v2 v10 v18 v26 v34 v42 := lt9 (c6_int v2 v10 v18 v26 v34 v42) (by have := act1_le v2; have := act1_le v10; have := act1_le v18; have := act1_le v26; have := act1_le v34; have := act1_le v42; omega)
theorem chk7 (v2 v10 v18 v26 v34 v42 v50 : BitVec 32) : k0_chk7 v2 v10 v18 v26 v34 v42 v50 := lt9 (c7_int v2 v10 v18 v26 v34 v42 v50) (by have := act1_le v2; have := act1_le v10; have := act1_le v18; have := act1_le v26; have := act1_le v34; have := act1_le v42; have := act1_le v50; omega)

/-! ## Steps, slots, tiles -/

theorem lit (n : ℕ) (h : n < 2 ^ 31) : IsInt (BitVec.ofNat 32 n) n := Affine.ofNat n ⟨rfl, h⟩
theorem iv_nat (k : ℕ) (hk : k < 2 ^ 20) : IsInt (Scf.iv 0#32 1#32 k) k :=
  Affine.iv (ea := 0) (eb := 1) (lit 0 (by omega)) (lit 1 (by omega)) k ⟨by omega, by omega, by omega⟩
/-- The step a main-loop trip prefetches: seven ahead. -/
theorem iv7_nat (k : ℕ) (hk : k < 2 ^ 20) : IsInt (Scalar.subi (Scalar.addi (Scf.iv 0#32 1#32 k) 8#32) 1#32) (k + 7 : ℕ) :=
  Affine.subi (ea := k + 8) (eb := 1) (Affine.addi (ea := k) (eb := 8) (iv_nat k hk) (lit 8 (by omega)) (by omega)) (lit 1 (by omega)) (by push_cast; omega)

theorem slot_int {K : BitVec 32} {k : ℕ} (hK : IsInt K k) (hk : k < 2 ^ 20) : IsInt (Scalar.remsi K 8#32) (k % 8 : ℕ) :=
  Affine.remsi (ea := k) (eb := 8) hK (lit 8 (by omega)) (by omega)
theorem div_int {K N : BitVec 32} {k n : ℕ} (hK : IsInt K k) (hN : IsInt N n) (hk : k < 64) (h1 : 1 ≤ n) (h8 : n ≤ 8) :
    IsInt (Scalar.divsi K N) (k / n : ℕ) :=
  Affine.divsi hK hN (by push_cast; omega)
theorem tile_int {K N : BitVec 32} {k n : ℕ} (hK : IsInt K k) (hN : IsInt N n) (hk : k < 64) (h1 : 1 ≤ n) (h8 : n ≤ 8) :
    IsInt (Scalar.muli (Scalar.divsi K N) 256#32) (k / n * 256 : ℕ) := by
  have : k / n ≤ k := Nat.div_le_self k n
  exact Affine.muli (div_int hK hN hk h1 h8) (lit 256 (by omega)) (by
    refine ⟨by push_cast; rfl, ?_, ?_⟩ <;> omega)
theorem mod_int {K N : BitVec 32} {k n : ℕ} (hK : IsInt K k) (hN : IsInt N n) (hk : k < 64) (h1 : 1 ≤ n) (h8 : n ≤ 8) :
    IsInt (Scalar.subi K (Scalar.muli (Scalar.divsi K N) N)) (k % n : ℕ) := by
  have hm : k / n * n + k % n = k := Nat.div_add_mod' k n
  have h' : IsInt (Scalar.muli (Scalar.divsi K N) N) (k / n * n : ℕ) := Affine.muli (div_int hK hN hk h1 h8) hN (by
    refine ⟨by push_cast; rfl, ?_, ?_⟩ <;> omega)
  exact Affine.subi hK h' (by omega)

section Loops
variable (v2 v10 v18 v26 v34 v42 v50 v58 : BitVec 32)

/-- Seven steps an expert with rows. -/
theorem n7_int : IsInt (Scalar.muli (nA v2 v10 v18 v26 v34 v42 v50 v58) 7#32) (nn v2 v10 v18 v26 v34 v42 v50 v58 * 7 : ℕ) := by
  have := nn_le v2 v10 v18 v26 v34 v42 v50 v58
  exact Affine.muli (nA_int v2 v10 v18 v26 v34 v42 v50 v58) (lit 7 (by omega)) (by push_cast; omega)
theorem norm_int {x : BitVec 32} {n : ℕ} (hx : IsInt x n) (hn : n < 2 ^ 20) :
    IsInt (Scalar.addi 0#32 (Scalar.muli (Scalar.divsi (Scalar.subi x 0#32) 1#32) 1#32)) n :=
  Affine.addi (ea := 0) (eb := n) (lit 0 (by omega))
    (Affine.muli (ea := n) (eb := 1)
      (Affine.divsi (ea := n) (eb := 1) (Affine.subi (ea := n) (eb := 0) hx (lit 0 (by omega)) (by omega)) (lit 1 (by omega)) (by omega))
      (lit 1 (by omega)) (by omega)) (by omega)
theorem norm0_int {x : BitVec 32} {n : ℕ} (hx : IsInt x n) (hn : n < 2 ^ 20) :
    IsInt (Scalar.addi 0#32 (Scalar.subi x 0#32)) n :=
  Affine.addi (ea := 0) (eb := n) (lit 0 (by omega)) (Affine.subi (ea := n) (eb := 0) hx (lit 0 (by omega)) (by omega)) (by omega)

variable {v2 v10 v18 v26 v34 v42 v50 v58}
theorem min7_int (h : Good v2 v10 v18 v26 v34 v42 v50 v58) : IsInt (Scalar.minsi 7#32 (Scalar.muli (nA v2 v10 v18 v26 v34 v42 v50 v58) 7#32)) (7 : ℕ) := by
  have := h.nn_pos
  exact Affine.minsi (lit 7 (by omega)) (n7_int v2 v10 v18 v26 v34 v42 v50 v58) (by push_cast; omega)
theorem t1_trips (h : Good v2 v10 v18 v26 v34 v42 v50 v58) : (k0_t1_loop v2 v10 v18 v26 v34 v42 v50 v58).trips = 7 :=
  trips_eq (el := 0) (eu := 7) (k := 1) (lit 0 (by omega)) (norm_int (n := 7) (min7_int h) (by omega)) (lit 1 (by omega)) 7 (by omega)
theorem t2_trips (h : Good v2 v10 v18 v26 v34 v42 v50 v58) : (k0_t2_loop v2 v10 v18 v26 v34 v42 v50 v58).trips = 0 :=
  trips_eq (el := 7) (eu := 7) (k := 1) (norm_int (n := 7) (min7_int h) (by omega)) (norm0_int (n := 7) (min7_int h) (by omega)) (lit 1 (by omega)) 0 (by omega)
theorem t4_trips (h : Good v2 v10 v18 v26 v34 v42 v50 v58) : (k0_t4_loop v2 v10 v18 v26 v34 v42 v50 v58).trips = nn v2 v10 v18 v26 v34 v42 v50 v58 * 7 := by
  have := nn_le v2 v10 v18 v26 v34 v42 v50 v58
  exact trips_eq (el := 0) (eu := (nn v2 v10 v18 v26 v34 v42 v50 v58 * 7 : ℕ)) (k := 1) (lit 0 (by omega)) (norm_int (n7_int v2 v10 v18 v26 v34 v42 v50 v58) (by omega)) (lit 1 (by omega)) _ (by omega)
theorem t7_trips (h : Good v2 v10 v18 v26 v34 v42 v50 v58) : (k0_t7_loop v2 v10 v18 v26 v34 v42 v50 v58).trips = 0 := by
  have := nn_le v2 v10 v18 v26 v34 v42 v50 v58
  exact trips_eq (el := (nn v2 v10 v18 v26 v34 v42 v50 v58 * 7 : ℕ)) (eu := (nn v2 v10 v18 v26 v34 v42 v50 v58 * 7 : ℕ)) (k := 1) (norm_int (n7_int v2 v10 v18 v26 v34 v42 v50 v58) (by omega)) (norm0_int (n7_int v2 v10 v18 v26 v34 v42 v50 v58) (by omega)) (lit 1 (by omega)) _ (by omega)
theorem t1_OK (h : Good v2 v10 v18 v26 v34 v42 v50 v58) : (k0_t1_loop v2 v10 v18 v26 v34 v42 v50 v58).OK :=
  ok (el := 0) (eu := 7) (k := 1) (lit 0 (by omega)) (norm_int (n := 7) (min7_int h) (by omega)) (lit 1 (by omega)) (by omega)
theorem t2_OK (h : Good v2 v10 v18 v26 v34 v42 v50 v58) : (k0_t2_loop v2 v10 v18 v26 v34 v42 v50 v58).OK :=
  ok (el := 7) (eu := 7) (k := 1) (norm_int (n := 7) (min7_int h) (by omega)) (norm0_int (n := 7) (min7_int h) (by omega)) (lit 1 (by omega)) (by omega)
theorem t4_OK (h : Good v2 v10 v18 v26 v34 v42 v50 v58) : (k0_t4_loop v2 v10 v18 v26 v34 v42 v50 v58).OK := by
  have := nn_le v2 v10 v18 v26 v34 v42 v50 v58
  exact ok (el := 0) (eu := (nn v2 v10 v18 v26 v34 v42 v50 v58 * 7 : ℕ)) (k := 1) (lit 0 (by omega)) (norm_int (n7_int v2 v10 v18 v26 v34 v42 v50 v58) (by omega)) (lit 1 (by omega)) (by omega)
theorem t7_OK (h : Good v2 v10 v18 v26 v34 v42 v50 v58) : (k0_t7_loop v2 v10 v18 v26 v34 v42 v50 v58).OK := by
  have := nn_le v2 v10 v18 v26 v34 v42 v50 v58
  exact ok (el := (nn v2 v10 v18 v26 v34 v42 v50 v58 * 7 : ℕ)) (eu := (nn v2 v10 v18 v26 v34 v42 v50 v58 * 7 : ℕ)) (k := 1) (norm_int (n7_int v2 v10 v18 v26 v34 v42 v50 v58) (by omega)) (norm0_int (n7_int v2 v10 v18 v26 v34 v42 v50 v58) (by omega)) (lit 1 (by omega)) (by omega)

theorem t1_lt (h : Good v2 v10 v18 v26 v34 v42 v50 v58) (k : Fin (k0_t1_loop v2 v10 v18 v26 v34 v42 v50 v58).trips) : k.val < 7 := by have := k.isLt; have := t1_trips h; omega
theorem t4_lt (h : Good v2 v10 v18 v26 v34 v42 v50 v58) (k : Fin (k0_t4_loop v2 v10 v18 v26 v34 v42 v50 v58).trips) : k.val < nn v2 v10 v18 v26 v34 v42 v50 v58 * 7 := by have := k.isLt; have := t4_trips h; omega
theorem t4_lt' (h : Good v2 v10 v18 v26 v34 v42 v50 v58) (k : Fin (k0_t4_loop v2 v10 v18 v26 v34 v42 v50 v58).trips) : k.val < 56 := by have := t4_lt h k; have := nn_le v2 v10 v18 v26 v34 v42 v50 v58; omega

theorem v1 {a : BitVec 32} {x : ℕ} (h : IsInt a x) : (![a.toNat] : Fin 1 → ℕ) = ![x] := by rw [toNat_nat h]
theorem v3 {a : BitVec 32} {x : ℕ} (h : IsInt a x) : (![a.toNat, 0, 0] : Fin 3 → ℕ) = ![x, 0, 0] := by rw [toNat_nat h]
theorem v3' {a : BitVec 32} {x : ℕ} (y : ℕ) (h : IsInt a x) : (![y, 0, a.toNat] : Fin 3 → ℕ) = ![y, 0, x] := by rw [toNat_nat h]

theorem off8_eq (h : Good v2 v10 v18 v26 v34 v42 v50 v58) (k : Fin (k0_t1_loop v2 v10 v18 v26 v34 v42 v50 v58).trips) : k0_off8 v2 v10 v18 v26 v34 v42 v50 v58 k = ![k.val % nn v2 v10 v18 v26 v34 v42 v50 v58] :=
  v1 (mod_int (iv_nat k (by have := t1_lt h k; omega)) (nA_int v2 v10 v18 v26 v34 v42 v50 v58) (by have := t1_lt h k; omega) h.nn_pos (nn_le v2 v10 v18 v26 v34 v42 v50 v58))
theorem off54_eq (h : Good v2 v10 v18 v26 v34 v42 v50 v58) (k : Fin (k0_t4_loop v2 v10 v18 v26 v34 v42 v50 v58).trips) : k0_off54 v2 v10 v18 v26 v34 v42 v50 v58 k = ![k.val % nn v2 v10 v18 v26 v34 v42 v50 v58] :=
  v1 (mod_int (iv_nat k (by have := t4_lt' h k; omega)) (nA_int v2 v10 v18 v26 v34 v42 v50 v58) (by have := t4_lt' h k; omega) h.nn_pos (nn_le v2 v10 v18 v26 v34 v42 v50 v58))
theorem off55_eq (h : Good v2 v10 v18 v26 v34 v42 v50 v58) (k : Fin (k0_t4_loop v2 v10 v18 v26 v34 v42 v50 v58).trips) : k0_off55 v2 v10 v18 v26 v34 v42 v50 v58 k = ![(k.val + 7) % nn v2 v10 v18 v26 v34 v42 v50 v58] :=
  v1 (mod_int (iv7_nat k (by have := t4_lt' h k; omega)) (nA_int v2 v10 v18 v26 v34 v42 v50 v58) (by have := t4_lt' h k; omega) h.nn_pos (nn_le v2 v10 v18 v26 v34 v42 v50 v58))
theorem off9_eq (h : Good v2 v10 v18 v26 v34 v42 v50 v58) (k : Fin (k0_t1_loop v2 v10 v18 v26 v34 v42 v50 v58).trips) : k0_off9 v2 v10 v18 v26 v34 v42 v50 v58 k = ![k.val % 8] :=
  v1 (slot_int (iv_nat k (by have := t1_lt h k; omega)) (by have := t1_lt h k; omega))
theorem off12_eq (h : Good v2 v10 v18 v26 v34 v42 v50 v58) (k : Fin (k0_t1_loop v2 v10 v18 v26 v34 v42 v50 v58).trips) : k0_off12 v2 v10 v18 v26 v34 v42 v50 v58 k = ![k.val % 8] :=
  v1 (slot_int (iv_nat k (by have := t1_lt h k; omega)) (by have := t1_lt h k; omega))
theorem off10_eq (h : Good v2 v10 v18 v26 v34 v42 v50 v58) (k : Fin (k0_t1_loop v2 v10 v18 v26 v34 v42 v50 v58).trips) : k0_off10 v2 v10 v18 v26 v34 v42 v50 v58 k = ![k.val % 8, 0, 0] :=
  v3 (slot_int (iv_nat k (by have := t1_lt h k; omega)) (by have := t1_lt h k; omega))
theorem off13_eq (h : Good v2 v10 v18 v26 v34 v42 v50 v58) (k : Fin (k0_t1_loop v2 v10 v18 v26 v34 v42 v50 v58).trips) : k0_off13 v2 v10 v18 v26 v34 v42 v50 v58 k = ![k.val % 8, 0, 0] :=
  v3 (slot_int (iv_nat k (by have := t1_lt h k; omega)) (by have := t1_lt h k; omega))
theorem off11_eq (h : Good v2 v10 v18 v26 v34 v42 v50 v58) (k : Fin (k0_t1_loop v2 v10 v18 v26 v34 v42 v50 v58).trips) (v80 : BitVec 32) : k0_off11 v2 v10 v18 v26 v34 v42 v50 v58 k v80 = ![v80.toNat, 0, k.val / nn v2 v10 v18 v26 v34 v42 v50 v58 * 256] :=
  v3' _ (tile_int (iv_nat k (by have := t1_lt h k; omega)) (nA_int v2 v10 v18 v26 v34 v42 v50 v58) (by have := t1_lt h k; omega) h.nn_pos (nn_le v2 v10 v18 v26 v34 v42 v50 v58))
theorem off14_eq (h : Good v2 v10 v18 v26 v34 v42 v50 v58) (k : Fin (k0_t1_loop v2 v10 v18 v26 v34 v42 v50 v58).trips) (v80 : BitVec 32) : k0_off14 v2 v10 v18 v26 v34 v42 v50 v58 k v80 = ![v80.toNat, 0, k.val / nn v2 v10 v18 v26 v34 v42 v50 v58 * 256] :=
  v3' _ (tile_int (iv_nat k (by have := t1_lt h k; omega)) (nA_int v2 v10 v18 v26 v34 v42 v50 v58) (by have := t1_lt h k; omega) h.nn_pos (nn_le v2 v10 v18 v26 v34 v42 v50 v58))
theorem off56_eq (h : Good v2 v10 v18 v26 v34 v42 v50 v58) (k : Fin (k0_t4_loop v2 v10 v18 v26 v34 v42 v50 v58).trips) : k0_off56 v2 v10 v18 v26 v34 v42 v50 v58 k = ![(k.val + 7) % 8] :=
  v1 (slot_int (iv7_nat k (by have := t4_lt' h k; omega)) (by have := t4_lt' h k; omega))
theorem off59_eq (h : Good v2 v10 v18 v26 v34 v42 v50 v58) (k : Fin (k0_t4_loop v2 v10 v18 v26 v34 v42 v50 v58).trips) : k0_off59 v2 v10 v18 v26 v34 v42 v50 v58 k = ![(k.val + 7) % 8] :=
  v1 (slot_int (iv7_nat k (by have := t4_lt' h k; omega)) (by have := t4_lt' h k; omega))
theorem off57_eq (h : Good v2 v10 v18 v26 v34 v42 v50 v58) (k : Fin (k0_t4_loop v2 v10 v18 v26 v34 v42 v50 v58).trips) : k0_off57 v2 v10 v18 v26 v34 v42 v50 v58 k = ![(k.val + 7) % 8, 0, 0] :=
  v3 (slot_int (iv7_nat k (by have := t4_lt' h k; omega)) (by have := t4_lt' h k; omega))
theorem off60_eq (h : Good v2 v10 v18 v26 v34 v42 v50 v58) (k : Fin (k0_t4_loop v2 v10 v18 v26 v34 v42 v50 v58).trips) : k0_off60 v2 v10 v18 v26 v34 v42 v50 v58 k = ![(k.val + 7) % 8, 0, 0] :=
  v3 (slot_int (iv7_nat k (by have := t4_lt' h k; omega)) (by have := t4_lt' h k; omega))
theorem off58_eq (h : Good v2 v10 v18 v26 v34 v42 v50 v58) (k : Fin (k0_t4_loop v2 v10 v18 v26 v34 v42 v50 v58).trips) (v80 : BitVec 32) : k0_off58 v2 v10 v18 v26 v34 v42 v50 v58 k v80 = ![v80.toNat, 0, (k.val + 7) / nn v2 v10 v18 v26 v34 v42 v50 v58 * 256] :=
  v3' _ (tile_int (iv7_nat k (by have := t4_lt' h k; omega)) (nA_int v2 v10 v18 v26 v34 v42 v50 v58) (by have := t4_lt' h k; omega) h.nn_pos (nn_le v2 v10 v18 v26 v34 v42 v50 v58))
theorem off61_eq (h : Good v2 v10 v18 v26 v34 v42 v50 v58) (k : Fin (k0_t4_loop v2 v10 v18 v26 v34 v42 v50 v58).trips) (v80 : BitVec 32) : k0_off61 v2 v10 v18 v26 v34 v42 v50 v58 k v80 = ![v80.toNat, 0, (k.val + 7) / nn v2 v10 v18 v26 v34 v42 v50 v58 * 256] :=
  v3' _ (tile_int (iv7_nat k (by have := t4_lt' h k; omega)) (nA_int v2 v10 v18 v26 v34 v42 v50 v58) (by have := t4_lt' h k; omega) h.nn_pos (nn_le v2 v10 v18 v26 v34 v42 v50 v58))
theorem off62_eq (h : Good v2 v10 v18 v26 v34 v42 v50 v58) (k : Fin (k0_t4_loop v2 v10 v18 v26 v34 v42 v50 v58).trips) : k0_off62 v2 v10 v18 v26 v34 v42 v50 v58 k = ![k.val % 8] :=
  v1 (slot_int (iv_nat k (by have := t4_lt' h k; omega)) (by have := t4_lt' h k; omega))
theorem off65_eq (h : Good v2 v10 v18 v26 v34 v42 v50 v58) (k : Fin (k0_t4_loop v2 v10 v18 v26 v34 v42 v50 v58).trips) : k0_off65 v2 v10 v18 v26 v34 v42 v50 v58 k = ![k.val % 8] :=
  v1 (slot_int (iv_nat k (by have := t4_lt' h k; omega)) (by have := t4_lt' h k; omega))
theorem off63_eq (h : Good v2 v10 v18 v26 v34 v42 v50 v58) (k : Fin (k0_t4_loop v2 v10 v18 v26 v34 v42 v50 v58).trips) : k0_off63 v2 v10 v18 v26 v34 v42 v50 v58 k = ![k.val % 8, 0, 0] :=
  v3 (slot_int (iv_nat k (by have := t4_lt' h k; omega)) (by have := t4_lt' h k; omega))
theorem off66_eq (h : Good v2 v10 v18 v26 v34 v42 v50 v58) (k : Fin (k0_t4_loop v2 v10 v18 v26 v34 v42 v50 v58).trips) : k0_off66 v2 v10 v18 v26 v34 v42 v50 v58 k = ![k.val % 8, 0, 0] :=
  v3 (slot_int (iv_nat k (by have := t4_lt' h k; omega)) (by have := t4_lt' h k; omega))
theorem off64_eq (h : Good v2 v10 v18 v26 v34 v42 v50 v58) (k : Fin (k0_t4_loop v2 v10 v18 v26 v34 v42 v50 v58).trips) (v80 : BitVec 32) : k0_off64 v2 v10 v18 v26 v34 v42 v50 v58 k v80 = ![v80.toNat, 0, k.val / nn v2 v10 v18 v26 v34 v42 v50 v58 * 256] :=
  v3' _ (tile_int (iv_nat k (by have := t4_lt' h k; omega)) (nA_int v2 v10 v18 v26 v34 v42 v50 v58) (by have := t4_lt' h k; omega) h.nn_pos (nn_le v2 v10 v18 v26 v34 v42 v50 v58))
theorem off67_eq (h : Good v2 v10 v18 v26 v34 v42 v50 v58) (k : Fin (k0_t4_loop v2 v10 v18 v26 v34 v42 v50 v58).trips) (v80 : BitVec 32) : k0_off67 v2 v10 v18 v26 v34 v42 v50 v58 k v80 = ![v80.toNat, 0, k.val / nn v2 v10 v18 v26 v34 v42 v50 v58 * 256] :=
  v3' _ (tile_int (iv_nat k (by have := t4_lt' h k; omega)) (nA_int v2 v10 v18 v26 v34 v42 v50 v58) (by have := t4_lt' h k; omega) h.nn_pos (nn_le v2 v10 v18 v26 v34 v42 v50 v58))

/-- Whether a main-loop trip prefetches. -/
theorem cond1_iff (h : Good v2 v10 v18 v26 v34 v42 v50 v58) (k : Fin (k0_t4_loop v2 v10 v18 v26 v34 v42 v50 v58).trips) : k0_cond1 v2 v10 v18 v26 v34 v42 v50 v58 k = 1#1 ↔ k.val + 7 < nn v2 v10 v18 v26 v34 v42 v50 v58 * 7 := by
  have hk := t4_lt' h k
  have hs : Scalar.cmpi .slt (Scalar.subi (Scalar.addi (Scf.iv 0#32 1#32 k) 8#32) 1#32) (Scalar.muli (nA v2 v10 v18 v26 v34 v42 v50 v58) 7#32) = 1#1 ↔ k.val + 7 < nn v2 v10 v18 v26 v34 v42 v50 v58 * 7 := by
    constructor
    · intro hc; by_contra hn
      exact slt_fails (iv7_nat k (by omega)) (n7_int v2 v10 v18 v26 v34 v42 v50 v58) (by omega) hc
    · intro hc; exact slt_holds (iv7_nat k (by omega)) (n7_int v2 v10 v18 v26 v34 v42 v50 v58) (by omega)
  rw [← hs]
  exact Scalar.guard_iff _
end Loops

end Cert.KernelIdeal.Body

end
-- ==== Proof.Checks.lean ====
/- The checks the kernel makes on words it reads: each holds under what the claims assume. -/
module

public import proofs.«01_k».proof.Proof.Words

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Affine

/-! ## Offsets in bounds, by shape -/

theorem in9 {x : ℕ} (h : x < 9) : ∀ a : Fin 1, (![x] : Fin 1 → ℕ) a + S1.size a ≤ S9.size a := by
  intro a; fin_cases a; show x + 1 ≤ 9; omega
theorem in8 {x : ℕ} (h : x < 8) : ∀ a : Fin 1, (![x] : Fin 1 → ℕ) a + S1.size a ≤ S8.size a := by
  intro a; fin_cases a; show x + 1 ≤ 8; omega
theorem inSlotW {x : ℕ} (h : x < 8) : ∀ a : Fin 3, (![x, 0, 0] : Fin 3 → ℕ) a + S1x2048x256.size a ≤ S8x2048x256.size a := inbW ⟨x, h⟩
theorem inSlotS {x : ℕ} (h : x < 8) : ∀ a : Fin 3, (![x, 0, 0] : Fin 3 → ℕ) a + S1x32x256.size a ≤ S8x32x256.size a := inbS ⟨x, h⟩
theorem inTileW {x t : ℕ} (h : x < 8) (ht : t < 7) : ∀ a : Fin 3, (![x, 0, t * 256] : Fin 3 → ℕ) a + S1x2048x256.size a ≤ S8x2048x1792.size a := by
  intro a; fin_cases a
  · show x + 1 ≤ 8; omega
  · show 0 + 2048 ≤ 2048; omega
  · show t * 256 + 256 ≤ 1792; omega
theorem inTileS {x t : ℕ} (h : x < 8) (ht : t < 7) : ∀ a : Fin 3, (![x, 0, t * 256] : Fin 3 → ℕ) a + S1x32x256.size a ≤ S8x32x1792.size a := by
  intro a; fin_cases a
  · show x + 1 ≤ 8; omega
  · show 0 + 32 ≤ 32; omega
  · show t * 256 + 256 ≤ 1792; omega
theorem inRowsW (m : ℕ) {x : ℕ} (hm : m + 256 ≤ 2048) (h : x < 8) : ∀ a : Fin 3, (![x, m, 0] : Fin 3 → ℕ) a + S1x256x256.size a ≤ S8x2048x256.size a := by
  intro a; fin_cases a
  · show x + 1 ≤ 8; omega
  · show m + 256 ≤ 2048; omega
  · show 0 + 256 ≤ 256; omega
theorem inRowS (m : ℕ) {x : ℕ} (hm : m + 1 ≤ 32) (h : x < 8) : ∀ a : Fin 3, (![x, m, 0] : Fin 3 → ℕ) a + S1x1x256.size a ≤ S8x32x256.size a := by
  intro a; fin_cases a
  · show x + 1 ≤ 8; omega
  · show m + 1 ≤ 32; omega
  · show 0 + 256 ≤ 256; omega
theorem inX (m : ℕ) {x : ℕ} (hm : m + 256 ≤ 4096) (h : x ≤ 128) : ∀ a : Fin 2, (![x, m] : Fin 2 → ℕ) a + S128x256.size a ≤ S256x4096.size a := by
  intro a; fin_cases a
  · show x + 128 ≤ 256; omega
  · show m + 256 ≤ 4096; omega
theorem inY {x t : ℕ} (h : x ≤ 128) (ht : t < 7) : ∀ a : Fin 2, (![x, t * 256] : Fin 2 → ℕ) a + S128x256.size a ≤ S256x1792.size a := by
  intro a; fin_cases a
  · show x + 128 ≤ 256; omega
  · show t * 256 + 256 ≤ 1792; omega

/-! ## The tile of a step -/

theorem tile_lt {k n : ℕ} (h1 : 1 ≤ n) (hk : k < n * 7) : k / n < 7 := Nat.div_lt_of_lt_mul hk
theorem dvd256 {a : BitVec 32} {x : ℕ} (h : IsInt a (x * 256 : ℕ)) : 256 ∣ a.toNat := by rw [toNat_nat h]; exact Dvd.intro_left x rfl

section
variable {v2 v10 v18 v26 v34 v42 v50 v58 : BitVec 32}

theorem n1_tile (h : Good v2 v10 v18 v26 v34 v42 v50 v58) (k : Fin (k0_t1_loop v2 v10 v18 v26 v34 v42 v50 v58).trips) : k.val / nn v2 v10 v18 v26 v34 v42 v50 v58 < 7 :=
  tile_lt h.nn_pos (by have := t1_lt h k; have := h.nn_pos; omega)
theorem n4_tile (h : Good v2 v10 v18 v26 v34 v42 v50 v58) (k : Fin (k0_t4_loop v2 v10 v18 v26 v34 v42 v50 v58).trips) : k.val / nn v2 v10 v18 v26 v34 v42 v50 v58 < 7 := tile_lt h.nn_pos (t4_lt h k)
theorem n4_tile7 (h : Good v2 v10 v18 v26 v34 v42 v50 v58) (k : Fin (k0_t4_loop v2 v10 v18 v26 v34 v42 v50 v58).trips) (hc : k0_cond1 v2 v10 v18 v26 v34 v42 v50 v58 k = 1#1) : (k.val + 7) / nn v2 v10 v18 v26 v34 v42 v50 v58 < 7 :=
  tile_lt h.nn_pos ((cond1_iff h k).1 hc)
theorem mod_lt9 (h : Good v2 v10 v18 v26 v34 v42 v50 v58) (k : ℕ) : k % nn v2 v10 v18 v26 v34 v42 v50 v58 < 9 := by
  have := Nat.mod_lt k (show nn v2 v10 v18 v26 v34 v42 v50 v58 > 0 from h.nn_pos); have := nn_le v2 v10 v18 v26 v34 v42 v50 v58; omega

theorem chk8 (h : Good v2 v10 v18 v26 v34 v42 v50 v58) : k0_chk8 v2 v10 v18 v26 v34 v42 v50 v58 := by
  have h2 : ∀ {p : Fin (k0_t2_loop v2 v10 v18 v26 v34 v42 v50 v58).trips → Prop}, ∀ k, p k := fun k => absurd k.isLt (by have := t2_trips h; omega)
  have h7 : ∀ {p : Fin (k0_t7_loop v2 v10 v18 v26 v34 v42 v50 v58).trips → Prop}, ∀ k, p k := fun k => absurd k.isLt (by have := t7_trips h; omega)
  refine ⟨⟨t1_OK h, ?_, ?_, ?_, ?_, ?_, ?_, ?_, t2_OK h, h2, h2, h2, h2, h2, h2, h2, t4_OK h, ?_, ?_, ?_, ?_, ?_, ?_, ?_, ?_, ?_, ?_, ?_, ?_, ?_, ?_, ?_⟩, ?_⟩
  · intro k; rw [off8_eq h]; exact in9 (mod_lt9 h _)
  · intro k; exact dvd256 (tile_int (iv_nat k (by have := t1_lt h k; omega)) (nA_int v2 v10 v18 v26 v34 v42 v50 v58) (by have := t1_lt h k; omega) h.nn_pos (nn_le v2 v10 v18 v26 v34 v42 v50 v58))
  · intro k; rw [off9_eq h]; exact in8 (Nat.mod_lt _ (by omega))
  · intro k; rw [off10_eq h]; exact inSlotW (Nat.mod_lt _ (by omega))
  · intro k hinb; exact words_of_packed (packed_dvd (by decide) ⟨0, rfl⟩ (by decide))
  · intro k; rw [off12_eq h]; exact in8 (Nat.mod_lt _ (by omega))
  · intro k; rw [off13_eq h]; exact inSlotS (Nat.mod_lt _ (by omega))
  · intro k; rw [off54_eq h]; exact in9 (mod_lt9 h _)
  · intro k hc; rw [off55_eq h]; exact in9 (mod_lt9 h _)
  · intro k hc; exact dvd256 (tile_int (iv7_nat k (by have := t4_lt' h k; omega)) (nA_int v2 v10 v18 v26 v34 v42 v50 v58) (by have := t4_lt' h k; omega) h.nn_pos (nn_le v2 v10 v18 v26 v34 v42 v50 v58))
  · intro k hc; rw [off56_eq h]; exact in8 (Nat.mod_lt _ (by omega))
  · intro k hc; rw [off57_eq h]; exact inSlotW (Nat.mod_lt _ (by omega))
  · intro k hc hinb; exact words_of_packed (packed_dvd (by decide) ⟨0, rfl⟩ (by decide))
  · intro k hc; rw [off59_eq h]; exact in8 (Nat.mod_lt _ (by omega))
  · intro k hc; rw [off60_eq h]; exact inSlotS (Nat.mod_lt _ (by omega))
  · intro k; exact dvd256 (tile_int (iv_nat k (by have := t4_lt' h k; omega)) (nA_int v2 v10 v18 v26 v34 v42 v50 v58) (by have := t4_lt' h k; omega) h.nn_pos (nn_le v2 v10 v18 v26 v34 v42 v50 v58))
  · intro k; rw [off62_eq h]; exact in8 (Nat.mod_lt _ (by omega))
  · intro k; rw [off63_eq h]; exact inSlotW (Nat.mod_lt _ (by omega))
  · intro k hinb; exact words_of_packed (packed_dvd (by decide) ⟨0, rfl⟩ (by decide))
  · intro k; rw [off65_eq h]; exact in8 (Nat.mod_lt _ (by omega))
  · intro k; rw [off66_eq h]; exact inSlotS (Nat.mod_lt _ (by omega))
  · intro k; exact dvd256 (tile_int (iv_nat k (by have := t4_lt' h k; omega)) (nA_int v2 v10 v18 v26 v34 v42 v50 v58) (by have := t4_lt' h k; omega) h.nn_pos (nn_le v2 v10 v18 v26 v34 v42 v50 v58))
  · exact ⟨t7_OK h, h7, h7, h7, h7, h7, h7, h7, h7, h7, h7, h7, h7, h7, h7, h7⟩

theorem chk9 (h : Good v2 v10 v18 v26 v34 v42 v50 v58) (k : Fin (k0_t1_loop v2 v10 v18 v26 v34 v42 v50 v58).trips) (v80 : BitVec 32) (hv : v80.toNat < 8) : k0_chk9 v2 v10 v18 v26 v34 v42 v50 v58 k v80 := by
  refine ⟨?_, ?_, ?_⟩
  · rw [off11_eq h]; exact inTileW hv (n1_tile h k)
  · intro hinb; exact words_of_packed (packed_dvd (by decide) ⟨0, rfl⟩ (by decide))
  · rw [off14_eq h]; exact inTileS hv (n1_tile h k)
theorem chk11 (h : Good v2 v10 v18 v26 v34 v42 v50 v58) (k : Fin (k0_t4_loop v2 v10 v18 v26 v34 v42 v50 v58).trips) (v80 : BitVec 32) (hv : v80.toNat < 8) : k0_chk11 v2 v10 v18 v26 v34 v42 v50 v58 k v80 := by
  refine ⟨?_, ?_, ?_⟩
  · intro hc; rw [off58_eq h]; exact inTileW hv (n4_tile7 h k hc)
  · intro hc hinb; exact words_of_packed (packed_dvd (by decide) ⟨0, rfl⟩ (by decide))
  · intro hc; rw [off61_eq h]; exact inTileS hv (n4_tile7 h k hc)
theorem chk12 (h : Good v2 v10 v18 v26 v34 v42 v50 v58) (k : Fin (k0_t4_loop v2 v10 v18 v26 v34 v42 v50 v58).trips) (v80 : BitVec 32) (hv : v80.toNat < 8) : k0_chk12 v2 v10 v18 v26 v34 v42 v50 v58 k v80 := by
  refine ⟨?_, ?_, ?_⟩
  · rw [off64_eq h]; exact inTileW hv (n4_tile h k)
  · intro hinb; exact words_of_packed (packed_dvd (by decide) ⟨0, rfl⟩ (by decide))
  · rw [off67_eq h]; exact inTileS hv (n4_tile h k)
theorem chk13 (v80 : BitVec 32) (hv : v80.toNat < 8) : k0_chk13 v80 := in8 hv

/-! ## A window's rows -/

/-- The windows an expert's rows take: from the multiple of 16 at or below its first row, 128 rows each. -/
def wins (o g : ℕ) : ℕ := (o + g - o / 16 * 16 + 127) / 128
/-- The first row of window `k`: no further down than leaves 128 rows. -/
def wrow (o k : ℕ) : ℕ := min (o / 16 * 16 + k * 128) 128

theorem row_int {o g : ℕ} {v107 v109 : BitVec 32} (ho : IsInt v107 o) (hg : IsInt v109 g) (hs : o + g ≤ 256) :
    IsInt (Scalar.divsi (Scalar.subi (Scalar.addi (Scalar.subi (Scalar.addi v107 v109) (Scalar.muli (Scalar.divsi v107 16#32) 16#32)) 128#32) 1#32) 128#32)
      (wins o g) := by
  unfold wins
  exact Affine.divsi (ea := (o + g - o / 16 * 16 + 127 : ℤ)) (eb := 128)
    (Affine.subi (ea := (o + g - o / 16 * 16 + 128 : ℤ)) (eb := 1)
      (Affine.addi (ea := (o + g - o / 16 * 16 : ℤ)) (eb := 128)
        (Affine.subi (ea := (o + g : ℤ)) (eb := (o / 16 * 16 : ℤ))
          (Affine.addi ho hg (by omega))
          (Affine.muli (ea := (o / 16 : ℤ)) (eb := 16) (Affine.divsi (ea := o) (eb := 16) ho (lit 16 (by omega)) (by omega)) (lit 16 (by omega)) (by omega))
          (by omega)) (lit 128 (by omega)) (by omega)) (lit 1 (by omega)) (by omega)) (lit 128 (by omega)) (by omega)
theorem wins_le {o g : ℕ} (hs : o + g ≤ 256) : wins o g ≤ 2 := by unfold wins; omega
theorem t5_trips {o g : ℕ} {v107 v109 : BitVec 32} (ho : IsInt v107 o) (hg : IsInt v109 g) (hs : o + g ≤ 256) :
    (k0_t5_loop v107 v109).trips = wins o g := by
  have := wins_le hs
  exact trips_eq (el := 0) (eu := wins o g) (k := 1) (lit 0 (by omega)) (norm_int (row_int ho hg hs) (by omega)) (lit 1 (by omega)) _ (by omega)
theorem t5_OK {o g : ℕ} {v107 v109 : BitVec 32} (ho : IsInt v107 o) (hg : IsInt v109 g) (hs : o + g ≤ 256) :
    (k0_t5_loop v107 v109).OK := by
  have := wins_le hs
  exact ok (el := 0) (eu := wins o g) (k := 1) (lit 0 (by omega)) (norm_int (row_int ho hg hs) (by omega)) (lit 1 (by omega)) (by omega)
theorem t6_trips {o g : ℕ} {v107 v109 : BitVec 32} (ho : IsInt v107 o) (hg : IsInt v109 g) (hs : o + g ≤ 256) :
    (k0_t6_loop v107 v109).trips = 0 := by
  have := wins_le hs
  exact trips_eq (el := wins o g) (eu := wins o g) (k := 1) (norm_int (row_int ho hg hs) (by omega)) (norm0_int (row_int ho hg hs) (by omega)) (lit 1 (by omega)) _ (by omega)
theorem t6_OK {o g : ℕ} {v107 v109 : BitVec 32} (ho : IsInt v107 o) (hg : IsInt v109 g) (hs : o + g ≤ 256) :
    (k0_t6_loop v107 v109).OK := by
  have := wins_le hs
  exact ok (el := wins o g) (eu := wins o g) (k := 1) (norm_int (row_int ho hg hs) (by omega)) (norm0_int (row_int ho hg hs) (by omega)) (lit 1 (by omega)) (by omega)
theorem mult7_int {o g : ℕ} {v107 v109 : BitVec 32} (ho : IsInt v107 o) (hg : IsInt v109 g) (hs : o + g ≤ 256)
    (k : Fin (k0_t5_loop v107 v109).trips) : IsInt (k0_mult7 v107 v109 k) (wrow o k) := by
  have := wins_le hs
  have hk : k.val < wins o g := by have := k.isLt; have := t5_trips ho hg hs; omega
  unfold wrow
  exact Affine.minsi (ea := (o / 16 * 16 + k.val * 128 : ℤ)) (eb := 128)
    (Affine.addi (ea := (o / 16 * 16 : ℤ)) (eb := (k.val * 128 : ℤ))
      (Affine.muli (ea := (o / 16 : ℤ)) (eb := 16) (Affine.divsi (ea := o) (eb := 16) ho (lit 16 (by omega)) (by omega)) (lit 16 (by omega)) (by omega))
      (Affine.muli (ea := k.val) (eb := 128) (iv_nat k (by omega)) (lit 128 (by omega)) (by omega)) (by omega)) (lit 128 (by omega)) (by omega)
theorem wrow_le (o k : ℕ) : wrow o k ≤ 128 := by unfold wrow; omega
theorem mult7_le {o g : ℕ} {v107 v109 : BitVec 32} (ho : IsInt v107 o) (hg : IsInt v109 g) (hs : o + g ≤ 256)
    (k : Fin (k0_t5_loop v107 v109).trips) : (k0_mult7 v107 v109 k).toNat ≤ 128 := by
  rw [toNat_nat (mult7_int ho hg hs k)]; exact wrow_le _ _
theorem off125_eq (h : Good v2 v10 v18 v26 v34 v42 v50 v58) (k4 : Fin (k0_t4_loop v2 v10 v18 v26 v34 v42 v50 v58).trips) {o g : ℕ} {v107 v109 : BitVec 32} (ho : IsInt v107 o) (hg : IsInt v109 g) (hs : o + g ≤ 256)
    (k : Fin (k0_t5_loop v107 v109).trips) : k0_off125 v2 v10 v18 v26 v34 v42 v50 v58 k4 v107 v109 k = ![wrow o k, k4.val / nn v2 v10 v18 v26 v34 v42 v50 v58 * 256] := by
  show ![(k0_mult7 v107 v109 k).toNat, (Scalar.muli (Scalar.divsi (Scf.iv 0#32 1#32 k4.val) (nA v2 v10 v18 v26 v34 v42 v50 v58)) 256#32).toNat] = _
  rw [toNat_nat (mult7_int ho hg hs k),
    toNat_nat (tile_int (iv_nat k4 (by have := t4_lt' h k4; omega)) (nA_int v2 v10 v18 v26 v34 v42 v50 v58) (by have := t4_lt' h k4; omega) h.nn_pos (nn_le v2 v10 v18 v26 v34 v42 v50 v58))]
theorem slotW_eq (h : Good v2 v10 v18 v26 v34 v42 v50 v58) (k : Fin (k0_t4_loop v2 v10 v18 v26 v34 v42 v50 v58).trips) : (slotW k).toNat = k.val % 8 :=
  toNat_nat (slot_int (iv_nat k (by have := t4_lt' h k; omega)) (by have := t4_lt' h k; omega))

theorem chk14 (h : Good v2 v10 v18 v26 v34 v42 v50 v58) (k4 : Fin (k0_t4_loop v2 v10 v18 v26 v34 v42 v50 v58).trips) {o g : ℕ} {v107 v109 : BitVec 32} (ho : IsInt v107 o) (hg : IsInt v109 g) (hs : o + g ≤ 256) :
    k0_chk14 v2 v10 v18 v26 v34 v42 v50 v58 k4 v107 v109 := by
  have h6 : ∀ {p : Fin (k0_t6_loop v107 v109).trips → Prop}, ∀ k, p k := fun k => absurd k.isLt (by have := t6_trips ho hg hs; omega)
  have hsl : (slotW k4).toNat < 8 := by rw [slotW_eq h]; exact Nat.mod_lt _ (by omega)
  have hm : ∀ k, (k0_mult7 v107 v109 k).toNat ≤ 128 := mult7_le ho hg hs
  have W := fun (m : ℕ) (h : m + 256 ≤ 2048) => fun (_ : Fin (k0_t5_loop v107 v109).trips) => inRowsW m h hsl
  have S := fun (m : ℕ) (h : m + 1 ≤ 32) => fun (_ : Fin (k0_t5_loop v107 v109).trips) => inRowS m h hsl
  have X := fun (m : ℕ) (h : m + 256 ≤ 4096) => fun (k : Fin (k0_t5_loop v107 v109).trips) => inX m h (hm k)
  have hd : ∀ k : Fin (k0_t5_loop v107 v109).trips, 16 ∣ (k0_mult7 v107 v109 k).toNat := by
    intro k; rw [toNat_nat (mult7_int ho hg hs k)]; unfold wrow; omega
  refine ⟨?_, ?_, ?_, ?_⟩
  · exact ⟨t5_OK ho hg hs, hd,
      W 0 (by decide), S 0 (by decide), S 1 (by decide), S 16 (by decide), S 17 (by decide), X 0 (by decide), X 2048 (by decide), W 256 (by decide),
      S 2 (by decide), S 3 (by decide), S 18 (by decide), S 19 (by decide), X 256 (by decide), X 2304 (by decide), W 512 (by decide), S 4 (by decide),
      S 5 (by decide), S 20 (by decide), S 21 (by decide), X 512 (by decide), X 2560 (by decide), W 768 (by decide), S 6 (by decide), S 7 (by decide),
      S 22 (by decide), S 23 (by decide), X 768 (by decide), X 2816 (by decide), W 1024 (by decide), S 8 (by decide)⟩
  · exact ⟨
      S 9 (by decide), S 24 (by decide), S 25 (by decide), X 1024 (by decide), X 3072 (by decide), W 1280 (by decide), S 10 (by decide), S 11 (by decide),
      S 26 (by decide), S 27 (by decide), X 1280 (by decide), X 3328 (by decide), W 1536 (by decide), S 12 (by decide), S 13 (by decide), S 28 (by decide),
      S 29 (by decide), X 1536 (by decide), X 3584 (by decide), W 1792 (by decide), S 14 (by decide), S 15 (by decide), S 30 (by decide), S 31 (by decide),
      X 1792 (by decide), X 3840 (by decide),
      fun k => by rw [off125_eq h k4 ho hg hs]; exact inY (wrow_le _ _) (n4_tile h k4),
      fun k hinb => packed_dvd (show 2 ≤ 2 by decide) (by
        rw [off125_eq h k4 ho hg hs]
        exact (show 2 ∣ wrow o k by unfold wrow; omega)) (by decide),
      t6_OK ho hg hs, h6, h6, h6⟩
  · exact ⟨h6, h6, h6, h6, h6, h6, h6, h6, h6, h6, h6, h6, h6, h6, h6, h6, h6, h6, h6, h6, h6, h6, h6, h6, h6, h6, h6, h6, h6, h6, h6, h6⟩
  · exact ⟨h6, h6, h6, h6, h6, h6, h6, h6, h6, h6, h6, h6, h6, h6, h6, h6, h6, h6, h6, h6, h6, h6, h6, h6⟩
end

end Cert.KernelIdeal.Body

end
-- ==== Proof.Slots.lean ====
/- The two rings' slots, idle or with a tile in flight, and what one issue and one wait do to them. -/
module

public import proofs.«01_k».proof.Proof.Trip
public import proofs.«01_k».proof.Proof.Checks

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weights' and the scales' semaphore cells of slot `i`. -/
abbrev wcell (i : Fin 8) : SemLoc sig :=
  SemLoc.dma ((cc0_scratch7.slice (Rect.unit (s := S8) ![i.val] S1.size (in8 i.isLt))).squeeze S_ squeezes_S1_S_).sem
abbrev scell (i : Fin 8) : SemLoc sig :=
  SemLoc.dma ((cc0_scratch8.slice (Rect.unit (s := S8) ![i.val] S1.size (in8 i.isLt))).squeeze S_ squeezes_S1_S_).sem
theorem wcell_eq : ∀ i : Fin 8, wcell i = SemLoc.dma ⟨2 + i.val, by have := i.isLt; show 2 + i.val < 19; omega⟩ := by decide
theorem scell_eq : ∀ i : Fin 8, scell i = SemLoc.dma ⟨10 + i.val, by have := i.isLt; show 10 + i.val < 19; omega⟩ := by decide

/-- The read share of the weights, and of the scales, lent on slot `i`'s cell. -/
abbrev wtok (c : Dev nD) (i : Fin 8) (S : Finset (Idx (mW.view.loc (c : Thread nD τ)))) (fa : Cont (F := F) c mW) : sProp 𝕄 :=
  mW.view.loc (c : Thread nD τ) ↦[S]{Transfers.shareTok fullShare 8 i} fa
abbrev stok (c : Dev nD) (i : Fin 8) (S : Finset (Idx (mS.view.loc (c : Thread nD τ)))) (fa : Cont (F := F) c mS) : sProp 𝕄 :=
  mS.view.loc (c : Thread nD τ) ↦[S]{Transfers.shareTok fullShare 8 i} fa

/-- The tile of the weights, and of the scales, at an offset; and expert `e`'s columns `256 t …` of them. -/
abbrev wtileO (o : Fin 3 → ℕ) (ho : ∀ a : Fin 3, o a + S1x2048x256.size a ≤ S8x2048x1792.size a) : Memref sig .tc .hbm S2048x256 .i8 :=
  (mW.slice (Rect.unit (s := S8x2048x1792) o S1x2048x256.size ho) (fun _ => rfl)).squeeze S2048x256 squeezes_S1x2048x256_S2048x256
abbrev stileO (o : Fin 3 → ℕ) (ho : ∀ a : Fin 3, o a + S1x32x256.size a ≤ S8x32x1792.size a) : Memref sig .tc .hbm S32x256 .f32 :=
  (mS.slice (Rect.unit (s := S8x32x1792) o S1x32x256.size ho) (fun _ => rfl)).squeeze S32x256 squeezes_S1x32x256_S32x256
abbrev wtile (e : Fin 8) (t : Fin 7) : Memref sig .tc .hbm S2048x256 .i8 := wtileO ![e.val, 0, t.val * 256] (inTileW e.isLt t.isLt)
abbrev stile (e : Fin 8) (t : Fin 7) : Memref sig .tc .hbm S32x256 .f32 := stileO ![e.val, 0, t.val * 256] (inTileS e.isLt t.isLt)

/-- Slot `i` idle. -/
abbrev widle (c : Dev nD) (fa : Cont (F := F) c mW) (i : Fin 8) : sProp 𝕄 :=
  iprop(semVal ((c : Thread nD τ), wcell i) 0 ∗ (∃ f, (wslot i).view.loc (c : Thread nD τ) ↦[(wslot i).view.set]{fullShare} f) ∗ wtok c i Finset.univ fa)
abbrev sidle (c : Dev nD) (fa : Cont (F := F) c mS) (i : Fin 8) : sProp 𝕄 :=
  iprop(semVal ((c : Thread nD τ), scell i) 0 ∗ (∃ f, (sslot i).view.loc (c : Thread nD τ) ↦[(sslot i).view.set]{fullShare} f) ∗ stok c i Finset.univ fa)

/-- The tile of the weights at offset `o` in flight into slot `i`, the rest of the share it reads by at hand. -/
abbrev wflyO (c : Dev nD) (fa : Cont (F := F) c mW) (i : Fin 8) (o : Fin 3 → ℕ) (ho : ∀ a : Fin 3, o a + S1x2048x256.size a ≤ S8x2048x1792.size a) : sProp 𝕄 :=
  iprop((∃ f, Transfers.Flight (countersEmb (U := Pipeline.UD sig nD τ)) (c : Thread nD τ) (wcell i) () 16384
      iprop(((wslot i).view.loc (c : Thread nD τ) ↦[(wslot i).view.set]{fullShare}
          (wslot i).view.writes (Elt F) f [⟨Rect.whole S2048x256, ReadAs.same.apply ((wtileO o ho).view.read (Elt F) fa)⟩])
        ∗ wtok c i (wtileO o ho).view.set fa)) ∗ wtok c i (Finset.univ \ (wtileO o ho).view.set) fa)
abbrev sflyO (c : Dev nD) (fa : Cont (F := F) c mS) (i : Fin 8) (o : Fin 3 → ℕ) (ho : ∀ a : Fin 3, o a + S1x32x256.size a ≤ S8x32x1792.size a) : sProp 𝕄 :=
  iprop((∃ f, Transfers.Flight (countersEmb (U := Pipeline.UD sig nD τ)) (c : Thread nD τ) (scell i) () 1024
      iprop(((sslot i).view.loc (c : Thread nD τ) ↦[(sslot i).view.set]{fullShare}
          (sslot i).view.writes (Elt F) f [⟨Rect.whole S32x256, ReadAs.same.apply ((stileO o ho).view.read (Elt F) fa)⟩])
        ∗ stok c i (stileO o ho).view.set fa)) ∗ stok c i (Finset.univ \ (stileO o ho).view.set) fa)
/-- Expert `e`'s tile `t` in flight into slot `i`. -/
def wfly (c : Dev nD) (fa : Cont (F := F) c mW) (i : Fin 8) (e : Fin 8) (t : Fin 7) : sProp 𝕄 :=
  wflyO c fa i ![e.val, 0, t.val * 256] (inTileW e.isLt t.isLt)
def sfly (c : Dev nD) (fa : Cont (F := F) c mS) (i : Fin 8) (e : Fin 8) (t : Fin 7) : sProp 𝕄 :=
  sflyO c fa i ![e.val, 0, t.val * 256] (inTileS e.isLt t.isLt)
theorem wfly_of (c : Dev nD) (fa : Cont (F := F) c mW) (i : Fin 8) (e : Fin 8) (t : Fin 7) (o : Fin 3 → ℕ) (ho) (h : o = ![e.val, 0, t.val * 256]) :
    wflyO c fa i o ho ⊢ wfly c fa i e t := by
  subst h; exact .rfl
theorem sfly_of (c : Dev nD) (fa : Cont (F := F) c mS) (i : Fin 8) (e : Fin 8) (t : Fin 7) (o : Fin 3 → ℕ) (ho) (h : o = ![e.val, 0, t.val * 256]) :
    sflyO c fa i o ho ⊢ sfly c fa i e t := by
  subst h; exact .rfl
theorem wflyO_of (c : Dev nD) (fa : Cont (F := F) c mW) (i : Fin 8) (e : Fin 8) (t : Fin 7) (o : Fin 3 → ℕ) (ho) (h : o = ![e.val, 0, t.val * 256]) :
    wflyO c fa i o ho ⊢ wflyO c fa i ![e.val, 0, t.val * 256] (inTileW e.isLt t.isLt) := by
  subst h; exact .rfl
theorem sflyO_of (c : Dev nD) (fa : Cont (F := F) c mS) (i : Fin 8) (e : Fin 8) (t : Fin 7) (o : Fin 3 → ℕ) (ho) (h : o = ![e.val, 0, t.val * 256]) :
    sflyO c fa i o ho ⊢ sflyO c fa i ![e.val, 0, t.val * 256] (inTileS e.isLt t.isLt) := by
  subst h; exact .rfl
/-- A word of a buffer of words, the list of experts' and the list of first rows'. -/
def act9 {c : Dev nD} (X9 : Cont (F := F) c sAct) (j : ℕ) : BitVec 32 :=
  if h : j < 9 then View.readAt (Elt F) sAct.view (Rect.unit (s := S9) ![j] S1.size (in9 h)).toLoadRect X9 (Shape.Idx.first (numel1_S1.symm ▸ Nat.one_pos)) else 0#32
def off8 {c : Dev nD} (X10 : Cont (F := F) c sOff) (j : ℕ) : BitVec 32 :=
  if h : j < 8 then View.readAt (Elt F) sOff.view (Rect.unit (s := S8) ![j] S1.size (in8 h)).toLoadRect X10 (Shape.Idx.first (numel1_S1.symm ▸ Nat.one_pos)) else 0#32
def gs8 {c : Dev nD} {arg0 : Memref sig .tc .smem S8 .i32} (G : Cont (F := F) c arg0) (j : ℕ) : BitVec 32 :=
  if h : j < 8 then View.readAt (Elt F) arg0.view (Rect.unit (s := S8) ![j] S1.size (in8 h)).toLoadRect G (Shape.Idx.first (numel1_S1.symm ▸ Nat.one_pos)) else 0#32
theorem act9_of {c : Dev nD} (X9 : Cont (F := F) c sAct) (j : ℕ) (o : Fin 1 → ℕ) (ho) (h : o = ![j]) :
    (View.readAt (Elt F) sAct.view (Rect.unit (s := S9) o S1.size ho).toLoadRect X9 (Shape.Idx.first (numel1_S1.symm ▸ Nat.one_pos)) : BitVec 32) = act9 X9 j := by
  subst h
  have hj : j < 9 := ho 0
  unfold act9; rw [dif_pos hj]
theorem off8_of {c : Dev nD} (X10 : Cont (F := F) c sOff) (j : ℕ) (o : Fin 1 → ℕ) (ho) (h : o = ![j]) :
    (View.readAt (Elt F) sOff.view (Rect.unit (s := S8) o S1.size ho).toLoadRect X10 (Shape.Idx.first (numel1_S1.symm ▸ Nat.one_pos)) : BitVec 32) = off8 X10 j := by
  subst h
  have hj : j < 8 := ho 0
  unfold off8; rw [dif_pos hj]
theorem gs8_of {c : Dev nD} {arg0 : Memref sig .tc .smem S8 .i32} (G : Cont (F := F) c arg0) (j : ℕ) (o : Fin 1 → ℕ) (ho) (h : o = ![j]) :
    (View.readAt (Elt F) arg0.view (Rect.unit (s := S8) o S1.size ho).toLoadRect G (Shape.Idx.first (numel1_S1.symm ▸ Nat.one_pos)) : BitVec 32) = gs8 G j := by
  subst h
  have hj : j < 8 := ho 0
  unfold gs8; rw [dif_pos hj]

variable {v2 v10 v18 v26 v34 v42 v50 v58 : BitVec 32}

/-- One issue of the first loop: the step's tile put in flight into the trip's slot. -/
theorem issue1 (c : Dev nD) (arg0 : Memref sig .tc .smem S8 .i32) (harg0 : arg0.IsWhole) (hw8 : k0_chk8 v2 v10 v18 v26 v34 v42 v50 v58) (h : Good v2 v10 v18 v26 v34 v42 v50 v58)
    (fW : Cont (F := F) c mW) (fS : Cont (F := F) c mS) (X9 : Cont (F := F) c sAct)
    (k : Fin (k0_t1_loop v2 v10 v18 v26 v34 v42 v50 v58).trips) (hi : (slotW k).toNat < 8)
    (e : Fin 8) (he : (act9 X9 (k.val % nn v2 v10 v18 v26 v34 v42 v50 v58)).toNat = e.val) (t : Fin 7) (ht : k.val / nn v2 v10 v18 v26 v34 v42 v50 v58 = t.val) :
    iprop((sAct.view.loc (c : Thread nD τ) ↦{fullShare} X9) ∗ widle c fW ⟨(slotW k).toNat, hi⟩ ∗ sidle c fS ⟨(slotW k).toNat, hi⟩)
      ⊢ wp frame (wpE (defs₀ (F := F)) Variants.none (c : Thread nD τ) none) Set.univ (k0_t1_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 k ())
        (fun _ => iprop((sAct.view.loc (c : Thread nD τ) ↦{fullShare} X9) ∗ wfly c fW ⟨(slotW k).toNat, hi⟩ e t ∗ sfly c fS ⟨(slotW k).toNat, hi⟩ e t)) := by
  have hact := fun ho => act9_of X9 (k.val % nn v2 v10 v18 v26 v34 v42 v50 v58) (k0_off8 v2 v10 v18 v26 v34 v42 v50 v58 k) ho (off8_eq h k)
  have hlt : ∀ ho, (View.readAt (Elt F) sAct.view (Rect.unit (s := S9) (k0_off8 v2 v10 v18 v26 v34 v42 v50 v58 k) S1.size ho).toLoadRect X9 (Shape.Idx.first (numel1_S1.symm ▸ Nat.one_pos)) : BitVec 32).toNat = e.val := by
    intro ho; rw [hact, he]
  have h11 : ∀ ho, k0_off11 v2 v10 v18 v26 v34 v42 v50 v58 k (View.readAt (Elt F) sAct.view (Rect.unit (s := S9) (k0_off8 v2 v10 v18 v26 v34 v42 v50 v58 k) S1.size ho).toLoadRect X9 (Shape.Idx.first (numel1_S1.symm ▸ Nat.one_pos)))
      = ![e.val, 0, t.val * 256] := by
    intro ho; rw [off11_eq h, hlt, ht]
  have h14 : ∀ ho, k0_off14 v2 v10 v18 v26 v34 v42 v50 v58 k (View.readAt (Elt F) sAct.view (Rect.unit (s := S9) (k0_off8 v2 v10 v18 v26 v34 v42 v50 v58 k) S1.size ho).toLoadRect X9 (Shape.Idx.first (numel1_S1.symm ▸ Nat.one_pos)))
      = ![e.val, 0, t.val * 256] := by
    intro ho; rw [off14_eq h, hlt, ht]
  have hchk := fun ho => chk9 h k (View.readAt (Elt F) sAct.view (Rect.unit (s := S9) (k0_off8 v2 v10 v18 v26 v34 v42 v50 v58 k) S1.size ho).toLoadRect X9 (Shape.Idx.first (numel1_S1.symm ▸ Nat.one_pos)))
    (by have := hlt ho; have := e.isLt; omega)
  iintro ⟨H9, ⟨Hwc, ⟨%f6, Hws⟩, Hwt⟩, ⟨Hsc, ⟨%f7, Hss⟩, Hst⟩⟩
  unfold k0_t1_body
  sl_exec (disch := exact hchk _)
  sl_step
  isplitl [H9]; · iexact H9
  isplitl [Hwc Hwt]
  · iapply (wfly_of c fW ⟨(slotW k).toNat, hi⟩ e t _ (k0_off11_inb v2 v10 v18 v26 v34 v42 v50 v58 k _ (hchk _)) (h11 (k0_off8_inb v2 v10 v18 v26 v34 v42 v50 v58 hw8 k)))
    isplitl [Hwc]
    · iexists f6; iexact Hwc
    · iexact Hwt
  · iapply (sfly_of c fS ⟨(slotW k).toNat, hi⟩ e t _ (k0_off14_inb v2 v10 v18 v26 v34 v42 v50 v58 k _ (hchk _)) (h14 (k0_off8_inb v2 v10 v18 v26 v34 v42 v50 v58 hw8 k)))
    isplitl [Hsc]
    · iexists f7; iexact Hsc
    · iexact Hst
end Cert.KernelIdeal.Body

end
-- ==== Proof.Main.lean ====
/- One step of the main loop: the next tile issued, the step's tile waited for, its windows computed. -/
module

public import proofs.«01_k».proof.Proof.Slots
public import Idealize.ShloMosaic.Lib.LoopRemainder

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result's contents after the first `n` windows of a step. -/
def y5 (c : Dev nD) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v75 v107 v109 : BitVec 32) (k0_hw14 : k0_chk14 v2 v10 v18 v26 v34 v42 v50 v58 k0_t4 v107 v109) (v110 v112 : BitVec 32)
    (hi : (slotW k0_t4).toNat < 8) (X5 : Cont (F := F) c sXq) (X6 : Cont (F := F) c sW) (X7 : Cont (F := F) c sS) (f : Cont (F := F) c sY) : ℕ → Cont (F := F) c sY
  | 0 => f
  | n + 1 => if h : n < (k0_t5_loop v107 v109).trips then
      sY.view.writes (Elt F) (y5 c arg0 harg0 v2 v10 v18 v26 v34 v42 v50 v58 k0_t4 v75 v107 v109 k0_hw14 v110 v112 hi X5 X6 X7 f n)
        ((trip5 c arg0 harg0 v2 v10 v18 v26 v34 v42 v50 v58 k0_t4 v75 v107 v109 k0_hw14 v110 v112 hi X5 X6 X7 ⟨n, h⟩).1 (y5 c arg0 harg0 v2 v10 v18 v26 v34 v42 v50 v58 k0_t4 v75 v107 v109 k0_hw14 v110 v112 hi X5 X6 X7 f n))
    else y5 c arg0 harg0 v2 v10 v18 v26 v34 v42 v50 v58 k0_t4 v75 v107 v109 k0_hw14 v110 v112 hi X5 X6 X7 f n

theorem y5_succ (c : Dev nD) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v75 v107 v109 : BitVec 32) (k0_hw14 : k0_chk14 v2 v10 v18 v26 v34 v42 v50 v58 k0_t4 v107 v109) (v110 v112 : BitVec 32)
    (hi : (slotW k0_t4).toNat < 8) (X5 : Cont (F := F) c sXq) (X6 : Cont (F := F) c sW) (X7 : Cont (F := F) c sS) (f : Cont (F := F) c sY)
    (k : Fin (k0_t5_loop v107 v109).trips) :
    y5 c arg0 harg0 v2 v10 v18 v26 v34 v42 v50 v58 k0_t4 v75 v107 v109 k0_hw14 v110 v112 hi X5 X6 X7 f (k.val + 1)
      = sY.view.writes (Elt F) (y5 c arg0 harg0 v2 v10 v18 v26 v34 v42 v50 v58 k0_t4 v75 v107 v109 k0_hw14 v110 v112 hi X5 X6 X7 f k.val)
          ((trip5 c arg0 harg0 v2 v10 v18 v26 v34 v42 v50 v58 k0_t4 v75 v107 v109 k0_hw14 v110 v112 hi X5 X6 X7 k).1 (y5 c arg0 harg0 v2 v10 v18 v26 v34 v42 v50 v58 k0_t4 v75 v107 v109 k0_hw14 v110 v112 hi X5 X6 X7 f k.val)) := by
  rw [y5.eq_2]; exact dif_pos k.isLt

set_option warn.classDefReducibility false in
/-- The windows' loop: the result at `y5` of what it held, all else as it was. -/
@[sl_loop] def loopInv_t5 (c : Dev nD) (E : Set ℕ) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v75 v107 v109 : BitVec 32) (k0_hw14 : k0_chk14 v2 v10 v18 v26 v34 v42 v50 v58 k0_t4 v107 v109) (v110 v112 : BitVec 32)
    (hi : (slotW k0_t4).toNat < 8) (X5 : Cont (F := F) c sXq) (X6 : Cont (F := F) c sW) (X7 : Cont (F := F) c sS) (G8 : Cont (F := F) c sY) :
    LoopInvTy_k0_t5 (F := F) Unit ℕ (Pipeline.UD sig nD τ) ℕ Variants.none c none E arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 k0_t4 v75 v107 v109 k0_hw14 v110 v112 where
  inv k _ := iprop((sXq.view.loc (c : Thread nD τ) ↦{fullShare} X5)
    ∗ ((wslot ⟨(slotW k0_t4).toNat, hi⟩).view.loc (c : Thread nD τ) ↦[(wslot ⟨(slotW k0_t4).toNat, hi⟩).view.set]{fullShare} X6)
    ∗ ((sslot ⟨(slotW k0_t4).toNat, hi⟩).view.loc (c : Thread nD τ) ↦[(sslot ⟨(slotW k0_t4).toNat, hi⟩).view.set]{fullShare} X7)
    ∗ (∃ f, (sY.view.loc (c : Thread nD τ) ↦{fullShare} f) ∗ ⌜f = y5 c arg0 harg0 v2 v10 v18 v26 v34 v42 v50 v58 k0_t4 v75 v107 v109 k0_hw14 v110 v112 hi X5 X6 X7 G8 k⌝))
  step k acc := by
    iintro ⟨H5, H6, H7, ⟨%f8, H8, %h8⟩⟩
    iapply (wp_wand_r Idealize.ShloMosaic.frame (wpE (defs₀ (F := F)) Variants.none (c : Thread nD τ) none) E)
    isplitl [H5 H6 H7 H8]
    · iapply ((trip5 (F := F) c arg0 harg0 v2 v10 v18 v26 v34 v42 v50 v58 k0_t4 v75 v107 v109 k0_hw14 v110 v112 hi X5 X6 X7 k).2 E f8)
      isplitl [H5]; · iexact H5
      isplitl [H6]; · iexact H6
      isplitl [H7]; · iexact H7
      iexact H8
    · iintro %_ ⟨H5, H6, H7, H8⟩
      isplitl [H5]; · iexact H5
      isplitl [H6]; · iexact H6
      isplitl [H7]; · iexact H7
      iexists _; isplitl [H8]; · iexact H8
      ipureintro; rw [y5_succ, h8]

/-- The result's contents after a step: the step's windows over the two tiles waited for. -/
def ynext (c : Dev nD) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v107 v109 : BitVec 32) (k0_hw14 : k0_chk14 v2 v10 v18 v26 v34 v42 v50 v58 k0_t4 v107 v109)
    (hi : (slotW k0_t4).toNat < 8) (X5 : Cont (F := F) c sXq) (X6 : Cont (F := F) c sW) (X7 : Cont (F := F) c sS) (f : Cont (F := F) c sY) : Cont (F := F) c sY :=
  y5 c arg0 harg0 v2 v10 v18 v26 v34 v42 v50 v58 k0_t4 (slotW k0_t4) v107 v109 k0_hw14 (Scalar.addi v107 v109) (Scalar.muli (Scalar.divsi v107 16#32) 16#32) hi X5 X6 X7 f (k0_t5_loop v107 v109).trips

/-- The slot a step's issue fills. -/
abbrev slot7W (k : ℕ) : BitVec 32 := Scalar.remsi (Scalar.subi (Scalar.addi (Scf.iv 0#32 1#32 k) 8#32) 1#32) 8#32

variable {v2 v10 v18 v26 v34 v42 v50 v58 : BitVec 32}

/-- What a step of the main loop does to the result. -/
def Step4 (c : Dev nD) (arg0 : Memref sig .tc .smem S8 .i32) (harg0 : arg0.IsWhole) (v2 v10 v18 v26 v34 v42 v50 v58 : BitVec 32)
    (k : Fin (k0_t4_loop v2 v10 v18 v26 v34 v42 v50 v58).trips) (w107 w109 : BitVec 32) (fW : Cont (F := F) c mW) (fS : Cont (F := F) c mS) (X5 : Cont (F := F) c sXq)
    (e : Fin 8) (t : Fin 7) (f f' : Cont (F := F) c sY) : Prop :=
  ∃ (hi : (slotW k).toNat < 8) (f6 : Cont (F := F) c sW) (f7 : Cont (F := F) c sS) (v107 v109 : BitVec 32) (hw : k0_chk14 v2 v10 v18 v26 v34 v42 v50 v58 k v107 v109), v107 = w107 ∧ v109 = w109 ∧
    f' = ynext c arg0 harg0 v2 v10 v18 v26 v34 v42 v50 v58 k v107 v109 hw hi X5
      ((wslot ⟨(slotW k).toNat, hi⟩).view.writes (Elt F) f6 [⟨Rect.whole S2048x256, ReadAs.same.apply ((wtile e t).view.read (Elt F) fW)⟩])
      ((sslot ⟨(slotW k).toNat, hi⟩).view.writes (Elt F) f7 [⟨Rect.whole S32x256, ReadAs.same.apply ((stile e t).view.read (Elt F) fS)⟩]) f

/-- The word a load of the list of experts returns. -/
abbrev rd9 {c : Dev nD} (X9 : Cont (F := F) c sAct) (o : Fin 1 → ℕ) (ho : ∀ a : Fin 1, o a + S1.size a ≤ S9.size a) : BitVec 32 :=
  View.readAt (Elt F) sAct.view (Rect.unit (s := S9) o S1.size ho).toLoadRect X9 (Shape.Idx.first (numel1_S1.symm ▸ Nat.one_pos))
theorem rd9_eq {c : Dev nD} (X9 : Cont (F := F) c sAct) (j : ℕ) (o : Fin 1 → ℕ) (ho) (h : o = ![j]) {e : Fin 8} (he : (act9 X9 j).toNat = e.val) :
    (rd9 X9 o ho).toNat = e.val := by
  have := act9_of X9 j o ho h; unfold rd9; rw [this, he]

set_option sl_exec.closedLoads true
/-- One step, its slot's tiles in flight and nothing left to issue. -/
theorem trip4_last (c : Dev nD) (arg0 : Memref sig .tc .smem S8 .i32) (harg0 : arg0.IsWhole) (hw8 : k0_chk8 v2 v10 v18 v26 v34 v42 v50 v58) (h : Good v2 v10 v18 v26 v34 v42 v50 v58) (v61 v62 : BitVec 32)
    (q : PosShare TreeShare) (G : Cont (F := F) c arg0)
    (fW : Cont (F := F) c mW) (fS : Cont (F := F) c mS) (X9 : Cont (F := F) c sAct) (X10 : Cont (F := F) c sOff) (X5 : Cont (F := F) c sXq) (f8 : Cont (F := F) c sY)
    (k : Fin (k0_t4_loop v2 v10 v18 v26 v34 v42 v50 v58).trips) (hi : (slotW k).toNat < 8)
    (e : Fin 8) (he : (act9 X9 (k.val % nn v2 v10 v18 v26 v34 v42 v50 v58)).toNat = e.val) (t : Fin 7) (ht : k.val / nn v2 v10 v18 v26 v34 v42 v50 v58 = t.val)
    {o g : ℕ} (ho : Affine.IsInt (off8 X10 e) o) (hg : Affine.IsInt (gs8 G e) g) (hs : o + g ≤ 256) (W : Waits sig Unit)
    (hc : ¬ k0_cond1 v2 v10 v18 v26 v34 v42 v50 v58 k = 1#1) :
    iprop((arg0.view.loc (c : Thread nD τ) ↦[arg0.view.set]{q} G) ∗ (sAct.view.loc (c : Thread nD τ) ↦{fullShare} X9) ∗ (sOff.view.loc (c : Thread nD τ) ↦{fullShare} X10)
        ∗ (sXq.view.loc (c : Thread nD τ) ↦{fullShare} X5)
        ∗ (sY.view.loc (c : Thread nD τ) ↦{fullShare} f8)
        ∗ (wfly c fW ⟨(slotW k).toNat, hi⟩ e t ∗ sfly c fS ⟨(slotW k).toNat, hi⟩ e t) ∗ owes (c : Thread nD τ) 0 W)
      ⊢ wp frame (wpE (defs₀ (F := F)) Variants.none (c : Thread nD τ) none) Set.univ (k0_t4_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 v61 v62 k ())
        (fun _ => iprop((arg0.view.loc (c : Thread nD τ) ↦[arg0.view.set]{q} G) ∗ (sAct.view.loc (c : Thread nD τ) ↦{fullShare} X9) ∗ (sOff.view.loc (c : Thread nD τ) ↦{fullShare} X10)
        ∗ (sXq.view.loc (c : Thread nD τ) ↦{fullShare} X5)
        ∗ (∃ f', (sY.view.loc (c : Thread nD τ) ↦{fullShare} f') ∗ ⌜Step4 c arg0 harg0 v2 v10 v18 v26 v34 v42 v50 v58 k (off8 X10 e) (gs8 G e) fW fS X5 e t f8 f'⌝)
        ∗ (widle c fW ⟨(slotW k).toNat, hi⟩ ∗ sidle c fS ⟨(slotW k).toNat, hi⟩) ∗ ∃ W, owes (c : Thread nD τ) 0 W)) := by
  have hlt := fun ho => rd9_eq X9 (k.val % nn v2 v10 v18 v26 v34 v42 v50 v58) (k0_off54 v2 v10 v18 v26 v34 v42 v50 v58 k) ho (off54_eq h k) he
  have hchk13 := fun ho => chk13 (rd9 X9 (k0_off54 v2 v10 v18 v26 v34 v42 v50 v58 k) ho) (by have := hlt ho; have := e.isLt; omega)
  have hchk12 := fun ho => chk12 h k (rd9 X9 (k0_off54 v2 v10 v18 v26 v34 v42 v50 v58 k) ho) (by have := hlt ho; have := e.isLt; omega)
  have h68 : ∀ ho, k0_off68 (rd9 X9 (k0_off54 v2 v10 v18 v26 v34 v42 v50 v58 k) ho) = ![e.val] := by
    intro ho; show ![(rd9 X9 (k0_off54 v2 v10 v18 v26 v34 v42 v50 v58 k) ho).toNat] = _; rw [hlt]
  have h107 := fun ho ho' => off8_of X10 e.val (k0_off68 (rd9 X9 (k0_off54 v2 v10 v18 v26 v34 v42 v50 v58 k) ho)) ho' (h68 ho)
  have h109 := fun ho ho' => gs8_of G e.val (k0_off68 (rd9 X9 (k0_off54 v2 v10 v18 v26 v34 v42 v50 v58 k) ho)) ho' (h68 ho)
  have hchk14 : ∀ v107 v109 : BitVec 32, v107 = off8 X10 e → v109 = gs8 G e → k0_chk14 v2 v10 v18 v26 v34 v42 v50 v58 k v107 v109 := by
    intro v107 v109 e1 e2; subst e1; subst e2; exact chk14 h k ho hg hs
  unfold wfly sfly
  iintro ⟨H0, H9, H10, H5, H8, ⟨⟨⟨%f6, Hwf⟩, Hwt⟩, ⟨⟨%f7, Hsf⟩, Hst⟩⟩, HO⟩
  unfold k0_t4_body
  sl_exec (disch := first | exact hchk13 _ | exact hchk12 _ | exact hchk14 _ _ (h107 _ _) (h109 _ _))
  sl_step
  isplitl [H0]; · iexact H0
  isplitl [H9]; · iexact H9
  isplitl [H10]; · iexact H10
  isplitl [H5]; · iexact H5
  isplitl [H8]
  · iexists _; isplitl [H8]; · iexact H8
    ipureintro
    exact ⟨hi, _, _, _, _, _, h107 (k0_off54_inb v2 v10 v18 v26 v34 v42 v50 v58 hw8 k) (k0_off68_inb _ (hchk13 _)), h109 (k0_off54_inb v2 v10 v18 v26 v34 v42 v50 v58 hw8 k) (k0_off68_inb _ (hchk13 _)), rfl⟩
  isplitl [Hwf Hwf_dst Hwt Hsf Hsf_dst Hst]
  · isplitl [Hwf Hwf_dst Hwt]
    · isplitl [Hwf]; · iexact Hwf
      isplitl [Hwf_dst]; · iexists _; iexact Hwf_dst
      iexact Hwt
    · isplitl [Hsf]; · iexact Hsf
      isplitl [Hsf_dst]; · iexists _; iexact Hsf_dst
      iexact Hst
  iexists _; iexact HO

/-- One step that issues the tiles of the step seven on. -/
theorem trip4_issue (c : Dev nD) (arg0 : Memref sig .tc .smem S8 .i32) (harg0 : arg0.IsWhole) (hw8 : k0_chk8 v2 v10 v18 v26 v34 v42 v50 v58) (h : Good v2 v10 v18 v26 v34 v42 v50 v58) (v61 v62 : BitVec 32)
    (q : PosShare TreeShare) (G : Cont (F := F) c arg0)
    (fW : Cont (F := F) c mW) (fS : Cont (F := F) c mS) (X9 : Cont (F := F) c sAct) (X10 : Cont (F := F) c sOff) (X5 : Cont (F := F) c sXq) (f8 : Cont (F := F) c sY)
    (k : Fin (k0_t4_loop v2 v10 v18 v26 v34 v42 v50 v58).trips) (hi : (slotW k).toNat < 8)
    (e : Fin 8) (he : (act9 X9 (k.val % nn v2 v10 v18 v26 v34 v42 v50 v58)).toNat = e.val) (t : Fin 7) (ht : k.val / nn v2 v10 v18 v26 v34 v42 v50 v58 = t.val)
    {o g : ℕ} (ho : Affine.IsInt (off8 X10 e) o) (hg : Affine.IsInt (gs8 G e) g) (hs : o + g ≤ 256) (W : Waits sig Unit)
    (hc : k0_cond1 v2 v10 v18 v26 v34 v42 v50 v58 k = 1#1) (hi7 : (slot7W k).toNat < 8)
    (e' : Fin 8) (he' : (act9 X9 ((k.val + 7) % nn v2 v10 v18 v26 v34 v42 v50 v58)).toNat = e'.val) (t' : Fin 7) (ht' : (k.val + 7) / nn v2 v10 v18 v26 v34 v42 v50 v58 = t'.val) :
    iprop((arg0.view.loc (c : Thread nD τ) ↦[arg0.view.set]{q} G) ∗ (sAct.view.loc (c : Thread nD τ) ↦{fullShare} X9) ∗ (sOff.view.loc (c : Thread nD τ) ↦{fullShare} X10)
        ∗ (sXq.view.loc (c : Thread nD τ) ↦{fullShare} X5)
        ∗ (sY.view.loc (c : Thread nD τ) ↦{fullShare} f8)
        ∗ (wfly c fW ⟨(slotW k).toNat, hi⟩ e t ∗ sfly c fS ⟨(slotW k).toNat, hi⟩ e t)
        ∗ (widle c fW ⟨(slot7W k).toNat, hi7⟩ ∗ sidle c fS ⟨(slot7W k).toNat, hi7⟩) ∗ owes (c : Thread nD τ) 0 W)
      ⊢ wp frame (wpE (defs₀ (F := F)) Variants.none (c : Thread nD τ) none) Set.univ (k0_t4_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 v61 v62 k ())
        (fun _ => iprop((arg0.view.loc (c : Thread nD τ) ↦[arg0.view.set]{q} G) ∗ (sAct.view.loc (c : Thread nD τ) ↦{fullShare} X9) ∗ (sOff.view.loc (c : Thread nD τ) ↦{fullShare} X10)
        ∗ (sXq.view.loc (c : Thread nD τ) ↦{fullShare} X5)
        ∗ (∃ f', (sY.view.loc (c : Thread nD τ) ↦{fullShare} f') ∗ ⌜Step4 c arg0 harg0 v2 v10 v18 v26 v34 v42 v50 v58 k (off8 X10 e) (gs8 G e) fW fS X5 e t f8 f'⌝)
        ∗ (widle c fW ⟨(slotW k).toNat, hi⟩ ∗ sidle c fS ⟨(slotW k).toNat, hi⟩)
        ∗ (wfly c fW ⟨(slot7W k).toNat, hi7⟩ e' t' ∗ sfly c fS ⟨(slot7W k).toNat, hi7⟩ e' t') ∗ ∃ W, owes (c : Thread nD τ) 0 W)) := by
  have hlt := fun ho => rd9_eq X9 (k.val % nn v2 v10 v18 v26 v34 v42 v50 v58) (k0_off54 v2 v10 v18 v26 v34 v42 v50 v58 k) ho (off54_eq h k) he
  have hchk13 := fun ho => chk13 (rd9 X9 (k0_off54 v2 v10 v18 v26 v34 v42 v50 v58 k) ho) (by have := hlt ho; have := e.isLt; omega)
  have hchk12 := fun ho => chk12 h k (rd9 X9 (k0_off54 v2 v10 v18 v26 v34 v42 v50 v58 k) ho) (by have := hlt ho; have := e.isLt; omega)
  have h68 : ∀ ho, k0_off68 (rd9 X9 (k0_off54 v2 v10 v18 v26 v34 v42 v50 v58 k) ho) = ![e.val] := by
    intro ho; show ![(rd9 X9 (k0_off54 v2 v10 v18 v26 v34 v42 v50 v58 k) ho).toNat] = _; rw [hlt]
  have h107 := fun ho ho' => off8_of X10 e.val (k0_off68 (rd9 X9 (k0_off54 v2 v10 v18 v26 v34 v42 v50 v58 k) ho)) ho' (h68 ho)
  have h109 := fun ho ho' => gs8_of G e.val (k0_off68 (rd9 X9 (k0_off54 v2 v10 v18 v26 v34 v42 v50 v58 k) ho)) ho' (h68 ho)
  have hchk14 : ∀ v107 v109 : BitVec 32, v107 = off8 X10 e → v109 = gs8 G e → k0_chk14 v2 v10 v18 v26 v34 v42 v50 v58 k v107 v109 := by
    intro v107 v109 e1 e2; subst e1; subst e2; exact chk14 h k ho hg hs
  have hlt' := fun ho => rd9_eq X9 ((k.val + 7) % nn v2 v10 v18 v26 v34 v42 v50 v58) (k0_off55 v2 v10 v18 v26 v34 v42 v50 v58 k) ho (off55_eq h k) he'
  have h58 : ∀ ho, k0_off58 v2 v10 v18 v26 v34 v42 v50 v58 k (rd9 X9 (k0_off55 v2 v10 v18 v26 v34 v42 v50 v58 k) ho) = ![e'.val, 0, t'.val * 256] := by
    intro ho; rw [off58_eq h, hlt', ht']
  have h61 : ∀ ho, k0_off61 v2 v10 v18 v26 v34 v42 v50 v58 k (rd9 X9 (k0_off55 v2 v10 v18 v26 v34 v42 v50 v58 k) ho) = ![e'.val, 0, t'.val * 256] := by
    intro ho; rw [off61_eq h, hlt', ht']
  have hchk11 := fun ho => chk11 h k (rd9 X9 (k0_off55 v2 v10 v18 v26 v34 v42 v50 v58 k) ho) (by have := hlt' ho; have := e'.isLt; omega)
  unfold wfly sfly
  iintro ⟨H0, H9, H10, H5, H8, ⟨⟨⟨%f6, Hwf⟩, Hwt⟩, ⟨⟨%f7, Hsf⟩, Hst⟩⟩, ⟨⟨Gwf, ⟨%g6, Gws⟩, Gwt⟩, ⟨Gsf, ⟨%g7, Gss⟩, Gst⟩⟩, HO⟩
  unfold k0_t4_body
  sl_exec (disch := first | exact hchk13 _ | exact hchk11 _ | exact hchk12 _ | exact hchk14 _ _ (h107 _ _) (h109 _ _))
  sl_step
  isplitl [H0]; · iexact H0
  isplitl [H9]; · iexact H9
  isplitl [H10]; · iexact H10
  isplitl [H5]; · iexact H5
  isplitl [H8]
  · iexists _; isplitl [H8]; · iexact H8
    ipureintro
    exact ⟨hi, _, _, _, _, _, h107 (k0_off54_inb v2 v10 v18 v26 v34 v42 v50 v58 hw8 k) (k0_off68_inb _ (hchk13 _)), h109 (k0_off54_inb v2 v10 v18 v26 v34 v42 v50 v58 hw8 k) (k0_off68_inb _ (hchk13 _)), rfl⟩
  isplitl [Hwf Hwf_dst Hwt Hsf Hsf_dst Hst]
  · isplitl [Hwf Hwf_dst Hwt]
    · isplitl [Hwf]; · iexact Hwf
      isplitl [Hwf_dst]; · iexists _; iexact Hwf_dst
      iexact Hwt
    · isplitl [Hsf]; · iexact Hsf
      isplitl [Hsf_dst]; · iexists _; iexact Hsf_dst
      iexact Hst
  isplitr [HO]
  · isplitl [Gwf Gwt]
    · iapply (wflyO_of c fW ⟨(slot7W k).toNat, hi7⟩ e' t' _ (k0_off58_inb v2 v10 v18 v26 v34 v42 v50 v58 k _ (hchk11 _) hc) (h58 (k0_off55_inb v2 v10 v18 v26 v34 v42 v50 v58 hw8 k hc)))
      isplitl [Gwf]
      · iexists g6; iexact Gwf
      · iexact Gwt
    · iapply (sflyO_of c fS ⟨(slot7W k).toNat, hi7⟩ e' t' _ (k0_off61_inb v2 v10 v18 v26 v34 v42 v50 v58 k _ (hchk11 _) hc) (h61 (k0_off55_inb v2 v10 v18 v26 v34 v42 v50 v58 hw8 k hc)))
      isplitl [Gsf]
      · iexists g7; iexact Gsf
      · iexact Gst
  iexists _; iexact HO

end Cert.KernelIdeal.Body

end
-- ==== Proof.Loops.lean ====
/- The ring over the steps, and the two loops that drive it as invariants. -/
module

public import proofs.«01_k».proof.Proof.Main

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The ring's state over the steps -/

variable {v2 v10 v18 v26 v34 v42 v50 v58 : BitVec 32}

/-- Slot `i` idle, or with step `j`'s tiles in flight. -/
def slotSt (c : Dev nD) (fW : Cont (F := F) c mW) (fS : Cont (F := F) c mS) (X9 : Cont (F := F) c sAct) (n : ℕ) (i : Fin 8) : Option ℕ → sProp 𝕄
  | none => iprop(widle c fW i ∗ sidle c fS i)
  | some j => iprop(∃ e : Fin 8, ∃ t : Fin 7, ⌜(act9 X9 (j % n)).toNat = e.val ∧ j / n = t.val⌝ ∗ wfly c fW i e t ∗ sfly c fS i e t)

theorem slotSt_in (c : Dev nD) (fW : Cont (F := F) c mW) (fS : Cont (F := F) c mS) (X9 : Cont (F := F) c sAct) (n : ℕ) (i : Fin 8) :
    iprop(widle c fW i ∗ sidle c fS i) ⊢ slotSt c fW fS X9 n i none := .rfl
theorem slotSt_out (c : Dev nD) (fW : Cont (F := F) c mW) (fS : Cont (F := F) c mS) (X9 : Cont (F := F) c sAct) (n : ℕ) (i : Fin 8) :
    slotSt c fW fS X9 n i none ⊢ iprop(widle c fW i ∗ sidle c fS i) := .rfl

/-- Steps `lo` up to `hi` in flight, each in the slot of its number. -/
def stAt (lo hi : ℕ) (i : Fin 8) : Option ℕ :=
  if lo + (i.val + 8 - lo % 8) % 8 < hi then some (lo + (i.val + 8 - lo % 8) % 8) else none

theorem stAt_start : stAt 0 0 = fun _ => none := by
  funext i; unfold stAt; exact if_neg (by omega)
theorem stAt_none {lo hi : ℕ} {i : Fin 8} {j : ℕ} (hj : i.val = j % 8) (h1 : lo ≤ j) (h2 : hi ≤ j) (h3 : j < lo + 8) : stAt lo hi i = none := by
  unfold stAt; exact if_neg (by omega)
theorem stAt_some {lo hi : ℕ} {i : Fin 8} (hj : i.val = lo % 8) (h : lo < hi) : stAt lo hi i = some lo := by
  unfold stAt
  have : lo + (i.val + 8 - lo % 8) % 8 = lo := by omega
  rw [this, if_pos h]
theorem stAt_issue {lo hi : ℕ} {i : Fin 8} (hj : i.val = hi % 8) (h1 : lo ≤ hi) (h3 : hi < lo + 8) :
    Function.update (stAt lo hi) i (some hi) = stAt lo (hi + 1) := by
  funext i'
  by_cases hi' : i' = i
  · subst hi'
    rw [Function.update_self]; unfold stAt
    have : lo + (i'.val + 8 - lo % 8) % 8 = hi := by omega
    rw [this, if_pos (by omega)]
  · rw [Function.update_of_ne hi']
    have hne : i'.val ≠ i.val := fun h => hi' (Fin.ext h)
    unfold stAt
    by_cases h : lo + (i'.val + 8 - lo % 8) % 8 < hi
    · rw [if_pos h, if_pos (by omega)]
    · rw [if_neg h, if_neg (by omega)]
theorem stAt_done {lo hi : ℕ} {i : Fin 8} (hj : i.val = lo % 8) (h1 : lo < hi) (h3 : hi ≤ lo + 8) :
    Function.update (stAt lo hi) i none = stAt (lo + 1) hi := by
  funext i'
  by_cases hi' : i' = i
  · subst hi'
    rw [Function.update_self]; unfold stAt
    exact (if_neg (by omega)).symm
  · rw [Function.update_of_ne hi']
    have hne : i'.val ≠ i.val := fun h => hi' (Fin.ext h)
    unfold stAt
    have he : lo + 1 + (i'.val + 8 - (lo + 1) % 8) % 8 = lo + (i'.val + 8 - lo % 8) % 8 := by omega
    rw [he]

/-- The ring's state before step `k`. -/
def stF (N k : ℕ) (i : Fin 8) : Option ℕ := stAt k (min (k + 7) N) i

theorem stF_start {N : ℕ} (h : 7 ≤ N) : stF N 0 = stAt 0 7 := by
  funext i; unfold stF; rw [show min (0 + 7) N = 7 by omega]
theorem stF_last {N k : ℕ} {i : Fin 8} (hi : i.val = k % 8) (hk : k < N) (h : ¬ k + 7 < N) :
    Function.update (stF N k) i none = stF N (k + 1) := by
  have h1 : stF N k = stAt k N := by funext i; unfold stF; rw [show min (k + 7) N = N by omega]
  have h2 : stF N (k + 1) = stAt (k + 1) N := by funext i; unfold stF; rw [show min (k + 1 + 7) N = N by omega]
  rw [h1, h2]; exact stAt_done hi hk (by omega)
theorem stF_issue {N k : ℕ} {i i7 : Fin 8} (hi : i.val = k % 8) (hi7 : i7.val = (k + 7) % 8) (h : k + 7 < N) :
    Function.update (Function.update (stF N k) i7 (some (k + 7))) i none = stF N (k + 1) := by
  have h1 : stF N k = stAt k (k + 7) := by funext i; unfold stF; rw [show min (k + 7) N = k + 7 by omega]
  have h2 : stF N (k + 1) = stAt (k + 1) (k + 8) := by funext i; unfold stF; rw [show min (k + 1 + 7) N = k + 8 by omega]
  rw [h1, h2, stAt_issue hi7 (by omega) (by omega)]; exact stAt_done hi (by omega) (by omega)
theorem stF_at {N k : ℕ} {i : Fin 8} (hi : i.val = k % 8) (hk : k < N) : stF N k i = some k := by
  unfold stF; exact stAt_some hi (by omega)
theorem stF_free {N k : ℕ} {i7 : Fin 8} (hi7 : i7.val = (k + 7) % 8) : stF N k i7 = none := by
  unfold stF; exact stAt_none hi7 (by omega) (by omega) (by omega)
theorem stF_end {N k : ℕ} (h : N ≤ k) : stF N k = fun _ => none := by
  funext i; unfold stF stAt; exact if_neg (by omega)

section Slots
variable {M : Type _} [RA.URA M] {σ : Type _} (Φ : Fin 8 → σ → sProp M)
/-- One slot taken out of the ring, and put back; two taken out, and put back. -/
theorem take1 (st : Fin 8 → σ) (i : Fin 8) (x : σ) (h : st i = x) : Ring.AtW Φ st ⊢ iprop(Φ i x ∗ Ring.restW Φ st i) := by
  subst h; rw [Ring.AtW_focus Φ st i]
theorem put1 (st st' : Fin 8 → σ) (i : Fin 8) (x : σ) (h : Function.update st i x = st') : iprop(Φ i x ∗ Ring.restW Φ st i) ⊢ Ring.AtW Φ st' := by
  subst h; exact Ring.AtW_update Φ st i x
/-- The ring but for two slots. -/
def rest2 (st : Fin 8 → σ) (i j : Fin 8) : sProp M := bigSep ((Finset.univ.erase i).erase j) fun k => Φ k (st k)
theorem take2 (st : Fin 8 → σ) (i j : Fin 8) (x y : σ) (hne : j ≠ i) (h : st i = x) (h' : st j = y) :
    Ring.AtW Φ st ⊢ iprop(Φ i x ∗ Φ j y ∗ rest2 Φ st i j) := by
  subst h; subst h'; rw [Ring.AtW_focus Φ st i, Ring.restW_focus Φ st i j hne]; exact .rfl
theorem put2 (st st' : Fin 8 → σ) (i j : Fin 8) (x y : σ) (hne : j ≠ i) (h : Function.update (Function.update st j y) i x = st') :
    iprop(Φ i x ∗ Φ j y ∗ rest2 Φ st i j) ⊢ Ring.AtW Φ st' := by
  subst h
  iintro ⟨H1, H2⟩
  iapply (Ring.AtW_update Φ (Function.update st j y) i x)
  isplitl [H1]; · iexact H1
  iapply (Ring.restW_update₂ Φ st i j hne y)
  iexact H2
end Slots

/-! ## The tables of words -/

/-- What the loops read in the tables: experts in the list, and each expert's rows within the tokens. -/
structure Tabs {c : Dev nD} {arg0 : Memref sig .tc .smem S8 .i32} (X9 : Cont (F := F) c sAct) (X10 : Cont (F := F) c sOff) (G : Cont (F := F) c arg0) (n : ℕ) : Prop where
  act : ∀ i, i < n → (act9 X9 i).toNat < 8
  rows : ∀ e, e < 8 → ∃ o g : ℕ, Affine.IsInt (off8 X10 e) o ∧ Affine.IsInt (gs8 G e) g ∧ o + g ≤ 256

theorem slot1_eq (h : Good v2 v10 v18 v26 v34 v42 v50 v58) (k : Fin (k0_t1_loop v2 v10 v18 v26 v34 v42 v50 v58).trips) : (slotW k).toNat = k.val % 8 :=
  toNat_nat (slot_int (iv_nat k (by have := t1_lt h k; omega)) (by have := t1_lt h k; omega))
theorem slot7_eq (h : Good v2 v10 v18 v26 v34 v42 v50 v58) (k : Fin (k0_t4_loop v2 v10 v18 v26 v34 v42 v50 v58).trips) : (slot7W k).toNat = (k.val + 7) % 8 :=
  toNat_nat (slot_int (iv7_nat k (by have := t4_lt' h k; omega)) (by have := t4_lt' h k; omega))

/-- The first tile of an expert's seven is `k / n < 7` at any step. -/
theorem tile_of {N k : ℕ} (hk : k < N * 7) (hN : 1 ≤ N) : k / N < 7 :=
  Nat.div_lt_of_lt_mul hk

/-! ## The first loop: the first seven steps' tiles put in flight -/

set_option warn.classDefReducibility false in
@[sl_loop] def loopInv_t1 (c : Dev nD) (arg0 : Memref sig .tc .smem S8 .i32) (harg0 : arg0.IsWhole) (v2 v10 v18 v26 v34 v42 v50 v58 : BitVec 32)
    (hw8 : k0_chk8 v2 v10 v18 v26 v34 v42 v50 v58) (h : Good v2 v10 v18 v26 v34 v42 v50 v58) (fW : Cont (F := F) c mW) (fS : Cont (F := F) c mS) (X9 : Cont (F := F) c sAct) (ha : ∀ i, i < nn v2 v10 v18 v26 v34 v42 v50 v58 → (act9 X9 i).toNat < 8) :
    LoopInvTy_k0_t1 (F := F) Unit ℕ (Pipeline.UD sig nD τ) ℕ Variants.none c none Set.univ arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 where
  inv k _ := iprop((sAct.view.loc (c : Thread nD τ) ↦{fullShare} X9) ∗ Ring.AtW (slotSt c fW fS X9 (nn v2 v10 v18 v26 v34 v42 v50 v58)) (stAt 0 k))
  step k acc := by
    have hk := t1_lt h k
    have hn := h.nn_pos
    have hs := slot1_eq h k
    have hi : (slotW k).toNat < 8 := by omega
    have hm : k.val % nn v2 v10 v18 v26 v34 v42 v50 v58 < nn v2 v10 v18 v26 v34 v42 v50 v58 := Nat.mod_lt _ hn
    have ht : k.val / nn v2 v10 v18 v26 v34 v42 v50 v58 < 7 := tile_of (by omega) hn
    iintro ⟨H9, HR⟩
    ihave HR' := (take1 (slotSt c fW fS X9 (nn v2 v10 v18 v26 v34 v42 v50 v58)) (stAt 0 k) ⟨(slotW k).toNat, hi⟩ none (stAt_none (j := k.val) hs (by omega) (by omega) (by omega))) $$ [HR]
    · iexact HR
    icases HR' with ⟨HS, HR⟩
    iapply (wp_wand_r Idealize.ShloMosaic.frame (wpE (defs₀ (F := F)) Variants.none (c : Thread nD τ) none) Set.univ)
    isplitl [H9 HS]
    · iapply (issue1 c arg0 harg0 hw8 h fW fS X9 k hi ⟨_, ha _ hm⟩ rfl ⟨_, ht⟩ rfl)
      isplitl [H9]; · iexact H9
      iapply (slotSt_out c fW fS X9 (nn v2 v10 v18 v26 v34 v42 v50 v58) ⟨(slotW k).toNat, hi⟩)
      iexact HS
    · iintro %_ ⟨H9, Hw, Hs⟩
      isplitl [H9]; · iexact H9
      iapply (put1 (slotSt c fW fS X9 (nn v2 v10 v18 v26 v34 v42 v50 v58)) (stAt 0 k) (stAt 0 (k.val + 1)) ⟨(slotW k).toNat, hi⟩ (some k.val)
        (stAt_issue (lo := 0) (hi := k.val) hs (by omega) (by omega)))
      isplitr [HR]
      · unfold slotSt
        iexists ⟨_, ha _ hm⟩; iexists ⟨_, ht⟩
        isplitr [Hw Hs]; · ipureintro; exact ⟨rfl, rfl⟩
        isplitl [Hw]; · iexact Hw
        iexact Hs
      · iexact HR

instance (c : Dev nD) (arg0 : Memref sig .tc .smem S8 .i32) (harg0 : arg0.IsWhole) (v2 v10 v18 v26 v34 v42 v50 v58 : BitVec 32)
    (hw8 : k0_chk8 v2 v10 v18 v26 v34 v42 v50 v58) (h : Good v2 v10 v18 v26 v34 v42 v50 v58) (fW : Cont (F := F) c mW) (fS : Cont (F := F) c mS) (X9 : Cont (F := F) c sAct) (ha : ∀ i, i < nn v2 v10 v18 v26 v34 v42 v50 v58 → (act9 X9 i).toNat < 8) :
    LoopExit (loopInv_t1 c arg0 harg0 v2 v10 v18 v26 v34 v42 v50 v58 hw8 h fW fS X9 ha) where
  post _ := iprop((sAct.view.loc (c : Thread nD τ) ↦{fullShare} X9) ∗ Ring.AtW (slotSt c fW fS X9 (nn v2 v10 v18 v26 v34 v42 v50 v58)) (stF (nn v2 v10 v18 v26 v34 v42 v50 v58 * 7) 0))
  exit _ := by
    have hn := h.nn_pos
    rw [stF_start (by omega), ← t1_trips h]; exact .rfl

/-! ## The main loop -/

/-- What the result may hold after `k` steps. -/
inductive Reach (c : Dev nD) (arg0 : Memref sig .tc .smem S8 .i32) (harg0 : arg0.IsWhole) (v2 v10 v18 v26 v34 v42 v50 v58 : BitVec 32)
    (fW : Cont (F := F) c mW) (fS : Cont (F := F) c mS) (X9 : Cont (F := F) c sAct) (X10 : Cont (F := F) c sOff) (G : Cont (F := F) c arg0) (X5 : Cont (F := F) c sXq) :
    ℕ → Cont (F := F) c sY → Prop
  | zero (f : Cont (F := F) c sY) : Reach c arg0 harg0 v2 v10 v18 v26 v34 v42 v50 v58 fW fS X9 X10 G X5 0 f
  | step (k : Fin (k0_t4_loop v2 v10 v18 v26 v34 v42 v50 v58).trips) (e : Fin 8) (t : Fin 7) (he : (act9 X9 (k.val % nn v2 v10 v18 v26 v34 v42 v50 v58)).toNat = e.val) (ht : k.val / nn v2 v10 v18 v26 v34 v42 v50 v58 = t.val)
      (f f' : Cont (F := F) c sY) (hf : Reach c arg0 harg0 v2 v10 v18 v26 v34 v42 v50 v58 fW fS X9 X10 G X5 k.val f)
      (hs : Step4 c arg0 harg0 v2 v10 v18 v26 v34 v42 v50 v58 k (off8 X10 e) (gs8 G e) fW fS X5 e t f f') : Reach c arg0 harg0 v2 v10 v18 v26 v34 v42 v50 v58 fW fS X9 X10 G X5 (k.val + 1) f'

/-- The main loop's invariant but for the ring: the tables, the tokens, the result. -/
abbrev inv4 (c : Dev nD) (arg0 : Memref sig .tc .smem S8 .i32) (harg0 : arg0.IsWhole) (v2 v10 v18 v26 v34 v42 v50 v58 : BitVec 32) (q : PosShare TreeShare) (G : Cont (F := F) c arg0)
    (fW : Cont (F := F) c mW) (fS : Cont (F := F) c mS) (X9 : Cont (F := F) c sAct) (X10 : Cont (F := F) c sOff) (X5 : Cont (F := F) c sXq) (k : ℕ) : sProp 𝕄 :=
  iprop((arg0.view.loc (c : Thread nD τ) ↦[arg0.view.set]{q} G) ∗ (sAct.view.loc (c : Thread nD τ) ↦{fullShare} X9) ∗ (sOff.view.loc (c : Thread nD τ) ↦{fullShare} X10)
    ∗ (sXq.view.loc (c : Thread nD τ) ↦{fullShare} X5)
    ∗ (∃ f, (sY.view.loc (c : Thread nD τ) ↦{fullShare} f) ∗ ⌜Reach c arg0 harg0 v2 v10 v18 v26 v34 v42 v50 v58 fW fS X9 X10 G X5 k f⌝)
    ∗ Ring.AtW (slotSt c fW fS X9 (nn v2 v10 v18 v26 v34 v42 v50 v58)) (stF (nn v2 v10 v18 v26 v34 v42 v50 v58 * 7) k) ∗ (∃ W, owes (c : Thread nD τ) 0 W))

/-- One step, from the invariant to the invariant. -/
theorem step4 (c : Dev nD) (arg0 : Memref sig .tc .smem S8 .i32) (harg0 : arg0.IsWhole) (hw8 : k0_chk8 v2 v10 v18 v26 v34 v42 v50 v58) (h : Good v2 v10 v18 v26 v34 v42 v50 v58) (v61 v62 : BitVec 32)
    (q : PosShare TreeShare) (G : Cont (F := F) c arg0)
    (fW : Cont (F := F) c mW) (fS : Cont (F := F) c mS) (X9 : Cont (F := F) c sAct) (X10 : Cont (F := F) c sOff) (X5 : Cont (F := F) c sXq)
    (hT : Tabs X9 X10 G (nn v2 v10 v18 v26 v34 v42 v50 v58)) (k : Fin (k0_t4_loop v2 v10 v18 v26 v34 v42 v50 v58).trips) :
    inv4 c arg0 harg0 v2 v10 v18 v26 v34 v42 v50 v58 q G fW fS X9 X10 X5 k.val
      ⊢ wp frame (wpE (defs₀ (F := F)) Variants.none (c : Thread nD τ) none) Set.univ (k0_t4_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 v61 v62 k ())
        (fun _ => inv4 c arg0 harg0 v2 v10 v18 v26 v34 v42 v50 v58 q G fW fS X9 X10 X5 (k.val + 1)) := by
  have hk := t4_lt h k
  have hn := h.nn_pos
  have hs := slotW_eq h k
  have hi : (slotW k).toNat < 8 := by omega
  have hs7 := slot7_eq h k
  have hi7 : (slot7W k).toNat < 8 := by omega
  have hne : (⟨(slot7W k).toNat, hi7⟩ : Fin 8) ≠ ⟨(slotW k).toNat, hi⟩ := by
    intro he; have := congrArg Fin.val he; dsimp only at this; omega
  iintro ⟨H0, H9, H10, H5, ⟨%f, HY, %hf⟩, HR, ⟨%W, HO⟩⟩
  by_cases hc : k0_cond1 v2 v10 v18 v26 v34 v42 v50 v58 k = 1#1
  · have hc7 := (cond1_iff h k).mp hc
    have hm : (k.val + 7) % nn v2 v10 v18 v26 v34 v42 v50 v58 < nn v2 v10 v18 v26 v34 v42 v50 v58 := Nat.mod_lt _ hn
    have ht7 : (k.val + 7) / nn v2 v10 v18 v26 v34 v42 v50 v58 < 7 := tile_of hc7 hn
    have hcl := hT.act _ hm
    ihave HR' := (take2 (slotSt c fW fS X9 (nn v2 v10 v18 v26 v34 v42 v50 v58)) (stF (nn v2 v10 v18 v26 v34 v42 v50 v58 * 7) k) ⟨(slotW k).toNat, hi⟩ ⟨(slot7W k).toNat, hi7⟩ _ _ hne (stF_at hs hk) (stF_free hs7)) $$ [HR]
    · iexact HR
    icases HR' with ⟨HS, HF, HR⟩
    unfold slotSt
    icases HS with ⟨%e, %t, %het, Hw, Hs⟩
    obtain ⟨he, ht⟩ := het
    obtain ⟨o, g, ho, hg, hog⟩ := hT.rows e.val e.isLt
    iapply (wp_wand_r Idealize.ShloMosaic.frame (wpE (defs₀ (F := F)) Variants.none (c : Thread nD τ) none) Set.univ)
    isplitr [HR]
    · iapply (trip4_issue c arg0 harg0 hw8 h v61 v62 q G fW fS X9 X10 X5 f k hi e he t ht ho hg hog W hc hi7 ⟨_, hcl⟩ rfl ⟨_, ht7⟩ rfl)
      isplitl [H0]; · iexact H0
      isplitl [H9]; · iexact H9
      isplitl [H10]; · iexact H10
      isplitl [H5]; · iexact H5
      isplitl [HY]; · iexact HY
      isplitl [Hw Hs]
      · isplitl [Hw]; · iexact Hw
        iexact Hs
      isplitl [HF]
      · iexact HF
      iexact HO
    · iintro %_ ⟨H0, H9, H10, H5, ⟨%f', HY, %hf'⟩, Hi, ⟨Hw7, Hs7⟩, HO⟩
      isplitl [H0]; · iexact H0
      isplitl [H9]; · iexact H9
      isplitl [H10]; · iexact H10
      isplitl [H5]; · iexact H5
      isplitl [HY]
      · iexists f'; isplitl [HY]; · iexact HY
        ipureintro; exact .step k e t he ht f f' hf hf'
      isplitr [HO]
      · iapply (put2 (slotSt c fW fS X9 (nn v2 v10 v18 v26 v34 v42 v50 v58)) (stF (nn v2 v10 v18 v26 v34 v42 v50 v58 * 7) k) _ ⟨(slotW k).toNat, hi⟩ ⟨(slot7W k).toNat, hi7⟩ none (some (k.val + 7)) hne
          (stF_issue (N := nn v2 v10 v18 v26 v34 v42 v50 v58 * 7) (k := k.val) hs hs7 hc7))
        isplitl [Hi]
        · iapply (slotSt_in c fW fS X9 (nn v2 v10 v18 v26 v34 v42 v50 v58) ⟨(slotW k).toNat, hi⟩)
          iexact Hi
        isplitr [HR]
        · unfold slotSt
          iexists ⟨_, hcl⟩; iexists ⟨_, ht7⟩
          isplitr [Hw7 Hs7]; · ipureintro; exact ⟨rfl, rfl⟩
          isplitl [Hw7]; · iexact Hw7
          iexact Hs7
        · iexact HR
      iexact HO
  · have hc7 : ¬ k.val + 7 < nn v2 v10 v18 v26 v34 v42 v50 v58 * 7 := fun h' => hc ((cond1_iff h k).mpr h')
    ihave HR' := (take1 (slotSt c fW fS X9 (nn v2 v10 v18 v26 v34 v42 v50 v58)) (stF (nn v2 v10 v18 v26 v34 v42 v50 v58 * 7) k) ⟨(slotW k).toNat, hi⟩ _ (stF_at hs hk)) $$ [HR]
    · iexact HR
    icases HR' with ⟨HS, HR⟩
    unfold slotSt
    icases HS with ⟨%e, %t, %het, Hw, Hs⟩
    obtain ⟨he, ht⟩ := het
    obtain ⟨o, g, ho, hg, hog⟩ := hT.rows e.val e.isLt
    iapply (wp_wand_r Idealize.ShloMosaic.frame (wpE (defs₀ (F := F)) Variants.none (c : Thread nD τ) none) Set.univ)
    isplitr [HR]
    · iapply (trip4_last c arg0 harg0 hw8 h v61 v62 q G fW fS X9 X10 X5 f k hi e he t ht ho hg hog W hc)
      isplitl [H0]; · iexact H0
      isplitl [H9]; · iexact H9
      isplitl [H10]; · iexact H10
      isplitl [H5]; · iexact H5
      isplitl [HY]; · iexact HY
      isplitl [Hw Hs]
      · isplitl [Hw]; · iexact Hw
        iexact Hs
      iexact HO
    · iintro %_ ⟨H0, H9, H10, H5, ⟨%f', HY, %hf'⟩, Hi, HO⟩
      isplitl [H0]; · iexact H0
      isplitl [H9]; · iexact H9
      isplitl [H10]; · iexact H10
      isplitl [H5]; · iexact H5
      isplitl [HY]
      · iexists f'; isplitl [HY]; · iexact HY
        ipureintro; exact .step k e t he ht f f' hf hf'
      isplitr [HO]
      · iapply (put1 (slotSt c fW fS X9 (nn v2 v10 v18 v26 v34 v42 v50 v58)) (stF (nn v2 v10 v18 v26 v34 v42 v50 v58 * 7) k) _ ⟨(slotW k).toNat, hi⟩ none
          (stF_last (N := nn v2 v10 v18 v26 v34 v42 v50 v58 * 7) (k := k.val) hs hk hc7))
        isplitl [Hi]
        · iapply (slotSt_in c fW fS X9 (nn v2 v10 v18 v26 v34 v42 v50 v58) ⟨(slotW k).toNat, hi⟩)
          iexact Hi
        iexact HR
      iexact HO

set_option warn.classDefReducibility false in
@[sl_loop] def loopInv_t4 (c : Dev nD) (arg0 : Memref sig .tc .smem S8 .i32) (harg0 : arg0.IsWhole) (v2 v10 v18 v26 v34 v42 v50 v58 : BitVec 32)
    (hw8 : k0_chk8 v2 v10 v18 v26 v34 v42 v50 v58) (h : Good v2 v10 v18 v26 v34 v42 v50 v58) (v61 v62 : BitVec 32)
    (q : PosShare TreeShare) (G : Cont (F := F) c arg0)
    (fW : Cont (F := F) c mW) (fS : Cont (F := F) c mS) (X9 : Cont (F := F) c sAct) (X10 : Cont (F := F) c sOff) (X5 : Cont (F := F) c sXq)
    (hT : Tabs X9 X10 G (nn v2 v10 v18 v26 v34 v42 v50 v58)) :
    LoopInvTy_k0_t4 (F := F) Unit ℕ (Pipeline.UD sig nD τ) ℕ Variants.none c none Set.univ arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 v2 v10 v18 v26 v34 v42 v50 v58 hw8 v61 v62 where
  inv k _ := inv4 c arg0 harg0 v2 v10 v18 v26 v34 v42 v50 v58 q G fW fS X9 X10 X5 k
  step k acc := step4 c arg0 harg0 hw8 h v61 v62 q G fW fS X9 X10 X5 hT k

end Cert.KernelIdeal.Body

end
-- ==== Proof.Tables.lean ====
/- The kernel's prologue: the tokens' copy started, the list of experts with rows and their first rows stored. -/
module

public import proofs.«01_k».proof.Proof.Loops

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a store of one word does to a table -/

theorem act9_write {c : Dev nD} (f : Cont (F := F) c sAct) (o : Fin 1 → ℕ) (ho : ∀ a : Fin 1, o a + S1.size a ≤ S9.size a) (w : BitVec 32)
    (L : List (View.Piece (Elt F) S9 .i32)) (n : ℕ) (hn : o = ![n]) (j : ℕ) (hj : j < 9) :
    act9 (c := c) (sAct.view.writes (Elt F) f (⟨Rect.unit (s := S9) o S1.size ho, fun _ => w⟩ :: L)) j = if j = n then w else act9 (c := c) (sAct.view.writes (Elt F) f L) j := by
  subst hn
  unfold act9
  rw [dif_pos hj, dif_pos hj]
  by_cases h : j = n
  · subst h
    rw [if_pos rfl]
    exact View.read_writes_cons_hit_of_coords sAct.view f _ (fun _ => w) L (Shape.Idx.first (numel1_S1.symm ▸ Nat.one_pos)) _ (fun a => rfl)
  · rw [if_neg h]
    refine View.read_writes_cons_miss_of_axis sAct.view f _ L _ (0 : Fin 1) n 1 rfl rfl rfl ?_
    show j + 1 * 0 < n ∨ n + 1 ≤ j + 1 * 0
    omega
theorem off8_write {c : Dev nD} (f : Cont (F := F) c sOff) (n : ℕ) (ho : ∀ a : Fin 1, (![n] : Fin 1 → ℕ) a + S1.size a ≤ S8.size a) (w : BitVec 32)
    (L : List (View.Piece (Elt F) S8 .i32)) (j : ℕ) (hj : j < 8) :
    off8 (c := c) (sOff.view.writes (Elt F) f (⟨Rect.unit (s := S8) ![n] S1.size ho, fun _ => w⟩ :: L)) j = if j = n then w else off8 (c := c) (sOff.view.writes (Elt F) f L) j := by
  unfold off8
  rw [dif_pos hj, dif_pos hj]
  by_cases h : j = n
  · subst h
    rw [if_pos rfl]
    exact View.read_writes_cons_hit_of_coords sOff.view f _ (fun _ => w) L (Shape.Idx.first (numel1_S1.symm ▸ Nat.one_pos)) _ (fun a => rfl)
  · rw [if_neg h]
    refine View.read_writes_cons_miss_of_axis sOff.view f _ L _ (0 : Fin 1) n 1 rfl rfl rfl ?_
    show j + 1 * 0 < n ∨ n + 1 ≤ j + 1 * 0
    omega

/-! ## The list of experts with rows, and the first rows -/

/-- Experts before `e` with rows are listed, in `cnt` places, and `e` stands in the next. -/
structure Listed (g : ℕ → BitVec 32) (e cnt : ℕ) (a : ℕ → ℕ) : Prop where
  le : cnt ≤ e
  mem : ∀ i, i < cnt → a i < e ∧ 0 < (g (a i)).toInt
  all : ∀ e', e' < e → 0 < (g e').toInt → ∃ i, i < cnt ∧ a i = e'
  next : a cnt = e

theorem Listed.start (g : ℕ → BitVec 32) (a : ℕ → ℕ) (h : a 0 = 0) : Listed g 0 0 a :=
  ⟨le_refl _, fun i hi => absurd hi (by omega), fun e' h => absurd h (by omega), h⟩

theorem Listed.step {g : ℕ → BitVec 32} {e cnt : ℕ} {a a' : ℕ → ℕ} (h : Listed g e cnt a) (he : e < 8)
    (ha : ∀ j, j < 9 → a' j = if j = cnt + act1 (g e) then e + 1 else a j) : Listed g (e + 1) (cnt + act1 (g e)) a' := by
  have hle := h.le
  have h1 := act1_le (g e)
  refine ⟨by omega, fun i hi => ?_, fun e' he' hg => ?_, ?_⟩
  · have hai : a' i = a i := by rw [ha i (by omega), if_neg (by omega)]
    rw [hai]
    by_cases hc : i < cnt
    · obtain ⟨h2, h3⟩ := h.mem i hc; exact ⟨by omega, h3⟩
    · have hie : i = cnt := by omega
      subst hie
      rw [h.next]
      refine ⟨by omega, ?_⟩
      by_contra hg
      unfold act1 at hi; rw [if_neg hg] at hi; omega
  · by_cases hc : e' < e
    · obtain ⟨i, hi, hai⟩ := h.all e' hc hg
      exact ⟨i, by omega, by rw [ha i (by omega), if_neg (by omega), hai]⟩
    · have : e' = e := by omega
      subst this
      have h2 : act1 (g e') = 1 := by unfold act1; rw [if_pos hg]
      exact ⟨cnt, by omega, by rw [ha cnt (by omega), if_neg (by omega), h.next]⟩
  · rw [ha _ (by omega), if_pos rfl]

/-- The first row of expert `e`, as the kernel's running sum and as a number; how many of the experts before it have rows. -/
def OW (g : ℕ → BitVec 32) : ℕ → BitVec 32
  | 0 => 0#32
  | e + 1 => Scalar.addi (OW g e) (g e)
def pre (g : ℕ → BitVec 32) : ℕ → ℕ
  | 0 => 0
  | e + 1 => pre g e + (g e).toInt.toNat
def cnt (g : ℕ → BitVec 32) : ℕ → ℕ
  | 0 => 0
  | e + 1 => cnt g e + act1 (g e)

/-- What the prologue leaves in the two tables. -/
structure Table {c : Dev nD} (g : ℕ → BitVec 32) (X9 : Cont (F := F) c sAct) (X10 : Cont (F := F) c sOff) (e : ℕ) : Prop where
  list : Listed g e (cnt g e) (fun j => (act9 X9 j).toNat)
  off : ∀ j, j ≤ e → off8 X10 j = OW g j

theorem table_start {c : Dev nD} (g : ℕ → BitVec 32) (f9 : Cont (F := F) c sAct) (f10 : Cont (F := F) c sOff) (h9) (h10) :
    Table (F := F) (c := c) g (sAct.view.writes (Elt F) f9 [⟨Rect.unit (s := S9) ![0] S1.size h9, fun _ => (0#32 : BitVec 32)⟩])
      (sOff.view.writes (Elt F) f10 [⟨Rect.unit (s := S8) ![0] S1.size h10, fun _ => (0#32 : BitVec 32)⟩]) 0 := by
  refine ⟨Listed.start _ _ ?_, fun j hj => ?_⟩
  · rw [act9_write f9 ![0] h9 0#32 [] 0 rfl 0 (by omega), if_pos rfl]; rfl
  · obtain rfl : j = 0 := by omega
    rw [off8_write f10 0 h10 0#32 [] 0 (by omega), if_pos rfl]; rfl

theorem table_step {c : Dev nD} (g : ℕ → BitVec 32) (f9 : Cont (F := F) c sAct) (f10 : Cont (F := F) c sOff)
    (L9 : List (View.Piece (Elt F) S9 .i32)) (L10 : List (View.Piece (Elt F) S8 .i32)) (e : ℕ) (he : e < 7)
    (h : Table (F := F) (c := c) g (sAct.view.writes (Elt F) f9 L9) (sOff.view.writes (Elt F) f10 L10) e)
    (w9 w10 : BitVec 32) (hw9 : w9 = BitVec.ofNat 32 (e + 1)) (hw10 : w10 = OW g (e + 1))
    (o : Fin 1 → ℕ) (h9) (h10) (ho : o = ![cnt g (e + 1)]) :
    Table (F := F) (c := c) g (sAct.view.writes (Elt F) f9 (⟨Rect.unit (s := S9) o S1.size h9, fun _ => w9⟩ :: L9))
      (sOff.view.writes (Elt F) f10 (⟨Rect.unit (s := S8) ![e + 1] S1.size h10, fun _ => w10⟩ :: L10)) (e + 1) := by
  subst hw9
  subst hw10
  refine ⟨h.list.step (by omega) fun j hj => ?_, fun j hj => ?_⟩
  · show (act9 _ j).toNat = if j = cnt g (e + 1) then e + 1 else (act9 (c := c) (sAct.view.writes (Elt F) f9 L9) j).toNat
    rw [act9_write f9 o h9 _ L9 (cnt g (e + 1)) ho j hj]
    by_cases hc : j = cnt g (e + 1)
    · rw [if_pos hc, if_pos hc, BitVec.toNat_ofNat]; omega
    · rw [if_neg hc, if_neg hc]
  · rw [off8_write f10 (e + 1) h10 _ L10 j (by omega)]
    by_cases hc : j = e + 1
    · rw [if_pos hc, hc]
    · rw [if_neg hc, h.off j (by omega)]

section Sizes
variable {v2 v10 v18 v26 v34 v42 v50 v58 : BitVec 32}

/-- The words a table of group sizes is read as. -/
structure Words {c : Dev nD} {arg0 : Memref sig .tc .smem S8 .i32} (G : Cont (F := F) c arg0) (v2 v10 v18 v26 v34 v42 v50 v58 : BitVec 32) : Prop where
  w0 : gs8 G 0 = v2
  w1 : gs8 G 1 = v10
  w2 : gs8 G 2 = v18
  w3 : gs8 G 3 = v26
  w4 : gs8 G 4 = v34
  w5 : gs8 G 5 = v42
  w6 : gs8 G 6 = v50
  w7 : gs8 G 7 = v58

/-- The sizes are numbers, and so are the first rows; the rows end at 256. -/
theorem sizes_nat (g : ℕ → BitVec 32) (h : Good (g 0) (g 1) (g 2) (g 3) (g 4) (g 5) (g 6) (g 7)) :
    (∀ e, e < 8 → Affine.IsInt (g e) ((g e).toInt.toNat : ℕ)) ∧ pre g 8 = 256 := by
  obtain ⟨h0, h1, h2, h3, h4, h5, h6, h7, hs⟩ := h
  constructor
  · intro e he
    have hp : 0 ≤ (g e).toInt := by
      obtain rfl | rfl | rfl | rfl | rfl | rfl | rfl | rfl : e = 0 ∨ e = 1 ∨ e = 2 ∨ e = 3 ∨ e = 4 ∨ e = 5 ∨ e = 6 ∨ e = 7 := by omega
      all_goals assumption
    have hI : Affine.IsInt (g e) (g e).toInt := Affine.word (g e)
    rwa [show (((g e).toInt.toNat : ℕ) : ℤ) = (g e).toInt by omega]
  · unfold pre pre pre pre pre pre pre pre pre
    omega
theorem pre_mono (g : ℕ → BitVec 32) {a b : ℕ} (h : a ≤ b) : pre g a ≤ pre g b := by
  induction b with
  | zero => obtain rfl : a = 0 := by omega
            exact le_refl _
  | succ b ih =>
    by_cases hc : a = b + 1
    · rw [hc]
    · have := ih (by omega)
      show pre g a ≤ pre g b + (g b).toInt.toNat
      omega
theorem OW_int (g : ℕ → BitVec 32) (h : Good (g 0) (g 1) (g 2) (g 3) (g 4) (g 5) (g 6) (g 7)) (e : ℕ) (he : e ≤ 8) : Affine.IsInt (OW g e) (pre g e : ℕ) := by
  obtain ⟨hg, h8⟩ := sizes_nat g h
  induction e with
  | zero => exact lit 0 (by omega)
  | succ e ih =>
    have h1 := pre_mono g he
    exact add_nat (ih (by omega)) (hg e (by omega)) ⟨rfl, by omega⟩

/-- What the loops need of the tables the prologue leaves. -/
theorem tabs_of {c : Dev nD} {arg0 : Memref sig .tc .smem S8 .i32} (G : Cont (F := F) c arg0) (X9 : Cont (F := F) c sAct) (X10 : Cont (F := F) c sOff)
    (h : Good (gs8 G 0) (gs8 G 1) (gs8 G 2) (gs8 G 3) (gs8 G 4) (gs8 G 5) (gs8 G 6) (gs8 G 7)) (hT : Table (gs8 G) X9 X10 7) :
    Tabs X9 X10 G (cnt (gs8 G) 8) := by
  obtain ⟨hg, h8⟩ := sizes_nat _ h
  refine ⟨fun i hi => ?_, fun e he => ?_⟩
  · have hi' : i < cnt (gs8 G) 7 + act1 (gs8 G 7) := hi
    have h1 := act1_le (gs8 G 7)
    by_cases hc : i < cnt (gs8 G) 7
    · have := (hT.list.mem i hc).1; omega
    · obtain rfl : i = cnt (gs8 G) 7 := by omega
      have := hT.list.next; omega
  · refine ⟨_, _, by rw [hT.off e (by omega)]; exact OW_int _ h e (by omega), hg e he, ?_⟩
    have := pre_mono (gs8 G) (show e + 1 ≤ 8 by omega)
    have h2 : pre (gs8 G) (e + 1) = pre (gs8 G) e + (gs8 G e).toInt.toNat := rfl
    omega
end Sizes

/-! ## The prologue's two parts -/

/-- The places of the list the prologue stores at. -/
theorem cnt_eq (g : ℕ → BitVec 32) {w : BitVec 32} {n : ℕ} (h : Affine.IsInt w n) (e : ℕ) (he : n = cnt g e) : (![w.toNat] : Fin 1 → ℕ) = ![cnt g e] := by
  rw [toNat_nat h, he]
theorem off1_at (g : ℕ → BitVec 32) {a : BitVec 32} (ha : a = g 0) : k0_off1 a = ![cnt g 1] := by
  subst ha; exact cnt_eq g (c1_int _) 1 (by unfold cnt cnt; omega)
theorem off2_at (g : ℕ → BitVec 32) {a b : BitVec 32} (ha : a = g 0) (hb : b = g 1) : k0_off2 a b = ![cnt g 2] := by
  subst ha; subst hb; exact cnt_eq g (c2_int _ _) 2 (by unfold cnt cnt cnt; omega)
theorem off3_at (g : ℕ → BitVec 32) {a b c : BitVec 32} (ha : a = g 0) (hb : b = g 1) (hc : c = g 2) : k0_off3 a b c = ![cnt g 3] := by
  subst ha; subst hb; subst hc; exact cnt_eq g (c3_int _ _ _) 3 (by unfold cnt cnt cnt cnt; omega)
theorem off4_at (g : ℕ → BitVec 32) : k0_off4 (g 0) (g 1) (g 2) (g 3) = ![cnt g 4] :=
  cnt_eq g (c4_int _ _ _ _) 4 (by unfold cnt cnt cnt cnt cnt; omega)
theorem off5_at (g : ℕ → BitVec 32) {a : BitVec 32} (ha : a = g 4) : k0_off5 (g 0) (g 1) (g 2) (g 3) a = ![cnt g 5] := by
  subst ha; exact cnt_eq g (c5_int _ _ _ _ _) 5 (by unfold cnt cnt cnt cnt cnt cnt; omega)
theorem off6_at (g : ℕ → BitVec 32) {a b : BitVec 32} (ha : a = g 4) (hb : b = g 5) : k0_off6 (g 0) (g 1) (g 2) (g 3) a b = ![cnt g 6] := by
  subst ha; subst hb; exact cnt_eq g (c6_int _ _ _ _ _ _) 6 (by unfold cnt cnt cnt cnt cnt cnt cnt; omega)
theorem off7_at (g : ℕ → BitVec 32) {a b c : BitVec 32} (ha : a = g 4) (hb : b = g 5) (hc : c = g 6) : k0_off7 (g 0) (g 1) (g 2) (g 3) a b c = ![cnt g 7] := by
  subst ha; subst hb; subst hc; exact cnt_eq g (c7_int _ _ _ _ _ _ _) 7 (by unfold cnt cnt cnt cnt cnt cnt cnt cnt; omega)
theorem cnt8_eq (g : ℕ → BitVec 32) : nn (g 0) (g 1) (g 2) (g 3) (g 4) (g 5) (g 6) (g 7) = cnt g 8 := by
  unfold cnt cnt cnt cnt cnt cnt cnt cnt cnt nn; omega

/-- The tokens' copy in flight. -/
abbrev xfly (c : Dev nD) (fX : Cont (F := F) c mX) (fq : Cont (F := F) c sXq) : sProp 𝕄 :=
  iprop(Transfers.Flight (countersEmb (U := Pipeline.UD sig nD τ)) (c : Thread nD τ) (SemLoc.dma cc0_scratch6.sem) () 65536
      iprop((sXq.view.loc (c : Thread nD τ) ↦{fullShare} View.write (Elt F) sXq.view fq (ReadAs.same.apply (mX.view.read (Elt F) fX)) Finset.univ)
        ∗ (mX.view.loc (c : Thread nD τ) ↦[mX.view.set]{fullShare} fX))
    ∗ (mX.view.loc (c : Thread nD τ) ↦[Finset.univ \ mX.view.set]{fullShare} fX))

theorem part115 (c : Dev nD) (arg0 : Memref sig .tc .smem S8 .i32) (harg0 : arg0.IsWhole)
    (q : PosShare TreeShare) (G : Cont (F := F) c arg0) (fX : Cont (F := F) c mX) (fq : Cont (F := F) c sXq) (X9 : Cont (F := F) c sAct) (X10 : Cont (F := F) c sOff) :
    iprop((arg0.view.loc (c : Thread nD τ) ↦[arg0.view.set]{q} G) ∗ (sAct.view.loc (c : Thread nD τ) ↦{fullShare} X9) ∗ (sOff.view.loc (c : Thread nD τ) ↦{fullShare} X10)
       ∗ (mX.view.loc (c : Thread nD τ) ↦{fullShare} fX) ∗ (sXq.view.loc (c : Thread nD τ) ↦{fullShare} fq) ∗ semVal ((c : Thread nD τ), SemLoc.dma cc0_scratch6.sem) 0)
      ⊢ wp frame (wpE (defs₀ (F := F)) Variants.none (c : Thread nD τ) none) Set.univ (k0_part115_skel (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9)
        (fun r => (iprop((arg0.view.loc (c : Thread nD τ) ↦[arg0.view.set]{q} G)
          ∗ (∃ Y9 Y10, (sAct.view.loc (c : Thread nD τ) ↦{fullShare} Y9) ∗ (sOff.view.loc (c : Thread nD τ) ↦{fullShare} Y10) ∗ ⌜Table (gs8 G) Y9 Y10 3⌝)
          ∗ xfly c fX fq
          ∗ ⌜r.1 = gs8 G 0 ∧ r.2.1 = gs8 G 1 ∧ r.2.2.1 = gs8 G 2 ∧ r.2.2.2.1 = c3 (gs8 G 0) (gs8 G 1) (gs8 G 2) ∧ r.2.2.2.2.1 = gs8 G 3
              ∧ r.2.2.2.2.2.2 = OW (gs8 G) 4⌝) : sProp 𝕄)) := by
  have hchk1 := chk1
  have hchk2 := chk2
  have hchk3 := chk3
  have hchk4 := chk4
  have g0 := gs8_of G 0 ![0] inb_S8_S1_0 rfl
  have g1 := gs8_of G 1 ![1] inb_S8_S1_1 rfl
  have g2 := gs8_of G 2 ![2] inb_S8_S1_2 rfl
  have g3 := gs8_of G 3 ![3] inb_S8_S1_3 rfl
  have w1 := congrArg (Scalar.addi 0#32) g0
  have w2 := congrArg₂ Scalar.addi w1 g1
  have w3 := congrArg₂ Scalar.addi w2 g2
  iintro ⟨H0, H9, H10, HX, Hq, Hs⟩
  unfold k0_part115_skel
  sl_exec (disch := first | exact hchk1 _ | exact hchk2 _ _ | exact hchk3 _ _ _ | exact hchk4 _ _ _ _)
  sl_step
  isplitl [H0]; · iexact H0
  isplitl [H9 H10]
  · iexists _, _
    isplitl [H9]; · iexact H9
    isplitl [H10]; · iexact H10
    ipureintro
    exact table_step (gs8 G) X9 X10 _ _ 2 (by omega) (table_step (gs8 G) X9 X10 _ _ 1 (by omega) (table_step (gs8 G) X9 X10 _ _ 0 (by omega)
      (table_start (gs8 G) X9 X10 _ _) _ _ rfl w1 _ _ _ (off1_at _ g0)) _ _ rfl w2 _ _ _ (off2_at _ g0 g1)) _ _ rfl w3 _ _ _ (off3_at _ g0 g1 g2)
  isplitl [Hs HX]
  · isplitl [Hs]; · iexact Hs
    iexact HX
  ipureintro
  have e3 := congrArg₂ (fun p (z : BitVec 32) => c3 (Prod.fst p) (Prod.snd p) z) (congrArg₂ Prod.mk g0 g1) g2
  exact ⟨g0, g1, g2, e3, g3, congrArg₂ Scalar.addi w3 g3⟩

theorem part116 (c : Dev nD) (arg0 : Memref sig .tc .smem S8 .i32) (harg0 : arg0.IsWhole)
    (q : PosShare TreeShare) (G : Cont (F := F) c arg0) (X9 : Cont (F := F) c sAct) (X10 : Cont (F := F) c sOff) (hT : Table (gs8 G) X9 X10 3)
    (h : Good (gs8 G 0) (gs8 G 1) (gs8 G 2) (gs8 G 3) (gs8 G 4) (gs8 G 5) (gs8 G 6) (gs8 G 7)) (hw4 : k0_chk4 (gs8 G 0) (gs8 G 1) (gs8 G 2) (gs8 G 3)) :
    iprop((arg0.view.loc (c : Thread nD τ) ↦[arg0.view.set]{q} G) ∗ (sAct.view.loc (c : Thread nD τ) ↦{fullShare} X9) ∗ (sOff.view.loc (c : Thread nD τ) ↦{fullShare} X10))
      ⊢ wp frame (wpE (defs₀ (F := F)) Variants.none (c : Thread nD τ) none) Set.univ
        (k0_part116_skel (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 (gs8 G 0) (gs8 G 1) (gs8 G 2) (c3 (gs8 G 0) (gs8 G 1) (gs8 G 2)) (gs8 G 3) hw4 (OW (gs8 G) 4))
        (fun r => (iprop((arg0.view.loc (c : Thread nD τ) ↦[arg0.view.set]{q} G)
          ∗ (∃ Y9 Y10, (sAct.view.loc (c : Thread nD τ) ↦{fullShare} Y9) ∗ (sOff.view.loc (c : Thread nD τ) ↦{fullShare} Y10) ∗ ⌜Table (gs8 G) Y9 Y10 7⌝)
          ∗ ⌜r.1 = gs8 G 4 ∧ r.2.1 = gs8 G 5 ∧ r.2.2.1 = gs8 G 6 ∧ r.2.2.2.2.1 = gs8 G 7⌝) : sProp 𝕄)) := by
  have hchk5 := chk5
  have hchk6 := chk6
  have hchk7 := chk7
  have hchk8 : ∀ {a b c' d : BitVec 32}, a = gs8 G 4 → b = gs8 G 5 → c' = gs8 G 6 → d = gs8 G 7 → k0_chk8 (gs8 G 0) (gs8 G 1) (gs8 G 2) (gs8 G 3) a b c' d := by
    rintro _ _ _ _ rfl rfl rfl rfl; exact chk8 h
  have g4 := gs8_of G 4 ![4] inb_S8_S1_4 rfl
  have g5 := gs8_of G 5 ![5] inb_S8_S1_5 rfl
  have g6 := gs8_of G 6 ![6] inb_S8_S1_6 rfl
  have g7 := gs8_of G 7 ![7] inb_S8_S1_7 rfl
  have w5 := congrArg (Scalar.addi (OW (gs8 G) 4)) g4
  have w6 := congrArg₂ Scalar.addi w5 g5
  have w7 := congrArg₂ Scalar.addi w6 g6
  iintro ⟨H0, H9, H10⟩
  unfold k0_part116_skel
  sl_exec (disch := first | exact hchk5 _ _ _ _ _ | exact hchk6 _ _ _ _ _ _ | exact hchk7 _ _ _ _ _ _ _ | exact hchk8 g4 g5 g6 g7)
  sl_step
  isplitl [H0]; · iexact H0
  isplitl [H9 H10]
  · iexists _, _
    isplitl [H9]; · iexact H9
    isplitl [H10]; · iexact H10
    ipureintro
    exact table_step (gs8 G) X9 X10 _ _ 6 (by omega) (table_step (gs8 G) X9 X10 _ _ 5 (by omega) (table_step (gs8 G) X9 X10 _ _ 4 (by omega)
      (table_step (gs8 G) X9 X10 [] [] 3 (by omega) hT _ _ rfl rfl _ _ _ (off4_at _))
      _ _ rfl w5 _ _ _ (off5_at _ g4)) _ _ rfl w6 _ _ _ (off6_at _ g4 g5)) _ _ rfl w7 _ _ _ (off7_at _ g4 g5 g6)
  ipureintro
  exact ⟨g4, g5, g6, g7⟩

end Cert.KernelIdeal.Body

end
-- ==== Proof.Trip3.lean ====
/- One trip of the quantising loop: the pieces of the tokens' buffer it rewrites; and the loop's invariant. -/
module

public import proofs.«01_k».proof.Proof.Ring

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

@[irreducible] def trip3 (c : Dev nD) (arg0 : Memref sig .tc .smem S8 .i32) (harg0 : arg0.IsWhole) (k : Fin k0_t3_loop.trips) :
    { L : (Cont (F := F) c sXq → List (View.Piece (Elt F) S256x4096 .bf16)) // ∀ (E : Set ℕ) (f : Cont (F := F) c sXq),
      (iprop(sXq.view.loc (c : Thread nD τ) ↦{fullShare} f) : sProp 𝕄)
      ⊢ wp frame (wpE (defs₀ (F := F)) Variants.none (c : Thread nD τ) none) E
          (k0_t3_body (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 k PUnit.unit)
          (fun _ => iprop(sXq.view.loc (c : Thread nD τ) ↦{fullShare} (sXq.view.writes (Elt F) f (L f)))) } := by
  have hk : k.val < 4 := Nat.lt_of_lt_of_le k.isLt k0_t3_abs.2.1
  refine ⟨?_, fun E f => ?run⟩
  case run =>
    unfold k0_t3_body
    iintro HW
    sl_exec
    sl_step
    sl_close

/-- The tokens' buffer after the first `n` trips. -/
def x3 (c : Dev nD) (arg0 : Memref sig .tc .smem S8 .i32) (harg0 : arg0.IsWhole) (f : Cont (F := F) c sXq) : ℕ → Cont (F := F) c sXq
  | 0 => f
  | n + 1 => if h : n < k0_t3_loop.trips then
      sXq.view.writes (Elt F) (x3 c arg0 harg0 f n) ((trip3 c arg0 harg0 ⟨n, h⟩).1 (x3 c arg0 harg0 f n))
    else x3 c arg0 harg0 f n

theorem x3_succ (c : Dev nD) (arg0 : Memref sig .tc .smem S8 .i32) (harg0 : arg0.IsWhole) (f : Cont (F := F) c sXq) (k : Fin k0_t3_loop.trips) :
    x3 c arg0 harg0 f (k.val + 1) = sXq.view.writes (Elt F) (x3 c arg0 harg0 f k.val) ((trip3 c arg0 harg0 k).1 (x3 c arg0 harg0 f k.val)) := by
  rw [x3.eq_2]; exact dif_pos k.isLt

set_option warn.classDefReducibility false in
@[sl_loop] def loopInv_t3 (c : Dev nD) (E : Set ℕ) (arg0 : Memref sig .tc .smem S8 .i32) (harg0 : arg0.IsWhole) (G : Cont (F := F) c sXq) :
    LoopInvTy_k0_t3 (F := F) Unit ℕ (Pipeline.UD sig nD τ) ℕ Variants.none c none E arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9 where
  inv k _ := iprop(∃ f, (sXq.view.loc (c : Thread nD τ) ↦{fullShare} f) ∗ ⌜f = x3 c arg0 harg0 G k⌝)
  step k acc := by
    iintro ⟨%f, H, %h⟩
    iapply (wp_wand_r Idealize.ShloMosaic.frame (wpE (defs₀ (F := F)) Variants.none (c : Thread nD τ) none) E)
    isplitl [H]
    · iapply ((trip3 (F := F) c arg0 harg0 k).2 E f)
      iexact H
    · iintro %_ H
      iexists _; isplitl [H]; · iexact H
      ipureintro; rw [x3_succ, h]

end Cert.KernelIdeal.Body

end
-- ==== Proof.Pool.lean ====
/- The two rings of slots and the read shares, set up from whole buffers and taken down again. -/
module

public import proofs.«01_k».proof.Proof.Tables
public import proofs.«01_k».proof.Proof.Trip3

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The slots of a ring buffer -/

theorem wslot_set (k : Fin 8) : (wslot k).view.set = (Rect.unit (s := S8x2048x256) ![k.val, 0, 0] S1x2048x256.size (inbW k)).set :=
  (View.set_reshape (v := (sW.view.slice (Rect.unit (s := S8x2048x256) ![k.val, 0, 0] S1x2048x256.size (inbW k)))) _).trans (View.set_slice_whole _ _)
theorem sslot_set (k : Fin 8) : (sslot k).view.set = (Rect.unit (s := S8x32x256) ![k.val, 0, 0] S1x32x256.size (inbS k)).set :=
  (View.set_reshape (v := (sS.view.slice (Rect.unit (s := S8x32x256) ![k.val, 0, 0] S1x32x256.size (inbS k)))) _).trans (View.set_slice_whole _ _)

theorem zero_off (k : ℕ) (a : Fin 3) (h : a ≠ 0) : (![k, 0, 0] : Fin 3 → ℕ) a = 0 := by
  fin_cases a
  · exact absurd rfl h
  · rfl
  · rfl

theorem wsize (a : Fin 3) (h : a ≠ 0) : S1x2048x256.size a = S8x2048x256.size a := by
  fin_cases a
  · exact absurd rfl h
  · rfl
  · rfl
theorem ssize (a : Fin 3) (h : a ≠ 0) : S1x32x256.size a = S8x32x256.size a := by
  fin_cases a
  · exact absurd rfl h
  · rfl
  · rfl

abbrev wset (k : Fin 8) : Finset S8x2048x256.Idx := (Rect.unit (s := S8x2048x256) ![k.val, 0, 0] S1x2048x256.size (inbW k)).set
abbrev sset (k : Fin 8) : Finset S8x32x256.Idx := (Rect.unit (s := S8x32x256) ![k.val, 0, 0] S1x32x256.size (inbS k)).set

theorem w_disj (b b' : Fin 8) (h : b ≠ b') : Disjoint (wset b) (wset b') :=
  Ring.lead_disjoint (s := S8x2048x256) (0 : Fin 3) 1 (fun k : Fin 8 => ![k.val, 0, 0]) S1x2048x256.size inbW (fun b => (Nat.one_mul _).symm) rfl b b' h
theorem w_cover : Finset.univ.biUnion wset = Finset.univ :=
  Ring.lead_cover (s := S8x2048x256) (0 : Fin 3) 1 (fun k : Fin 8 => ![k.val, 0, 0]) S1x2048x256.size inbW (fun b => (Nat.one_mul _).symm) (fun b => zero_off _) rfl wsize rfl
theorem s_disj (b b' : Fin 8) (h : b ≠ b') : Disjoint (sset b) (sset b') :=
  Ring.lead_disjoint (s := S8x32x256) (0 : Fin 3) 1 (fun k : Fin 8 => ![k.val, 0, 0]) S1x32x256.size inbS (fun b => (Nat.one_mul _).symm) rfl b b' h
theorem s_cover : Finset.univ.biUnion sset = Finset.univ :=
  Ring.lead_cover (s := S8x32x256) (0 : Fin 3) 1 (fun k : Fin 8 => ![k.val, 0, 0]) S1x32x256.size inbS (fun b => (Nat.one_mul _).symm) (fun b => zero_off _) rfl ssize rfl

/-- The cells of a ring, all at zero. -/
abbrev wsems (c : Dev nD) : sProp 𝕄 := bigSep Finset.univ fun i : Fin 8 => semVal ((c : Thread nD τ), wcell i) 0
abbrev ssems (c : Dev nD) : sProp 𝕄 := bigSep Finset.univ fun i : Fin 8 => semVal ((c : Thread nD τ), scell i) 0

theorem wslot_pt (c : Dev nD) (f : Cont (F := F) c sW) (i : Fin 8) :
    (sW.view.loc (c : Thread nD τ) ↦[wset i]{fullShare} f : sProp 𝕄) ⊢ ((wslot i).view.loc (c : Thread nD τ) ↦[(wslot i).view.set]{fullShare} f) := by
  rw [wslot_set i]
theorem wslot_tp (c : Dev nD) (f : Cont (F := F) c sW) (i : Fin 8) :
    ((wslot i).view.loc (c : Thread nD τ) ↦[(wslot i).view.set]{fullShare} f : sProp 𝕄) ⊢ (sW.view.loc (c : Thread nD τ) ↦[wset i]{fullShare} f) := by
  rw [wslot_set i]
theorem wslot_in (c : Dev nD) (f : Cont (F := F) c sW) (i : Fin 8) :
    (sW.view.loc (c : Thread nD τ) ↦[wset i]{fullShare} f : sProp 𝕄) ⊢ iprop(∃ f, (wslot i).view.loc (c : Thread nD τ) ↦[(wslot i).view.set]{fullShare} f) := by
  iintro H; iexists f; iapply (wslot_pt c f i); iexact H
theorem wslot_out (c : Dev nD) (i : Fin 8) :
    (iprop(∃ f, (wslot i).view.loc (c : Thread nD τ) ↦[(wslot i).view.set]{fullShare} f) : sProp 𝕄) ⊢ iprop(∃ f, sW.view.loc (c : Thread nD τ) ↦[wset i]{fullShare} f) := by
  iintro ⟨%f, H⟩; iexists f; iapply (wslot_tp c f i); iexact H

theorem wslots_split (c : Dev nD) (f : Cont (F := F) c sW) :
    (sW.view.loc (c : Thread nD τ) ↦{fullShare} f : sProp 𝕄)
      ⊢ bigSep Finset.univ fun i : Fin 8 => iprop(∃ f, (wslot i).view.loc (c : Thread nD τ) ↦[(wslot i).view.set]{fullShare} f) := by
  rw [Ring.pointsTo_blocks (ℓ := sW.view.loc (c : Thread nD τ)) wset w_disj w_cover f]
  exact bigSep_mono fun i _ => wslot_in c f i
theorem wslots_join (c : Dev nD) (f₀ : Cont (F := F) c sW) :
    (bigSep Finset.univ fun i : Fin 8 => iprop(∃ f, (wslot i).view.loc (c : Thread nD τ) ↦[(wslot i).view.set]{fullShare} f) : sProp 𝕄)
      ⊢ iprop(∃ f, sW.view.loc (c : Thread nD τ) ↦{fullShare} f) := by
  refine .trans ?_ (Ring.pointsTo_blocks_join_exists (ℓ := sW.view.loc (c : Thread nD τ)) wset w_disj w_cover f₀)
  exact bigSep_mono fun i _ => wslot_out c i
theorem sslot_pt (c : Dev nD) (f : Cont (F := F) c sS) (i : Fin 8) :
    (sS.view.loc (c : Thread nD τ) ↦[sset i]{fullShare} f : sProp 𝕄) ⊢ ((sslot i).view.loc (c : Thread nD τ) ↦[(sslot i).view.set]{fullShare} f) := by
  rw [sslot_set i]
theorem sslot_tp (c : Dev nD) (f : Cont (F := F) c sS) (i : Fin 8) :
    ((sslot i).view.loc (c : Thread nD τ) ↦[(sslot i).view.set]{fullShare} f : sProp 𝕄) ⊢ (sS.view.loc (c : Thread nD τ) ↦[sset i]{fullShare} f) := by
  rw [sslot_set i]
theorem sslot_in (c : Dev nD) (f : Cont (F := F) c sS) (i : Fin 8) :
    (sS.view.loc (c : Thread nD τ) ↦[sset i]{fullShare} f : sProp 𝕄) ⊢ iprop(∃ f, (sslot i).view.loc (c : Thread nD τ) ↦[(sslot i).view.set]{fullShare} f) := by
  iintro H; iexists f; iapply (sslot_pt c f i); iexact H
theorem sslot_out (c : Dev nD) (i : Fin 8) :
    (iprop(∃ f, (sslot i).view.loc (c : Thread nD τ) ↦[(sslot i).view.set]{fullShare} f) : sProp 𝕄) ⊢ iprop(∃ f, sS.view.loc (c : Thread nD τ) ↦[sset i]{fullShare} f) := by
  iintro ⟨%f, H⟩; iexists f; iapply (sslot_tp c f i); iexact H

theorem sslots_split (c : Dev nD) (f : Cont (F := F) c sS) :
    (sS.view.loc (c : Thread nD τ) ↦{fullShare} f : sProp 𝕄)
      ⊢ bigSep Finset.univ fun i : Fin 8 => iprop(∃ f, (sslot i).view.loc (c : Thread nD τ) ↦[(sslot i).view.set]{fullShare} f) := by
  rw [Ring.pointsTo_blocks (ℓ := sS.view.loc (c : Thread nD τ)) sset s_disj s_cover f]
  exact bigSep_mono fun i _ => sslot_in c f i
theorem sslots_join (c : Dev nD) (f₀ : Cont (F := F) c sS) :
    (bigSep Finset.univ fun i : Fin 8 => iprop(∃ f, (sslot i).view.loc (c : Thread nD τ) ↦[(sslot i).view.set]{fullShare} f) : sProp 𝕄)
      ⊢ iprop(∃ f, sS.view.loc (c : Thread nD τ) ↦{fullShare} f) := by
  refine .trans ?_ (Ring.pointsTo_blocks_join_exists (ℓ := sS.view.loc (c : Thread nD τ)) sset s_disj s_cover f₀)
  exact bigSep_mono fun i _ => sslot_out c i

/-- The idle rings, family by family. -/
theorem idle_eq (c : Dev nD) (fW : Cont (F := F) c mW) (fS : Cont (F := F) c mS) (X9 : Cont (F := F) c sAct) (n : ℕ) :
    (Ring.AtW (slotSt c fW fS X9 n) (fun _ => none) : sProp 𝕄)
      = iprop((wsems c ∗ (bigSep Finset.univ fun i : Fin 8 => iprop(∃ f, (wslot i).view.loc (c : Thread nD τ) ↦[(wslot i).view.set]{fullShare} f))
            ∗ bigSep Finset.univ fun i : Fin 8 => wtok c i Finset.univ fW)
          ∗ (ssems c ∗ (bigSep Finset.univ fun i : Fin 8 => iprop(∃ f, (sslot i).view.loc (c : Thread nD τ) ↦[(sslot i).view.set]{fullShare} f))
            ∗ bigSep Finset.univ fun i : Fin 8 => stok c i Finset.univ fS)) := by
  show (bigSep Finset.univ fun i : Fin 8 => iprop(widle c fW i ∗ sidle c fS i)) = _
  rw [bigSep_sep', bigSep_sep', bigSep_sep', bigSep_sep', bigSep_sep']

theorem rings_start (c : Dev nD) (fW : Cont (F := F) c mW) (fS : Cont (F := F) c mS) (X9 : Cont (F := F) c sAct) (n : ℕ) (gW : Cont (F := F) c sW) (gS : Cont (F := F) c sS) :
    iprop(wsems c ∗ ssems c ∗ (sW.view.loc (c : Thread nD τ) ↦{fullShare} gW) ∗ (sS.view.loc (c : Thread nD τ) ↦{fullShare} gS)
        ∗ (mW.view.loc (c : Thread nD τ) ↦{fullShare} fW) ∗ (mS.view.loc (c : Thread nD τ) ↦{fullShare} fS))
      ⊢ iprop(Ring.AtW (slotSt c fW fS X9 n) (stAt 0 0)
        ∗ (mW.view.loc (c : Thread nD τ) ↦{Transfers.shareDrop fullShare 8} fW) ∗ (mS.view.loc (c : Thread nD τ) ↦{Transfers.shareDrop fullShare 8} fS)) := by
  rw [stAt_start, idle_eq]
  iintro ⟨Hw, Hs, HW, HS, HmW, HmS⟩
  ihave HmW := (Transfers.pointsTo_toks_split (ℓ := mW.view.loc (c : Thread nD τ)) (S := Finset.univ) (f := fW) fullShare 8) $$ [HmW]
  · iexact HmW
  ihave HmS := (Transfers.pointsTo_toks_split (ℓ := mS.view.loc (c : Thread nD τ)) (S := Finset.univ) (f := fS) fullShare 8) $$ [HmS]
  · iexact HmS
  icases HmW with ⟨HmW, HtW⟩
  icases HmS with ⟨HmS, HtS⟩
  isplitr [HmW HmS]
  · isplitl [Hw HW HtW]
    · isplitl [Hw]; · iexact Hw
      isplitl [HW]; · iapply (wslots_split c gW); iexact HW
      iexact HtW
    · isplitl [Hs]; · iexact Hs
      isplitl [HS]; · iapply (sslots_split c gS); iexact HS
      iexact HtS
  · isplitl [HmW]; · iexact HmW
    iexact HmS

theorem rings_end (c : Dev nD) (fW : Cont (F := F) c mW) (fS : Cont (F := F) c mS) (X9 : Cont (F := F) c sAct) (n k : ℕ) (hk : n * 7 ≤ k)
    (gW : Cont (F := F) c sW) (gS : Cont (F := F) c sS) :
    iprop(Ring.AtW (slotSt c fW fS X9 n) (stF (n * 7) k)
        ∗ (mW.view.loc (c : Thread nD τ) ↦{Transfers.shareDrop fullShare 8} fW) ∗ (mS.view.loc (c : Thread nD τ) ↦{Transfers.shareDrop fullShare 8} fS))
      ⊢ (iprop(wsems c ∗ ssems c ∗ (∃ f, sW.view.loc (c : Thread nD τ) ↦{fullShare} f) ∗ (∃ f, sS.view.loc (c : Thread nD τ) ↦{fullShare} f)
        ∗ (mW.view.loc (c : Thread nD τ) ↦{fullShare} fW) ∗ (mS.view.loc (c : Thread nD τ) ↦{fullShare} fS)) : sProp 𝕄) := by
  rw [stF_end hk, idle_eq]
  iintro ⟨⟨⟨Hw, HW, HtW⟩, ⟨Hs, HS, HtS⟩⟩, HmW, HmS⟩
  isplitl [Hw]; · iexact Hw
  isplitl [Hs]; · iexact Hs
  isplitl [HW]; · iapply (wslots_join c gW); iexact HW
  isplitl [HS]; · iapply (sslots_join c gS); iexact HS
  isplitl [HmW HtW]
  · iapply (Transfers.pointsTo_toks_join (ℓ := mW.view.loc (c : Thread nD τ)) (S := Finset.univ) (f := fW) fullShare 8)
    isplitl [HmW]; · iexact HmW
    iexact HtW
  · iapply (Transfers.pointsTo_toks_join (ℓ := mS.view.loc (c : Thread nD τ)) (S := Finset.univ) (f := fS) fullShare 8)
    isplitl [HmS]; · iexact HmS
    iexact HtS

/-- The cells by number. -/
theorem wsems_eq (c : Dev nD) : (wsems (F := F) c : sProp 𝕄)
    = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  unfold wsems
  rw [bigSep_univ_eq_bigSepL [(0 : Fin 8), 1, 2, 3, 4, 5, 6, 7] (by decide) (by decide)]
  simp only [wcell_eq]; rfl
theorem ssems_eq (c : Dev nD) : (ssems (F := F) c : sProp 𝕄)
    = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0
      ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  unfold ssems
  rw [bigSep_univ_eq_bigSepL [(0 : Fin 8), 1, 2, 3, 4, 5, 6, 7] (by decide) (by decide)]
  simp only [scell_eq]; rfl

end Cert.KernelIdeal.Body

end
-- ==== Proof.Body.lean ====
/- The whole kernel: from its operands to the result it leaves. -/
module

public import proofs.«01_k».proof.Proof.Pool

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The words of the sizes are ones the kernel runs on: none negative, and 256 together. -/
abbrev GoodG {c : Dev nD} {arg0 : Memref sig .tc .smem S8 .i32} (G : Cont (F := F) c arg0) : Prop :=
  Good (gs8 G 0) (gs8 G 1) (gs8 G 2) (gs8 G 3) (gs8 G 4) (gs8 G 5) (gs8 G 6) (gs8 G 7)

/-- The tokens as copied in, and as quantised. -/
abbrev xin (c : Dev nD) (fX : Cont (F := F) c mX) (fq : Cont (F := F) c sXq) : Cont (F := F) c sXq :=
  View.write (Elt F) sXq.view fq (ReadAs.same.apply (mX.view.read (Elt F) fX)) Finset.univ

/-- What the result's scratch may hold at the end. -/
def Left (c : Dev nD) (arg0 : Memref sig .tc .smem S8 .i32) (harg0 : arg0.IsWhole) (G : Cont (F := F) c arg0) (fX : Cont (F := F) c mX)
    (fW : Cont (F := F) c mW) (fS : Cont (F := F) c mS) (f : Cont (F := F) c sY) : Prop :=
  ∃ (X9 : Cont (F := F) c sAct) (X10 : Cont (F := F) c sOff) (fq : Cont (F := F) c sXq) (k n : ℕ),
    Table (gs8 G) X9 X10 7 ∧ n = k0_t3_loop.trips ∧ k = cnt (gs8 G) 8 * 7
    ∧ Reach c arg0 harg0 (gs8 G 0) (gs8 G 1) (gs8 G 2) (gs8 G 3) (gs8 G 4) (gs8 G 5) (gs8 G 6) (gs8 G 7) fW fS X9 X10 G (x3 c arg0 harg0 (xin c fX fq) n) k f

/-- The result array as the last copy leaves it. -/
abbrev yout (c : Dev nD) (fY : Cont (F := F) c mY) (f : Cont (F := F) c sY) : Cont (F := F) c mY :=
  View.write (Elt F) mY.view fY (ReadAs.same.apply (sY.view.read (Elt F) f)) Finset.univ

/-- A sequence runs when its first part runs to where the rest does. -/
theorem wp_bind_in (c : Dev nD) {α β : Type} (p : Prog (TpuEff nD τ sig (Elt F) Λ₀ .tc) α) (k : α → Prog (TpuEff nD τ sig (Elt F) Λ₀ .tc) β) (Q : β → sProp 𝕄) :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q := by
  rw [wp_bind]

/-- The result array, as the copy names it. -/
theorem holdY (c : Dev nD) (fY : Cont (F := F) c mY) :
    (mY.view.loc (c : Thread nD τ) ↦{fullShare} fY : sProp 𝕄) ⊢ (mY.view.loc (c : Thread nD τ) ↦{fullShare} fY) := .rfl

theorem body_run (c : Dev nD) (arg0 : Memref sig .tc .smem S8 .i32) (harg0 : arg0.IsWhole) (q : PosShare TreeShare) (G : Cont (F := F) c arg0)
    (h : GoodG G) (fX : Cont (F := F) c mX) (fW : Cont (F := F) c mW) (fS : Cont (F := F) c mS) (fY : Cont (F := F) c mY)
    (fq : Cont (F := F) c sXq) (gW : Cont (F := F) c sW) (gS : Cont (F := F) c sS) (gY : Cont (F := F) c sY) (X9 : Cont (F := F) c sAct) (X10 : Cont (F := F) c sOff)
    (W : Waits sig Unit) :
    iprop((arg0.view.loc (c : Thread nD τ) ↦[arg0.view.set]{q} G)
        ∗ (sXq.view.loc (c : Thread nD τ) ↦{fullShare} fq) ∗ (sW.view.loc (c : Thread nD τ) ↦{fullShare} gW) ∗ (sS.view.loc (c : Thread nD τ) ↦{fullShare} gS)
        ∗ (sY.view.loc (c : Thread nD τ) ↦{fullShare} gY) ∗ (sAct.view.loc (c : Thread nD τ) ↦{fullShare} X9) ∗ (sOff.view.loc (c : Thread nD τ) ↦{fullShare} X10)
        ∗ semVal ((c : Thread nD τ), SemLoc.dma cc0_scratch6.sem) 0 ∗ wsems c ∗ ssems c ∗ semVal ((c : Thread nD τ), SemLoc.dma cc0_scratch9.sem) 0
        ∗ (mX.view.loc (c : Thread nD τ) ↦{fullShare} fX) ∗ (mW.view.loc (c : Thread nD τ) ↦{fullShare} fW) ∗ (mS.view.loc (c : Thread nD τ) ↦{fullShare} fS)
        ∗ (mY.view.loc (c : Thread nD τ) ↦{fullShare} fY) ∗ owes (c : Thread nD τ) 0 W)
      ⊢ wp frame (wpE (defs₀ (F := F)) Variants.none (c : Thread nD τ) none) Set.univ (cc0_moe_w4_mxfp8 (F := F) arg0 harg0 mX (Memref.isWhole_whole _) mW (Memref.isWhole_whole _) mS (Memref.isWhole_whole _) mY (Memref.isWhole_whole _) sXq (Memref.isWhole_whole _) sW (Memref.isWhole_whole _) sS (Memref.isWhole_whole _) sY (Memref.isWhole_whole _) sAct (Memref.isWhole_whole _) sOff (Memref.isWhole_whole _) cc0_scratch6 cc0_scratch7 cc0_scratch8 cc0_scratch9)
        (fun _ => (iprop((arg0.view.loc (c : Thread nD τ) ↦[arg0.view.set]{q} G)
          ∗ (∃ f, sXq.view.loc (c : Thread nD τ) ↦{fullShare} f) ∗ (∃ f, sW.view.loc (c : Thread nD τ) ↦{fullShare} f) ∗ (∃ f, sS.view.loc (c : Thread nD τ) ↦{fullShare} f)
          ∗ (∃ f, sY.view.loc (c : Thread nD τ) ↦{fullShare} f) ∗ (∃ f, sAct.view.loc (c : Thread nD τ) ↦{fullShare} f) ∗ (∃ f, sOff.view.loc (c : Thread nD τ) ↦{fullShare} f)
          ∗ semVal ((c : Thread nD τ), SemLoc.dma cc0_scratch6.sem) 0 ∗ wsems c ∗ ssems c ∗ semVal ((c : Thread nD τ), SemLoc.dma cc0_scratch9.sem) 0
          ∗ (mX.view.loc (c : Thread nD τ) ↦{fullShare} fX) ∗ (mW.view.loc (c : Thread nD τ) ↦{fullShare} fW) ∗ (mS.view.loc (c : Thread nD τ) ↦{fullShare} fS)
          ∗ (∃ f, (mY.view.loc (c : Thread nD τ) ↦{fullShare} yout c fY f) ∗ ⌜Left c arg0 harg0 G fX fW fS f⌝) ∗ ∃ W', owes (c : Thread nD τ) 0 W') : sProp 𝕄)) := by
  rw [cc0_moe_w4_mxfp8_eq_skeleton]
  unfold cc0_moe_w4_mxfp8_skel
  rw [k0_part115_eq_skeleton, k0_part116_eq_skeleton]
  iintro ⟨H0, Hq, HsW, HsS, HsY, H9, H10, Hcx, Hcw, Hcs, Hcy, HX, HW, HS, HY, HO⟩
  iapply (wp_bind_in c)
  iapply (wp_wand_r Idealize.ShloMosaic.frame (wpE (defs₀ (F := F)) Variants.none (c : Thread nD τ) none) Set.univ)
  isplitl [H0 Hq H9 H10 Hcx HX]
  · iapply (part115 c arg0 harg0 q G fX fq X9 X10)
    isplitl [H0]; · iexact H0
    isplitl [H9]; · iexact H9
    isplitl [H10]; · iexact H10
    isplitl [HX]; · iexact HX
    isplitl [Hq]; · iexact Hq
    iexact Hcx
  iintro %r ⟨H0, ⟨%Y9, %Y10, H9, H10, %hT3⟩, Hx, %hr⟩
  obtain ⟨r1, r2, r3, r4, r5, r6, r7⟩ := r
  obtain ⟨e1, e2, e3, e4, e5, e6⟩ := hr
  dsimp only at e1 e2 e3 e4 e5 e6
  subst e1; subst e2; subst e3; subst e4; subst e5; subst e6
  dsimp only
  iapply (wp_bind_in c)
  iapply (wp_wand_r Idealize.ShloMosaic.frame (wpE (defs₀ (F := F)) Variants.none (c : Thread nD τ) none) Set.univ)
  isplitl [H0 H9 H10]
  · iapply (part116 c arg0 harg0 q G Y9 Y10 hT3 h r6)
    isplitl [H0]; · iexact H0
    isplitl [H9]; · iexact H9
    iexact H10
  iintro %s ⟨H0, ⟨%Z9, %Z10, H9, H10, %hT7⟩, %hs⟩
  obtain ⟨s1, s2, s3, s4, s5, hw8, s7⟩ := s
  obtain ⟨e1, e2, e3, e5⟩ := hs
  dsimp only at e1 e2 e3 e5
  subst e1; subst e2; subst e3; subst e5
  dsimp only
  have hT : Tabs Z9 Z10 G (nn (gs8 G 0) (gs8 G 1) (gs8 G 2) (gs8 G 3) (gs8 G 4) (gs8 G 5) (gs8 G 6) (gs8 G 7)) := by
    rw [cnt8_eq (gs8 G)]; exact tabs_of G Z9 Z10 h hT7
  have ha := hT.act
  ihave HR := (rings_start c fW fS Z9 (nn (gs8 G 0) (gs8 G 1) (gs8 G 2) (gs8 G 3) (gs8 G 4) (gs8 G 5) (gs8 G 6) (gs8 G 7)) gW gS) $$ [Hcw Hcs HsW HsS HW HS]
  · isplitl [Hcw]; · iexact Hcw
    isplitl [Hcs]; · iexact Hcs
    isplitl [HsW]; · iexact HsW
    isplitl [HsS]; · iexact HsS
    isplitl [HW]; · iexact HW
    iexact HS
  icases HR with ⟨HR, HW, HS⟩
  icases Hx with ⟨Hx, HXr⟩
  have hz : Reach c arg0 harg0 (gs8 G 0) (gs8 G 1) (gs8 G 2) (gs8 G 3) (gs8 G 4) (gs8 G 5) (gs8 G 6) (gs8 G 7) fW fS Z9 Z10 G
      (x3 c arg0 harg0 (xin c fX fq) (Scf.trips k0_t3_loop.lb k0_t3_loop.ub k0_t3_loop.st)) 0 gY := .zero gY
  sl_exec
  ihave HY := (holdY c fY) $$ [HY]
  · iexact HY
  sl_exec
  sl_step
  have ht4 := t4_trips h
  ihave HR := (rings_end c fW fS Z9 _ _ (le_of_eq ht4.symm) gW gS) $$ [HR HW HS]
  · isplitl [HR]; · iexact HR
    isplitl [HW]; · iexact HW
    iexact HS
  icases HR with ⟨Hcw, Hcs, HsW, HsS, HW, HS⟩
  isplitl [H0]; · iexact H0
  isplitl [Hx_dst]; · iexists _; iexact Hx_dst
  isplitl [HsW]; · iexact HsW
  isplitl [HsS]; · iexact HsS
  isplitl [HsY]; · iexists _; iexact HsY
  isplitl [H9]; · iexists _; iexact H9
  isplitl [H10]; · iexists _; iexact H10
  isplitl [Hx]; · iexact Hx
  isplitl [Hcw]; · iexact Hcw
  isplitl [Hcs]; · iexact Hcs
  isplitl [Hcy]; · iexact Hcy
  isplitl [HXr]; · iexact HXr
  isplitl [HW]; · iexact HW
  isplitl [HS]; · iexact HS
  isplitl [HY]
  · iexists fL1
    isplitl [HY]; · iexact HY
    ipureintro
    exact ⟨Z9, Z10, fq, _, _, hT7, rfl, by rw [← cnt8_eq (gs8 G)]; exact ht4, hL10⟩
  iexists _; iexact HO

end Cert.KernelIdeal.Body

end
-- ==== Proof.Pre.lean ====
/- What the claims' precondition says of the eight sizes. -/
module

public import proofs.«01_k».proof.Pre_pre
public import proofs.«01_k».proof.Proof.Words
public import Idealize.ShloMosaic.Lib.ReduceAll

@[expose] public section

set_option maxRecDepth 16384

noncomputable section

namespace Cert.KernelIdeal.Body

open Cert.KernelIdeal Cert.KernelIdeal.Gen
open Idealize.ShloMosaic

/-- The `e`-th place of eight, and the word there. -/
abbrev ix8 (e : ℕ) (h : e < 8) : Pre_pre.S8.Idx := fun a => ⟨e, by obtain rfl : a = (0 : Fin 1) := Subsingleton.elim _ _; exact h⟩
abbrev wd (x : IVec Pre_pre.S8 32) (e : ℕ) (h : e < 8) : BitVec 32 := x (ix8 e h)

theorem list8 : (List.finRange Pre_pre.S8.numel).map Pre_pre.S8.rowMajor.symm
    = [ix8 0 (by omega), ix8 1 (by omega), ix8 2 (by omega), ix8 3 (by omega), ix8 4 (by omega), ix8 5 (by omega), ix8 6 (by omega), ix8 7 (by omega)] := by
  decide

instance : Subsingleton Pre_pre.S_.Idx := ⟨fun a b => funext fun i => i.elim0⟩

theorem sum8 [Pre_pre.Facts] (x : IVec Pre_pre.S8 32) (v : IVec Pre_pre.S_ 32) (j : Pre_pre.S_.Idx) :
    Host.reduce IntOp.addi x v Pre_pre.Facts.reducesTo_S8_S_d0 Pre_pre.Facts.h_S_ j
      = v (Shape.Idx.first Pre_pre.Facts.h_S_) + wd x 0 (by omega) + wd x 1 (by omega) + wd x 2 (by omega) + wd x 3 (by omega)
        + wd x 4 (by omega) + wd x 5 (by omega) + wd x 6 (by omega) + wd x 7 (by omega) := by
  rw [Host.reduce_eq_foldl, List.filter_eq_self.mpr (fun i _ => by simp [Subsingleton.elim _ j]), list8]
  rfl

/-- A precondition met says the eight sizes are none negative and 256 in all. -/
theorem good_of_pre [Pre_pre.Facts] {F : FTy → Type} [FloatOps F] (x0) (x : IVec Pre_pre.S8 32) (x2) (x3)
    (h : Pre_pre.fn (F := F) x0 x x2 x3 = fun _ => 1#1) :
    Good (wd x 0 (by omega)) (wd x 1 (by omega)) (wd x 2 (by omega)) (wd x 3 (by omega)) (wd x 4 (by omega)) (wd x 5 (by omega)) (wd x 6 (by omega)) (wd x 7 (by omega)) := by
  have h1 := congrFun h (fun i => i.elim0)
  dsimp only [Pre_pre.fn] at h1
  obtain ⟨h2, hs⟩ := IntOp.andi_eq_one.mp h1
  obtain ⟨hge, hle⟩ := IntOp.andi_eq_one.mp h2
  have hge' := fun i => IntOp.cmpi_sge.mp (Host.reduce_andi_all _ _ _ _ _ hge i)
  have hle' := fun i => IntOp.cmpi_sle.mp (Host.reduce_andi_all _ _ _ _ _ hle i)
  have hsum := IntOp.cmpi_eq.mp hs
  rw [sum8] at hsum
  have a0 : ∀ e he, 0 ≤ (wd x e he).toInt := fun e he => hge' _
  have a1 : ∀ e he, (wd x e he).toInt ≤ 256 := fun e he => hle' _
  have hz : (constantI Pre_pre.S_ 32 0#32) (Shape.Idx.first Pre_pre.Facts.h_S_) = 0#32 := rfl
  have hz' : (constantI Pre_pre.S_ 32 256#32) (fun i => i.elim0) = 256#32 := rfl
  rw [hz, hz'] at hsum
  have hi := congrArg BitVec.toInt hsum
  have b0 := a0 0 (by omega); have b1 := a0 1 (by omega); have b2 := a0 2 (by omega); have b3 := a0 3 (by omega)
  have b4 := a0 4 (by omega); have b5 := a0 5 (by omega); have b6 := a0 6 (by omega); have b7 := a0 7 (by omega)
  have c0 := a1 0 (by omega); have c1 := a1 1 (by omega); have c2 := a1 2 (by omega); have c3 := a1 3 (by omega)
  have c4 := a1 4 (by omega); have c5 := a1 5 (by omega); have c6 := a1 6 (by omega); have c7 := a1 7 (by omega)
  have d : ∀ a b : BitVec 32, ∀ n : ℤ, 0 ≤ a.toInt → a.toInt ≤ n → 0 ≤ b.toInt → b.toInt ≤ 256 → n ≤ 10000 → (a + b).toInt = a.toInt + b.toInt := by
    intro a b n h1 h2 h3 h4 h5
    rw [BitVec.toInt_add, Int.bmod_eq_of_le] <;> omega
  have z : (0#32 : BitVec 32).toInt = 0 := rfl
  have s0 := d 0#32 (wd x 0 (by omega)) 0 (by omega) (by omega) b0 c0 (by omega)
  have s1 := d (0#32 + wd x 0 (by omega)) (wd x 1 (by omega)) 256 (by omega) (by omega) b1 c1 (by omega)
  have s2 := d (0#32 + wd x 0 (by omega) + wd x 1 (by omega)) (wd x 2 (by omega)) 512 (by omega) (by omega) b2 c2 (by omega)
  have s3 := d (0#32 + wd x 0 (by omega) + wd x 1 (by omega) + wd x 2 (by omega)) (wd x 3 (by omega)) 768 (by omega) (by omega) b3 c3 (by omega)
  have s4 := d (0#32 + wd x 0 (by omega) + wd x 1 (by omega) + wd x 2 (by omega) + wd x 3 (by omega)) (wd x 4 (by omega)) 1024 (by omega) (by omega) b4 c4 (by omega)
  have s5 := d (0#32 + wd x 0 (by omega) + wd x 1 (by omega) + wd x 2 (by omega) + wd x 3 (by omega) + wd x 4 (by omega)) (wd x 5 (by omega)) 1280 (by omega) (by omega) b5 c5 (by omega)
  have s6 := d (0#32 + wd x 0 (by omega) + wd x 1 (by omega) + wd x 2 (by omega) + wd x 3 (by omega) + wd x 4 (by omega) + wd x 5 (by omega)) (wd x 6 (by omega)) 1536 (by omega) (by omega) b6 c6 (by omega)
  have s7 := d (0#32 + wd x 0 (by omega) + wd x 1 (by omega) + wd x 2 (by omega) + wd x 3 (by omega) + wd x 4 (by omega) + wd x 5 (by omega) + wd x 6 (by omega)) (wd x 7 (by omega)) 1792 (by omega) (by omega) b7 c7 (by omega)
  have w : (256#32 : BitVec 32).toInt = 256 := rfl
  exact ⟨b0, b1, b2, b3, b4, b5, b6, b7, by omega⟩

end Cert.KernelIdeal.Body

end
-- ==== Proof.Run.lean ====
/- The launch: the pipeline runs the kernel's body once, and what the run leaves. -/
module

public import proofs.«01_k».proof.Proof.Body
public import proofs.«01_k».proof.Proof.Pre
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- What the launch hands over: the result is written, the other unscoped arrays are read. -/
def R0 : Finset (Ref sig .tc) := {main_v0}
def H0 : Finset (Ref sig .tc) := {main_arg0, main_arg2, main_arg3}
theorem H0_sub : H0 ⊆ Pipeline.restRefs sig spec0 := by decide
theorem R0_sub : R0 ⊆ Pipeline.restRefs sig spec0 \ H0 := by decide

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cells: the tokens' copy, the two rings', the result's copy. -/
abbrev osem0 : Fin 18 → SemLoc sig := fun j => SemLoc.dma ⟨1 + j.val, by have := j.isLt; show 1 + j.val < 19; omega⟩
theorem ownSemFacts0 : Pipeline.OwnSemFacts spec0 osem0 := by decide
/-- All of them at zero. -/
abbrev cells (c : Dev nD) : sProp 𝕄 := iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15, 16, 17] (by decide) (by decide)]; rfl

theorem wsems_in (c : Dev nD) : (iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) : sProp 𝕄) ⊢ wsems (F := F) c := by rw [wsems_eq]
theorem wsems_out (c : Dev nD) : wsems (F := F) c ⊢ (iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) : sProp 𝕄) := by rw [wsems_eq]
theorem ssems_in (c : Dev nD) : (iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) : sProp 𝕄) ⊢ ssems (F := F) c := by rw [ssems_eq]
theorem ssems_out (c : Dev nD) : ssems (F := F) c ⊢ (iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) : sProp 𝕄) := by rw [ssems_eq]

theorem cells_out (c : Dev nD) : cells (F := F) c
    ⊢ iprop(semVal ((c : Thread nD τ), SemLoc.dma cc0_scratch6.sem) 0 ∗ wsems c ∗ ssems c ∗ semVal ((c : Thread nD τ), SemLoc.dma cc0_scratch9.sem) 0) := by
  iintro ⟨Hc1, Hc2, Hc3, Hc4, Hc5, Hc6, Hc7, Hc8, Hc9, Hc10, Hc11, Hc12, Hc13, Hc14, Hc15, Hc16, Hc17, Hc18⟩
  isplitl [Hc1]; · iexact Hc1
  isplitl [Hc2 Hc3 Hc4 Hc5 Hc6 Hc7 Hc8 Hc9]
  · iapply (wsems_in c)
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hc9
  isplitl [Hc10 Hc11 Hc12 Hc13 Hc14 Hc15 Hc16 Hc17]
  · iapply (ssems_in c)
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    iexact Hc17
  iexact Hc18
theorem cells_in (c : Dev nD) :
    iprop(semVal ((c : Thread nD τ), SemLoc.dma cc0_scratch6.sem) 0 ∗ wsems c ∗ ssems c ∗ semVal ((c : Thread nD τ), SemLoc.dma cc0_scratch9.sem) 0)
      ⊢ cells (F := F) c := by
  iintro ⟨Hc1, Hw, Hs, Hc18⟩
  ihave Hw := (wsems_out c) $$ [Hw]
  · iexact Hw
  ihave Hs := (ssems_out c) $$ [Hs]
  · iexact Hs
  icases Hw with ⟨Hc2, Hc3, Hc4, Hc5, Hc6, Hc7, Hc8, Hc9⟩
  icases Hs with ⟨Hc10, Hc11, Hc12, Hc13, Hc14, Hc15, Hc16, Hc17⟩
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  isplitl [Hc15]; · iexact Hc15
  isplitl [Hc16]; · iexact Hc16
  isplitl [Hc17]; · iexact Hc17
  iexact Hc18

/-- What the launch holds beside the result array (`Y`): the scratch, the generator's register, the cells, the arrays read. -/
abbrev core (c : Dev nD) (Y : sProp 𝕄) : sProp 𝕄 :=
  iprop(iprop((∃ f, sXq.view.loc (c : Thread nD τ) ↦{fullShare} f) ∗ (∃ f, sW.view.loc (c : Thread nD τ) ↦{fullShare} f) ∗ (∃ f, sS.view.loc (c : Thread nD τ) ↦{fullShare} f)
      ∗ (∃ f, sY.view.loc (c : Thread nD τ) ↦{fullShare} f) ∗ (∃ f, sAct.view.loc (c : Thread nD τ) ↦{fullShare} f) ∗ (∃ f, sOff.view.loc (c : Thread nD τ) ↦{fullShare} f))
    ∗ (∃ r, prngReg c r) ∗ cells c
    ∗ iprop((mX.view.loc (c : Thread nD τ) ↦{fullShare} V m c main_arg0) ∗ (mW.view.loc (c : Thread nD τ) ↦{fullShare} V m c main_arg2) ∗ (mS.view.loc (c : Thread nD τ) ↦{fullShare} V m c main_arg3))
    ∗ Y)

theorem hbmPts0_eq (c : Dev nD) :
    (bigSep H0 (fun b => ((c : Thread nD τ).loc b) ↦{fullShare} V m c b) : sProp 𝕄)
      = iprop((mX.view.loc (c : Thread nD τ) ↦{fullShare} V m c main_arg0) ∗ (mW.view.loc (c : Thread nD τ) ↦{fullShare} V m c main_arg2) ∗ (mS.view.loc (c : Thread nD τ) ↦{fullShare} V m c main_arg3)) := by
  rw [BI.bigSep_eq_bigSepL_of_eq [main_arg0, main_arg2, main_arg3] (by decide) (by decide)]; rfl
theorem ownedPts0_eq (c : Dev nD) : (Pipeline.owned R0 c : sProp 𝕄) = iprop(∃ f, mY.view.loc (c : Thread nD τ) ↦{fullShare} f) := by
  unfold Pipeline.owned; rw [BI.bigSep_eq_bigSepL_of_eq [main_v0] (by decide) (by decide)]; rfl
theorem routedPts0_eq (c : Dev nD) (Gv : (b : Ref sig .tc) → Buf (Elt F) ((c.tc : Thread nD τ).loc b)) :
    (Pipeline.routed R0 c Gv : sProp 𝕄) = iprop(mY.view.loc (c : Thread nD τ) ↦{fullShare} Gv main_v0) := by
  unfold Pipeline.routed; rw [BI.bigSep_eq_bigSepL_of_eq [main_v0] (by decide) (by decide)]; rfl

theorem PhiDR0_eq (c : Dev nD) :
    (Pipeline.ΦDR osem0 spec0 H0 R0 (V m) c : sProp 𝕄) = core m c (iprop(∃ f, mY.view.loc (c : Thread nD τ) ↦{fullShare} f)) := by
  rw [Pipeline.ΦDR_eq, scopedRest0_eq, ownSems00_eq, hbmPts0_eq, ownedPts0_eq]
theorem PhiDRG0_eq (c : Dev nD) (Gv : (c : Dev nD) → (b : Ref sig .tc) → Buf (Elt F) ((c.tc : Thread nD τ).loc b)) :
    (Pipeline.ΦDRG osem0 spec0 H0 R0 (V m) Gv c : sProp 𝕄) = core m c (iprop(mY.view.loc (c : Thread nD τ) ↦{fullShare} Gv c main_v0)) := by
  rw [Pipeline.ΦDRG_eq, scopedRest0_eq, ownSems00_eq, hbmPts0_eq, routedPts0_eq]

/-- The staged sizes. -/
abbrev stG (c : Dev nD) (t : Fin cfg0.N) : Type := Cont (F := F) c (st0_0 t)

theorem core_run (c : Dev nD) (t : Fin cfg0.N) (G : Cont (F := F) c (win0_0.stage (cfg0.slots t 0))) (h : GoodG G) (fY : Cont (F := F) c mY) (W : Waits sig Unit) :
    iprop(core m c (iprop(mY.view.loc (c : Thread nD τ) ↦{fullShare} fY))
        ∗ ((win0_0.stage (cfg0.slots t 0)).view.loc (c : Thread nD τ) ↦[(win0_0.stage (cfg0.slots t 0)).view.set]{fullShare} G) ∗ owes (c : Thread nD τ) 0 W)
      ⊢ wp frame (wpE (defs₀ (F := F)) Variants.none (c : Thread nD τ) none) Set.univ (bodyAt0 (F := F) t)
        (fun _ => (iprop(core m c (iprop(∃ f, (mY.view.loc (c : Thread nD τ) ↦{fullShare} yout c fY f)
              ∗ ⌜Left c (win0_0.stage (cfg0.slots t 0)) (hstage0_0 0) G (V m c main_arg0) (V m c main_arg2) (V m c main_arg3) f⌝))
          ∗ ((win0_0.stage (cfg0.slots t 0)).view.loc (c : Thread nD τ) ↦[(win0_0.stage (cfg0.slots t 0)).view.set]{fullShare} G)
          ∗ ∃ W', owes (c : Thread nD τ) 0 W') : sProp 𝕄)) := by
  iintro ⟨⟨⟨⟨%fq, Hq⟩, ⟨%gW, HsW⟩, ⟨%gS, HsS⟩, ⟨%gY, HsY⟩, ⟨%X9, H9⟩, ⟨%X10, H10⟩⟩, Hg, Hc, ⟨HX, HW, HS⟩, HY⟩, H0, HO⟩
  ihave Hc := (cells_out c) $$ [Hc]
  · iexact Hc
  icases Hc with ⟨Hcx, Hcw, Hcs, Hcy⟩
  iapply (wp_wand_r Idealize.ShloMosaic.frame (wpE (defs₀ (F := F)) Variants.none (c : Thread nD τ) none) Set.univ)
  isplitr [Hg]
  · iapply (body_run c (win0_0.stage (cfg0.slots t 0)) (hstage0_0 0) fullShare G h (V m c main_arg0) (V m c main_arg2) (V m c main_arg3) fY fq gW gS gY X9 X10 W)
    isplitl [H0]; · iexact H0
    isplitl [Hq]; · iexact Hq
    isplitl [HsW]; · iexact HsW
    isplitl [HsS]; · iexact HsS
    isplitl [HsY]; · iexact HsY
    isplitl [H9]; · iexact H9
    isplitl [H10]; · iexact H10
    isplitl [Hcx]; · iexact Hcx
    isplitl [Hcw]; · iexact Hcw
    isplitl [Hcs]; · iexact Hcs
    isplitl [Hcy]; · iexact Hcy
    isplitl [HX]; · iexact HX
    isplitl [HW]; · iexact HW
    isplitl [HS]; · iexact HS
    isplitl [HY]; · iexact HY
    iexact HO
  iintro %_ ⟨H0, Hq, HsW, HsS, HsY, H9, H10, Hcx, Hcw, Hcs, Hcy, HX, HW, HS, HY, HO⟩
  isplitr [H0 HO]
  · isplitl [Hq HsW HsS HsY H9 H10]
    · isplitl [Hq]; · iexact Hq
      isplitl [HsW]; · iexact HsW
      isplitl [HsS]; · iexact HsS
      isplitl [HsY]; · iexact HsY
      isplitl [H9]; · iexact H9
      iexact H10
    isplitl [Hg]; · iexact Hg
    isplitl [Hcx Hcw Hcs Hcy]
    · iapply (cells_in c)
      isplitl [Hcx]; · iexact Hcx
      isplitl [Hcw]; · iexact Hcw
      isplitl [Hcs]; · iexact Hcs
      iexact Hcy
    isplitl [HX HW HS]
    · isplitl [HX]; · iexact HX
      isplitl [HW]; · iexact HW
      iexact HS
    iexact HY
  isplitl [H0]; · iexact H0
  iexact HO

/-! ## The sizes the kernel runs on -/

theorem gs8_read {c : Dev nD} {arg0 : Memref sig .tc .smem S8 .i32} (G : Cont (F := F) c arg0) (e : ℕ) (he : e < 8) :
    gs8 G e = arg0.view.read (Elt F) G (ix8 e he) := by
  unfold gs8; rw [dif_pos he]
  rw [View.readAt_apply]
  congr 1
  funext a
  obtain rfl : a = (0 : Fin 1) := Subsingleton.elim _ _
  apply Fin.ext
  show e + 1 * 0 = e
  omega

/-- The eight words staged are the argument's. -/
def sizes (c : Dev nD) : S8.Idx → Elt F .i32 := V m c main_arg1

theorem good_staged (c : Dev nD) (arg0 : Memref sig .tc .smem S8 .i32) (G : Cont (F := F) c arg0) (hG : arg0.view.read (Elt F) G = sizes m c)
    (h : Good (wd (sizes m c) 0 (by omega)) (wd (sizes m c) 1 (by omega)) (wd (sizes m c) 2 (by omega)) (wd (sizes m c) 3 (by omega))
      (wd (sizes m c) 4 (by omega)) (wd (sizes m c) 5 (by omega)) (wd (sizes m c) 6 (by omega)) (wd (sizes m c) 7 (by omega))) : GoodG G := by
  have e : ∀ e he, gs8 G e = wd (sizes m c) e he := fun e he => by rw [gs8_read G e he, hG]
  unfold GoodG
  rw [e 0 (by omega), e 1 (by omega), e 2 (by omega), e 3 (by omega), e 4 (by omega), e 5 (by omega), e 6 (by omega), e 7 (by omega)]
  exact h

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem iblk_eq (c : Dev nD) (t : Fin cfg0.N) : iblk m c 0 t = sizes m c := by
  rw [fin_N0 t]
  funext i
  unfold iblk sizes
  show V m c main_arg1 _ = V m c main_arg1 _
  refine congrArg (V m c main_arg1) (funext fun (a : Fin 1) => ?_)
  obtain rfl : a = (0 : Fin 1) := Subsingleton.elim _ _
  apply Fin.ext
  show 0 * 8 + 1 * (i 0).val = (i 0).val
  omega

end Cert.KernelIdeal.Body

end
-- ==== Proof.Frame.lean ====
/- The frame: the run ends, the arguments as they were, every counter at zero. -/
module

public import proofs.«01_k».proof.Proof.Run

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The sizes are ones the claims assume. -/
abbrev GoodM : Prop := ∀ c : Dev nD,
  Good (wd (sizes m c) 0 (by omega)) (wd (sizes m c) 1 (by omega)) (wd (sizes m c) 2 (by omega)) (wd (sizes m c) 3 (by omega))
      (wd (sizes m c) 4 (by omega)) (wd (sizes m c) 5 (by omega)) (wd (sizes m c) 6 (by omega)) (wd (sizes m c) 7 (by omega))

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) ⟨m, fun _ => 0, ρ⟩ (fun r => Pipeline.FramePostR cfgs dats 0 R0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c).2 main_arg0 (Finset.mem_sdiff.mpr ⟨Pipeline.mem_restRefs_of main_arg0 (by decide) (by decide), by decide⟩),
      ((h.1 c).1 0).trans (((dats 0 c).arrAt_in 0 rfl _).trans (hA c 0)),
      (h.1 c).2 main_arg2 (Finset.mem_sdiff.mpr ⟨Pipeline.mem_restRefs_of main_arg2 (by decide) (by decide), by decide⟩),
      (h.1 c).2 main_arg3 (Finset.mem_sdiff.mpr ⟨Pipeline.mem_restRefs_of main_arg3 (by decide) (by decide), by decide⟩)⟩, h.2⟩) h

/-- The launch's data: the arrays as found, the sizes left as staged, the result at anything. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m _ (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem forgetY (c : Dev nD) (arg0 : Memref sig .tc .smem S8 .i32) (harg0 : arg0.IsWhole) (G : Cont (F := F) c arg0) (fY : Cont (F := F) c mY) :
    core m c (iprop(∃ f, (mY.view.loc (c : Thread nD τ) ↦{fullShare} yout c fY f)
              ∗ ⌜Left c arg0 harg0 G (V m c main_arg0) (V m c main_arg2) (V m c main_arg3) f⌝))
      ⊢ core m c (iprop(∃ f, mY.view.loc (c : Thread nD τ) ↦{fullShare} f)) := by
  iintro ⟨H1, H2, H3, H4, ⟨%f, HY, -⟩⟩
  isplitl [H1]; · iexact H1
  isplitl [H2]; · iexact H2
  isplitl [H3]; · iexact H3
  isplitl [H4]; · iexact H4
  iexists _; iexact HY

theorem sound_body (hg : GoodM m) (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after0_0]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  simp only [before0_0]
  iintro ⟨⟨H1, H2, H3, H4, ⟨%fY, HY⟩⟩, ⟨%W, -, HW⟩, ⟨%d0, H0⟩⟩
  unfold owns
  icases H0 with ⟨%G, %hG, H0⟩
  iapply (wp_wand_r Idealize.ShloMosaic.frame (wpE (defs₀ (F := F)) Variants.none (c : Thread nD τ) none) Set.univ)
  isplitr []
  · iapply (core_run m c t G (good_staged m c (win0_0.stage (cfg0.slots t 0)) G (hG.trans (iblk_eq m c t)) (hg c)) fY W)
    isplitr [HW H0]
    · isplitl [H1]; · iexact H1
      isplitl [H2]; · iexact H2
      isplitl [H3]; · iexact H3
      isplitl [H4]; · iexact H4
      iexact HY
    isplitl [H0]; · iexact H0
    iexact HW
  iintro %_ ⟨HC, H0, ⟨%W', HW'⟩⟩
  isplitl [HC]
  · iapply (forgetY m c (win0_0.stage (cfg0.slots t 0)) (hstage0_0 0) G fY); iexact HC
  isplitl [HW']
  · iexists W'; isplitr; · ipureintro; exact fun _ _ => Or.inl trivial
    iexact HW'
  iexists G; isplitr; · ipureintro; exact hG
  iexact H0

theorem defs₀_row (t : Fin cfg0.N) :
    defs₀ (F := F) .tc cfg0.body (cfg0.bodyArgs t (cfg0.slots t)) = bodyAt0 t := by
  unfold defs₀; rw [Defs.onTc_tc]

theorem body_obligation (hg : GoodM m) (c : Dev nD) : BodyObligation (dats (F := F) m 0 c) (defs₀ (F := F)) Variants.none () Set.univ := fun t => by
  rw [bigSep_W0, bigSep_W0, defs₀_row]
  exact triple_restated (sound_body m hg c t) rfl .rfl fun _ => .rfl

set_option backward.isDefEq.respectTransparency.types false in
theorem run_main (hg : GoodM m) : θ_run defs (onTc (τ := τ) (main (F := F))) ⟨m, fun _ => 0, ρ⟩ (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hg c).loose) (hshare := fun c => (dats m 0 c).share_full fun _ => rfl)
    (howed := fun _ _ => rfl) (V := V m) (hmain := hmain m Variants.none) (hA := A_eq m)
    (hin := fun _ => .rfl) (hout := fun _ => .rfl)

/-- THE FRAME, at any arithmetic. -/
theorem frame_run (hg : GoodM m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  frame_of m ρ (dats m) (A_eq m) (run_main m ρ hg)

end Cert.KernelIdeal.Body

end
-- ==== Proof.Twin.lean ====
/- The kernel as compiled and as idealised are one program text: a frame of the one is a frame of the other. -/
module

public import proofs.«01_k».proof.Proof.Frame
public import proofs.«01_k».proof.Defs
public import proofs.«01_k».proof.Proof.Gen.Kernel

@[expose] public section

set_option maxRecDepth 16384

noncomputable section

namespace Cert.Twin

open Idealize.ShloMosaic Idealize.SL.Sem

variable {F : FTy → Type} [FloatOps F]

/-- One signature. -/
theorem sig_eq : Cert.Kernel.sig = Cert.KernelIdeal.sig := by rfl
/-- One main. -/
theorem main_eq : (Cert.Kernel.main (F := F)) = Cert.KernelIdeal.main (F := F) := by rfl
/-- One body. -/
theorem body_eq : (Cert.Kernel.cc0_moe_w4_mxfp8 (F := F)) = Cert.KernelIdeal.cc0_moe_w4_mxfp8 (F := F) := by rfl
/-- One pipeline. -/
theorem cfg0_eq : (Cert.Kernel.cfg0) = Cert.KernelIdeal.cfg0 := by rfl
/-- One body table. -/
theorem defs0_eq : (Cert.Kernel.defs₀ (F := F)) = Cert.KernelIdeal.defs₀ (F := F) := by
  unfold Cert.Kernel.defs₀ Cert.KernelIdeal.defs₀
  refine congrArg Defs.onTc (funext fun f => funext fun a => ?_)
  obtain ⟨i, hi⟩ := f
  obtain rfl : i = 0 := by have : i < 1 := hi; omega
  rfl
/-- One table of everything that can be called. -/
theorem defs_eq : (Cert.Kernel.defs (F := F)) = Cert.KernelIdeal.defs (F := F) := by
  unfold Cert.Kernel.defs Cert.KernelIdeal.defs
  exact congrArg _ defs0_eq

open Cert.KernelIdeal in
/-- A table equal to the program's runs as the program's does. -/
theorem run_of_eq (d : Defs nD τ sig (Elt F) (Pipeline.Sig Λ₀ (Fin 1) fun p => (pcfgs (F := F) p).Adm)) (h : d = defs (F := F))
    (s) (Q) (hr : θ_run (defs (F := F)) (onTc (τ := τ) (main (F := F))) s Q) : θ_run d (onTc (τ := τ) (main (F := F))) s Q := by
  subst h; exact hr

/-- The frame, of the kernel as compiled. -/
theorem frame_kernel (m : (ℓ : Loc Cert.Kernel.nD Cert.Kernel.τ Cert.Kernel.sig) → Buf (Elt F) ℓ) (ρ : Dev Cert.Kernel.nD → PrngReg)
    (hg : Cert.KernelIdeal.Body.GoodM (F := F) m) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  run_of_eq (Cert.Kernel.defs (F := F)) defs_eq _ _ (Cert.KernelIdeal.Body.frame_run (F := F) m ρ hg)

end Cert.Twin

end
-- ==== Proof.Piece5.lean ====
/- What one window of the main loop stores, as a plain expression of what it reads. -/
module

public import proofs.«01_k».proof.Proof.Trip
public import proofs.«01_k».proof.Proof.Checks

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a window reads -/

/-- The rows `w0 …` of the quantised tokens, the `j`-th block of 256 columns. -/
def rdX (c : Dev nD) (X5 : Cont (F := F) c sXq) (w0 : ℕ) (hw : w0 ≤ 128) (j : Fin 16) : Vec F S128x256 .bf16 :=
  View.readAt (Elt F) sXq.view (Rect.unit (s := S256x4096) ![w0, 256 * j.val] S128x256.size (inX _ (by omega) hw)).toLoadRect X5
/-- The `j`-th block of 256 byte rows of ring slot `i`. -/
def rdW (c : Dev nD) (X6 : Cont (F := F) c sW) (i : ℕ) (hi : i < 8) (j : Fin 8) : Vec F S1x256x256 .i8 :=
  View.readAt (Elt F) sW.view (Rect.unit (s := S8x2048x256) ![i, 256 * j.val, 0] S1x256x256.size (inRowsW _ (by omega) hi)).toLoadRect X6
/-- The `g`-th row of scales of ring slot `i`. -/
def rdS (c : Dev nD) (X7 : Cont (F := F) c sS) (i : ℕ) (hi : i < 8) (g : Fin 32) : Vec F S1x1x256 .f32 :=
  View.readAt (Elt F) sS.view (Rect.unit (s := S8x32x256) ![i, g.val, 0] S1x1x256.size (inRowS _ (by omega) hi)).toLoadRect X7

/-! ## What it computes -/

/-- The bytes, four rows to a word. -/
def words (b : Vec F S1x256x256 .i8) : IVec S64x256 32 :=
  bitcast S64x256 32 (shapeCast S256x256 b shapeCasts_S1x256x256_S256x256 : IVec S256x256 8) bitcasts_S256x256_w8_S64x256_w32
/-- The low fields, each times sixteen. -/
def wideLo (b : Vec F S1x256x256 .i8) : FVec F S256x256 .bf16 :=
  sitofp .bf16 (bitcast S256x256 8 (andi (shli (words (F := F) b) (broadcast S64x256 4#32)) (broadcast S64x256 4042322160#32)) bitcasts_S64x256_w32_S256x256_w8)
/-- The high fields, each times sixteen. -/
def wideHi (b : Vec F S1x256x256 .i8) : FVec F S256x256 .bf16 :=
  sitofp .bf16 (bitcast S256x256 8 (andi (words (F := F) b) (broadcast S64x256 4042322160#32)) bitcasts_S64x256_w32_S256x256_w8)
/-- A row of scales, each over sixteen. -/
def scl (s : Vec F S1x1x256 .f32) : FVec F S1x256 .bf16 :=
  truncf .bf16 (mulf (shapeCast S1x256 s shapeCasts_S1x1x256_S1x256 : FVec F S1x256 .f32) (broadcast S1x256 (Scalar.ofBits .f32 0x3D800000#32))) bitsLt_bf16_f32
/-- 256 rows of weights. -/
def wtl (w : FVec F S256x256 .bf16) (s0 s1 : Vec F S1x1x256 .f32) : FVec F S256x256 .bf16 :=
  concatenate S256x256 0 [⟨S128x256, mulf (extractStridedSlice S128x256 ![0, 0] w slices_S256x256_o0_0_S128x256) (broadcastTo S128x256 (scl s0) broadcasts_S1x256_S128x256)⟩,
    ⟨S128x256, mulf (extractStridedSlice S128x256 ![128, 0] w slices_S256x256_o128_0_S128x256) (broadcastTo S128x256 (scl s1) broadcasts_S1x256_S128x256)⟩] concatenates_S128x256_S128x256_S256x256_d0
/-- One product. -/
def prod (x : Vec F S128x256 .bf16) (t : FVec F S256x256 .bf16) : FVec F S128x256 .f32 :=
  matmul dot_S128x256_S256x256_S128x256_1_0_0_1_n_n none (x : FVec F S128x256 .bf16) t (constant S128x256 .f32 0x00000000#32)
/-- Eight products, summed from the left. -/
def accSum (d : Fin 8 → FVec F S128x256 .f32) : FVec F S128x256 .f32 :=
  addf (addf (addf (addf (addf (addf (addf (d 0) (d 1)) (d 2)) (d 3)) (d 4)) (d 5)) (d 6)) (d 7)
/-- The low half's `j`-th product. -/
def dLo (x : Fin 16 → Vec F S128x256 .bf16) (b : Fin 8 → Vec F S1x256x256 .i8) (s : Fin 32 → Vec F S1x1x256 .f32) (j : Fin 8) : FVec F S128x256 .f32 :=
  prod (x ⟨j.val, by omega⟩) (wtl (wideLo (b j)) (s ⟨2 * j.val, by omega⟩) (s ⟨2 * j.val + 1, by omega⟩))
/-- The high half's `j`-th product. -/
def dHi (x : Fin 16 → Vec F S128x256 .bf16) (b : Fin 8 → Vec F S1x256x256 .i8) (s : Fin 32 → Vec F S1x1x256 .f32) (j : Fin 8) : FVec F S128x256 .f32 :=
  prod (x ⟨8 + j.val, by omega⟩) (wtl (wideHi (b j)) (s ⟨16 + 2 * j.val, by omega⟩) (s ⟨16 + 2 * j.val + 1, by omega⟩))
/-- The window's product. -/
def acc (x : Fin 16 → Vec F S128x256 .bf16) (b : Fin 8 → Vec F S1x256x256 .i8) (s : Fin 32 → Vec F S1x1x256 .f32) : FVec F S128x256 .f32 :=
  addf (accSum (dLo x b s)) (accSum (dHi x b s))
/-- The rows that are the expert's get the product, the others keep what they hold. -/
def winv (w first last : BitVec 32) (a : FVec F S128x256 .f32) (old : Vec F S128x256 .bf16) : FVec F S128x256 .bf16 :=
  shapeCast S128x256 (truncf .bf16 (select
    (andi (cmpi .sge (addi (iota .tc S128x256 32 [0] iota_S128x256_d0_w32) (broadcast S128x256 w)) (broadcast S128x256 first))
      (cmpi .slt (addi (iota .tc S128x256 32 [0] iota_S128x256_d0_w32) (broadcast S128x256 w)) (broadcast S128x256 last)))
    a (extf .f32 (old : FVec F S128x256 .bf16) bitsLt_bf16_f32)) bitsLt_bf16_f32) shapeCasts_S128x256_S128x256

/-- The window's first row, a word. -/
abbrev wrowW (v112 : BitVec 32) (k : ℕ) : BitVec 32 := Scalar.minsi (Scalar.addi v112 (Scalar.muli (Scf.iv 0#32 1#32 k) 128#32)) 128#32

set_option maxHeartbeats 2000000 in
theorem trip5_eq (c : Dev nD) (arg0 : Memref sig .tc .smem S8 .i32) (harg0 : arg0.IsWhole) (v2 v10 v18 v26 v34 v42 v50 v58 : BitVec 32)
    (k0_t4 : Fin (k0_t4_loop v2 v10 v18 v26 v34 v42 v50 v58).trips) (v107 v109 : BitVec 32) (k0_hw14 : k0_chk14 v2 v10 v18 v26 v34 v42 v50 v58 k0_t4 v107 v109) (v110 v112 : BitVec 32)
    (hi : (slotW k0_t4).toNat < 8)
    (X5 : Cont (F := F) c sXq) (X6 : Cont (F := F) c sW) (X7 : Cont (F := F) c sS) (k : Fin (k0_t5_loop v107 v109).trips)
    (hw : k0_off74 v107 v109 k 0 ≤ 128) (f : Cont (F := F) c sY) :
    (trip5 c arg0 harg0 v2 v10 v18 v26 v34 v42 v50 v58 k0_t4 (slotW k0_t4) v107 v109 k0_hw14 v110 v112 hi X5 X6 X7 k).1 f
      = [⟨Rect.unit (s := S256x1792) (k0_off125 v2 v10 v18 v26 v34 v42 v50 v58 k0_t4 v107 v109 k) S128x256.size (k0_off125_inb v2 v10 v18 v26 v34 v42 v50 v58 k0_t4 v107 v109 k0_hw14 k),
          winv (wrowW v112 k) v107 v110 (acc (rdX c X5 _ hw) (rdW c X6 _ hi) (rdS c X7 _ hi))
            (View.readAt (Elt F) sY.view (Rect.unit (s := S256x1792) (k0_off125 v2 v10 v18 v26 v34 v42 v50 v58 k0_t4 v107 v109 k) S128x256.size (k0_off125_inb v2 v10 v18 v26 v34 v42 v50 v58 k0_t4 v107 v109 k0_hw14 k)).toLoadRect f)⟩] := by
  unfold trip5
  rfl

end Cert.KernelIdeal.Body

end
-- ==== Proof.QMath.lean ====
/- The numbers: what a block quantiser and a scaled field are over the extended reals. -/
module

public import Idealize.ShloMosaic.Lib.Pointwise

@[expose] public section

set_option maxRecDepth 16384

noncomputable section

namespace Cert.Num

open Idealize.ShloMosaic

/-! ## Constants -/

theorem c448 : Ideal.ofBits .f32 1138753536#32 = ((448 : ℝ) : EReal) := by
  simp [Ideal.ofBits, Ideal.ieee, -EReal.coe_mul]; norm_num
theorem cm448 : Ideal.ofBits .f32 3286237184#32 = ((-448 : ℝ) : EReal) := by
  simp [Ideal.ofBits, Ideal.ieee, -EReal.coe_mul, -EReal.coe_neg]; norm_num
theorem ctwo : Ideal.ofBits .f32 1073741824#32 = ((2 : ℝ) : EReal) := by
  simp [Ideal.ofBits, Ideal.ieee, -EReal.coe_mul]; norm_num
theorem csix : Ideal.ofBits .f32 1031798784#32 = ((1 / 16 : ℝ) : EReal) := by
  simp [Ideal.ofBits, Ideal.ieee, -EReal.coe_mul]; norm_num
theorem cker : Ideal.ofBits .f32 991075564#32 = ((9608428 / 4294967296 : ℝ) : EReal) := by
  simp [Ideal.ofBits, Ideal.ieee, -EReal.coe_mul]; norm_num
theorem cref : Ideal.ofBits .f32 991054117#32 = ((9586981 / 4294967296 : ℝ) : EReal) := by
  simp [Ideal.ofBits, Ideal.ieee, -EReal.coe_mul]; norm_num
theorem cbot : Ideal.ofBits .f32 4286578688#32 = ⊥ := by
  simp [Ideal.ofBits, Ideal.ieee]
theorem cmin : ∃ t : ℝ, 0 < t ∧ Ideal.ofBits .bf16 1280#16 = (t : EReal) := by
  refine ⟨(2 : ℝ) ^ (-117 : ℤ), by positivity, ?_⟩
  simp [Ideal.ofBits, Ideal.ieee, -EReal.coe_mul]
  norm_num
theorem clog : Scalar.log (F := Ideal) (φ := .f32) (Ideal.ofBits .f32 1073741824#32) = ((Real.log 2 : ℝ) : EReal) := by
  show Ideal.log (Ideal.ofBits .f32 1073741824#32) = _
  rw [ctwo]; show (if (2 : ℝ) ≤ 0 then (⊥ : EReal) else _) = _
  rw [if_neg (by norm_num)]

/-! ## The quantiser -/

/-- The exponent of a block of largest magnitude `M`, by the factor `c`. -/
def ex (M c : EReal) : EReal := Ideal.liftRound Int.floor (Ideal.div (Ideal.log (M * c)) ((Real.log 2 : ℝ) : EReal)) + 1
/-- A value coded with the exponent `e`, and read back. -/
def code (x e : EReal) : EReal :=
  min ((448 : ℝ) : EReal) (max ((-448 : ℝ) : EReal) (x * Ideal.exp2 (0 - e))) * Ideal.exp2 e

theorem ex_real {m c : ℝ} (hm : 0 < m) (hc : 0 < c) : ∃ e : ℝ, ex (m : EReal) (c : EReal) = (e : EReal) ∧ m * c < Real.rpow 2 e := by
  have h2 : 0 < Real.log 2 := Real.log_pos (by norm_num)
  have hmc := mul_pos hm hc
  refine ⟨(⌊Real.log (m * c) * (Real.log 2)⁻¹⌋ : ℝ) + 1, ?_, ?_⟩
  · unfold ex
    rw [← EReal.coe_mul]
    have e1 : Ideal.log ((m * c : ℝ) : EReal) = ((Real.log (m * c) : ℝ) : EReal) := by
      show (if m * c ≤ 0 then (⊥ : EReal) else _) = _
      rw [if_neg (not_le.2 hmc)]
    have e2 : Ideal.div ((Real.log (m * c) : ℝ) : EReal) ((Real.log 2 : ℝ) : EReal) = ((Real.log (m * c) * (Real.log 2)⁻¹ : ℝ) : EReal) := by
      unfold Ideal.div
      rw [if_neg (by rw [EReal.coe_eq_zero]; exact h2.ne'), ← EReal.coe_inv, ← EReal.coe_mul]
    rw [e1, e2, Ideal.liftRound_coe, EReal.coe_add]; rfl
  · show m * c < (2 : ℝ) ^ ((⌊Real.log (m * c) * (Real.log 2)⁻¹⌋ : ℝ) + 1)
    rw [Real.lt_rpow_iff_log_lt hmc (by norm_num)]
    have h := Int.lt_floor_add_one (Real.log (m * c) * (Real.log 2)⁻¹)
    have h' := mul_lt_mul_of_pos_right h h2
    rwa [mul_assoc, inv_mul_cancel₀ h2.ne', mul_one] at h'

theorem code_real {x e : ℝ} (h : |x| ≤ 448 * Real.rpow 2 e) : code (x : EReal) (e : EReal) = (x : EReal) := by
  have hp : 0 < Real.rpow 2 e := Real.rpow_pos_of_pos (by norm_num) e
  have hn : Real.rpow 2 (-e) = (Real.rpow 2 e)⁻¹ := Real.rpow_neg (by norm_num) e
  unfold code
  rw [zero_sub, ← EReal.coe_neg]
  show min ((448 : ℝ) : EReal) (max ((-448 : ℝ) : EReal) ((x : EReal) * ((Real.rpow 2 (-e) : ℝ) : EReal))) * ((Real.rpow 2 e : ℝ) : EReal) = _
  rw [hn, ← EReal.coe_mul]
  obtain ⟨h1, h2⟩ := abs_le.1 h
  have a1 : -448 ≤ x * (Real.rpow 2 e)⁻¹ := by rw [← div_eq_mul_inv, le_div_iff₀ hp]; linarith
  have a2 : x * (Real.rpow 2 e)⁻¹ ≤ 448 := by rw [← div_eq_mul_inv, div_le_iff₀ hp]; linarith
  rw [max_eq_right (EReal.coe_le_coe_iff.2 a1), min_eq_right (EReal.coe_le_coe_iff.2 a2), ← EReal.coe_mul, mul_assoc, inv_mul_cancel₀ hp.ne', mul_one]

theorem code_top (x : EReal) : code x ⊤ = 0 := by
  unfold code
  have h : Ideal.exp2 (0 - ⊤) = 0 := by
    rw [zero_sub, EReal.neg_top]; rfl
  rw [h, mul_zero, max_eq_right (by exact_mod_cast (by norm_num : (-448 : ℝ) ≤ 0)), min_eq_right (by exact_mod_cast (by norm_num : (0 : ℝ) ≤ 448)), zero_mul]

theorem ex_top {c : ℝ} (hc : 0 < c) : ex ⊤ (c : EReal) = ⊤ := by
  have h2 : 0 < Real.log 2 := Real.log_pos (by norm_num)
  unfold ex
  rw [EReal.top_mul_coe_of_pos hc]
  have e1 : Ideal.div (Ideal.log ⊤) ((Real.log 2 : ℝ) : EReal) = ⊤ := by
    unfold Ideal.div
    rw [if_neg (by rw [EReal.coe_eq_zero]; exact h2.ne'), ← EReal.coe_inv]
    exact EReal.top_mul_coe_of_pos (inv_pos.2 h2)
  rw [e1, Ideal.liftRound_top, EReal.top_add_of_ne_bot (by exact_mod_cast EReal.coe_ne_bot 1)]

/-- A block's value after quantising: itself, or nought in a block that is not all real. -/
def qv (T : Prop) (x : EReal) : EReal := @ite _ T (Classical.propDecidable T) 0 x

theorem qv_congr {T T' : Prop} (h : T ↔ T') (x : EReal) : qv T x = qv T' x := by rw [propext h]

theorem real_of_le {x : EReal} {M : EReal} (hM : M ≠ ⊤) (h : max x (-x) ≤ M) : ∃ r : ℝ, x = (r : EReal) ∧ ((|r| : ℝ) : EReal) ≤ M := by
  have h1 : x ≤ M := le_trans (le_max_left _ _) h
  have h2 : -x ≤ M := le_trans (le_max_right _ _) h
  have n1 : x ≠ ⊤ := fun e => hM (top_le_iff.1 (e ▸ h1))
  have n2 : x ≠ ⊥ := fun e => hM (top_le_iff.1 (by rw [e, EReal.neg_bot] at h2; exact h2))
  refine ⟨x.toReal, (EReal.coe_toReal n1 n2).symm, ?_⟩
  rw [← EReal.coe_toReal n1 n2, ← EReal.coe_neg] at h
  rcases abs_cases x.toReal with ⟨e, _⟩ | ⟨e, _⟩ <;> rw [e]
  · exact le_trans (le_max_left _ _) h
  · exact le_trans (le_max_right _ _) h

/-- The quantiser is the identity on a real block: the block's magnitude `M`, the value's below it. -/
theorem quant_real {x M : EReal} {c : ℝ} (hc : 1 / 448 ≤ c) (hM0 : 0 < M) (h : max x (-x) ≤ M) :
    code x (ex M (c : EReal)) = qv (M = ⊤) x := by
  have hc0 : 0 < c := lt_of_lt_of_le (by norm_num) hc
  unfold qv
  split
  · next hT => rw [hT, ex_top hc0, code_top]
  · next hT =>
    obtain ⟨r, rfl, hr⟩ := real_of_le hT h
    obtain ⟨m, rfl⟩ : ∃ m : ℝ, M = (m : EReal) := ⟨M.toReal, (EReal.coe_toReal hT (fun e => by rw [e] at hM0; exact absurd hM0 (by simp))).symm⟩
    have hm : 0 < m := by exact_mod_cast hM0
    obtain ⟨e, he, hl⟩ := ex_real hm hc0
    rw [he]
    refine code_real ?_
    have hr' : |r| ≤ m := by exact_mod_cast hr
    have : m * (1 / 448) ≤ m * c := mul_le_mul_of_nonneg_left hc hm.le
    linarith

theorem quant_ker {x M : EReal} (h : max x (-x) ≤ M) :
    code x (ex (max M (Ideal.ofBits .bf16 1280#16)) (Ideal.ofBits .f32 991075564#32)) = qv (M = ⊤) x := by
  obtain ⟨t, ht, e⟩ := cmin
  rw [e, cker]
  have hT : (max M (t : EReal) = ⊤) ↔ M = ⊤ := by
    rcases le_total M (t : EReal) with h1 | h1
    · rw [max_eq_right h1]
      exact ⟨fun h2 => absurd h2 (EReal.coe_ne_top t), fun h2 => top_le_iff.1 (h2 ▸ h1)⟩
    · rw [max_eq_left h1]
  rw [quant_real (by norm_num) (lt_of_lt_of_le (by exact_mod_cast ht) (le_max_right _ _)) (le_trans h (le_max_left _ _))]
  exact qv_congr hT x

theorem quant_ref {x M : EReal} (h : max x (-x) ≤ M) [Decidable (M = 0)] :
    code x (if M = 0 then 0 else ex M (Ideal.ofBits .f32 991054117#32)) = qv (M = ⊤) x := by
  rw [cref]
  by_cases h0 : M = 0
  · rw [if_pos h0]
    subst h0
    have hx : x = 0 := le_antisymm (le_trans (le_max_left _ _) h) (by
      have := le_trans (le_max_right x (-x)) h
      rwa [EReal.neg_le, neg_zero] at this)
    unfold qv
    rw [if_neg (by simp), hx]
    have := code_real (x := 0) (e := 0) (by rw [abs_zero]; exact mul_nonneg (by norm_num) (Real.rpow_pos_of_pos (by norm_num) _).le)
    exact_mod_cast this
  · rw [if_neg h0]
    have hM : 0 ≤ M := by
      rcases le_total 0 x with h1 | h1
      · exact le_trans h1 (le_trans (le_max_left _ _) h)
      · exact le_trans (by rwa [EReal.le_neg, neg_zero]) (le_trans (le_max_right x (-x)) h)
    exact quant_real (by norm_num) (lt_of_le_of_ne hM (Ne.symm h0)) h

/-! ## The weights -/

/-- Sixteen times a field times a sixteenth of a scale is the field times the scale. -/
theorem scale16 (a b : ℤ) (s : EReal) (h : a = 16 * b) :
    (((a : ℤ) : ℝ) : EReal) * (s * Ideal.ofBits .f32 1031798784#32) = (((b : ℤ) : ℝ) : EReal) * s := by
  rw [csix, h]
  have e : (((16 * b : ℤ) : ℝ) : EReal) = ((b : ℝ) : EReal) * ((16 : ℝ) : EReal) := by
    rw [← EReal.coe_mul]; push_cast; rw [mul_comm]
  have e2 : ((16 : ℝ) : EReal) * ((1 / 16 : ℝ) : EReal) = 1 := by rw [← EReal.coe_mul]; norm_num
  rw [e, mul_assoc, mul_comm s, ← mul_assoc ((16 : ℝ) : EReal), e2, one_mul]

/-- A byte's low field, a signed number. -/
def fLo (b : BitVec 8) : ℤ := (BitVec.setWidth 8 (IntOp.subi (IntOp.xori (IntOp.andi (BitVec.setWidth 32 b) 15#32) 8#32) 8#32)).toInt
/-- A byte's high field, a signed number. -/
def fHi (b : BitVec 8) : ℤ := (BitVec.setWidth 8 (IntOp.subi (IntOp.xori (IntOp.shrsi ArithUnit.vector (BitVec.setWidth 32 b) 4#32) 8#32) 8#32)).toInt

theorem low16 : ∀ b : BitVec 8, ((b <<< 4) &&& 0xF0#8).toInt = 16 * fLo b := by decide +kernel
theorem high16 : ∀ b : BitVec 8, (b &&& 0xF0#8).toInt = 16 * fHi b := by decide +kernel

end Cert.Num

end
-- ==== Proof.VT.lean ====
/- The value of a window's product over the extended reals. -/
module

public import proofs.«01_k».proof.Proof.Piece5
public import proofs.«01_k».proof.Proof.QMath
public import Idealize.ShloMosaic.Lib.BitcastFour

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Num

/-! ## The fields of a byte -/

theorem lo_bit (x : BitVec 32) (i : ℕ) (hi : i < 32) :
    (IntOp.andi (IntOp.shli ArithUnit.vector x 4#32) 4042322160#32).getLsbD i = (decide (4 ≤ i % 8) && x.getLsbD (i - 4)) := by
  have e : IntOp.andi (IntOp.shli ArithUnit.vector x 4#32) 4042322160#32 = (x <<< 4) &&& 4042322160#32 := rfl
  rw [e]
  interval_cases i <;> simp [BitVec.getLsbD_and, BitVec.getLsbD_shiftLeft]
theorem hi_bit (x : BitVec 32) (i : ℕ) (hi : i < 32) :
    (IntOp.andi x 4042322160#32).getLsbD i = (decide (4 ≤ i % 8) && x.getLsbD i) := by
  have e : IntOp.andi x 4042322160#32 = x &&& 4042322160#32 := rfl
  rw [e]
  interval_cases i <;> simp [BitVec.getLsbD_and]

/-- A word's byte: row `k` of the bytes is byte `k % 4` of word `k / 4`. -/
theorem byte_bit (W : S64x256.Idx → BitVec 32) (h : S64x256.Bitcasts 32 S256x256 8) (k l : Fin 256) (q : ℕ) (hq : q < 8) :
    (bitcast S256x256 8 W h (ix2 k l)).getLsbD q = (W (ix2 ⟨k.val / 4, by omega⟩ l)).getLsbD (8 * (k.val % 4) + q) := by
  rw [bitcast_getLsbD W h _ q hq (by norm_num)]
  have hk := k.isLt
  have e1 : ((S256x256.row (ix2 k l)) * 8 + q) / 32 = k.val / 4 := by show (k.val * 8 + q) / 32 = _; omega
  have e2 : ((S256x256.row (ix2 k l)) * 8 + q) % 32 = 8 * (k.val % 4) + q := by show (k.val * 8 + q) % 32 = _; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem word_bit (b : Vec Ideal S1x256x256 .i8) (a : Fin 64) (l : Fin 256) (q : ℕ) (hq : q < 32) (p : Fin 256) (hp : p.val = 4 * a.val + q / 8) :
    (words (F := Ideal) b (ix2 a l)).getLsbD q = (b (ix3 0 p l) : BitVec 8).getLsbD (q % 8) := by
  have h := bitcast_8_32_getLsbD_ix2 (shapeCast S256x256 b shapeCasts_S1x256x256_S256x256 : IVec S256x256 8) bitcasts_S256x256_w8_S64x256_w32 a l q hq p hp
  have e : (shapeCast S256x256 b shapeCasts_S1x256x256_S256x256 : IVec S256x256 8) (ix2 p l) = (b (ix3 0 p l) : BitVec 8) := by
    pointwise
  rw [← e]
  exact h

theorem byte_lo (b : Vec Ideal S1x256x256 .i8) (k l : Fin 256) :
    bitcast S256x256 8 (andi (shli (words (F := Ideal) b) (broadcast S64x256 4#32)) (broadcast S64x256 4042322160#32)) bitcasts_S64x256_w32_S256x256_w8 (ix2 k l)
      = ((b (ix3 0 k l) : BitVec 8) <<< 4) &&& 0xF0#8 := by
  have hk := k.isLt
  apply BitVec.eq_of_getLsbD_eq
  intro q hq
  rw [byte_bit _ _ k l q hq]
  refine (lo_bit (words (F := Ideal) b (ix2 ⟨k.val / 4, by omega⟩ l)) (8 * (k.val % 4) + q) (by omega)).trans ?_
  by_cases h4 : 4 ≤ q
  · rw [word_bit b ⟨k.val / 4, by omega⟩ l _ (by omega) k (by show k.val = 4 * (k.val / 4) + (8 * (k.val % 4) + q - 4) / 8; omega)]
    have e1 : (8 * (k.val % 4) + q - 4) % 8 = q - 4 := by omega
    have e2 : (8 * (k.val % 4) + q) % 8 = q := by omega
    rw [e1, e2]
    interval_cases q <;> simp_all [BitVec.getLsbD_and, BitVec.getLsbD_shiftLeft]
  · have e2 : (8 * (k.val % 4) + q) % 8 = q := by omega
    rw [e2]
    interval_cases q <;> simp_all [BitVec.getLsbD_and, BitVec.getLsbD_shiftLeft]

theorem byte_hi (b : Vec Ideal S1x256x256 .i8) (k l : Fin 256) :
    bitcast S256x256 8 (andi (words (F := Ideal) b) (broadcast S64x256 4042322160#32)) bitcasts_S64x256_w32_S256x256_w8 (ix2 k l)
      = (b (ix3 0 k l) : BitVec 8) &&& 0xF0#8 := by
  have hk := k.isLt
  apply BitVec.eq_of_getLsbD_eq
  intro q hq
  rw [byte_bit _ _ k l q hq]
  refine (hi_bit (words (F := Ideal) b (ix2 ⟨k.val / 4, by omega⟩ l)) (8 * (k.val % 4) + q) (by omega)).trans ?_
  rw [word_bit b ⟨k.val / 4, by omega⟩ l _ (by omega) k (by show k.val = 4 * (k.val / 4) + (8 * (k.val % 4) + q) / 8; omega)]
  have e2 : (8 * (k.val % 4) + q) % 8 = q := by omega
  rw [e2]
  interval_cases q <;> simp_all [BitVec.getLsbD_and]

theorem wideLo_apply (b : Vec Ideal S1x256x256 .i8) (k l : Fin 256) :
    (wideLo b : FVec Ideal S256x256 .bf16) (ix2 k l) = (((16 * fLo (b (ix3 0 k l)) : ℤ) : ℝ) : EReal) := by
  rw [← low16, ← byte_lo]; rfl
theorem wideHi_apply (b : Vec Ideal S1x256x256 .i8) (k l : Fin 256) :
    (wideHi b : FVec Ideal S256x256 .bf16) (ix2 k l) = (((16 * fHi (b (ix3 0 k l)) : ℤ) : ℝ) : EReal) := by
  rw [← high16, ← byte_hi]; rfl

/-! ## The product -/

/-- A scaled tile's value, the field's being sixteen times `v`. -/
theorem wtl_apply (w : FVec Ideal S256x256 .bf16) (s0 s1 : Vec Ideal S1x1x256 .f32) (v : ℤ) (k l : Fin 256)
    (hw : w (ix2 k l) = (((16 * v : ℤ) : ℝ) : EReal)) (S : EReal) (hS : S = if k.val < 128 then s0 (ix3 0 0 l) else s1 (ix3 0 0 l)) :
    (wtl w s0 s1 (ix2 k l) : EReal) = ((v : ℝ) : EReal) * S := by
  have h := scale16 (16 * v) v S rfl
  rw [← h, ← hw, hS]
  pointwise [wtl, scl]
  split
  · rfl
  · next hk =>
    have e : ∀ p, (⟨128 + (k.val - 128), p⟩ : Fin 256) = k := fun p => Fin.ext (by show 128 + (k.val - 128) = k.val; omega)
    rw [e]

theorem prod_apply (x : FVec Ideal S128x256 .bf16) (t : FVec Ideal S256x256 .bf16) (r : Fin 128) (l : Fin 256) :
    (prod x t (ix2 r l) : EReal) = ∑ k : Fin 256, (x (ix2 r k) : EReal) * (t (ix2 k l) : EReal) := by
  pointwise [prod]

theorem sum_blocks (f : Fin 2048 → EReal) : ∑ k : Fin 2048, f k = ∑ j : Fin 8, ∑ k : Fin 256, f ⟨256 * j.val + k.val, by omega⟩ := by
  have h := (Equiv.sum_comp (finProdFinEquiv (m := 8) (n := 256)) f).symm
  rw [Fintype.sum_prod_type] at h
  refine h.trans (Finset.sum_congr rfl fun j _ => Finset.sum_congr rfl fun k _ => congrArg f (Fin.ext ?_))
  show k.val + 256 * j.val = 256 * j.val + k.val
  omega

theorem accSum_apply (d : Fin 8 → FVec Ideal S128x256 .f32) (i : S128x256.Idx) : (accSum d i : EReal) = ∑ j : Fin 8, (d j i : EReal) := by
  rw [Fin.sum_univ_eight]
  rfl

/-- One row of tokens against one column of weights: the low fields with the first half, the high ones with the second. -/
def DOT (X : Fin 4096 → EReal) (B : Fin 2048 → BitVec 8) (S : Fin 32 → EReal) : EReal :=
  (∑ k : Fin 2048, X ⟨k.val, by omega⟩ * (((fLo (B k) : ℝ) : EReal) * S ⟨k.val / 128, by omega⟩))
    + ∑ k : Fin 2048, X ⟨2048 + k.val, by omega⟩ * (((fHi (B k) : ℝ) : EReal) * S ⟨16 + k.val / 128, by omega⟩)

theorem acc_apply (x : Fin 16 → Vec Ideal S128x256 .bf16) (b : Fin 8 → Vec Ideal S1x256x256 .i8) (s : Fin 32 → Vec Ideal S1x1x256 .f32)
    (r : Fin 128) (l : Fin 256) (X : Fin 4096 → EReal) (B : Fin 2048 → BitVec 8) (S : Fin 32 → EReal)
    (hx : ∀ (j : Fin 16) (k : Fin 256), x j (ix2 r k) = X ⟨256 * j.val + k.val, by omega⟩)
    (hb : ∀ (j : Fin 8) (k : Fin 256), b j (ix3 0 k l) = B ⟨256 * j.val + k.val, by omega⟩)
    (hs : ∀ g : Fin 32, s g (ix3 0 0 l) = S g) :
    (acc x b s (ix2 r l) : EReal) = DOT X B S := by
  have split : (acc x b s (ix2 r l) : EReal) = (accSum (dLo x b s) (ix2 r l) : EReal) + (accSum (dHi x b s) (ix2 r l) : EReal) := rfl
  rw [split, accSum_apply, accSum_apply]
  unfold DOT
  congr 1
  · rw [sum_blocks]
    refine Finset.sum_congr rfl fun j _ => ?_
    unfold dLo
    rw [prod_apply]
    refine Finset.sum_congr rfl fun k _ => ?_
    rw [hx, wtl_apply _ _ _ (fLo (b j (ix3 0 k l))) k l (wideLo_apply _ _ _) _ rfl, hb, hs, hs]
    congr 2
    split
    · congr 1; apply Fin.ext; show 2 * j.val = (256 * j.val + k.val) / 128; omega
    · congr 1; apply Fin.ext; show 2 * j.val + 1 = (256 * j.val + k.val) / 128; omega
  · rw [sum_blocks]
    refine Finset.sum_congr rfl fun j _ => ?_
    unfold dHi
    rw [prod_apply]
    refine Finset.sum_congr rfl fun k _ => ?_
    rw [hx, wtl_apply _ _ _ (fHi (b j (ix3 0 k l))) k l (wideHi_apply _ _ _) _ rfl, hb, hs, hs]
    congr 1
    · congr 1; apply Fin.ext; show 256 * (8 + j.val) + k.val = 2048 + (256 * j.val + k.val); omega
    · congr 1
      split
      · congr 1; apply Fin.ext; show 16 + 2 * j.val = 16 + (256 * j.val + k.val) / 128; omega
      · congr 1; apply Fin.ext; show 16 + 2 * j.val + 1 = 16 + (256 * j.val + k.val) / 128; omega

end Cert.KernelIdeal.Body

end
-- ==== Proof.Piece3.lean ====
/- What one trip of the quantising loop stores, as a plain expression of what it reads. -/
module

public import proofs.«01_k».proof.Proof.Trip3

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lanes' indices with bit `d` turned. -/
def lanes (d : BitVec 32) : IVec S64x128 32 :=
  shapeCast S64x128 (shapeCast S64x128x1 (select
    (cmpi .slt (xori (iota .tc S64x128 32 [1] iota_S64x128_d1_w32) (broadcast S64x128 d)) (broadcast S64x128 0#32))
    (addi (xori (iota .tc S64x128 32 [1] iota_S64x128_d1_w32) (broadcast S64x128 d)) (broadcast S64x128 128#32))
    (xori (iota .tc S64x128 32 [1] iota_S64x128_d1_w32) (broadcast S64x128 d))) shapeCasts_S64x128_S64x128x1) shapeCasts_S64x128x1_S64x128
/-- The larger of a lane and the lane with bit `d` turned. -/
def fly (d : BitVec 32) (m : FVec F S64x128 .bf16) : FVec F S64x128 .bf16 :=
  maximumf m (truncf .bf16 (dynamicGather 1 (extf .f32 m bitsLt_bf16_f32) (lanes d)) bitsLt_bf16_f32)
/-- The largest magnitude of each block of 32 lanes. -/
def mags (x : Vec F S64x128 .bf16) : FVec F S64x128 .bf16 :=
  fly 1#32 (fly 2#32 (fly 4#32 (fly 8#32 (fly 16#32 (absf (x : FVec F S64x128 .bf16))))))
/-- A block's exponent. -/
def expo (m : FVec F S64x128 .bf16) : FVec F S64x128 .f32 :=
  addf (floor (divf (log (mulf (extf .f32 (maximumf m (broadcast S64x128 (Scalar.ofBits .bf16 0x0500#16))) bitsLt_bf16_f32)
    (broadcast S64x128 (Scalar.ofBits .f32 0x3B129CEC#32)))) (broadcast S64x128 (Scalar.log (Scalar.ofBits .f32 0x40000000#32)))))
    (broadcast S64x128 (Scalar.ofBits .f32 0x3F800000#32))
/-- The values quantised with the exponents `e`. -/
def coded (x : Vec F S64x128 .bf16) (e : FVec F S64x128 .f32) : FVec F S64x128 .bf16 :=
  shapeCast S64x128 (mulf (extf .bf16 (truncf .fp8e4m3 (minimumf (broadcast S64x128 (Scalar.truncf .bf16 bitsLt_bf16_f32 (Scalar.ofBits .f32 0x43E00000#32)))
    (maximumf (broadcast S64x128 (Scalar.truncf .bf16 bitsLt_bf16_f32 (Scalar.ofBits .f32 0xC3E00000#32)))
      (mulf (x : FVec F S64x128 .bf16) (truncf .bf16 (exp2 (subf (broadcast S64x128 (Scalar.ofBits .f32 0x00000000#32)) e)) bitsLt_bf16_f32))))
    bitsLt_fp8e4m3_bf16) bitsLt_fp8e4m3_bf16) (truncf .bf16 (exp2 e) bitsLt_bf16_f32)) shapeCasts_S64x128_S64x128
/-- A tile of 64 rows by 128 lanes, quantised. -/
def quant (x : Vec F S64x128 .bf16) : FVec F S64x128 .bf16 := coded x (expo (mags x))

theorem inQ {r : ℕ} (h : r ≤ 192) (j : Fin 32) : ∀ a : Fin 2, (![r, 128 * j.val] : Fin 2 → ℕ) a + S64x128.size a ≤ S256x4096.size a := by
  intro a; fin_cases a
  · show r + 64 ≤ 256; omega
  · show 128 * j.val + 128 ≤ 4096; omega

/-- The `j`-th tile of the rows `r …`. -/
def qpiece (c : Dev nD) (f : Cont (F := F) c sXq) (r : ℕ) (h : r ≤ 192) (j : Fin 32) : View.Piece (Elt F) S256x4096 .bf16 :=
  ⟨Rect.unit (s := S256x4096) ![r, 128 * j.val] S64x128.size (inQ h j),
    quant (View.readAt (Elt F) sXq.view (Rect.unit (s := S256x4096) ![r, 128 * j.val] S64x128.size (inQ h j)).toLoadRect f)⟩

set_option maxHeartbeats 2000000 in
theorem trip3_eq (c : Dev nD) (arg0 : Memref sig .tc .smem S8 .i32) (harg0 : arg0.IsWhole) (k : Fin k0_t3_loop.trips)
    (h : k0_off22 k 0 ≤ 192) (f : Cont (F := F) c sXq) :
    (trip3 c arg0 harg0 k).1 f = [31, 30, 29, 28, 27, 26, 25, 24, 23, 22, 21, 20, 19, 18, 17, 16, 15, 14, 13, 12, 11, 10, 9, 8, 7, 6, 5, 4, 3, 2, 1, 0].map (qpiece c f (k0_off22 k 0) h) := by
  unfold trip3
  rfl

end Cert.KernelIdeal.Body

end
-- ==== Proof.VX.lean ====
/- The quantised tokens' values over the extended reals. -/
module

public import proofs.«01_k».proof.Proof.Piece3
public import proofs.«01_k».proof.Proof.QMath

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Num

/-! ## The block's magnitude, by exchanges of lanes -/

/-- Lane `l` with bit `d` turned. -/
def xr (d : ℕ) (l : Fin 128) : Fin 128 := ⟨(l.val ^^^ d) % 128, Nat.mod_lt _ (by norm_num)⟩
/-- A value's magnitude. -/
abbrev mag (x : EReal) : EReal := max x (-x)

/-- A tile's value at a row and lane. -/
def AT (m : FVec Ideal S64x128 .bf16) (r : Fin 64) (l : Fin 128) : EReal := m (ix2 r l)

theorem fly_apply (d : ℕ) (w : BitVec 32) (h : ∀ l : Fin 128, (Scalar.select (IntOp.cmpi CmpIPredicate.slt (IntOp.xori (BitVec.ofNat 32 l.val) w) 0#32)
      (IntOp.addi (IntOp.xori (BitVec.ofNat 32 l.val) w) 128#32) (IntOp.xori (BitVec.ofNat 32 l.val) w)).toNat % 128 = (l.val ^^^ d) % 128)
    (m : FVec Ideal S64x128 .bf16) (r : Fin 64) (l : Fin 128) :
    AT (fly w m) r l = max (AT m r l) (AT m r (xr d l)) := by
  unfold AT
  pointwise [fly, lanes]
  have e : ∀ p, (⟨_, p⟩ : Fin 128) = xr d l := fun p => Fin.ext (h l)
  rw [e]

theorem fly16 (m : FVec Ideal S64x128 .bf16) (r : Fin 64) (l : Fin 128) : AT (fly 16#32 m) r l = max (AT m r l) (AT m r (xr 16 l)) := fly_apply 16 _ (by decide +kernel) m r l
theorem fly8 (m : FVec Ideal S64x128 .bf16) (r : Fin 64) (l : Fin 128) : AT (fly 8#32 m) r l = max (AT m r l) (AT m r (xr 8 l)) := fly_apply 8 _ (by decide +kernel) m r l
theorem fly4 (m : FVec Ideal S64x128 .bf16) (r : Fin 64) (l : Fin 128) : AT (fly 4#32 m) r l = max (AT m r l) (AT m r (xr 4 l)) := fly_apply 4 _ (by decide +kernel) m r l
theorem fly2 (m : FVec Ideal S64x128 .bf16) (r : Fin 64) (l : Fin 128) : AT (fly 2#32 m) r l = max (AT m r l) (AT m r (xr 2 l)) := fly_apply 2 _ (by decide +kernel) m r l
theorem fly1 (m : FVec Ideal S64x128 .bf16) (r : Fin 64) (l : Fin 128) : AT (fly 1#32 m) r l = max (AT m r l) (AT m r (xr 1 l)) := fly_apply 1 _ (by decide +kernel) m r l

/-- Some lane that agrees with `l` on the bits `k` has `T`. -/
def Some' (k : ℕ) (T : Fin 128 → Prop) (l : Fin 128) : Prop := ∃ l' : Fin 128, l'.val &&& k = l.val &&& k ∧ T l'

theorem some_step (d k k' : ℕ) (h : ∀ l l' : Fin 128, (l'.val &&& k = l.val &&& k ∨ l'.val &&& k = (xr d l).val &&& k) ↔ l'.val &&& k' = l.val &&& k')
    (T : Fin 128 → Prop) (l : Fin 128) : (Some' k T l ∨ Some' k T (xr d l)) ↔ Some' k' T l := by
  unfold Some'
  constructor
  · rintro (⟨l', h1, h2⟩ | ⟨l', h1, h2⟩)
    · exact ⟨l', (h l l').1 (.inl h1), h2⟩
    · exact ⟨l', (h l l').1 (.inr h1), h2⟩
  · rintro ⟨l', h1, h2⟩
    rcases (h l l').2 h1 with h3 | h3
    · exact .inl ⟨l', h3, h2⟩
    · exact .inr ⟨l', h3, h2⟩

theorem mags_top (x : Vec Ideal S64x128 .bf16) (r : Fin 64) (l : Fin 128) :
    AT (mags x) r l = ⊤ ↔ ∃ l' : Fin 128, l'.val / 32 = l.val / 32 ∧ mag (x (ix2 r l')) = ⊤ := by
  have t0 : ∀ l : Fin 128, (AT (absf x) r l = ⊤) ↔ Some' 127 (fun l' => mag (x (ix2 r l')) = ⊤) l := by
    intro l
    constructor
    · intro h; exact ⟨l, rfl, h⟩
    · rintro ⟨l', h1, h2⟩
      have : l' = l := Fin.ext ((by decide +kernel : ∀ a b : Fin 128, a.val &&& 127 = b.val &&& 127 → a.val = b.val) l' l h1)
      subst this; exact h2
  have t1 := fun l => (by rw [fly16, max_eq_top, t0, t0]; exact some_step 16 127 111 (by decide +kernel) _ l :
    (AT (fly 16#32 (absf x)) r l = ⊤) ↔ Some' 111 (fun l' => mag (x (ix2 r l')) = ⊤) l)
  have t2 := fun l => (by rw [fly8, max_eq_top, t1, t1]; exact some_step 8 111 103 (by decide +kernel) _ l :
    (AT (fly 8#32 (fly 16#32 (absf x))) r l = ⊤) ↔ Some' 103 (fun l' => mag (x (ix2 r l')) = ⊤) l)
  have t3 := fun l => (by rw [fly4, max_eq_top, t2, t2]; exact some_step 4 103 99 (by decide +kernel) _ l :
    (AT (fly 4#32 (fly 8#32 (fly 16#32 (absf x)))) r l = ⊤) ↔ Some' 99 (fun l' => mag (x (ix2 r l')) = ⊤) l)
  have t4 := fun l => (by rw [fly2, max_eq_top, t3, t3]; exact some_step 2 99 97 (by decide +kernel) _ l :
    (AT (fly 2#32 (fly 4#32 (fly 8#32 (fly 16#32 (absf x))))) r l = ⊤) ↔ Some' 97 (fun l' => mag (x (ix2 r l')) = ⊤) l)
  unfold mags
  rw [fly1, max_eq_top, t4, t4, some_step 1 97 96 (by decide +kernel)]
  unfold Some'
  have h : ∀ a b : Fin 128, a.val &&& 96 = b.val &&& 96 ↔ a.val / 32 = b.val / 32 := by decide +kernel
  exact exists_congr fun l' => and_congr_left fun _ => h l' l

theorem mags_ge (x : Vec Ideal S64x128 .bf16) (r : Fin 64) (l : Fin 128) : mag (x (ix2 r l)) ≤ AT (mags x) r l := by
  unfold mags
  rw [fly1, fly2, fly4, fly8, fly16]
  exact le_trans (le_trans (le_trans (le_trans (le_max_left _ _) (le_max_left _ _)) (le_max_left _ _)) (le_max_left _ _)) (le_max_left _ _)

/-- A tile's values after quantising. -/
theorem quant_apply (x : Vec Ideal S64x128 .bf16) (r : Fin 64) (l : Fin 128) :
    AT (quant x) r l = qv (∃ l' : Fin 128, l'.val / 32 = l.val / 32 ∧ mag (x (ix2 r l')) = ⊤) (x (ix2 r l)) := by
  rw [← qv_congr (mags_top x r l), ← quant_ker (mags_ge x r l)]
  unfold quant AT
  pointwise [coded, expo]
  rw [clog, c448, cm448]
  rfl

/-! ## All the tokens -/

/-- The tokens quantised: by blocks of 32 columns. -/
def XQ (X : S256x4096.Idx → EReal) (i : S256x4096.Idx) : EReal :=
  qv (∃ k : Fin 4096, k.val / 32 = (i 1).val / 32 ∧ mag (X (ix2 (i 0) k)) = ⊤) (X i)

end Cert.KernelIdeal.Body

end
-- ==== Proof.VX2.lean ====
/- What the quantising loop leaves in the tokens' buffer. -/
module

public import proofs.«01_k».proof.Proof.VX

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Num

/-- Two tokens' indices with equal coordinates. -/
theorem idxX {i i' : S256x4096.Idx} (h0 : (i 0).val = (i' 0).val) (h1 : (i 1).val = (i' 1).val) : i = i' := by
  funext a; fin_cases a
  · exact Fin.ext h0
  · exact Fin.ext h1

theorem qpiece_val (c : Dev nD) (f : Cont (F := Ideal) c sXq) (X : S256x4096.Idx → EReal) (r : ℕ) (h : r ≤ 192) (j : Fin 32)
    (hf : ∀ i : S256x4096.Idx, r ≤ (i 0).val → sXq.view.read (Elt Ideal) f i = X i) (x : S64x128.Idx) :
    ((qpiece c f r h j).2 x : EReal) = XQ X ((qpiece c f r h j).1.emb x) := by
  obtain ⟨a, b, rfl⟩ : ∃ (a : Fin 64) (b : Fin 128), x = ix2 a b := ⟨x 0, x 1, by funext i; fin_cases i <;> rfl⟩
  have hb := b.isLt
  have hj := j.isLt
  have ha := a.isLt
  have rd : ∀ b' : Fin 128, (View.readAt (Elt Ideal) sXq.view (Rect.unit (s := S256x4096) ![r, 128 * j.val] S64x128.size (inQ h j)).toLoadRect f (ix2 a b') : EReal)
      = X (ix2 ⟨r + a.val, by omega⟩ ⟨128 * j.val + b'.val, by omega⟩) := by
    intro b'
    rw [View.readAt_apply]
    have e : ((Rect.unit (s := S256x4096) ![r, 128 * j.val] S64x128.size (inQ h j)).toLoadRect.idx (ix2 a b') : S256x4096.Idx) = ix2 ⟨r + a.val, by omega⟩ ⟨128 * j.val + b'.val, by omega⟩ := by
      apply idxX
      · show r + 1 * a.val = r + a.val; omega
      · show 128 * j.val + 1 * b'.val = 128 * j.val + b'.val; omega
    rw [e]
    exact hf _ (by show r ≤ r + a.val; omega)
  have e : ((qpiece c f r h j).1.emb (ix2 a b) : S256x4096.Idx) = ix2 ⟨r + a.val, by omega⟩ ⟨128 * j.val + b.val, by omega⟩ := by
    apply idxX
    · show r + 1 * a.val = r + a.val; omega
    · show 128 * j.val + 1 * b.val = 128 * j.val + b.val; omega
  rw [e]
  refine (quant_apply _ a b).trans ?_
  rw [rd b]
  unfold XQ
  refine qv_congr ?_ _
  constructor
  · rintro ⟨l', h1, h2⟩
    refine ⟨⟨128 * j.val + l'.val, by omega⟩, ?_, ?_⟩
    · show (128 * j.val + l'.val) / 32 = (128 * j.val + b.val) / 32; omega
    · rw [rd l'] at h2; exact h2
  · rintro ⟨k, h1, h2⟩
    have h1' : k.val / 32 = (128 * j.val + b.val) / 32 := h1
    refine ⟨⟨k.val - 128 * j.val, by omega⟩, ?_, ?_⟩
    · show (k.val - 128 * j.val) / 32 = b.val / 32; omega
    · rw [rd]
      have e2 : (⟨128 * j.val + (k.val - 128 * j.val), by omega⟩ : Fin 4096) = k := Fin.ext (by show 128 * j.val + (k.val - 128 * j.val) = k.val; omega)
      have h2' : mag (X (ix2 ⟨r + a.val, by omega⟩ k)) = ⊤ := h2
      exact (congrArg (fun z : Fin 4096 => mag (X (ix2 (⟨r + a.val, by omega⟩ : Fin 256) z))) e2).trans h2'

theorem x3_val (c : Dev nD) (arg0 : Memref sig .tc .smem S8 .i32) (harg0 : arg0.IsWhole) (f : Cont (F := Ideal) c sXq) (k : ℕ) (hk : k ≤ 4) (i : S256x4096.Idx) :
    (sXq.view.read (Elt Ideal) (x3 c arg0 harg0 f k) i : EReal)
      = if (i 0).val < 64 * k then XQ (fun i => sXq.view.read (Elt Ideal) f i) i else sXq.view.read (Elt Ideal) f i := by
  induction k generalizing i with
  | zero => rw [if_neg (by omega)]; rfl
  | succ k ih =>
    have ht : k < k0_t3_loop.trips := by
      have : k0_t3_loop.trips = 4 := by decide +kernel
      omega
    have e0 : k0_off22 ⟨k, ht⟩ 0 = 64 * k := by rw [k0_off22_eq]; rfl
    have h192 : k0_off22 ⟨k, ht⟩ 0 ≤ 192 := by rw [e0]; omega
    have es := x3_succ c arg0 harg0 f ⟨k, ht⟩
    have ep := trip3_eq c arg0 harg0 ⟨k, ht⟩ h192 (x3 c arg0 harg0 f k)
    simp only at es
    rw [es, ep]
    generalize hr : k0_off22 ⟨k, ht⟩ 0 = r at h192 ep
    rw [e0] at hr
    subst hr
    have hmem : ∀ j : Fin 32, j ∈ ([31, 30, 29, 28, 27, 26, 25, 24, 23, 22, 21, 20, 19, 18, 17, 16, 15, 14, 13, 12, 11, 10, 9, 8, 7, 6, 5, 4, 3, 2, 1, 0] : List (Fin 32)) := by decide +kernel
    by_cases hin : 64 * k ≤ (i 0).val ∧ (i 0).val < 64 * k + 64
    · rw [if_pos (by omega)]
      refine View.read_writes_apply_of_pieces sXq.view (x3 c arg0 harg0 f k) (XQ (fun i => sXq.view.read (Elt Ideal) f i)) _ ?_ i ?_
      · intro p hp x
        obtain ⟨j, -, rfl⟩ := List.mem_map.1 hp
        exact qpiece_val c _ _ (64 * k) h192 j (fun i' hi' => by rw [ih (by omega) i', if_neg (by omega)]) x
      · have h1 : (i 1).val < 4096 := (i 1).isLt
        refine ⟨qpiece c _ (64 * k) h192 ⟨(i 1).val / 128, by omega⟩, List.mem_map.2 ⟨_, hmem _, rfl⟩, ?_⟩
        refine (Rect.mem_set_unit (s := S256x4096) (inb := inQ h192 ⟨(i 1).val / 128, by omega⟩)).2 fun a => ?_
        fin_cases a
        · exact ⟨hin.1, hin.2⟩
        · show 128 * ((i 1).val / 128) ≤ (i 1).val ∧ (i 1).val < 128 * ((i 1).val / 128) + 128
          omega
    · rw [View.read_writes_apply_of_forall_not_mem sXq.view _ i _ ?_, ih (by omega) i]
      · by_cases h2 : (i 0).val < 64 * k
        · rw [if_pos h2, if_pos (by omega)]
        · rw [if_neg h2, if_neg (by omega)]
      · intro p hp hm
        obtain ⟨j, -, rfl⟩ := List.mem_map.1 hp
        have := (Rect.mem_set_unit (s := S256x4096) (inb := inQ h192 j)).1 hm 0
        exact hin ⟨this.1, this.2⟩

end Cert.KernelIdeal.Body

end
-- ==== Proof.VY.lean ====
/- What the main loop's windows leave in the result, over the extended reals. -/
module

public import proofs.«01_k».proof.Proof.VT
public import proofs.«01_k».proof.Proof.VX2
public import proofs.«01_k».proof.Proof.Body
public import Idealize.ShloMosaic.Lib.Pipeline.Value

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Num Idealize.ShloMosaic.Affine

/-! ## The mask -/

theorem sel_rows {α : Type} (z f l : BitVec 32) (a b : α) :
    Scalar.select (IntOp.andi (IntOp.cmpi .sge z f) (IntOp.cmpi .slt z l)) a b = if f.toInt ≤ z.toInt ∧ z.toInt < l.toInt then a else b := by
  unfold Scalar.select IntOp.andi IntOp.cmpi
  simp only [BitVec.sle, BitVec.slt]
  by_cases h1 : f.toInt ≤ z.toInt <;> by_cases h2 : z.toInt < l.toInt <;> simp [h1, h2]

theorem toInt_of {x : BitVec 32} {e : ℤ} (h : Affine.IsInt x e) : x.toInt = e := by
  unfold Affine.IsInt at h; exact h

theorem winv_apply (w first last : BitVec 32) (W o l : ℕ) (hw : Affine.IsInt w W) (hf : Affine.IsInt first o) (hl : Affine.IsInt last l) (hW : W ≤ 128)
    (a : FVec Ideal S128x256 .f32) (old : Vec Ideal S128x256 .bf16) (r : Fin 128) (j : Fin 256) :
    (winv w first last a old (ix2 r j) : EReal) = if o ≤ W + r.val ∧ W + r.val < l then (a (ix2 r j) : EReal) else (old (ix2 r j) : EReal) := by
  have hr := r.isLt
  have hz : Affine.IsInt (Scalar.addi (BitVec.ofNat 32 r.val) w) (W + r.val : ℕ) :=
    Affine.addi (lit r.val (by omega)) hw (by push_cast; omega)
  have e : (winv w first last a old (ix2 r j) : EReal)
      = Scalar.select (IntOp.andi (IntOp.cmpi .sge (IntOp.addi (BitVec.ofNat 32 r.val) w) first) (IntOp.cmpi .slt (IntOp.addi (BitVec.ofNat 32 r.val) w) last))
          (a (ix2 r j) : EReal) (old (ix2 r j) : EReal) := by
    pointwise [winv]
  rw [e, sel_rows]
  have hz' : (IntOp.addi (BitVec.ofNat 32 r.val) w).toInt = (W + r.val : ℕ) := toInt_of hz
  rw [hz', toInt_of hf, toInt_of hl]
  simp only [Nat.cast_le, Nat.cast_lt]

/-! ## The ring's slots -/

/-- A squeezed slice at an index: the buffer at the slice's offsets on. -/
theorem squeezed_read {κ : Kind} {sp : Space} {el : EltTy} {d : Fin 3 → ℕ} {a b : ℕ} (M : Memref sig κ sp ⟨3, d⟩ el) (o : Fin 3 → ℕ)
    (ho : ∀ x, o x + (![1, a, b] : Fin 3 → ℕ) x ≤ d x) (hr : ∀ x, (Rect.unit (s := ⟨3, d⟩) o ![1, a, b] ho).stride x = 1)
    (hq : (Rect.unit (s := ⟨3, d⟩) o ![1, a, b] ho).shape.Squeezes ⟨2, ![a, b]⟩) (f : M.view.ty.Contents (Elt Ideal)) (k : Fin a) (l : Fin b) :
    ((M.slice (Rect.unit (s := ⟨3, d⟩) o ![1, a, b] ho) hr).squeeze ⟨2, ![a, b]⟩ hq).view.read (Elt Ideal) f (ix2 k l)
      = M.view.read (Elt Ideal) f ((Rect.unit (s := ⟨3, d⟩) o ![1, a, b] ho).emb (ix3 0 k l)) := by
  have e : Shape.reshapeEquiv (s := ⟨3, ![1, a, b]⟩) (s' := ⟨2, ![a, b]⟩) hq.numel_eq (ix2 k l) = ix3 0 k l :=
    Shape.reshapeEquiv_eq_of_rowMajor hq.numel_eq (by
      rw [Shape.rowMajor_val_three, Shape.rowMajor_val_two]
      show ((0 * a + k.val) * b + l.val) = k.val * b + l.val
      simp only [Nat.zero_mul, Nat.zero_add])
  exact congrArg (fun y => M.view.read (Elt Ideal) f ((Rect.unit (s := ⟨3, d⟩) o ![1, a, b] ho).emb y)) e

theorem wslot_read (c : Dev nD) (X6 : Cont (F := Ideal) c sW) (i : Fin 8) (k : Fin 2048) (l : Fin 256) :
    (wslot i).view.read (Elt Ideal) X6 (ix2 k l) = sW.view.read (Elt Ideal) X6 (ix3 i k l) := by
  refine (squeezed_read _ _ _ _ _ _ k l).trans ?_
  congr 1
  funext a; fin_cases a
  · exact Fin.ext (by show i.val + 1 * 0 = i.val; omega)
  · exact Fin.ext (by show 0 + 1 * k.val = k.val; omega)
  · exact Fin.ext (by show 0 + 1 * l.val = l.val; omega)
theorem sslot_read (c : Dev nD) (X7 : Cont (F := Ideal) c sS) (i : Fin 8) (k : Fin 32) (l : Fin 256) :
    (sslot i).view.read (Elt Ideal) X7 (ix2 k l) = sS.view.read (Elt Ideal) X7 (ix3 i k l) := by
  refine (squeezed_read _ _ _ _ _ _ k l).trans ?_
  congr 1
  funext a; fin_cases a
  · exact Fin.ext (by show i.val + 1 * 0 = i.val; omega)
  · exact Fin.ext (by show 0 + 1 * k.val = k.val; omega)
  · exact Fin.ext (by show 0 + 1 * l.val = l.val; omega)
theorem wtile_read (c : Dev nD) (fW : Cont (F := Ideal) c mW) (e : Fin 8) (t : Fin 7) (k : Fin 2048) (l : Fin 256) :
    (wtile e t).view.read (Elt Ideal) fW (ix2 k l) = mW.view.read (Elt Ideal) fW (ix3 e k ⟨t.val * 256 + l.val, by omega⟩) := by
  refine (squeezed_read mW _ _ _ squeezes_S1x2048x256_S2048x256 fW k l).trans ?_
  congr 1
  funext a; fin_cases a
  · exact Fin.ext (by show e.val + 1 * 0 = e.val; omega)
  · exact Fin.ext (by show 0 + 1 * k.val = k.val; omega)
  · exact Fin.ext (by show t.val * 256 + 1 * l.val = t.val * 256 + l.val; omega)
theorem stile_read (c : Dev nD) (fS : Cont (F := Ideal) c mS) (e : Fin 8) (t : Fin 7) (k : Fin 32) (l : Fin 256) :
    (stile e t).view.read (Elt Ideal) fS (ix2 k l) = mS.view.read (Elt Ideal) fS (ix3 e k ⟨t.val * 256 + l.val, by omega⟩) := by
  refine (squeezed_read mS _ _ _ squeezes_S1x32x256_S32x256 fS k l).trans ?_
  congr 1
  funext a; fin_cases a
  · exact Fin.ext (by show e.val + 1 * 0 = e.val; omega)
  · exact Fin.ext (by show 0 + 1 * k.val = k.val; omega)
  · exact Fin.ext (by show t.val * 256 + 1 * l.val = t.val * 256 + l.val; omega)

theorem wslot_tile (c : Dev nD) (f6 : Cont (F := Ideal) c sW) (fW : Cont (F := Ideal) c mW) (i e : Fin 8) (t : Fin 7) (k : Fin 2048) (l : Fin 256) :
    sW.view.read (Elt Ideal) ((wslot i).view.writes (Elt Ideal) f6 [⟨Rect.whole S2048x256, ReadAs.same.apply ((wtile e t).view.read (Elt Ideal) fW)⟩]) (ix3 i k l)
      = mW.view.read (Elt Ideal) fW (ix3 e k ⟨t.val * 256 + l.val, by omega⟩) := by
  rw [← wslot_read c _ i k l, ← wtile_read c fW e t k l]
  refine View.read_writes_apply_of_pieces (wslot i).view f6 ((wtile e t).view.read (Elt Ideal) fW) _ ?_ (ix2 k l) ?_
  · intro p hp x
    rw [List.mem_singleton] at hp
    subst hp
    exact congrArg ((wtile e t).view.read (Elt Ideal) fW) (Rect.emb_whole_apply _ x).symm
  · exact ⟨_, List.mem_singleton.2 rfl, by rw [Rect.set_whole]; exact Finset.mem_univ _⟩
theorem sslot_tile (c : Dev nD) (f7 : Cont (F := Ideal) c sS) (fS : Cont (F := Ideal) c mS) (i e : Fin 8) (t : Fin 7) (k : Fin 32) (l : Fin 256) :
    sS.view.read (Elt Ideal) ((sslot i).view.writes (Elt Ideal) f7 [⟨Rect.whole S32x256, ReadAs.same.apply ((stile e t).view.read (Elt Ideal) fS)⟩]) (ix3 i k l)
      = mS.view.read (Elt Ideal) fS (ix3 e k ⟨t.val * 256 + l.val, by omega⟩) := by
  rw [← sslot_read c _ i k l, ← stile_read c fS e t k l]
  refine View.read_writes_apply_of_pieces (sslot i).view f7 ((stile e t).view.read (Elt Ideal) fS) _ ?_ (ix2 k l) ?_
  · intro p hp x
    rw [List.mem_singleton] at hp
    subst hp
    exact congrArg ((stile e t).view.read (Elt Ideal) fS) (Rect.emb_whole_apply _ x).symm
  · exact ⟨_, List.mem_singleton.2 rfl, by rw [Rect.set_whole]; exact Finset.mem_univ _⟩

/-! ## A window -/

/-- Row `r`, column `n` of the tokens `X` times expert `e`'s weights. -/
def YV (X : S256x4096.Idx → EReal) (W : S8x2048x1792.Idx → BitVec 8) (S : S8x32x1792.Idx → EReal) (e : Fin 8) (r : Fin 256) (n : Fin 1792) : EReal :=
  DOT (fun k => X (ix2 r k)) (fun k => W (ix3 e k n)) (fun g => S (ix3 e g n))

theorem rdX_apply (c : Dev nD) (X5 : Cont (F := Ideal) c sXq) (w0 : ℕ) (hw : w0 ≤ 128) (j : Fin 16) (r : Fin 128) (k : Fin 256) :
    (rdX c X5 w0 hw j (ix2 r k) : EReal) = sXq.view.read (Elt Ideal) X5 (ix2 ⟨w0 + r.val, by omega⟩ ⟨256 * j.val + k.val, by omega⟩) := by
  unfold rdX
  rw [View.readAt_apply]
  congr 1
  apply idxX
  · show w0 + 1 * r.val = w0 + r.val; omega
  · show 256 * j.val + 1 * k.val = 256 * j.val + k.val; omega
theorem rdW_apply (c : Dev nD) (X6 : Cont (F := Ideal) c sW) (i : ℕ) (hi : i < 8) (j : Fin 8) (k l : Fin 256) :
    (rdW c X6 i hi j (ix3 0 k l) : BitVec 8) = sW.view.read (Elt Ideal) X6 (ix3 ⟨i, hi⟩ ⟨256 * j.val + k.val, by omega⟩ l) := by
  unfold rdW
  rw [View.readAt_apply]
  congr 1
  funext a; fin_cases a
  · exact Fin.ext (by show i + 1 * 0 = i; omega)
  · exact Fin.ext (by show 256 * j.val + 1 * k.val = 256 * j.val + k.val; omega)
  · exact Fin.ext (by show 0 + 1 * l.val = l.val; omega)
theorem rdS_apply (c : Dev nD) (X7 : Cont (F := Ideal) c sS) (i : ℕ) (hi : i < 8) (g : Fin 32) (l : Fin 256) :
    (rdS c X7 i hi g (ix3 0 0 l) : EReal) = sS.view.read (Elt Ideal) X7 (ix3 ⟨i, hi⟩ g l) := by
  unfold rdS
  rw [View.readAt_apply]
  congr 1
  funext a; fin_cases a
  · exact Fin.ext (by show i + 1 * 0 = i; omega)
  · exact Fin.ext (by show g.val + 1 * 0 = g.val; omega)
  · exact Fin.ext (by show 0 + 1 * l.val = l.val; omega)

/-- Two result indices with equal coordinates. -/
theorem idxY {i i' : S256x1792.Idx} (h0 : (i 0).val = (i' 0).val) (h1 : (i 1).val = (i' 1).val) : i = i' := by
  funext a; fin_cases a
  · exact Fin.ext h0
  · exact Fin.ext h1

variable {v2 v10 v18 v26 v34 v42 v50 v58 : BitVec 32}

/-- After the first `n` windows: the expert's rows the windows cover hold the product in the step's columns, all else what it held. -/
theorem y5_val (c : Dev nD) (arg0 : Memref sig .tc .smem S8 .i32) (harg0 : arg0.IsWhole) (hg8 : Good v2 v10 v18 v26 v34 v42 v50 v58)
    (k4 : Fin (k0_t4_loop v2 v10 v18 v26 v34 v42 v50 v58).trips) {o g : ℕ} {v107 v109 : BitVec 32} (ho : IsInt v107 o) (hg : IsInt v109 g) (hs : o + g ≤ 256)
    (hw14 : k0_chk14 v2 v10 v18 v26 v34 v42 v50 v58 k4 v107 v109) (hi : (slotW k4).toNat < 8)
    (X5 : Cont (F := Ideal) c sXq) (X6 : Cont (F := Ideal) c sW) (X7 : Cont (F := Ideal) c sS) (f : Cont (F := Ideal) c sY)
    (X : S256x4096.Idx → EReal) (W : S8x2048x1792.Idx → BitVec 8) (S : S8x32x1792.Idx → EReal) (e : Fin 8) (t : Fin 7)
    (ht : k4.val / nn v2 v10 v18 v26 v34 v42 v50 v58 = t.val)
    (hX : ∀ i, sXq.view.read (Elt Ideal) X5 i = X i)
    (hW : ∀ (k : Fin 2048) (l : Fin 256), sW.view.read (Elt Ideal) X6 (ix3 ⟨_, hi⟩ k l) = W (ix3 e k ⟨t.val * 256 + l.val, by omega⟩))
    (hS : ∀ (k : Fin 32) (l : Fin 256), sS.view.read (Elt Ideal) X7 (ix3 ⟨_, hi⟩ k l) = S (ix3 e k ⟨t.val * 256 + l.val, by omega⟩))
    (n : ℕ) (hn : n ≤ wins o g) (i : S256x1792.Idx) :
    (((i 1).val / 256 = t.val ∧ o ≤ (i 0).val ∧ (i 0).val < o + g ∧ ∃ m, m < n ∧ wrow o m ≤ (i 0).val ∧ (i 0).val < wrow o m + 128) →
        (sY.view.read (Elt Ideal) (y5 c arg0 harg0 v2 v10 v18 v26 v34 v42 v50 v58 k4 (slotW k4) v107 v109 hw14 (Scalar.addi v107 v109) (Scalar.muli (Scalar.divsi v107 16#32) 16#32) hi X5 X6 X7 f n) i : EReal)
          = YV X W S e (i 0) (i 1))
    ∧ (¬ ((i 1).val / 256 = t.val ∧ o ≤ (i 0).val ∧ (i 0).val < o + g ∧ ∃ m, m < n ∧ wrow o m ≤ (i 0).val ∧ (i 0).val < wrow o m + 128) →
        (sY.view.read (Elt Ideal) (y5 c arg0 harg0 v2 v10 v18 v26 v34 v42 v50 v58 k4 (slotW k4) v107 v109 hw14 (Scalar.addi v107 v109) (Scalar.muli (Scalar.divsi v107 16#32) 16#32) hi X5 X6 X7 f n) i : EReal)
          = sY.view.read (Elt Ideal) f i) := by
  induction n generalizing i with
  | zero => exact ⟨fun ⟨_, _, _, m, hm, _⟩ => absurd hm (by omega), fun _ => rfl⟩
  | succ n ih =>
    have htr : n < (k0_t5_loop v107 v109).trips := by rw [t5_trips ho hg hs]; omega
    have hn2 := wins_le hs
    have hwr := wrow_le o n
    have hrow : k0_off74 v107 v109 ⟨n, htr⟩ 0 = wrow o n := toNat_nat (mult7_int ho hg hs ⟨n, htr⟩)
    have hwI : IsInt (wrowW (Scalar.muli (Scalar.divsi v107 16#32) 16#32) n) (wrow o n) := mult7_int ho hg hs ⟨n, htr⟩
    have hlI : IsInt (Scalar.addi v107 v109) (o + g : ℕ) := Affine.addi ho hg (by push_cast; omega)
    have hw : k0_off74 v107 v109 ⟨n, htr⟩ 0 ≤ 128 := by rw [hrow]; exact hwr
    have es := y5_succ c arg0 harg0 v2 v10 v18 v26 v34 v42 v50 v58 k4 (slotW k4) v107 v109 hw14 (Scalar.addi v107 v109) (Scalar.muli (Scalar.divsi v107 16#32) 16#32) hi X5 X6 X7 f ⟨n, htr⟩
    simp only at es
    rw [es]
    generalize hy : y5 c arg0 harg0 v2 v10 v18 v26 v34 v42 v50 v58 k4 (slotW k4) v107 v109 hw14 (Scalar.addi v107 v109) (Scalar.muli (Scalar.divsi v107 16#32) 16#32) hi X5 X6 X7 f n = y at ih ⊢
    rw [trip5_eq c arg0 harg0 v2 v10 v18 v26 v34 v42 v50 v58 k4 v107 v109 hw14 (Scalar.addi v107 v109) (Scalar.muli (Scalar.divsi v107 16#32) 16#32) hi X5 X6 X7 ⟨n, htr⟩ hw y]
    have ho125 := off125_eq hg8 k4 ho hg hs ⟨n, htr⟩
    have hinb := k0_off125_inb v2 v10 v18 v26 v34 v42 v50 v58 k4 v107 v109 hw14 ⟨n, htr⟩
    simp only [ht] at ho125
    have i0 : (i 0).val < 256 := (i 0).isLt
    have i1 : (i 1).val < 1792 := (i 1).isLt
    -- the store's rectangle, its offsets read
    have hin : ∀ q : S256x1792.Idx, q ∈ (Rect.unit (s := S256x1792) (k0_off125 v2 v10 v18 v26 v34 v42 v50 v58 k4 v107 v109 ⟨n, htr⟩) S128x256.size hinb).set
        ↔ (wrow o n ≤ (q 0).val ∧ (q 0).val < wrow o n + 128) ∧ (t.val * 256 ≤ (q 1).val ∧ (q 1).val < t.val * 256 + 256) := by
      intro q
      rw [Rect.mem_set_unit, Fin.forall_fin_two, ho125]
      exact Iff.rfl
    by_cases hmem : i ∈ (Rect.unit (s := S256x1792) (k0_off125 v2 v10 v18 v26 v34 v42 v50 v58 k4 v107 v109 ⟨n, htr⟩) S128x256.size hinb).set
    · have hm := (hin i).1 hmem
      -- inside: the select
      have val : (sY.view.read (Elt Ideal) (sY.view.writes (Elt Ideal) y
          [⟨Rect.unit (s := S256x1792) (k0_off125 v2 v10 v18 v26 v34 v42 v50 v58 k4 v107 v109 ⟨n, htr⟩) S128x256.size hinb,
            winv (wrowW (Scalar.muli (Scalar.divsi v107 16#32) 16#32) n) v107 (Scalar.addi v107 v109) (acc (rdX c X5 _ hw) (rdW c X6 _ hi) (rdS c X7 _ hi))
              (View.readAt (Elt Ideal) sY.view (Rect.unit (s := S256x1792) (k0_off125 v2 v10 v18 v26 v34 v42 v50 v58 k4 v107 v109 ⟨n, htr⟩) S128x256.size hinb).toLoadRect y)⟩]) i : EReal)
          = if o ≤ (i 0).val ∧ (i 0).val < o + g then YV X W S e (i 0) (i 1) else sY.view.read (Elt Ideal) y i := by
        refine View.read_writes_apply_of_pieces sY.view y (fun i => if o ≤ (i 0).val ∧ (i 0).val < o + g then YV X W S e (i 0) (i 1) else (sY.view.read (Elt Ideal) y i : EReal)) _ ?_ i ⟨_, List.mem_singleton.2 rfl, hmem⟩
        intro p hp x
        rw [List.mem_singleton] at hp
        subst hp
        obtain ⟨a, b, rfl⟩ : ∃ (a : Fin 128) (b : Fin 256), x = ix2 a b := ⟨x 0, x 1, by funext i; fin_cases i <;> rfl⟩
        have ha := a.isLt
        have hb := b.isLt
        have ht7 := t.isLt
        have e0 : k0_off125 v2 v10 v18 v26 v34 v42 v50 v58 k4 v107 v109 ⟨n, htr⟩ 0 = wrow o n := by rw [ho125]; rfl
        have e1 : k0_off125 v2 v10 v18 v26 v34 v42 v50 v58 k4 v107 v109 ⟨n, htr⟩ 1 = t.val * 256 := by rw [ho125]; rfl
        have emb : ((Rect.unit (s := S256x1792) (k0_off125 v2 v10 v18 v26 v34 v42 v50 v58 k4 v107 v109 ⟨n, htr⟩) S128x256.size hinb).emb (ix2 a b) : S256x1792.Idx)
            = ix2 ⟨wrow o n + a.val, by omega⟩ ⟨t.val * 256 + b.val, by omega⟩ := by
          apply idxY
          · show k0_off125 v2 v10 v18 v26 v34 v42 v50 v58 k4 v107 v109 ⟨n, htr⟩ 0 + 1 * a.val = wrow o n + a.val; omega
          · show k0_off125 v2 v10 v18 v26 v34 v42 v50 v58 k4 v107 v109 ⟨n, htr⟩ 1 + 1 * b.val = t.val * 256 + b.val; omega
        refine (winv_apply _ _ _ (wrow o n) o (o + g) hwI ho hlI hwr _ _ a b).trans ?_
        rw [emb]
        refine if_congr Iff.rfl ?_ ?_
        · refine acc_apply _ _ _ a b _ _ _ ?_ ?_ ?_
          · intro j k
            rw [rdX_apply, hX]
            refine congrArg X (idxX ?_ rfl)
            show k0_off74 v107 v109 ⟨n, htr⟩ 0 + a.val = wrow o n + a.val
            rw [hrow]
          · intro j k; rw [rdW_apply, hW]; rfl
          · intro j; rw [rdS_apply, hS]; rfl
        · rw [View.readAt_apply, ← emb]; rfl
      rw [val]
      constructor
      · rintro ⟨_, h1, h2, _⟩; rw [if_pos ⟨h1, h2⟩]
      · intro hneg
        rw [if_neg (fun h => hneg ⟨by omega, h.1, h.2, n, by omega, hm.1⟩)]
        exact (ih (by omega) i).2 (fun ⟨h0, h1, h2, m, hmn, h3⟩ => hneg ⟨h0, h1, h2, m, by omega, h3⟩)
    · rw [View.read_writes_apply_of_forall_not_mem sY.view _ i _ (by
        intro p hp hm
        rw [List.mem_singleton] at hp
        subst hp
        exact hmem hm)]
      constructor
      · rintro ⟨h0, h1, h2, m, hmn, h3⟩
        refine (ih (by omega) i).1 ⟨h0, h1, h2, m, ?_, h3⟩
        by_contra hc
        have hmn' : m = n := by omega
        subst hmn'
        exact hmem ((hin i).2 ⟨h3, by omega⟩)
      · intro hneg
        exact (ih (by omega) i).2 (fun ⟨h0, h1, h2, m, hmn, h3⟩ => hneg ⟨h0, h1, h2, m, by omega, h3⟩)

/-- A step: the expert's rows hold the product in the step's columns, all else what it held. -/
theorem step_val (c : Dev nD) (arg0 : Memref sig .tc .smem S8 .i32) (harg0 : arg0.IsWhole) (hg8 : Good v2 v10 v18 v26 v34 v42 v50 v58)
    (k4 : Fin (k0_t4_loop v2 v10 v18 v26 v34 v42 v50 v58).trips) {o g : ℕ} {v107 v109 : BitVec 32} (ho : IsInt v107 o) (hg : IsInt v109 g) (hs : o + g ≤ 256)
    (fW : Cont (F := Ideal) c mW) (fS : Cont (F := Ideal) c mS) (X5 : Cont (F := Ideal) c sXq) (e : Fin 8) (t : Fin 7) (f f' : Cont (F := Ideal) c sY)
    (ht : k4.val / nn v2 v10 v18 v26 v34 v42 v50 v58 = t.val)
    (h : Step4 c arg0 harg0 v2 v10 v18 v26 v34 v42 v50 v58 k4 v107 v109 fW fS X5 e t f f') (i : S256x1792.Idx) :
    (((i 1).val / 256 = t.val ∧ o ≤ (i 0).val ∧ (i 0).val < o + g) →
        (sY.view.read (Elt Ideal) f' i : EReal)
          = YV (sXq.view.read (Elt Ideal) X5) (mW.view.read (Elt Ideal) fW) (mS.view.read (Elt Ideal) fS) e (i 0) (i 1))
    ∧ (¬ ((i 1).val / 256 = t.val ∧ o ≤ (i 0).val ∧ (i 0).val < o + g) →
        (sY.view.read (Elt Ideal) f' i : EReal) = sY.view.read (Elt Ideal) f i) := by
  obtain ⟨hi, f6, f7, w107, w109, hw, rfl, rfl, rfl⟩ := h
  unfold ynext
  have i0 : (i 0).val < 256 := (i 0).isLt
  have main := y5_val c arg0 harg0 hg8 k4 ho hg hs hw hi X5 _ _ f (sXq.view.read (Elt Ideal) X5) (mW.view.read (Elt Ideal) fW) (mS.view.read (Elt Ideal) fS) e t ht
    (fun _ => rfl) (fun k l => wslot_tile c f6 fW ⟨_, hi⟩ e t k l) (fun k l => sslot_tile c f7 fS ⟨_, hi⟩ e t k l) (k0_t5_loop w107 w109).trips
    (by rw [t5_trips ho hg hs]) i
  constructor
  · rintro ⟨h0, h1, h2⟩
    refine main.1 ⟨h0, h1, h2, ((i 0).val - o / 16 * 16) / 128, ?_, ?_, ?_⟩
    · rw [t5_trips ho hg hs]; unfold wins; omega
    · unfold wrow; omega
    · unfold wrow; omega
  · intro hneg
    exact main.2 (fun ⟨h0, h1, h2, _⟩ => hneg ⟨h0, h1, h2⟩)

end Cert.KernelIdeal.Body

end
-- ==== Proof.VZ.lean ====
/- What the kernel leaves in the result, over the extended reals: every row its expert's product. -/
module

public import proofs.«01_k».proof.Proof.VY

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.Num Idealize.ShloMosaic.Affine

/-! ## Owners of rows -/

/-- Expert `e` owns row `r`. -/
def owns (g : ℕ → BitVec 32) (e r : ℕ) : Prop := pre g e ≤ r ∧ r < pre g (e + 1)

theorem owns_unique (g : ℕ → BitVec 32) {e e' r : ℕ} (h : owns g e r) (h' : owns g e' r) : e = e' := by
  obtain ⟨h1, h2⟩ := h
  obtain ⟨h3, h4⟩ := h'
  by_contra hne
  rcases Nat.lt_or_gt_of_ne hne with hl | hl
  · have := pre_mono g (show e + 1 ≤ e' by omega); omega
  · have := pre_mono g (show e' + 1 ≤ e by omega); omega

theorem owns_exists (g : ℕ → BitVec 32) (n r : ℕ) (hr : r < pre g n) : ∃ e, e < n ∧ owns g e r := by
  induction n with
  | zero => exact absurd hr (by show ¬ r < 0; omega)
  | succ n ih =>
    by_cases hc : r < pre g n
    · obtain ⟨e, he, ho⟩ := ih hc
      exact ⟨e, by omega, ho⟩
    · exact ⟨n, by omega, by omega, hr⟩

theorem owns_pos (g : ℕ → BitVec 32) {e r : ℕ} (h : owns g e r) : 0 < (g e).toInt := by
  obtain ⟨h1, h2⟩ := h
  have h3 : pre g (e + 1) = pre g e + (g e).toInt.toNat := rfl
  omega

/-- The kernel's value: row by row, the tokens quantised and multiplied by the row's expert. -/
def GY (g : ℕ → BitVec 32) (X : S256x4096.Idx → EReal) (W : S8x2048x1792.Idx → BitVec 8) (S : S8x32x1792.Idx → EReal) (i : S256x1792.Idx) : EReal :=
  open Classical in if h : ∃ e : Fin 8, owns g e.val (i 0).val then YV (XQ X) W S h.choose (i 0) (i 1) else 0

theorem GY_eq (g : ℕ → BitVec 32) (X : S256x4096.Idx → EReal) (W : S8x2048x1792.Idx → BitVec 8) (S : S8x32x1792.Idx → EReal) (i : S256x1792.Idx)
    (e : Fin 8) (h : owns g e.val (i 0).val) : GY g X W S i = YV (XQ X) W S e (i 0) (i 1) := by
  have hex : ∃ e : Fin 8, owns g e.val (i 0).val := ⟨e, h⟩
  unfold GY
  rw [dif_pos hex]
  have : hex.choose = e := Fin.ext (owns_unique g hex.choose_spec h)
  rw [this]

/-! ## The steps -/

variable {v2 v10 v18 v26 v34 v42 v50 v58 : BitVec 32}

theorem reach_val (c : Dev nD) (arg0 : Memref sig .tc .smem S8 .i32) (harg0 : arg0.IsWhole)
    (G : Cont (F := Ideal) c arg0) (hG : GoodG G)
    (fW : Cont (F := Ideal) c mW) (fS : Cont (F := Ideal) c mS) (X9 : Cont (F := Ideal) c sAct) (X10 : Cont (F := Ideal) c sOff) (X5 : Cont (F := Ideal) c sXq)
    (hT : Table (gs8 G) X9 X10 7) (n : ℕ) (f : Cont (F := Ideal) c sY)
    (h : Reach c arg0 harg0 (gs8 G 0) (gs8 G 1) (gs8 G 2) (gs8 G 3) (gs8 G 4) (gs8 G 5) (gs8 G 6) (gs8 G 7) fW fS X9 X10 G X5 n f) :
    ∀ (j : ℕ), j < n → ∀ (e : Fin 8), (act9 X9 (j % cnt (gs8 G) 8)).toNat = e.val → ∀ i : S256x1792.Idx, (i 1).val / 256 = j / cnt (gs8 G) 8 → owns (gs8 G) e.val (i 0).val →
      (sY.view.read (Elt Ideal) f i : EReal)
        = YV (sXq.view.read (Elt Ideal) X5) (mW.view.read (Elt Ideal) fW) (mS.view.read (Elt Ideal) fS) e (i 0) (i 1) := by
  induction h with
  | zero f => intro j hj; omega
  | step k e t he ht f f' hf hs ih =>
    intro j hj e' he' i hi ho
    obtain ⟨hg, h8⟩ := sizes_nat _ hG
    have hle := pre_mono (gs8 G) (show e.val + 1 ≤ 8 by omega)
    have hsucc : pre (gs8 G) (e.val + 1) = pre (gs8 G) e.val + (gs8 G e.val).toInt.toNat := rfl
    have hO : IsInt (off8 X10 e.val) (pre (gs8 G) e.val : ℕ) := by rw [hT.off e.val (by omega)]; exact OW_int _ hG e.val (by omega)
    have sv := step_val c arg0 harg0 hG k hO (hg e.val e.isLt) (by omega) fW fS X5 e t f f' ht hs i
    by_cases hin : (i 1).val / 256 = t.val ∧ pre (gs8 G) e.val ≤ (i 0).val ∧ (i 0).val < pre (gs8 G) e.val + (gs8 G e.val).toInt.toNat
    · have : e' = e := Fin.ext (owns_unique (gs8 G) ho ⟨hin.2.1, by omega⟩)
      subst this
      exact sv.1 hin
    · rw [sv.2 hin]
      have hjk : j ≠ k.val := by
        rintro rfl
        rw [← cnt8_eq] at hi he'
        have : e' = e := Fin.ext (by omega)
        subst this
        obtain ⟨h1, h2⟩ := ho
        exact hin ⟨by omega, h1, by omega⟩
      exact ih j (by omega) e' he' i hi ho

theorem left_val (c : Dev nD) (arg0 : Memref sig .tc .smem S8 .i32) (harg0 : arg0.IsWhole)
    (G : Cont (F := Ideal) c arg0) (hG : GoodG G) (fX : Cont (F := Ideal) c mX)
    (fW : Cont (F := Ideal) c mW) (fS : Cont (F := Ideal) c mS) (f : Cont (F := Ideal) c sY) (h : Left c arg0 harg0 G fX fW fS f) (i : S256x1792.Idx) :
    (sY.view.read (Elt Ideal) f i : EReal)
      = GY (gs8 G) (mX.view.read (Elt Ideal) fX) (mW.view.read (Elt Ideal) fW) (mS.view.read (Elt Ideal) fS) i := by
  obtain ⟨X9, X10, fq, k, n, hT, rfl, rfl, hR⟩ := h
  obtain ⟨hg, h8⟩ := sizes_nat _ hG
  have i0 : (i 0).val < 256 := (i 0).isLt
  have i1 : (i 1).val < 1792 := (i 1).isLt
  obtain ⟨e, he, ho⟩ := owns_exists (gs8 G) 8 (i 0).val (by omega)
  rw [GY_eq (gs8 G) _ _ _ i ⟨e, he⟩ ho]
  have hpos := owns_pos _ ho
  -- the expert's place in the list
  have hp : ∃ p, p < cnt (gs8 G) 8 ∧ (act9 X9 p).toNat = e := by
    have hc8 : cnt (gs8 G) 8 = cnt (gs8 G) 7 + act1 (gs8 G 7) := rfl
    by_cases h7 : e < 7
    · obtain ⟨p, hp, ha⟩ := hT.list.all e h7 hpos
      exact ⟨p, by omega, ha⟩
    · obtain rfl : e = 7 := by omega
      have : act1 (gs8 G 7) = 1 := by unfold act1; rw [if_pos hpos]
      exact ⟨cnt (gs8 G) 7, by omega, hT.list.next⟩
  obtain ⟨p, hp, ha⟩ := hp
  have hc : 0 < cnt (gs8 G) 8 := by omega
  have hmod : ((i 1).val / 256 * cnt (gs8 G) 8 + p) % cnt (gs8 G) 8 = p := by
    rw [Nat.mul_comm, Nat.mul_add_mod, Nat.mod_eq_of_lt hp]
  have hdiv : ((i 1).val / 256 * cnt (gs8 G) 8 + p) / cnt (gs8 G) 8 = (i 1).val / 256 := by
    rw [Nat.mul_comm, Nat.mul_add_div hc, Nat.div_eq_of_lt hp, Nat.add_zero]
  have hlt : (i 1).val / 256 * cnt (gs8 G) 8 + p < cnt (gs8 G) 8 * 7 := by
    have h6 : (i 1).val / 256 ≤ 6 := by omega
    have := Nat.mul_le_mul_right (cnt (gs8 G) 8) h6
    omega
  rw [reach_val c arg0 harg0 G hG fW fS X9 X10 _ hT _ f hR _ hlt ⟨e, he⟩ (by rw [hmod]; exact ha) i (by rw [hdiv]) ho]
  -- the tokens, quantised
  have hx : sXq.view.read (Elt Ideal) (x3 c arg0 harg0 (xin c fX fq) k0_t3_loop.trips) = XQ (mX.view.read (Elt Ideal) fX) := by
    funext q
    have ht : k0_t3_loop.trips = 4 := by decide +kernel
    have hq : (q 0).val < 256 := (q 0).isLt
    rw [ht]
    refine (x3_val c arg0 harg0 (xin c fX fq) 4 (le_refl _) q).trans ?_
    rw [if_pos (by omega)]
    have e : sXq.view.read (Elt Ideal) (xin c fX fq) = mX.view.read (Elt Ideal) fX := View.read_write_univ _ _
    rw [e]
  rw [hx]

end Cert.KernelIdeal.Body

end
-- ==== Proof.KV.lean ====
/- The kernel's run over the extended reals, with the result it leaves. -/
module

public import proofs.«01_k».proof.Proof.Frame
public import proofs.«01_k».proof.Proof.VZ

@[expose] public section

set_option maxRecDepth 16384
set_option maxHeartbeats 2000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

open Idealize.ShloMosaic.Rounds
open Idealize.ShloMosaic.Pipeline (Dat Cfg Window BodyObligation cellOf)

variable (m : (ℓ : Loc nD τ sig) → Buf (Elt Ideal) ℓ) (ρ : Dev nD → PrngReg)

/-- The group sizes, numbered. -/
def gk (x : S8.Idx → BitVec 32) (e : ℕ) : BitVec 32 := if h : e < 8 then x (ix8 e h) else 0

/-- The kernel's result, from its arguments. -/
def yv (c : Dev nD) : S256x1792.Idx → EReal :=
  GY (gk (m ((c : Thread nD τ).loc main_arg1))) (m ((c : Thread nD τ).loc main_arg0)) (m ((c : Thread nD τ).loc main_arg2)) (m ((c : Thread nD τ).loc main_arg3))

/-- The buffers after the run. -/
def Gv (c : Dev nD) : (b : Ref sig .tc) → Buf (Elt Ideal) ((c.tc : Thread nD τ).loc b) := Function.update (V m c) main_v0 (yv m c)
theorem Gv_v0 (c : Dev nD) : Gv m c main_v0 = yv m c := Function.update_self _ _ _

theorem gs8_eq {c : Dev nD} {arg0 : Memref sig .tc .smem S8 .i32} (G : Cont (F := Ideal) c arg0) (hG : arg0.view.read (Elt Ideal) G = sizes m c) :
    gs8 G = gk (m ((c : Thread nD τ).loc main_arg1)) := by
  funext e
  by_cases h : e < 8
  · rw [gs8_read G e h, hG]; unfold gk; rw [dif_pos h]; rfl
  · unfold gs8 gk; rw [dif_neg h, dif_neg h]; rfl

theorem yout_eq (c : Dev nD) (arg0 : Memref sig .tc .smem S8 .i32) (harg0 : arg0.IsWhole) (G : Cont (F := Ideal) c arg0) (hg : GoodG G)
    (hG : arg0.view.read (Elt Ideal) G = sizes m c) (fY : Cont (F := Ideal) c mY) (f : Cont (F := Ideal) c sY)
    (h : Left c arg0 harg0 G (V m c main_arg0) (V m c main_arg2) (V m c main_arg3) f) : yout c fY f = Gv m c main_v0 := by
  rw [Gv_v0]
  have h1 : mY.view.read (Elt Ideal) (yout c fY f) = sY.view.read (Elt Ideal) f := by
    unfold yout
    rw [View.read_write_univ]
  have h2 : ∀ i, yout c fY f i = sY.view.read (Elt Ideal) f i := fun i => congrFun h1 i
  funext i
  refine (h2 i).trans ((left_val c arg0 harg0 G hg _ _ _ f h i).trans ?_)
  rw [gs8_eq m G hG]
  rfl

/-- The launch's data: the result at its launch contents before, at its value after. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
  Φ t := match t with
    | ⟨0, _⟩ => Pipeline.ΦDRG osem0 spec0 H0 R0 (V m) (V m) c
    | ⟨_ + 1, _⟩ => Pipeline.ΦDRG osem0 spec0 H0 R0 (V m) (Gv m) c
  q _ := fullShare
  owed _ := 0

theorem A_eqV (c : Dev nD) (w : Fin cfg0.W) : (datsV m 0 c).A w = V m c (Pipeline.arrRef spec0 w) := by
  dsimp only [datsV]
theorem after0_0V (c : Dev nD) (t : Fin cfg0.N) : (datsV m 0 c).after 0 t = iblk m c 0 t := by dsimp only [datsV]
theorem before0_0V (c : Dev nD) (t : Fin cfg0.N) (d) : (datsV m 0 c).before 0 t d = iblk m c 0 t :=
  before0_0_of m _ (A_eqV m c 0) (after0_0V m c) t d
theorem PhiV_first (c : Dev nD) (t : Fin cfg0.N) : (datsV m 0 c).Φ t.castSucc = core m c (iprop(mY.view.loc (c : Thread nD τ) ↦{fullShare} V m c main_v0)) := by
  rw [fin_N0 t]
  exact (show (datsV m 0 c).Φ t0_0.castSucc = Pipeline.ΦDRG osem0 spec0 H0 R0 (V m) (V m) c from rfl).trans (PhiDRG0_eq m c (V m))
theorem PhiV_last (c : Dev nD) (t : Fin cfg0.N) : (datsV m 0 c).Φ t.succ = core m c (iprop(mY.view.loc (c : Thread nD τ) ↦{fullShare} Gv m c main_v0)) := by
  rw [fin_N0 t]
  exact (show (datsV m 0 c).Φ t0_0.succ = Pipeline.ΦDRG osem0 spec0 H0 R0 (V m) (Gv m) c from rfl).trans (PhiDRG0_eq m c (Gv m))

def bodyPreV (c : Dev nD) (t : Fin cfg0.N) : sProp 𝕄 :=
  iprop((datsV m 0 c).Φ t.castSucc ∗ (datsV m 0 c).owesAt () t.castSucc
    ∗ (∃ d, Idealize.ShloMosaic.owns (c : Thread nD τ) (st0_0 t) fullShare ((datsV m 0 c).before 0 t d)))
def bodyPostV (c : Dev nD) (t : Fin cfg0.N) : sProp 𝕄 :=
  iprop((datsV m 0 c).Φ t.succ ∗ (datsV m 0 c).owesAt () t.succ
    ∗ Idealize.ShloMosaic.owns (c : Thread nD τ) (st0_0 t) fullShare ((datsV m 0 c).after 0 t))

theorem nameY (c : Dev nD) (arg0 : Memref sig .tc .smem S8 .i32) (harg0 : arg0.IsWhole) (G : Cont (F := Ideal) c arg0) (hg : GoodG G)
    (hG : arg0.view.read (Elt Ideal) G = sizes m c) (fY : Cont (F := Ideal) c mY) :
    core m c (iprop(∃ f, (mY.view.loc (c : Thread nD τ) ↦{fullShare} yout c fY f)
              ∗ ⌜Left c arg0 harg0 G (V m c main_arg0) (V m c main_arg2) (V m c main_arg3) f⌝))
      ⊢ core m c (iprop(mY.view.loc (c : Thread nD τ) ↦{fullShare} Gv m c main_v0)) := by
  have e : ∀ f, Left c arg0 harg0 G (V m c main_arg0) (V m c main_arg2) (V m c main_arg3) f →
      (iprop(mY.view.loc (c : Thread nD τ) ↦{fullShare} yout c fY f) : sProp 𝕄) ⊢ iprop(mY.view.loc (c : Thread nD τ) ↦{fullShare} Gv m c main_v0) :=
    fun f h => by rw [yout_eq m c arg0 harg0 G hg hG fY f h]
  iintro ⟨H1, H2, H3, H4, ⟨%f, HY, %hl⟩⟩
  isplitl [H1]; · iexact H1
  isplitl [H2]; · iexact H2
  isplitl [H3]; · iexact H3
  isplitl [H4]; · iexact H4
  iapply (e f hl); iexact HY

theorem sound_bodyV (hg : GoodM m) (c : Dev nD) (t : Fin cfg0.N) :
    bodyPreV m c t ⊢ wp frame (wpE (defs₀ (F := Ideal)) Variants.none c none) Set.univ (bodyAt0 t) (fun _ => bodyPostV m c t) := by
  unfold bodyPreV bodyPostV
  rw [PhiV_first, PhiV_last, after0_0V]
  unfold Dat.owesAt Pipeline.owesWithin
  rw [show (datsV m 0 c).owed t.castSucc = 0 from rfl, show (datsV m 0 c).owed t.succ = 0 from rfl]
  simp only [before0_0V]
  iintro ⟨⟨H1, H2, H3, H4, HY⟩, ⟨%W, -, HW⟩, ⟨%d0, H0⟩⟩
  unfold Idealize.ShloMosaic.owns
  icases H0 with ⟨%G, %hG, H0⟩
  iapply (wp_wand_r Idealize.ShloMosaic.frame (wpE (defs₀ (F := Ideal)) Variants.none (c : Thread nD τ) none) Set.univ)
  isplitr []
  · iapply (core_run m c t G (good_staged m c (win0_0.stage (cfg0.slots t 0)) G (hG.trans (iblk_eq m c t)) (hg c)) (V m c main_v0) W)
    isplitr [HW H0]
    · isplitl [H1]; · iexact H1
      isplitl [H2]; · iexact H2
      isplitl [H3]; · iexact H3
      isplitl [H4]; · iexact H4
      iexact HY
    isplitl [H0]; · iexact H0
    iexact HW
  iintro %_ ⟨HC, H0, ⟨%W', HW'⟩⟩
  isplitl [HC]
  · iapply (nameY m c (win0_0.stage (cfg0.slots t 0)) (hstage0_0 0) G (good_staged m c (win0_0.stage (cfg0.slots t 0)) G (hG.trans (iblk_eq m c t)) (hg c)) (hG.trans (iblk_eq m c t)) (V m c main_v0)); iexact HC
  isplitl [HW']
  · iexists W'; isplitr; · ipureintro; exact fun _ _ => Or.inl trivial
    iexact HW'
  iexists G; isplitr; · ipureintro; exact hG
  iexact H0

theorem body_obligationV (hg : GoodM m) (c : Dev nD) : BodyObligation (datsV m 0 c) (defs₀ (F := Ideal)) Variants.none () Set.univ := fun t => by
  rw [bigSep_W0, bigSep_W0, defs₀_row]
  exact triple_restated (sound_bodyV m hg c t) rfl .rfl fun _ => .rfl

set_option backward.isDefEq.respectTransparency.types false in
theorem run_mainV (hg : GoodM m) : θ_run defs (onTc (τ := τ) (main (F := Ideal))) ⟨m, fun _ => 0, ρ⟩ (fun r => Pipeline.FramePostRG cfgs (datsV m) 0 R0 (V m) (Gv m) r) :=
  Pipeline.θ_run_frame_dmaRG cfgs (datsV m) (0 : Fin 1) launch0 osem0 defs₀ Variants.none ownSemFacts0 H0 R0 H0_sub R0_sub m ρ main
    (hbody := fun c => (body_obligationV m hg c).loose) (hshare := fun c => (datsV m 0 c).share_full fun _ => rfl)
    (howed := fun _ _ => rfl) (V := V m) (hmain := hmain m Variants.none) (hA := A_eqV m) (G := Gv m)
    (hin := fun _ => .rfl) (hout := fun _ => .rfl)

/-- The kernel's run, its result from its arguments. -/
theorem ker_run (hg : GoodM m) : θ_run defs (onTc (τ := τ) (main (F := Ideal))) ⟨m, fun _ => 0, ρ⟩ fun r => ∀ c : Dev nD,
      r.2.mem ((c.tc : Thread nD τ).loc main_v0) = yv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h.written c (b := main_v0) (by decide)).trans (Gv_v0 m c),
      (h.toR c).2 main_arg0 (Finset.mem_sdiff.mpr ⟨Pipeline.mem_restRefs_of main_arg0 (by decide) (by decide), by decide⟩),
      ((h.toR c).1 0).trans (((datsV m 0 c).arrAt_in 0 rfl _).trans (A_eqV m c 0)),
      (h.toR c).2 main_arg2 (Finset.mem_sdiff.mpr ⟨Pipeline.mem_restRefs_of main_arg2 (by decide) (by decide), by decide⟩),
      (h.toR c).2 main_arg3 (Finset.mem_sdiff.mpr ⟨Pipeline.mem_restRefs_of main_arg3 (by decide) (by decide), by decide⟩)⟩) (run_mainV m ρ hg)

end Cert.KernelIdeal.Body

end
-- ==== Proof.RQ.lean ====
/- The reference's arithmetic at an index, over the extended reals: its quantiser, and one expert's step. -/
module

public import proofs.«01_k».proof.Proof.VZ
public import proofs.«01_k».proof.Proof.Gen.ReferenceIdeal.Skeleton
public import Idealize.ShloMosaic.Lib.Pointwise

@[expose] public section

set_option maxRecDepth 16384
set_option maxHeartbeats 2000000

noncomputable section

namespace Cert.ReferenceIdeal.Gen

open Cert.ReferenceIdeal Cert.Num
open Idealize.ShloMosaic Idealize.ShloMosaic.TcCoe Idealize.ShloMosaic.Tactic Idealize.ShloMosaic.Affine
open Cert.KernelIdeal.Body (mag XQ DOT YV GY owns pre OW sel_rows toInt_of)

variable {F : FTy → Type} [FloatOps F]

/-! ## The quantiser -/

theorem fold_ge {n : ℕ} (b : EReal) (f : Fin n → EReal) (k : Fin n) : f k ≤ Finset.fold max b f Finset.univ :=
  (Finset.le_fold_max (f k)).2 (.inr ⟨k, Finset.mem_univ k, le_refl _⟩)

theorem fold_top {n : ℕ} (f : Fin n → EReal) : Finset.fold max ⊥ f Finset.univ = ⊤ ↔ ∃ k, f k = ⊤ := by
  constructor
  · intro h
    rcases (Finset.le_fold_max (⊤ : EReal)).1 (le_of_eq h.symm) with h1 | ⟨k, -, hk⟩
    · exact absurd (top_le_iff.1 h1) bot_ne_top
    · exact ⟨k, top_le_iff.1 hk⟩
  · rintro ⟨k, hk⟩
    exact top_le_iff.1 (hk ▸ fold_ge ⊥ f k)

theorem refq_apply (x : Vec Ideal S256x4096 .bf16) (r : Fin 256) (l : Fin 4096) :
    (k0_pay2 (F := Ideal) x (ix2 r l) : EReal) = XQ x (ix2 r l) := by
  have hk : ∀ k : Fin 32, l.val / 32 * 32 + k.val < 4096 := fun k => by have := l.isLt; have := k.isLt; omega
  have hl : l.val % 32 < 32 := Nat.mod_lt _ (by omega)
  let M : EReal := Finset.fold max ⊥ (fun k : Fin 32 => mag (x (ix2 r ⟨l.val / 32 * 32 + k.val, hk k⟩))) Finset.univ
  have hge : mag (x (ix2 r l)) ≤ M := by
    have h1 := fold_ge ⊥ (fun k : Fin 32 => mag (x (ix2 r ⟨l.val / 32 * 32 + k.val, hk k⟩))) ⟨l.val % 32, hl⟩
    have h2 : (⟨l.val / 32 * 32 + l.val % 32, hk ⟨l.val % 32, hl⟩⟩ : Fin 4096) = l := Fin.ext (by show l.val / 32 * 32 + l.val % 32 = l.val; omega)
    have h3 := congrArg (fun z : Fin 4096 => mag (x (ix2 r z))) h2
    exact le_trans (le_of_eq h3.symm) h1
  have htop : M = ⊤ ↔ ∃ k : Fin 4096, k.val / 32 = l.val / 32 ∧ mag (x (ix2 r k)) = ⊤ := by
    rw [show M = Finset.fold max ⊥ (fun k : Fin 32 => mag (x (ix2 r ⟨l.val / 32 * 32 + k.val, hk k⟩))) Finset.univ from rfl, fold_top]
    constructor
    · rintro ⟨k, h⟩
      exact ⟨_, by show (l.val / 32 * 32 + k.val) / 32 = _; have := k.isLt; omega, h⟩
    · rintro ⟨k, h, h'⟩
      refine ⟨⟨k.val % 32, Nat.mod_lt _ (by omega)⟩, ?_⟩
      have h2 : (⟨l.val / 32 * 32 + k.val % 32, hk ⟨k.val % 32, Nat.mod_lt _ (by omega)⟩⟩ : Fin 4096) = k := Fin.ext (by show l.val / 32 * 32 + k.val % 32 = k.val; omega)
      exact (congrArg (fun z : Fin 4096 => mag (x (ix2 r z))) h2).trans h'
  refine Eq.trans ?_ (qv_congr htop (x (ix2 r l)))
  pointwise [k0_pay2]
  simp only [cbot, clog, c448, cm448]
  exact quant_ref hge

/-! ## One expert's step -/

/-- The half of the columns the bytes' low fields hold, times their scales. -/
def wlo (b : Vec F S1x2048x1792 .i8) (s : Vec F S1x32x1792 .f32) : FVec F S2048x1792 .bf16 :=
  shapeCast S2048x1792 (mulf
    (shapeCast S16x128x1792 (extf .bf16 (sitofp .fp8e4m3 (trunci 8 (subi (xori (andi (extui 32 (shapeCast S2048x1792 b shapeCasts_S1x2048x1792_S2048x1792) natLt_8_32) (broadcast S2048x1792 15#32)) (broadcast S2048x1792 8#32)) (broadcast S2048x1792 8#32)) natLt_8_32)) bitsLt_fp8e4m3_bf16) shapeCasts_S2048x1792_S16x128x1792)
    (broadcastTo S16x128x1792 (shapeCast S16x1x1792 (truncf .bf16 (extractStridedSlice S16x1792 ![0, 0] (shapeCast S32x1792 s shapeCasts_S1x32x1792_S32x1792) slices_S32x1792_o0_0_S16x1792) bitsLt_bf16_f32) shapeCasts_S16x1792_S16x1x1792) broadcasts_S16x1x1792_S16x128x1792)) shapeCasts_S16x128x1792_S2048x1792
/-- The half the bytes' high fields hold. -/
def whi (b : Vec F S1x2048x1792 .i8) (s : Vec F S1x32x1792 .f32) : FVec F S2048x1792 .bf16 :=
  shapeCast S2048x1792 (mulf
    (shapeCast S16x128x1792 (extf .bf16 (sitofp .fp8e4m3 (trunci 8 (subi (xori (shrsi (extui 32 (shapeCast S2048x1792 b shapeCasts_S1x2048x1792_S2048x1792) natLt_8_32) (broadcast S2048x1792 4#32)) (broadcast S2048x1792 8#32)) (broadcast S2048x1792 8#32)) natLt_8_32)) bitsLt_fp8e4m3_bf16) shapeCasts_S2048x1792_S16x128x1792)
    (broadcastTo S16x128x1792 (shapeCast S16x1x1792 (truncf .bf16 (extractStridedSlice S16x1792 ![16, 0] (shapeCast S32x1792 s shapeCasts_S1x32x1792_S32x1792) slices_S32x1792_o16_0_S16x1792) bitsLt_bf16_f32) shapeCasts_S16x1792_S16x1x1792) broadcasts_S16x1x1792_S16x128x1792)) shapeCasts_S16x128x1792_S2048x1792
/-- The rows from `first` on, before `last`. -/
def mine (row : IVec S256x1792 32) (first last : BitVec 32) : IVec S256x1792 1 :=
  andi (cmpi .sge row (broadcast S256x1792 first)) (cmpi .slt row (broadcast S256x1792 last))
/-- The tokens' low columns times a weight. -/
def plo (x : FVec F S256x4096 .bf16) (w : FVec F S2048x1792 .bf16) : FVec F S256x1792 .f32 :=
  matmul dot_S256x2048_S2048x1792_S256x1792_1_0_0_1_n_n none (extractStridedSlice S256x2048 ![0, 0] x slices_S256x4096_o0_0_S256x2048) w (constant S256x1792 .f32 0x00000000#32)
/-- The tokens' high columns times a weight. -/
def phi (x : FVec F S256x4096 .bf16) (w : FVec F S2048x1792 .bf16) : FVec F S256x1792 .f32 :=
  matmul dot_S256x2048_S2048x1792_S256x1792_1_0_0_1_n_n none (extractStridedSlice S256x2048 ![0, 2048] x slices_S256x4096_o0_2048_S256x2048) w (constant S256x1792 .f32 0x00000000#32)

theorem wlo_apply (b : Vec Ideal S1x2048x1792 .i8) (s : Vec Ideal S1x32x1792 .f32) (k : Fin 2048) (n : Fin 1792) :
    (wlo (F := Ideal) b s (ix2 k n) : EReal) = ((fLo (b (ix3 0 k n)) : ℝ) : EReal) * s (ix3 0 ⟨k.val / 128, by omega⟩ n) := by
  pointwise [wlo]
  rfl

theorem whi_apply (b : Vec Ideal S1x2048x1792 .i8) (s : Vec Ideal S1x32x1792 .f32) (k : Fin 2048) (n : Fin 1792) :
    (whi (F := Ideal) b s (ix2 k n) : EReal) = ((fHi (b (ix3 0 k n)) : ℝ) : EReal) * s (ix3 0 ⟨16 + k.val / 128, by omega⟩ n) := by
  pointwise [whi]
  rfl

theorem plo_apply (x : FVec Ideal S256x4096 .bf16) (w : FVec Ideal S2048x1792 .bf16) (r : Fin 256) (n : Fin 1792) :
    (plo x w (ix2 r n) : EReal) = ∑ k : Fin 2048, (x (ix2 r ⟨k.val, by omega⟩) : EReal) * (w (ix2 k n) : EReal) := by
  pointwise [plo]

theorem phi_apply (x : FVec Ideal S256x4096 .bf16) (w : FVec Ideal S2048x1792 .bf16) (r : Fin 256) (n : Fin 1792) :
    (phi x w (ix2 r n) : EReal) = ∑ k : Fin 2048, (x (ix2 r ⟨2048 + k.val, by omega⟩) : EReal) * (w (ix2 k n) : EReal) := by
  pointwise [phi]

end Cert.ReferenceIdeal.Gen

end
-- ==== Proof.RV.lean ====
/- What the reference leaves in the result, over the extended reals: every row its expert's product. -/
module

public import proofs.«01_k».proof.Proof.RQ
public import proofs.«01_k».proof.Proof.Gen.ReferenceIdeal.Value

@[expose] public section

set_option maxRecDepth 16384
set_option maxHeartbeats 2000000

noncomputable section

namespace Cert.ReferenceIdeal.Gen

open Cert.ReferenceIdeal Cert.Num
open Idealize.ShloMosaic Idealize.ShloMosaic.TcCoe Idealize.ShloMosaic.Tactic Idealize.ShloMosaic.Affine
open Cert.KernelIdeal.Body (mag XQ DOT YV GY owns pre OW sel_rows toInt_of)

variable {F : FTy → Type} [FloatOps F]

/-! ## The eight experts, one after another -/

/-- Half the accumulator after `n` experts: where the rows are the expert's, its product. -/
def half (row : IVec S256x1792 32) (g : ℕ → BitVec 32) (P : Fin 8 → FVec F S256x1792 .f32) : ℕ → FVec F S256x1792 .f32
  | 0 => broadcast S256x1792 (Scalar.ofBits .f32 0x00000000#32)
  | n + 1 => if h : n < 8 then select (mine row (OW g n) (OW g (n + 1))) (P ⟨n, h⟩) (half row g P n) else half row g P n

theorem inW (e : Fin 8) : ∀ x, (![e.val, 0, 0] : Fin 3 → ℕ) x + S1x2048x1792.size x ≤ S8x2048x1792.size x := by
  have := e.isLt
  intro x
  fin_cases x <;> simp [S1x2048x1792, S8x2048x1792] <;> omega
theorem inS (e : Fin 8) : ∀ x, (![e.val, 0, 0] : Fin 3 → ℕ) x + S1x32x1792.size x ≤ S8x32x1792.size x := by
  have := e.isLt
  intro x
  fin_cases x <;> simp [S1x32x1792, S8x32x1792] <;> omega
theorem inG (e : Fin 8) : ∀ x, (![e.val] : Fin 1 → ℕ) x + S1.size x ≤ S8.size x := by
  have := e.isLt
  intro x
  fin_cases x <;> simp [S1, S8] <;> omega

theorem one_pos (e : Fin 8) : 0 < (Rect.unit (s := S8) ![e.val] S1.size (inG e)).shape.numel := by show 0 < S1.numel; decide

/-- An expert's packed weights, as the body reads them. -/
def rdW (arg2 : Memref sig .tc .vmem S8x2048x1792 .i8) (harg2 : arg2.IsWhole) (x2 : Vec F S8x2048x1792 .i8) (e : Fin 8) : Vec F S1x2048x1792 .i8 :=
  View.readAt (Elt F) arg2.view (Rect.unit (s := S8x2048x1792) ![e.val, 0, 0] S1x2048x1792.size (inW e)).toLoadRect (harg2.unread x2)
/-- Its scales. -/
def rdS (arg3 : Memref sig .tc .vmem S8x32x1792 .f32) (harg3 : arg3.IsWhole) (x3 : Vec F S8x32x1792 .f32) (e : Fin 8) : Vec F S1x32x1792 .f32 :=
  View.readAt (Elt F) arg3.view (Rect.unit (s := S8x32x1792) ![e.val, 0, 0] S1x32x1792.size (inS e)).toLoadRect (harg3.unread x3)
/-- Its number of rows. -/
def rdG (arg0 : Memref sig .tc .smem S8 .i32) (harg0 : arg0.IsWhole) (x0 : Vec F S8 .i32) (e : ℕ) : BitVec 32 :=
  if h : e < 8 then View.readAt (Elt F) arg0.view (Rect.unit (s := S8) ![e] S1.size (inG ⟨e, h⟩)).toLoadRect (harg0.unread x0) (Shape.Idx.first (one_pos ⟨e, h⟩)) else 0
/-- The tokens. -/
def rdX (arg1 : Memref sig .tc .vmem S256x4096 .bf16) (harg1 : arg1.IsWhole) (x1 : Vec F S256x4096 .bf16) : Vec F S256x4096 .bf16 :=
  View.readAt (Elt F) arg1.view (Rect.unit (s := S256x4096) ![0, 0] S256x4096.size inb_S256x4096_S256x4096_0_0).toLoadRect (harg1.unread x1)

/-- The reference's result over the values read. -/
def refOut (x : Vec F S256x4096 .bf16) (g : ℕ → BitVec 32) (W : Fin 8 → Vec F S1x2048x1792 .i8) (S : Fin 8 → Vec F S1x32x1792 .f32) : FVec F S256x1792 .bf16 :=
  truncf .bf16 (addf
    (half (iota .tc S256x1792 32 [0] iota_S256x1792_d0_w32) g (fun e => plo (k0_pay2 x) (wlo (W e) (S e))) 8)
    (half (iota .tc S256x1792 32 [0] iota_S256x1792_d0_w32) g (fun e => phi (k0_pay2 x) (whi (W e) (S e))) 8)) bitsLt_bf16_f32

/-- The run's one piece is that. -/
theorem piece_eq (c : Dev nD) (arg0 : Memref sig .tc .smem S8 .i32) (harg0 : arg0.IsWhole) (arg1 : Memref sig .tc .vmem S256x4096 .bf16) (harg1 : arg1.IsWhole) (arg2 : Memref sig .tc .vmem S8x2048x1792 .i8) (harg2 : arg2.IsWhole) (arg3 : Memref sig .tc .vmem S8x32x1792 .f32) (harg3 : arg3.IsWhole) (arg4 : Memref sig .tc .vmem S256x1792 .bf16) (harg4 : arg4.IsWhole)
    (x0 : Vec F S8 .i32) (x1 : Vec F S256x4096 .bf16) (x2 : Vec F S8x2048x1792 .i8) (x3 : Vec F S8x32x1792 .f32) :
    (kernelRun0_A (F := F) c arg0 harg0 arg1 harg1 arg2 harg2 arg3 harg3 arg4 harg4 x0 x1 x2 x3).1
      = [⟨Rect.unit ![0, 0] ![256, 1792] inb_S256x1792_S256x1792_0_0,
          refOut (rdX arg1 harg1 x1) (rdG (F := F) arg0 harg0 x0) (rdW arg2 harg2 x2) (rdS arg3 harg3 x3)⟩] := by
  exact rfl

end Cert.ReferenceIdeal.Gen

end
-- ==== Proof.RW.lean ====
/- What the reference leaves in the result, over the extended reals: every row its expert's product. -/
module

public import proofs.«01_k».proof.Proof.RV
public import proofs.«01_k».proof.Proof.Run
public import proofs.«01_k».proof.Proof.Gen.ReferenceIdeal.Value

@[expose] public section

set_option maxRecDepth 16384
set_option maxHeartbeats 2000000

noncomputable section

namespace Cert.ReferenceIdeal.Gen

open Cert.ReferenceIdeal Cert.Num Idealize.SL.Sem
open Idealize.ShloMosaic Idealize.ShloMosaic.TcCoe Idealize.ShloMosaic.Tactic Idealize.ShloMosaic.Affine
open Cert.KernelIdeal.Body (mag XQ DOT YV GY owns pre OW sel_rows toInt_of owns_unique owns_exists GY_eq sizes_nat OW_int lit Good ix8)

variable {F : FTy → Type} [FloatOps F]

/-! ## The accumulator -/

theorem sel_mine (row : IVec S256x1792 32) (f l : BitVec 32) (a b : FVec Ideal S256x1792 .f32) (i : S256x1792.Idx) :
    (select (mine row f l) a b i : EReal) = if f.toInt ≤ (row i).toInt ∧ (row i).toInt < l.toInt then (a i : EReal) else (b i : EReal) := by
  refine Eq.trans ?_ (sel_rows (row i) f l (a i : EReal) (b i : EReal))
  rfl

theorem half_val (g : ℕ → BitVec 32) (hg : Good (g 0) (g 1) (g 2) (g 3) (g 4) (g 5) (g 6) (g 7)) (P : Fin 8 → FVec Ideal S256x1792 .f32)
    (e : Fin 8) (r : Fin 256) (l : Fin 1792) (ho : owns g e.val r.val) (n : ℕ) (hn : n ≤ 8) (he : e.val < n) :
    (half (iota .tc S256x1792 32 [0] iota_S256x1792_d0_w32) g P n (ix2 r l) : EReal) = P e (ix2 r l) := by
  have hr := r.isLt
  have hz : (iota .tc S256x1792 32 [0] iota_S256x1792_d0_w32 (ix2 r l)).toInt = (r.val : ℕ) :=
    (congrArg BitVec.toInt (show iota .tc S256x1792 32 [0] iota_S256x1792_d0_w32 (ix2 r l) = BitVec.ofNat 32 r.val by pointwise)).trans
      (toInt_of (lit r.val (by omega)))
  induction n with
  | zero => omega
  | succ n ih =>
    have hn8 : n < 8 := by omega
    have hs : half (iota .tc S256x1792 32 [0] iota_S256x1792_d0_w32) g P (n + 1)
        = select (mine (iota .tc S256x1792 32 [0] iota_S256x1792_d0_w32) (OW g n) (OW g (n + 1))) (P ⟨n, hn8⟩) (half (iota .tc S256x1792 32 [0] iota_S256x1792_d0_w32) g P n) := by
      show (if h : n < 8 then _ else _) = _
      rw [dif_pos hn8]
    refine (congrFun hs (ix2 r l)).trans ((sel_mine _ _ _ _ _ _).trans ?_)
    rw [hz, toInt_of (OW_int g hg n (by omega)), toInt_of (OW_int g hg (n + 1) (by omega))]
    simp only [Nat.cast_le, Nat.cast_lt]
    by_cases hin : pre g n ≤ r.val ∧ r.val < pre g (n + 1)
    · rw [if_pos hin]
      have : e = ⟨n, hn8⟩ := Fin.ext (owns_unique g ho hin)
      rw [this]
    · rw [if_neg hin]
      have hne : e.val ≠ n := fun h => hin (h ▸ ho)
      exact ih (by omega) (by omega)

/-- The reference's result is the kernel's value. -/
theorem refOut_val (x : Vec Ideal S256x4096 .bf16) (g : ℕ → BitVec 32) (hg : Good (g 0) (g 1) (g 2) (g 3) (g 4) (g 5) (g 6) (g 7))
    (W : Fin 8 → Vec Ideal S1x2048x1792 .i8) (S : Fin 8 → Vec Ideal S1x32x1792 .f32) (W' : Vec Ideal S8x2048x1792 .i8) (S' : Vec Ideal S8x32x1792 .f32)
    (hW : ∀ e k n, W e (ix3 0 k n) = W' (ix3 e k n)) (hS : ∀ e k n, S e (ix3 0 k n) = S' (ix3 e k n)) (r : Fin 256) (l : Fin 1792) :
    (refOut (F := Ideal) x g W S (ix2 r l) : EReal) = GY g x W' S' (ix2 r l) := by
  have hr := r.isLt
  obtain ⟨e', he', ho⟩ := owns_exists g 8 r.val (by rw [(sizes_nat g hg).2]; exact hr)
  have hG := GY_eq g x W' S' (ix2 r l) ⟨e', he'⟩ ho
  refine Eq.trans ?_ hG.symm
  have h1 := half_val g hg (fun e => plo (k0_pay2 x) (wlo (W e) (S e))) ⟨e', he'⟩ r l ho 8 (le_refl _) he'
  have h2 := half_val g hg (fun e => phi (k0_pay2 x) (whi (W e) (S e))) ⟨e', he'⟩ r l ho 8 (le_refl _) he'
  have h3 := plo_apply (k0_pay2 x) (wlo (W ⟨e', he'⟩) (S ⟨e', he'⟩)) r l
  have h4 := phi_apply (k0_pay2 x) (whi (W ⟨e', he'⟩) (S ⟨e', he'⟩)) r l
  have h5 := congrArg₂ (fun a b : EReal => a + b) (h1.trans h3) (h2.trans h4)
  refine Eq.trans (Eq.trans ?_ h5) ?_
  · rfl
  · unfold YV DOT
    refine congrArg₂ (fun a b : EReal => a + b) (Finset.sum_congr rfl fun k _ => ?_) (Finset.sum_congr rfl fun k _ => ?_)
    · have a1 := wlo_apply (W ⟨e', he'⟩) (S ⟨e', he'⟩) k l
      rw [hW, hS] at a1
      exact congrArg₂ (fun a b : EReal => a * b) (refq_apply x r _) a1
    · have a1 := whi_apply (W ⟨e', he'⟩) (S ⟨e', he'⟩) k l
      rw [hW, hS] at a1
      exact congrArg₂ (fun a b : EReal => a * b) (refq_apply x r _) a1

/-! ## The reads -/

theorem rdW_apply (arg2 : Memref sig .tc .vmem S8x2048x1792 .i8) (harg2 : arg2.IsWhole) (x2 : Vec F S8x2048x1792 .i8) (e : Fin 8) (k : Fin 2048) (n : Fin 1792) :
    rdW arg2 harg2 x2 e (ix3 0 k n) = x2 (ix3 e k n) := by
  unfold rdW
  rw [View.readAt_apply, harg2.read_unread]
  congr 1
  funext a; fin_cases a
  · exact Fin.ext (by show e.val + 1 * 0 = e.val; omega)
  · exact Fin.ext (by show 0 + 1 * k.val = k.val; omega)
  · exact Fin.ext (by show 0 + 1 * n.val = n.val; omega)
theorem rdS_apply (arg3 : Memref sig .tc .vmem S8x32x1792 .f32) (harg3 : arg3.IsWhole) (x3 : Vec F S8x32x1792 .f32) (e : Fin 8) (k : Fin 32) (n : Fin 1792) :
    rdS arg3 harg3 x3 e (ix3 0 k n) = x3 (ix3 e k n) := by
  unfold rdS
  rw [View.readAt_apply, harg3.read_unread]
  congr 1
  funext a; fin_cases a
  · exact Fin.ext (by show e.val + 1 * 0 = e.val; omega)
  · exact Fin.ext (by show 0 + 1 * k.val = k.val; omega)
  · exact Fin.ext (by show 0 + 1 * n.val = n.val; omega)
theorem rdX_eq (arg1 : Memref sig .tc .vmem S256x4096 .bf16) (harg1 : arg1.IsWhole) (x1 : Vec F S256x4096 .bf16) : rdX arg1 harg1 x1 = x1 := by
  funext i
  unfold rdX
  rw [View.readAt_apply, harg1.read_unread]
  congr 1
  funext a; fin_cases a
  · exact Fin.ext (by show 0 + 1 * (i 0).val = (i 0).val; omega)
  · exact Fin.ext (by show 0 + 1 * (i 1).val = (i 1).val; omega)
/-- The group sizes, numbered. -/
def gw (x0 : S8.Idx → BitVec 32) (e : ℕ) : BitVec 32 := if h : e < 8 then x0 (ix8 e h) else 0
theorem rdG_eq (arg0 : Memref sig .tc .smem S8 .i32) (harg0 : arg0.IsWhole) (x0 : Vec F S8 .i32) : rdG (F := F) arg0 harg0 x0 = gw x0 := by
  funext e
  unfold rdG gw
  by_cases h : e < 8
  · rw [dif_pos h, dif_pos h, View.readAt_apply, harg0.read_unread]
    congr 1
    funext a
    obtain rfl : a = (0 : Fin 1) := Subsingleton.elim _ _
    rfl
  · rw [dif_neg h, dif_neg h]

/-! ## The result -/

theorem out_val (c : Dev nD) (arg0 : Memref sig .tc .smem S8 .i32) (harg0 : arg0.IsWhole) (arg1 : Memref sig .tc .vmem S256x4096 .bf16) (harg1 : arg1.IsWhole) (arg2 : Memref sig .tc .vmem S8x2048x1792 .i8) (harg2 : arg2.IsWhole) (arg3 : Memref sig .tc .vmem S8x32x1792 .f32) (harg3 : arg3.IsWhole) (arg4 : Memref sig .tc .vmem S256x1792 .bf16) (harg4 : arg4.IsWhole)
    (x0 : Vec Ideal S8 .i32) (x1 : Vec Ideal S256x4096 .bf16) (x2 : Vec Ideal S8x2048x1792 .i8) (x3 : Vec Ideal S8x32x1792 .f32)
    (hg : Good (gw x0 0) (gw x0 1) (gw x0 2) (gw x0 3) (gw x0 4) (gw x0 5) (gw x0 6) (gw x0 7)) (i : S256x1792.Idx) :
    (out0_A_4 (F := Ideal) c arg0 harg0 arg1 harg1 arg2 harg2 arg3 harg3 arg4 harg4 x0 x1 x2 x3 i : EReal) = GY (gw x0) x1 x2 x3 i := by
  unfold out0_A_4
  rw [piece_eq, rdX_eq, rdG_eq]
  refine View.read_writes_apply_of_pieces (Val := Elt Ideal) VO0_4 _ (fun i => (GY (gw x0) x1 x2 x3 i : EReal)) _ ?_ i ?_
  · intro p hp y
    rw [List.mem_singleton] at hp
    subst hp
    obtain ⟨a, b, rfl⟩ : ∃ (a : Fin 256) (b : Fin 1792), y = ix2 a b := ⟨y 0, y 1, by funext i; fin_cases i <;> rfl⟩
    have hi : (Rect.unit (s := S256x1792) ![0, 0] ![256, 1792] inb_S256x1792_S256x1792_0_0).emb (ix2 a b) = ix2 a b := by
      funext z; fin_cases z
      · exact Fin.ext (by show 0 + 1 * a.val = a.val; omega)
      · exact Fin.ext (by show 0 + 1 * b.val = b.val; omega)
    exact (refOut_val x1 (gw x0) hg _ _ x2 x3 (rdW_apply arg2 harg2 x2) (rdS_apply arg3 harg3 x3) a b).trans (congrArg (fun z => (GY (gw x0) x1 x2 x3 z : EReal)) hi.symm)
  · refine ⟨_, List.mem_singleton.2 rfl, (Rect.mem_set_unit (s := S256x1792) (inb := inb_S256x1792_S256x1792_0_0)).2 fun a => ?_⟩
    have h0 : (i 0).val < 256 := (i 0).isLt
    have h1 : (i 1).val < 1792 := (i 1).isLt
    fin_cases a
    · exact ⟨Nat.zero_le _, by show (i 0).val < 0 + 256; omega⟩
    · exact ⟨Nat.zero_le _, by show (i 1).val < 0 + 1792; omega⟩

variable (m : (ℓ : Loc nD τ sig) → Buf (Elt Ideal) ℓ) (ρ : Dev nD → PrngReg)

/-- The reference's result, from its arguments. -/
theorem ref_val (c : Dev nD)
    (hg : Good (gw (m ((c.tc : Thread nD τ).loc main_arg1)) 0) (gw (m ((c.tc : Thread nD τ).loc main_arg1)) 1) (gw (m ((c.tc : Thread nD τ).loc main_arg1)) 2) (gw (m ((c.tc : Thread nD τ).loc main_arg1)) 3) (gw (m ((c.tc : Thread nD τ).loc main_arg1)) 4) (gw (m ((c.tc : Thread nD τ).loc main_arg1)) 5) (gw (m ((c.tc : Thread nD τ).loc main_arg1)) 6) (gw (m ((c.tc : Thread nD τ).loc main_arg1)) 7)) :
    (dats m 0 c).arrAt 4 cfg0.N = (GY (gw (m ((c.tc : Thread nD τ).loc main_arg1))) (m ((c.tc : Thread nD τ).loc main_arg0)) (m ((c.tc : Thread nD τ).loc main_arg2)) (m ((c.tc : Thread nD τ).loc main_arg3)) : S256x1792.Idx → EReal) := by
  have t : Fin cfg0.N := ⟨0, by decide⟩
  have e0 : iblk m c 0 t = m ((c.tc : Thread nD τ).loc main_arg1) := by
    rw [← V_main_arg1 m c]
    funext i
    refine congrArg (V m c main_arg1) (funext fun (a : Fin 1) => ?_)
    obtain rfl : a = (0 : Fin 1) := Subsingleton.elim _ _
    exact Fin.ext (by show 0 * 8 + 1 * (i 0).val = (i 0).val; omega)
  have e1 : iblk m c 1 t = m ((c.tc : Thread nD τ).loc main_arg0) := by
    rw [← V_main_arg0 m c]
    funext i
    refine congrArg (V m c main_arg0) (funext fun (a : Fin 2) => ?_)
    fin_cases a
    · exact Fin.ext (by show 0 * 256 + 1 * (i 0).val = (i 0).val; omega)
    · exact Fin.ext (by show 0 * 4096 + 1 * (i 1).val = (i 1).val; omega)
  have e2 : iblk m c 2 t = m ((c.tc : Thread nD τ).loc main_arg2) := by
    rw [← V_main_arg2 m c]
    funext i
    refine congrArg (V m c main_arg2) (funext fun (a : Fin 3) => ?_)
    fin_cases a
    · exact Fin.ext (by show 0 * 8 + 1 * (i 0).val = (i 0).val; omega)
    · exact Fin.ext (by show 0 * 2048 + 1 * (i 1).val = (i 1).val; omega)
    · exact Fin.ext (by show 0 * 1792 + 1 * (i 2).val = (i 2).val; omega)
  have e3 : iblk m c 3 t = m ((c.tc : Thread nD τ).loc main_arg3) := by
    rw [← V_main_arg3 m c]
    funext i
    refine congrArg (V m c main_arg3) (funext fun (a : Fin 3) => ?_)
    fin_cases a
    · exact Fin.ext (by show 0 * 8 + 1 * (i 0).val = (i 0).val; omega)
    · exact Fin.ext (by show 0 * 32 + 1 * (i 1).val = (i 1).val; omega)
    · exact Fin.ext (by show 0 * 1792 + 1 * (i 2).val = (i 2).val; omega)
  have hfl : (cfg0.win 4).flush t = true := by rw [fin_N0 t]; decide
  have hb := (Value.blocks4 m c t hfl).trans (Value.flushed4_A m c t)
  rw [e0, e1, e2, e3] at hb
  funext i
  have hbi := congrFun hb i
  have ho := out_val c (ms0_0 t) (hs0_0 t) (ms0_1 t) (hs0_1 t) (ms0_2 t) (hs0_2 t) (ms0_3 t) (hs0_3 t) (ms0_4 t) (hs0_4 t) (m ((c.tc : Thread nD τ).loc main_arg1)) (m ((c.tc : Thread nD τ).loc main_arg0)) (m ((c.tc : Thread nD τ).loc main_arg2)) (m ((c.tc : Thread nD τ).loc main_arg3)) hg
  refine Eq.trans (Eq.trans ?_ hbi) (Eq.trans ?_ (ho i))
  · refine congrArg ((dats m 0 c).arrAt 4 cfg0.N) (funext fun (a : Fin 2) => ?_)
    fin_cases a
    · exact Fin.ext (by show (i 0).val = 0 * 256 + 1 * (i 0).val; omega)
    · exact Fin.ext (by show (i 1).val = 0 * 1792 + 1 * (i 1).val; omega)
  · rfl

/-- The reference's run, its result from its arguments. -/
theorem ref_run
    (hg : ∀ c : Dev nD, Good (gw (m ((c.tc : Thread nD τ).loc main_arg1)) 0) (gw (m ((c.tc : Thread nD τ).loc main_arg1)) 1) (gw (m ((c.tc : Thread nD τ).loc main_arg1)) 2) (gw (m ((c.tc : Thread nD τ).loc main_arg1)) 3) (gw (m ((c.tc : Thread nD τ).loc main_arg1)) 4) (gw (m ((c.tc : Thread nD τ).loc main_arg1)) 5) (gw (m ((c.tc : Thread nD τ).loc main_arg1)) 6) (gw (m ((c.tc : Thread nD τ).loc main_arg1)) 7)) :
    θ_run defs (onTc (τ := τ) (main (F := Ideal))) ⟨m, fun _ => 0, ρ⟩ fun r => ∀ c : Dev nD,
      r.2.mem ((c.tc : Thread nD τ).loc main_v0) = (GY (gw (m ((c.tc : Thread nD τ).loc main_arg1))) (m ((c.tc : Thread nD τ).loc main_arg0)) (m ((c.tc : Thread nD τ).loc main_arg2)) (m ((c.tc : Thread nD τ).loc main_arg3)) : S256x1792.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (ref_val m c (hg c)), (h c).2⟩) (Value.run_blocks m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Twin
public import proofs.«01_k».proof.Proof.KV
public import proofs.«01_k».proof.Proof.RW
public import Idealize.ShloMosaic.Adequacy
public import Idealize.ShloMosaic.Init

@[expose] public section

noncomputable section

namespace Cert.Proof

open Idealize.ShloMosaic Idealize.SL.Sem

/-- The precondition's shape facts. -/
theorem pre_facts : Cert.Pre_pre.Facts where
  bcast_S_S8 := by decide
  reducesTo_S8_S_d0 := by decide
  h_S_ := by decide

/-- Kernel and reference leave the same result: the function `GY` of the arguments. -/
theorem same_result [Cert.Pre_pre.Facts] : Cert.algebraic_KernelIdeal_ReferenceIdeal := by
  intro m g m' g' hpre hag
  have hg : Cert.KernelIdeal.Body.GoodM m := fun c => Cert.KernelIdeal.Body.good_of_pre _ _ _ _ (hpre c)
  refine ⟨fun c => Cert.KernelIdeal.Body.yv m c, Cert.KernelIdeal.Body.ker_run m g hg, ?_⟩
  have hg' : ∀ c : Dev Cert.ReferenceIdeal.nD, _ := fun c => by
    have h := hg c
    have e : Cert.KernelIdeal.Body.sizes m c = m' ((c.tc : Thread Cert.ReferenceIdeal.nD Cert.ReferenceIdeal.τ).loc Cert.ReferenceIdeal.main_arg1) := (hag c).2.1.symm
    rw [e] at h
    exact h
  refine (θ_run _ _ _).mono (fun r h c => ⟨(h c).1.trans ?_, (h c).2⟩) (Cert.ReferenceIdeal.Gen.ref_run m' g' hg')
  rw [(hag c).1, (hag c).2.1, (hag c).2.2.1, (hag c).2.2.2]
  rfl

/-- THE CLAIM. -/
theorem claim : Cert.Claim := by
  have hP := pre_facts
  refine ⟨inferInstance, inferInstance, inferInstance, hP, ?_, ?_, ?_, ?_, ?_, ?_⟩
  · exact fun m ρ h => Cert.Twin.frame_kernel m ρ fun c => Cert.KernelIdeal.Body.good_of_pre _ _ _ _ (h c)
  · exact fun m ρ h => Cert.KernelIdeal.Body.frame_run m ρ fun c => Cert.KernelIdeal.Body.good_of_pre _ _ _ _ (h c)
  · exact fun m ρ _ => Cert.ReferenceIdeal.Gen.frame m ρ
  · exact fun m ρ _ => Cert.ReferenceIdeal.Gen.frame m ρ
  · trivial
  · exact same_result

end Cert.Proof

end
